-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_saved [hPre_saved : Cert.Pre_saved.Facts] (m : (ℓ : Loc Cert.KernelIdeal.nD Cert.KernelIdeal.τ Cert.KernelIdeal.sig) → Buf (Elt Ideal) ℓ) : Prop :=
  ∀ c : Dev Cert.KernelIdeal.nD,
    (Cert.Pre_saved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_saved [hPre_saved : Cert.Pre_saved.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_saved.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_saved [hKernelIdeal : Cert.KernelIdeal.Facts] [hPre_saved : Cert.Pre_saved.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_saved m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_saved [hReferenceIdeal : Cert.ReferenceIdeal.Facts] [hPre_saved : Cert.Pre_saved.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_saved m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_saved [hKernelIdeal : Cert.KernelIdeal.Facts] [hReferenceIdeal : Cert.ReferenceIdeal.Facts] [hPre_saved : Cert.Pre_saved.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_saved m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v109) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v74) = v0 c
          ∧ r.2.mem ((c.tc : Thread Cert.Reference5Ideal.nD Cert.Reference5Ideal.τ).loc Cert.Reference5Ideal.main_v75) = v1 c
          ∧ r.2.mem ((c.tc : Thread Cert.Reference5Ideal.nD Cert.Reference5Ideal.τ).loc Cert.Reference5Ideal.main_v77) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_tables : Cert.Pre_tables.Facts) (hPre_saved : Cert.Pre_saved.Facts),
    quiescent_Kernel (hKernel := hKernel) (hPre_tables := hPre_tables)
    ∧ quiescent_KernelIdeal (hKernelIdeal := hKernelIdeal) (hPre_tables := hPre_tables)
    ∧ quiescent_KernelIdeal_pre_saved (hKernelIdeal := hKernelIdeal) (hPre_saved := hPre_saved)
    ∧ quiescent_ReferenceIdeal (hReferenceIdeal := hReferenceIdeal)
    ∧ quiescent_ReferenceIdeal_pre_saved (hReferenceIdeal := hReferenceIdeal) (hPre_saved := hPre_saved)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_saved (hKernelIdeal := hKernelIdeal) (hReferenceIdeal := hReferenceIdeal) (hPre_saved := hPre_saved)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_saved.lean ====
abbrev S72 : Shape := ⟨1, ![72]⟩
abbrev S8192x10368 : Shape := ⟨2, ![8192, 10368]⟩
abbrev S8192x512 : Shape := ⟨2, ![8192, 512]⟩
abbrev S4x8192x128 : Shape := ⟨3, ![4, 8192, 128]⟩
abbrev S8192x128 : Shape := ⟨2, ![8192, 128]⟩
abbrev S8x8192 : Shape := ⟨2, ![8, 8192]⟩
abbrev S8192x8x64 : Shape := ⟨3, ![8192, 8, 64]⟩
abbrev S8192x8 : Shape := ⟨2, ![8192, 8]⟩
abbrev S_ : Shape := ⟨0, ![]⟩
abbrev S8x16x512 : Shape := ⟨3, ![8, 16, 512]⟩
abbrev S8x16x1 : Shape := ⟨3, ![8, 16, 1]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x8192x2 : Shape := ⟨3, ![4, 8192, 2]⟩
abbrev S4x2x8192 : Shape := ⟨3, ![4, 2, 8192]⟩
abbrev S8x64x8192 : Shape := ⟨3, ![8, 64, 8192]⟩

class Facts : Prop where
  slices_S8192x10368_S8192x512_0_3584 : S8192x10368.Slices ![0, 3584] S8192x512
  shapeCasts_S8192x512_S8192x8x64 : S8192x512.ShapeCasts S8192x8x64
  slices_S8192x10368_S8192x512_0_4096 : S8192x10368.Slices ![0, 4096] S8192x512
  slices_S8192x10368_S8192x512_0_4608 : S8192x10368.Slices ![0, 4608] S8192x512
  slices_S8192x128_S8192x8_0_0 : S8192x128.Slices ![0, 0] S8192x8
  transposes_S8192x8_S8x8192_1_0 : S8192x8.Transposes [1, 0] S8x8192
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8x8192 : S_.BroadcastsInDim S8x8192 (![] : Fin 0 → Fin S8x8192.rank)
  reducesTo_S8x8192_S_d0_1 : S8x8192.ReducesTo [0, 1] S_
  bcast_S_S8192x512 : S_.BroadcastsInDim S8192x512 (![] : Fin 0 → Fin S8192x512.rank)
  reducesTo_S8192x512_S_d0_1 : S8192x512.ReducesTo [0, 1] S_
  shapeCasts_S8x8192_S8x16x512 : S8x8192.ShapeCasts S8x16x512
  slices_S8x16x512_S8x16x1_0_0_0 : S8x16x512.Slices ![0, 0, 0] S8x16x1
  bcast_S8x16x1_S8x16x512_0_1_2 : S8x16x1.BroadcastsInDim S8x16x512 (![0, 1, 2] : Fin 3 → Fin S8x16x512.rank)
  shapeCasts_S8x16x512_S8x8192 : S8x16x512.ShapeCasts S8x8192
  bcast_S_S8x8192x8192 : S_.BroadcastsInDim S8x8192x8192 (![] : Fin 0 → Fin S8x8192x8192.rank)
  bcast_S8x8192_S8x8192x1_0_1 : S8x8192.BroadcastsInDim S8x8192x1 (![0, 1] : Fin 2 → Fin S8x8192x1.rank)
  bcast_S8x8192_S8x1x8192_0_2 : S8x8192.BroadcastsInDim S8x1x8192 (![0, 2] : Fin 2 → Fin S8x1x8192.rank)
  bcast_S8x8192x1_S8x8192x8192_0_1_2 : S8x8192x1.BroadcastsInDim S8x8192x8192 (![0, 1, 2] : Fin 3 → Fin S8x8192x8192.rank)
  bcast_S8x1x8192_S8x8192x8192_0_1_2 : S8x1x8192.BroadcastsInDim S8x8192x8192 (![0, 1, 2] : Fin 3 → Fin S8x8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S8192x8192_S8x8192x8192_1_2 : S8192x8192.BroadcastsInDim S8x8192x8192 (![1, 2] : Fin 2 → Fin S8x8192x8192.rank)
  reducesTo_S8x8192x8192_S8x8192_d2 : S8x8192x8192.ReducesTo [2] S8x8192
  slices_S4x8192x128_S4x8192x2_0_0_0 : S4x8192x128.Slices ![0, 0, 0] S4x8192x2
  shapeCasts_S8x8192_S4x2x8192 : S8x8192.ShapeCasts S4x2x8192
  transposes_S4x2x8192_S4x8192x2_0_2_1 : S4x2x8192.Transposes [0, 2, 1] S4x8192x2
  reducesTo_S4x8192x2_S_d0_1_2 : S4x8192x2.ReducesTo [0, 1, 2] S_
  transposes_S8x64x8192_S8192x8x64_2_0_1 : S8x64x8192.Transposes [2, 0, 1] S8192x8x64
  reducesTo_S8192x8x64_S8192x8_d2 : S8192x8x64.ReducesTo [2] S8192x8
  reducesTo_S8192x8_S_d0_1 : S8192x8.ReducesTo [0, 1] S_
  reducesTo_S72_S_d0 : S72.ReducesTo [0] S_
  dot_S8192x8x64_S8192x8x64_S8x8192x8192_2_2_0_0_1_1_wf : DotDims.WF S8192x8x64 S8192x8x64 S8x8192x8192 [2] [2] [0] [0] [1] [1]
  dot_S8192x8x64_S8x8192x8192_S8x64x8192_0_2_2_1_1_0_wf : DotDims.WF S8192x8x64 S8x8192x8192 S8x64x8192 [0] [2] [2] [1] [1] [0]

variable [Facts]

def dot_S8192x8x64_S8192x8x64_S8x8192x8192_2_2_0_0_1_1 : DotDims S8192x8x64 S8192x8x64 S8x8192x8192 where
  lhsContracting := [2]
  rhsContracting := [2]
  lhsNonContracting := [0]
  rhsNonContracting := [0]
  lhsBatch := [1]
  rhsBatch := [1]
  wf := dot_S8192x8x64_S8192x8x64_S8x8192x8192_2_2_0_0_1_1_wf
def dot_S8192x8x64_S8x8192x8192_S8x64x8192_0_2_2_1_1_0 : DotDims S8192x8x64 S8x8192x8192 S8x64x8192 where
  lhsContracting := [0]
  rhsContracting := [2]
  lhsNonContracting := [2]
  rhsNonContracting := [1]
  lhsBatch := [1]
  rhsBatch := [0]
  wf := dot_S8192x8x64_S8x8192x8192_S8x64x8192_0_2_2_1_1_0_wf

noncomputable abbrev lit0 : Fin 72 → BitVec 32 := fun
  | 0 => 0#32 | 1 => 1#32 | 2 => 2#32 | 3 => 3#32 | 4 => 4#32 | 5 => 5#32 | 6 => 6#32 | 7 => 7#32
  | 8 => 8#32 | 9 => 9#32 | 10 => 10#32 | 11 => 11#32 | 12 => 12#32 | 13 => 13#32 | 14 => 14#32 | 15 => 15#32
  | 16 => 2#32 | 17 => 3#32 | 18 => 4#32 | 19 => 5#32 | 20 => 6#32 | 21 => 7#32 | 22 => 8#32 | 23 => 9#32
  | 24 => 10#32 | 25 => 11#32 | 26 => 12#32 | 27 => 13#32 | 28 => 14#32 | 29 => 15#32 | 30 => 4#32 | 31 => 5#32
  | 32 => 6#32 | 33 => 7#32 | 34 => 8#32 | 35 => 9#32 | 36 => 10#32 | 37 => 11#32 | 38 => 12#32 | 39 => 13#32
  | 40 => 14#32 | 41 => 15#32 | 42 => 6#32 | 43 => 7#32 | 44 => 8#32 | 45 => 9#32 | 46 => 10#32 | 47 => 11#32
  | 48 => 12#32 | 49 => 13#32 | 50 => 14#32 | 51 => 15#32 | 52 => 8#32 | 53 => 9#32 | 54 => 10#32 | 55 => 11#32
  | 56 => 12#32 | 57 => 13#32 | 58 => 14#32 | 59 => 15#32 | 60 => 10#32 | 61 => 11#32 | 62 => 12#32 | 63 => 13#32
  | 64 => 14#32 | 65 => 15#32 | 66 => 12#32 | 67 => 13#32 | 68 => 14#32 | 69 => 15#32 | 70 => 14#32 | 71 => 15#32
  | _ => 0#32

noncomputable abbrev lit1 : Fin 72 → BitVec 32 := fun
  | 0 => 0#32 | 1 => 0#32 | 2 => 0#32 | 3 => 0#32 | 4 => 0#32 | 5 => 0#32 | 6 => 0#32 | 7 => 0#32
  | 8 => 0#32 | 9 => 0#32 | 10 => 0#32 | 11 => 0#32 | 12 => 0#32 | 13 => 0#32 | 14 => 0#32 | 15 => 0#32
  | 16 => 1#32 | 17 => 1#32 | 18 => 1#32 | 19 => 1#32 | 20 => 1#32 | 21 => 1#32 | 22 => 1#32 | 23 => 1#32
  | 24 => 1#32 | 25 => 1#32 | 26 => 1#32 | 27 => 1#32 | 28 => 1#32 | 29 => 1#32 | 30 => 2#32 | 31 => 2#32
  | 32 => 2#32 | 33 => 2#32 | 34 => 2#32 | 35 => 2#32 | 36 => 2#32 | 37 => 2#32 | 38 => 2#32 | 39 => 2#32
  | 40 => 2#32 | 41 => 2#32 | 42 => 3#32 | 43 => 3#32 | 44 => 3#32 | 45 => 3#32 | 46 => 3#32 | 47 => 3#32
  | 48 => 3#32 | 49 => 3#32 | 50 => 3#32 | 51 => 3#32 | 52 => 4#32 | 53 => 4#32 | 54 => 4#32 | 55 => 4#32
  | 56 => 4#32 | 57 => 4#32 | 58 => 4#32 | 59 => 4#32 | 60 => 5#32 | 61 => 5#32 | 62 => 5#32 | 63 => 5#32
  | 64 => 5#32 | 65 => 5#32 | 66 => 6#32 | 67 => 6#32 | 68 => 6#32 | 69 => 6#32 | 70 => 7#32 | 71 => 7#32
  | _ => 0#32

noncomputable abbrev lit2 : Fin 72 → BitVec 32 := fun
  | 0 => 1#32 | 1 => 2#32 | 2 => 0#32 | 3 => 0#32 | 4 => 0#32 | 5 => 0#32 | 6 => 0#32 | 7 => 0#32
  | 8 => 0#32 | 9 => 0#32 | 10 => 0#32 | 11 => 0#32 | 12 => 0#32 | 13 => 0#32 | 14 => 0#32 | 15 => 0#32
  | 16 => 1#32 | 17 => 2#32 | 18 => 0#32 | 19 => 0#32 | 20 => 0#32 | 21 => 0#32 | 22 => 0#32 | 23 => 0#32
  | 24 => 0#32 | 25 => 0#32 | 26 => 0#32 | 27 => 0#32 | 28 => 0#32 | 29 => 0#32 | 30 => 1#32 | 31 => 2#32
  | 32 => 0#32 | 33 => 0#32 | 34 => 0#32 | 35 => 0#32 | 36 => 0#32 | 37 => 0#32 | 38 => 0#32 | 39 => 0#32
  | 40 => 0#32 | 41 => 0#32 | 42 => 1#32 | 43 => 2#32 | 44 => 0#32 | 45 => 0#32 | 46 => 0#32 | 47 => 0#32
  | 48 => 0#32 | 49 => 0#32 | 50 => 0#32 | 51 => 0#32 | 52 => 1#32 | 53 => 2#32 | 54 => 0#32 | 55 => 0#32
  | 56 => 0#32 | 57 => 0#32 | 58 => 0#32 | 59 => 0#32 | 60 => 1#32 | 61 => 2#32 | 62 => 0#32 | 63 => 0#32
  | 64 => 0#32 | 65 => 0#32 | 66 => 1#32 | 67 => 2#32 | 68 => 0#32 | 69 => 0#32 | 70 => 1#32 | 71 => 2#32
  | _ => 0#32

def fn_where {F : FTy → Type} [FloatOps F] (arg0 : IVec S8192x8192 1) (arg1 : FVec F S8x8192x8192 .f32) (arg2 : FVec F S_ .f32) : FVec F S8x8192x8192 .f32 :=
  let v0 : FVec F S_ .f32 := id arg2
  let v1 : IVec S8x8192x8192 1 := broadcastInDim S8x8192x8192 ![1, 2] bcast_S8192x8192_S8x8192x8192_1_2 arg0
  let v2 : FVec F S8x8192x8192 .f32 := broadcastInDim S8x8192x8192 ![] bcast_S_S8x8192x8192 v0
  let v3 : FVec F S8x8192x8192 .f32 := select v1 arg1 v2
  v3

def fn_part5 {F : FTy → Type} [FloatOps F] (main_arg0 : IVec S72 32) (main_arg1 : IVec S72 32) (main_arg2 : IVec S72 32) (main_arg6 : FVec F S8192x512 .f32) (main_arg8 : FVec F S8192x128 .f32) (main_c : IVec S72 32) (main_c_0 : IVec S72 32) (main_c_1 : IVec S72 32) (main_v66 : IVec S_ 1) (main_v95 : FVec F S8x64x8192 .f32) : IVec S_ 1 :=
  let main_v96 : FVec F S8192x8x64 .f32 := (transpose S8192x8x64 [2, 0, 1] · transposes_S8x64x8192_S8192x8x64_2_0_1) main_v95
  let main_v97 : FVec F S8192x8 .f32 := (extractStridedSlice S8192x8 ![0, 0] · slices_S8192x128_S8192x8_0_0) main_arg8
  let main_v98 : FVec F S8192x8x64 .f32 := shapeCast S8192x8x64 main_arg6 shapeCasts_S8192x512_S8192x8x64
  let main_v99 : FVec F S8192x8x64 .f32 := mulf main_v98 main_v96
  let main_cst_22 : FVec F S_ .f32 := constant S_ .f32 0x00000000#32
  let main_v100 : FVec F S8192x8 .f32 := (fun x v => Host.reduceAdd x v reducesTo_S8192x8x64_S8192x8_d2 h_S_) main_v99 main_cst_22
  let main_v101 : IVec S8192x8 1 := cmpf .oeq main_v97 main_v100
  let main_c_23 : IVec S_ 1 := constantI S_ 1 1#1
  let main_v102 : IVec S_ 1 := (fun x v => Host.reduce IntOp.andi x v reducesTo_S8192x8_S_d0_1 h_S_) main_v101 main_c_23
  let main_v103 : IVec S_ 1 := andi main_v66 main_v102
  let main_v104 : IVec S72 1 := cmpi .eq main_arg0 main_c
  let main_c_24 : IVec S_ 1 := constantI S_ 1 1#1
  let main_v105 : IVec S_ 1 := (fun x v => Host.reduce IntOp.andi x v reducesTo_S72_S_d0 h_S_) main_v104 main_c_24
  let main_v106 : IVec S72 1 := cmpi .eq main_arg1 main_c_0
  let main_c_25 : IVec S_ 1 := constantI S_ 1 1#1
  let main_v107 : IVec S_ 1 := (fun x v => Host.reduce IntOp.andi x v reducesTo_S72_S_d0 h_S_) main_v106 main_c_25
  let main_v108 : IVec S_ 1 := andi main_v105 main_v107
  let main_v109 : IVec S72 1 := cmpi .eq main_arg2 main_c_1
  let main_c_26 : IVec S_ 1 := constantI S_ 1 1#1
  let main_v110 : IVec S_ 1 := (fun x v => Host.reduce IntOp.andi x v reducesTo_S72_S_d0 h_S_) main_v109 main_c_26
  let main_v111 : IVec S_ 1 := andi main_v108 main_v110
  let main_v112 : IVec S_ 1 := andi main_v103 main_v111
  main_v112

def fn_part4 {F : FTy → Type} [FloatOps F] (main_arg0 : IVec S72 32) (main_arg1 : IVec S72 32) (main_arg2 : IVec S72 32) (main_arg6 : FVec F S8192x512 .f32) (main_arg8 : FVec F S8192x128 .f32) (main_c : IVec S72 32) (main_c_0 : IVec S72 32) (main_c_1 : IVec S72 32) (main_v5 : FVec F S8192x8x64 .f32) (main_v66 : IVec S_ 1) (main_v69 : FVec F S8x8192x8192 .f32) (main_v74 : FVec F S8x8192x8192 .f32) (main_v75 : IVec S8192 32) : IVec S_ 1 :=
  let main_v76 : IVec S8192x1 32 := broadcastInDim S8192x1 ![0] bcast_S8192_S8192x1_0 main_v75
  let main_v77 : IVec S8192 32 := iotaInDim S8192 32 0
  let main_v78 : IVec S1x8192 32 := broadcastInDim S1x8192 ![1] bcast_S8192_S1x8192_1 main_v77
  let main_v79 : IVec S8192x8192 32 := broadcastInDim S8192x8192 ![0, 1] bcast_S8192x1_S8192x8192_0_1 main_v76
  let main_v80 : IVec S8192x8192 32 := broadcastInDim S8192x8192 ![0, 1] bcast_S1x8192_S8192x8192_0_1 main_v78
  let main_v81 : IVec S8192x8192 1 := cmpi .sge main_v79 main_v80
  let main_v82 : FVec F S8x8192x8192 .f32 := addf main_v69 main_v74
  let main_cst_18 : FVec F S_ .f32 := constant S_ .f32 0xFF800000#32
  let main_v83 : FVec F S8x8192x8192 .f32 := fn_where (F := F) main_v81 main_v82 main_cst_18
  let main_cst_19 : FVec F S_ .f32 := constant S_ .f32 0xFF800000#32
  let main_v84 : FVec F S8x8192 .f32 := (fun x v => Host.reduce FloatOps.maximumf x v reducesTo_S8x8192x8192_S8x8192_d2 h_S_) main_v83 main_cst_19
  let main_cst_20 : FVec F S_ .f32 := constant S_ .f32 0xFF800000#32
  let main_v85 : FVec F S8x8192 .f32 := broadcastInDim S8x8192 ![] bcast_S_S8x8192 main_cst_20
  let main_v86 : FVec F S8x8192 .f32 := maximumf main_v85 main_v84
  let main_v87 : FVec F S8x8192x1 .f32 := broadcastInDim S8x8192x1 ![0, 1] bcast_S8x8192_S8x8192x1_0_1 main_v86
  let main_v88 : FVec F S8x8192x8192 .f32 := broadcastInDim S8x8192x8192 ![0, 1, 2] bcast_S8x8192x1_S8x8192x8192_0_1_2 main_v87
  let main_v89 : FVec F S8x8192x8192 .f32 := subf main_v83 main_v88
  let main_v90 : FVec F S8x8192x8192 .f32 := Host.exp main_v89
  let main_cst_21 : FVec F S_ .f32 := constant S_ .f32 0x00000000#32
  let main_v91 : FVec F S8x8192 .f32 := (fun x v => Host.reduceAdd x v reducesTo_S8x8192x8192_S8x8192_d2 h_S_) main_v90 main_cst_21
  let main_v92 : FVec F S8x8192x1 .f32 := broadcastInDim S8x8192x1 ![0, 1] bcast_S8x8192_S8x8192x1_0_1 main_v91
  let main_v93 : FVec F S8x8192x8192 .f32 := broadcastInDim S8x8192x8192 ![0, 1, 2] bcast_S8x8192x1_S8x8192x8192_0_1_2 main_v92
  let main_v94 : FVec F S8x8192x8192 .f32 := Host.divf main_v90 main_v93
  let main_v95 : FVec F S8x64x8192 .f32 := (fun l r => Host.dotGeneral dot_S8192x8x64_S8x8192x8192_S8x64x8192_0_2_2_1_1_0 none l r) main_v5 main_v94
  fn_part5 (F := F) main_arg0 main_arg1 main_arg2 main_arg6 main_arg8 main_c main_c_0 main_c_1 main_v66 main_v95

def fn_part3 {F : FTy → Type} [FloatOps F] (main_arg0 : IVec S72 32) (main_arg1 : IVec S72 32) (main_arg2 : IVec S72 32) (main_arg6 : FVec F S8192x512 .f32) (main_arg7 : FVec F S4x8192x128 .f32) (main_arg8 : FVec F S8192x128 .f32) (main_arg10 : FVec F S8x8192 .f32) (main_c : IVec S72 32) (main_c_0 : IVec S72 32) (main_c_1 : IVec S72 32) (main_v1 : FVec F S8192x8x64 .f32) (main_v3 : FVec F S8192x8x64 .f32) (main_v5 : FVec F S8192x8x64 .f32) (main_v7 : FVec F S8x8192 .f32) (main_v36 : IVec S_ 1) (main_v49 : FVec F S8x8192x8192 .f32) (main_v54 : IVec S8192x8192 32) (main_v55 : IVec S8192x8192 32) : IVec S_ 1 :=
  let main_v56 : IVec S8192x8192 1 := cmpi .sge main_v54 main_v55
  let main_cst_14 : FVec F S_ .f32 := constant S_ .f32 0xFF800000#32
  let main_v57 : FVec F S8x8192x8192 .f32 := fn_where (F := F) main_v56 main_v49 main_cst_14
  let main_v58 : FVec F S8x8192x8192 .f32 := Host.exp main_v57
  let main_cst_15 : FVec F S_ .f32 := constant S_ .f32 0x00000000#32
  let main_v59 : FVec F S8x8192 .f32 := (fun x v => Host.reduceAdd x v reducesTo_S8x8192x8192_S8x8192_d2 h_S_) main_v58 main_cst_15
  let main_v60 : FVec F S8x8192 .f32 := Host.log main_v59
  let main_v61 : FVec F S4x8192x2 .f32 := (extractStridedSlice S4x8192x2 ![0, 0, 0] · slices_S4x8192x128_S4x8192x2_0_0_0) main_arg7
  let main_v62 : FVec F S4x2x8192 .f32 := shapeCast S4x2x8192 main_v60 shapeCasts_S8x8192_S4x2x8192
  let main_v63 : FVec F S4x8192x2 .f32 := (transpose S4x8192x2 [0, 2, 1] · transposes_S4x2x8192_S4x8192x2_0_2_1) main_v62
  let main_v64 : IVec S4x8192x2 1 := cmpf .oeq main_v61 main_v63
  let main_c_16 : IVec S_ 1 := constantI S_ 1 1#1
  let main_v65 : IVec S_ 1 := (fun x v => Host.reduce IntOp.andi x v reducesTo_S4x8192x2_S_d0_1_2 h_S_) main_v64 main_c_16
  let main_v66 : IVec S_ 1 := andi main_v36 main_v65
  let main_v67 : FVec F S8x8192x8192 .f32 := (fun l r => Host.dotGeneral dot_S8192x8x64_S8192x8x64_S8x8192x8192_2_2_0_0_1_1 none l r) main_v1 main_v3
  let main_cst_17 : FVec F S_ .f32 := constant S_ .f32 0x3E000000#32
  let main_v68 : FVec F S8x8192x8192 .f32 := broadcastInDim S8x8192x8192 ![] bcast_S_S8x8192x8192 main_cst_17
  let main_v69 : FVec F S8x8192x8192 .f32 := mulf main_v67 main_v68
  let main_v70 : FVec F S8x8192x1 .f32 := broadcastInDim S8x8192x1 ![0, 1] bcast_S8x8192_S8x8192x1_0_1 main_v7
  let main_v71 : FVec F S8x1x8192 .f32 := broadcastInDim S8x1x8192 ![0, 2] bcast_S8x8192_S8x1x8192_0_2 main_arg10
  let main_v72 : FVec F S8x8192x8192 .f32 := broadcastInDim S8x8192x8192 ![0, 1, 2] bcast_S8x8192x1_S8x8192x8192_0_1_2 main_v70
  let main_v73 : FVec F S8x8192x8192 .f32 := broadcastInDim S8x8192x8192 ![0, 1, 2] bcast_S8x1x8192_S8x8192x8192_0_1_2 main_v71
  let main_v74 : FVec F S8x8192x8192 .f32 := subf main_v72 main_v73
  let main_v75 : IVec S8192 32 := iotaInDim S8192 32 0
  fn_part4 (F := F) main_arg0 main_arg1 main_arg2 main_arg6 main_arg8 main_c main_c_0 main_c_1 main_v5 main_v66 main_v69 main_v74 main_v75

def fn_part2 {F : FTy → Type} [FloatOps F] (main_arg0 : IVec S72 32) (main_arg1 : IVec S72 32) (main_arg2 : IVec S72 32) (main_arg6 : FVec F S8192x512 .f32) (main_arg7 : FVec F S4x8192x128 .f32) (main_arg8 : FVec F S8192x128 .f32) (main_arg10 : FVec F S8x8192 .f32) (main_c : IVec S72 32) (main_c_0 : IVec S72 32) (main_c_1 : IVec S72 32) (main_v1 : FVec F S8192x8x64 .f32) (main_v3 : FVec F S8192x8x64 .f32) (main_v5 : FVec F S8192x8x64 .f32) (main_v7 : FVec F S8x8192 .f32) (main_v31 : IVec S_ 1) (main_v32 : FVec F S8192x512 .f32) (main_v33 : FVec F S8192x512 .f32) : IVec S_ 1 :=
  let main_v34 : IVec S8192x512 1 := cmpf .olt main_v32 main_v33
  let main_c_12 : IVec S_ 1 := constantI S_ 1 1#1
  let main_v35 : IVec S_ 1 := (fun x v => Host.reduce IntOp.andi x v reducesTo_S8192x512_S_d0_1 h_S_) main_v34 main_c_12
  let main_v36 : IVec S_ 1 := andi main_v31 main_v35
  let main_v37 : FVec F S8x16x512 .f32 := shapeCast S8x16x512 main_v7 shapeCasts_S8x8192_S8x16x512
  let main_v38 : FVec F S8x16x1 .f32 := (extractStridedSlice S8x16x1 ![0, 0, 0] · slices_S8x16x512_S8x16x1_0_0_0) main_v37
  let main_v39 : FVec F S8x16x512 .f32 := broadcastInDim S8x16x512 ![0, 1, 2] bcast_S8x16x1_S8x16x512_0_1_2 main_v38
  let main_v40 : FVec F S8x8192 .f32 := shapeCast S8x8192 main_v39 shapeCasts_S8x16x512_S8x8192
  let main_v41 : FVec F S8x8192x8192 .f32 := (fun l r => Host.dotGeneral dot_S8192x8x64_S8192x8x64_S8x8192x8192_2_2_0_0_1_1 none l r) main_v1 main_v3
  let main_cst_13 : FVec F S_ .f32 := constant S_ .f32 0x3E000000#32
  let main_v42 : FVec F S8x8192x8192 .f32 := broadcastInDim S8x8192x8192 ![] bcast_S_S8x8192x8192 main_cst_13
  let main_v43 : FVec F S8x8192x8192 .f32 := mulf main_v41 main_v42
  let main_v44 : FVec F S8x8192x1 .f32 := broadcastInDim S8x8192x1 ![0, 1] bcast_S8x8192_S8x8192x1_0_1 main_v40
  let main_v45 : FVec F S8x1x8192 .f32 := broadcastInDim S8x1x8192 ![0, 2] bcast_S8x8192_S8x1x8192_0_2 main_arg10
  let main_v46 : FVec F S8x8192x8192 .f32 := broadcastInDim S8x8192x8192 ![0, 1, 2] bcast_S8x8192x1_S8x8192x8192_0_1_2 main_v44
  let main_v47 : FVec F S8x8192x8192 .f32 := broadcastInDim S8x8192x8192 ![0, 1, 2] bcast_S8x1x8192_S8x8192x8192_0_1_2 main_v45
  let main_v48 : FVec F S8x8192x8192 .f32 := subf main_v46 main_v47
  let main_v49 : FVec F S8x8192x8192 .f32 := addf main_v43 main_v48
  let main_v50 : IVec S8192 32 := iotaInDim S8192 32 0
  let main_v51 : IVec S8192x1 32 := broadcastInDim S8192x1 ![0] bcast_S8192_S8192x1_0 main_v50
  let main_v52 : IVec S8192 32 := iotaInDim S8192 32 0
  let main_v53 : IVec S1x8192 32 := broadcastInDim S1x8192 ![1] bcast_S8192_S1x8192_1 main_v52
  let main_v54 : IVec S8192x8192 32 := broadcastInDim S8192x8192 ![0, 1] bcast_S8192x1_S8192x8192_0_1 main_v51
  let main_v55 : IVec S8192x8192 32 := broadcastInDim S8192x8192 ![0, 1] bcast_S1x8192_S8192x8192_0_1 main_v53
  fn_part3 (F := F) main_arg0 main_arg1 main_arg2 main_arg6 main_arg7 main_arg8 main_arg10 main_c main_c_0 main_c_1 main_v1 main_v3 main_v5 main_v7 main_v36 main_v49 main_v54 main_v55

def fn_part1 {F : FTy → Type} [FloatOps F] (main_arg0 : IVec S72 32) (main_arg1 : IVec S72 32) (main_arg2 : IVec S72 32) (main_arg6 : FVec F S8192x512 .f32) (main_arg7 : FVec F S4x8192x128 .f32) (main_arg8 : FVec F S8192x128 .f32) (main_arg10 : FVec F S8x8192 .f32) (main_c : IVec S72 32) (main_c_0 : IVec S72 32) (main_c_1 : IVec S72 32) (main_v1 : FVec F S8192x8x64 .f32) (main_v3 : FVec F S8192x8x64 .f32) (main_v5 : FVec F S8192x8x64 .f32) (main_v7 : FVec F S8x8192 .f32) (main_v16 : IVec S_ 1) : IVec S_ 1 :=
  let main_v17 : FVec F S8192x8x64 .f32 := Host.absf main_v5
  let main_cst_5 : FVec F S_ .f32 := constant S_ .f32 0x7F800000#32
  let main_v18 : FVec F S8192x8x64 .f32 := broadcastInDim S8192x8x64 ![] bcast_S_S8192x8x64 main_cst_5
  let main_v19 : IVec S8192x8x64 1 := cmpf .olt main_v17 main_v18
  let main_c_6 : IVec S_ 1 := constantI S_ 1 1#1
  let main_v20 : IVec S_ 1 := (fun x v => Host.reduce IntOp.andi x v reducesTo_S8192x8x64_S_d0_1_2 h_S_) main_v19 main_c_6
  let main_v21 : IVec S_ 1 := andi main_v16 main_v20
  let main_v22 : FVec F S8x8192 .f32 := Host.absf main_v7
  let main_cst_7 : FVec F S_ .f32 := constant S_ .f32 0x7F800000#32
  let main_v23 : FVec F S8x8192 .f32 := broadcastInDim S8x8192 ![] bcast_S_S8x8192 main_cst_7
  let main_v24 : IVec S8x8192 1 := cmpf .olt main_v22 main_v23
  let main_c_8 : IVec S_ 1 := constantI S_ 1 1#1
  let main_v25 : IVec S_ 1 := (fun x v => Host.reduce IntOp.andi x v reducesTo_S8x8192_S_d0_1 h_S_) main_v24 main_c_8
  let main_v26 : IVec S_ 1 := andi main_v21 main_v25
  let main_v27 : FVec F S8x8192 .f32 := Host.absf main_arg10
  let main_cst_9 : FVec F S_ .f32 := constant S_ .f32 0x7F800000#32
  let main_v28 : FVec F S8x8192 .f32 := broadcastInDim S8x8192 ![] bcast_S_S8x8192 main_cst_9
  let main_v29 : IVec S8x8192 1 := cmpf .olt main_v27 main_v28
  let main_c_10 : IVec S_ 1 := constantI S_ 1 1#1
  let main_v30 : IVec S_ 1 := (fun x v => Host.reduce IntOp.andi x v reducesTo_S8x8192_S_d0_1 h_S_) main_v29 main_c_10
  let main_v31 : IVec S_ 1 := andi main_v26 main_v30
  let main_v32 : FVec F S8192x512 .f32 := Host.absf main_arg6
  let main_cst_11 : FVec F S_ .f32 := constant S_ .f32 0x7F800000#32
  let main_v33 : FVec F S8192x512 .f32 := broadcastInDim S8192x512 ![] bcast_S_S8192x512 main_cst_11
  fn_part2 (F := F) main_arg0 main_arg1 main_arg2 main_arg6 main_arg7 main_arg8 main_arg10 main_c main_c_0 main_c_1 main_v1 main_v3 main_v5 main_v7 main_v31 main_v32 main_v33

def fn {F : FTy → Type} [FloatOps F] (main_arg0 : IVec S72 32) (main_arg1 : IVec S72 32) (main_arg2 : IVec S72 32) (main_arg3 : FVec F S8192x10368 .f32) (main_arg4 : FVec F S8192x10368 .f32) (main_arg5 : FVec F S8192x10368 .f32) (main_arg6 : FVec F S8192x512 .f32) (main_arg7 : FVec F S4x8192x128 .f32) (main_arg8 : FVec F S8192x128 .f32) (main_arg9 : FVec F S8192x128 .f32) (main_arg10 : FVec F S8x8192 .f32) : IVec S_ 1 :=
  let main_c : IVec S72 32 := fun i => lit0 (S72.rowMajor i)
  let main_c_0 : IVec S72 32 := fun i => lit1 (S72.rowMajor i)
  let main_c_1 : IVec S72 32 := fun i => lit2 (S72.rowMajor i)
  let main_v0 : FVec F S8192x512 .f32 := (extractStridedSlice S8192x512 ![0, 3584] · slices_S8192x10368_S8192x512_0_3584) main_arg3
  let main_v1 : FVec F S8192x8x64 .f32 := shapeCast S8192x8x64 main_v0 shapeCasts_S8192x512_S8192x8x64
  let main_v2 : FVec F S8192x512 .f32 := (extractStridedSlice S8192x512 ![0, 4096] · slices_S8192x10368_S8192x512_0_4096) main_arg4
  let main_v3 : FVec F S8192x8x64 .f32 := shapeCast S8192x8x64 main_v2 shapeCasts_S8192x512_S8192x8x64
  let main_v4 : FVec F S8192x512 .f32 := (extractStridedSlice S8192x512 ![0, 4608] · slices_S8192x10368_S8192x512_0_4608) main_arg5
  let main_v5 : FVec F S8192x8x64 .f32 := shapeCast S8192x8x64 main_v4 shapeCasts_S8192x512_S8192x8x64
  let main_v6 : FVec F S8192x8 .f32 := (extractStridedSlice S8192x8 ![0, 0] · slices_S8192x128_S8192x8_0_0) main_arg9
  let main_v7 : FVec F S8x8192 .f32 := (transpose S8x8192 [1, 0] · transposes_S8192x8_S8x8192_1_0) main_v6
  let main_v8 : FVec F S8192x8x64 .f32 := Host.absf main_v1
  let main_cst : FVec F S_ .f32 := constant S_ .f32 0x7F800000#32
  let main_v9 : FVec F S8192x8x64 .f32 := broadcastInDim S8192x8x64 ![] bcast_S_S8192x8x64 main_cst
  let main_v10 : IVec S8192x8x64 1 := cmpf .olt main_v8 main_v9
  let main_c_2 : IVec S_ 1 := constantI S_ 1 1#1
  let main_v11 : IVec S_ 1 := (fun x v => Host.reduce IntOp.andi x v reducesTo_S8192x8x64_S_d0_1_2 h_S_) main_v10 main_c_2
  let main_v12 : FVec F S8192x8x64 .f32 := Host.absf main_v3
  let main_cst_3 : FVec F S_ .f32 := constant S_ .f32 0x7F800000#32
  let main_v13 : FVec F S8192x8x64 .f32 := broadcastInDim S8192x8x64 ![] bcast_S_S8192x8x64 main_cst_3
  let main_v14 : IVec S8192x8x64 1 := cmpf .olt main_v12 main_v13
  let main_c_4 : IVec S_ 1 := constantI S_ 1 1#1
  let main_v15 : IVec S_ 1 := (fun x v => Host.reduce IntOp.andi x v reducesTo_S8192x8x64_S_d0_1_2 h_S_) main_v14 main_c_4
  let main_v16 : IVec S_ 1 := andi main_v11 main_v15
  fn_part1 (F := F) main_arg0 main_arg1 main_arg2 main_arg6 main_arg7 main_arg8 main_arg10 main_c main_c_0 main_c_1 main_v1 main_v3 main_v5 main_v7 main_v16
-- ==== Pre_tables.lean ====
abbrev S72 : Shape := ⟨1, ![72]⟩
abbrev S8192x10368 : Shape := ⟨2, ![8192, 10368]⟩
abbrev S8192x512 : Shape := ⟨2, ![8192, 512]⟩
abbrev S4x8192x128 : Shape := ⟨3, ![4, 8192, 128]⟩
abbrev S8192x128 : Shape := ⟨2, ![8192, 128]⟩
abbrev S8x8192 : Shape := ⟨2, ![8, 8192]⟩
abbrev S_ : Shape := ⟨0, ![]⟩

class Facts : Prop where
  reducesTo_S72_S_d0 : S72.ReducesTo [0] S_
  h_S_ : 0 < S_.numel

variable [Facts]

noncomputable abbrev lit0 : Fin 72 → BitVec 32 := fun
  | 0 => 0#32 | 1 => 1#32 | 2 => 2#32 | 3 => 3#32 | 4 => 4#32 | 5 => 5#32 | 6 => 6#32 | 7 => 7#32
  | 8 => 8#32 | 9 => 9#32 | 10 => 10#32 | 11 => 11#32 | 12 => 12#32 | 13 => 13#32 | 14 => 14#32 | 15 => 15#32
  | 16 => 2#32 | 17 => 3#32 | 18 => 4#32 | 19 => 5#32 | 20 => 6#32 | 21 => 7#32 | 22 => 8#32 | 23 => 9#32
  | 24 => 10#32 | 25 => 11#32 | 26 => 12#32 | 27 => 13#32 | 28 => 14#32 | 29 => 15#32 | 30 => 4#32 | 31 => 5#32
  | 32 => 6#32 | 33 => 7#32 | 34 => 8#32 | 35 => 9#32 | 36 => 10#32 | 37 => 11#32 | 38 => 12#32 | 39 => 13#32
  | 40 => 14#32 | 41 => 15#32 | 42 => 6#32 | 43 => 7#32 | 44 => 8#32 | 45 => 9#32 | 46 => 10#32 | 47 => 11#32
  | 48 => 12#32 | 49 => 13#32 | 50 => 14#32 | 51 => 15#32 | 52 => 8#32 | 53 => 9#32 | 54 => 10#32 | 55 => 11#32
  | 56 => 12#32 | 57 => 13#32 | 58 => 14#32 | 59 => 15#32 | 60 => 10#32 | 61 => 11#32 | 62 => 12#32 | 63 => 13#32
  | 64 => 14#32 | 65 => 15#32 | 66 => 12#32 | 67 => 13#32 | 68 => 14#32 | 69 => 15#32 | 70 => 14#32 | 71 => 15#32
  | _ => 0#32

noncomputable abbrev lit1 : Fin 72 → BitVec 32 := fun
  | 0 => 0#32 | 1 => 0#32 | 2 => 0#32 | 3 => 0#32 | 4 => 0#32 | 5 => 0#32 | 6 => 0#32 | 7 => 0#32
  | 8 => 0#32 | 9 => 0#32 | 10 => 0#32 | 11 => 0#32 | 12 => 0#32 | 13 => 0#32 | 14 => 0#32 | 15 => 0#32
  | 16 => 1#32 | 17 => 1#32 | 18 => 1#32 | 19 => 1#32 | 20 => 1#32 | 21 => 1#32 | 22 => 1#32 | 23 => 1#32
  | 24 => 1#32 | 25 => 1#32 | 26 => 1#32 | 27 => 1#32 | 28 => 1#32 | 29 => 1#32 | 30 => 2#32 | 31 => 2#32
  | 32 => 2#32 | 33 => 2#32 | 34 => 2#32 | 35 => 2#32 | 36 => 2#32 | 37 => 2#32 | 38 => 2#32 | 39 => 2#32
  | 40 => 2#32 | 41 => 2#32 | 42 => 3#32 | 43 => 3#32 | 44 => 3#32 | 45 => 3#32 | 46 => 3#32 | 47 => 3#32
  | 48 => 3#32 | 49 => 3#32 | 50 => 3#32 | 51 => 3#32 | 52 => 4#32 | 53 => 4#32 | 54 => 4#32 | 55 => 4#32
  | 56 => 4#32 | 57 => 4#32 | 58 => 4#32 | 59 => 4#32 | 60 => 5#32 | 61 => 5#32 | 62 => 5#32 | 63 => 5#32
  | 64 => 5#32 | 65 => 5#32 | 66 => 6#32 | 67 => 6#32 | 68 => 6#32 | 69 => 6#32 | 70 => 7#32 | 71 => 7#32
  | _ => 0#32

noncomputable abbrev lit2 : Fin 72 → BitVec 32 := fun
  | 0 => 1#32 | 1 => 2#32 | 2 => 0#32 | 3 => 0#32 | 4 => 0#32 | 5 => 0#32 | 6 => 0#32 | 7 => 0#32
  | 8 => 0#32 | 9 => 0#32 | 10 => 0#32 | 11 => 0#32 | 12 => 0#32 | 13 => 0#32 | 14 => 0#32 | 15 => 0#32
  | 16 => 1#32 | 17 => 2#32 | 18 => 0#32 | 19 => 0#32 | 20 => 0#32 | 21 => 0#32 | 22 => 0#32 | 23 => 0#32
  | 24 => 0#32 | 25 => 0#32 | 26 => 0#32 | 27 => 0#32 | 28 => 0#32 | 29 => 0#32 | 30 => 1#32 | 31 => 2#32
  | 32 => 0#32 | 33 => 0#32 | 34 => 0#32 | 35 => 0#32 | 36 => 0#32 | 37 => 0#32 | 38 => 0#32 | 39 => 0#32
  | 40 => 0#32 | 41 => 0#32 | 42 => 1#32 | 43 => 2#32 | 44 => 0#32 | 45 => 0#32 | 46 => 0#32 | 47 => 0#32
  | 48 => 0#32 | 49 => 0#32 | 50 => 0#32 | 51 => 0#32 | 52 => 1#32 | 53 => 2#32 | 54 => 0#32 | 55 => 0#32
  | 56 => 0#32 | 57 => 0#32 | 58 => 0#32 | 59 => 0#32 | 60 => 1#32 | 61 => 2#32 | 62 => 0#32 | 63 => 0#32
  | 64 => 0#32 | 65 => 0#32 | 66 => 1#32 | 67 => 2#32 | 68 => 0#32 | 69 => 0#32 | 70 => 1#32 | 71 => 2#32
  | _ => 0#32

def fn {F : FTy → Type} [FloatOps F] (main_arg0 : IVec S72 32) (main_arg1 : IVec S72 32) (main_arg2 : IVec S72 32) (main_arg3 : FVec F S8192x10368 .f32) (main_arg4 : FVec F S8192x10368 .f32) (main_arg5 : FVec F S8192x10368 .f32) (main_arg6 : FVec F S8192x512 .f32) (main_arg7 : FVec F S4x8192x128 .f32) (main_arg8 : FVec F S8192x128 .f32) (main_arg9 : FVec F S8192x128 .f32) (main_arg10 : FVec F S8x8192 .f32) : IVec S_ 1 :=
  let main_c : IVec S72 32 := fun i => lit0 (S72.rowMajor i)
  let main_c_0 : IVec S72 32 := fun i => lit1 (S72.rowMajor i)
  let main_c_1 : IVec S72 32 := fun i => lit2 (S72.rowMajor i)
  let main_v0 : IVec S72 1 := cmpi .eq main_arg0 main_c
  let main_c_2 : IVec S_ 1 := constantI S_ 1 1#1
  let main_v1 : IVec S_ 1 := (fun x v => Host.reduce IntOp.andi x v reducesTo_S72_S_d0 h_S_) main_v0 main_c_2
  let main_v2 : IVec S72 1 := cmpi .eq main_arg1 main_c_0
  let main_c_3 : IVec S_ 1 := constantI S_ 1 1#1
  let main_v3 : IVec S_ 1 := (fun x v => Host.reduce IntOp.andi x v reducesTo_S72_S_d0 h_S_) main_v2 main_c_3
  let main_v4 : IVec S_ 1 := andi main_v1 main_v3
  let main_v5 : IVec S72 1 := cmpi .eq main_arg2 main_c_1
  let main_c_4 : IVec S_ 1 := constantI S_ 1 1#1
  let main_v6 : IVec S_ 1 := (fun x v => Host.reduce IntOp.andi x v reducesTo_S72_S_d0 h_S_) main_v5 main_c_4
  let main_v7 : IVec S_ 1 := andi main_v4 main_v6
  main_v7
-- ==== Kernel.lean ====
abbrev S72 : Shape := ⟨1, ![72]⟩
abbrev S8192x10368 : Shape := ⟨2, ![8192, 10368]⟩
abbrev S8192x512 : Shape := ⟨2, ![8192, 512]⟩
abbrev S4x8192x128 : Shape := ⟨3, ![4, 8192, 128]⟩
abbrev S8192x128 : Shape := ⟨2, ![8192, 128]⟩
abbrev S8x8192 : Shape := ⟨2, ![8, 8192]⟩
abbrev S4x8x8192 : Shape := ⟨3, ![4, 8, 8192]⟩
abbrev S512x128 : Shape := ⟨2, ![512, 128]⟩
abbrev S1 : Shape := ⟨1, ![1]⟩
abbrev S1024x128 : Shape := ⟨2, ![1024, 128]⟩
abbrev S1x512x128 : Shape := ⟨3, ![1, 512, 128]⟩
abbrev S8x1024 : Shape := ⟨2, ![8, 1024]⟩
abbrev S1x8x1024 : Shape := ⟨3, ![1, 8, 1024]⟩
abbrev S1x8192x128 : Shape := ⟨3, ![1, 8192, 128]⟩
abbrev S1x128 : Shape := ⟨2, ![1, 128]⟩
abbrev S1x1 : Shape := ⟨2, ![1, 1]⟩
abbrev S512x1024 : Shape := ⟨2, ![512, 1024]⟩
abbrev S1024 : Shape := ⟨1, ![1024]⟩
abbrev S1x1024 : Shape := ⟨2, ![1, 1024]⟩
abbrev S512 : Shape := ⟨1, ![512]⟩
abbrev S512x1 : Shape := ⟨2, ![512, 1]⟩
abbrev S8x512 : Shape := ⟨2, ![8, 512]⟩
abbrev S512x512 : Shape := ⟨2, ![512, 512]⟩
abbrev S1x512 : Shape := ⟨2, ![1, 512]⟩

abbrev nBuf : Space → Nat
  | .hbm => 13
  | .vmem => 31
  | .smem => 3
  | _ => 0

abbrev bufTy : (tb : Table) → Fin (tcTables nBuf tb) → BufTy
  | .hbm, ⟨0, _⟩ => ⟨S8192x10368, .f32⟩
  | .hbm, ⟨1, _⟩ => ⟨S8192x10368, .f32⟩
  | .hbm, ⟨2, _⟩ => ⟨S8192x10368, .f32⟩
  | .hbm, ⟨3, _⟩ => ⟨S8192x512, .f32⟩
  | .hbm, ⟨4, _⟩ => ⟨S4x8192x128, .f32⟩
  | .hbm, ⟨5, _⟩ => ⟨S8192x128, .f32⟩
  | .hbm, ⟨6, _⟩ => ⟨S8192x128, .f32⟩
  | .hbm, ⟨7, _⟩ => ⟨S8x8192, .f32⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S4x8x8192, .f32⟩
  | .hbm, ⟨12, _⟩ => ⟨S4x8192x128, .f32⟩
  | .local _ .vmem, ⟨0, _⟩ => ⟨S512x128, .f32⟩
  | .local _ .vmem, ⟨1, _⟩ => ⟨S512x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S512x128, .f32⟩
  | .local _ .vmem, ⟨7, _⟩ => ⟨S512x128, .f32⟩
  | .local _ .vmem, ⟨8, _⟩ => ⟨S1x512x128, .f32⟩
  | .local _ .vmem, ⟨9, _⟩ => ⟨S1x512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S8x1024, .f32⟩
  | .local _ .vmem, ⟨15, _⟩ => ⟨S8x1024, .f32⟩
  | .local _ .vmem, ⟨16, _⟩ => ⟨S8192x128, .bf16⟩
  | .local _ .vmem, ⟨17, _⟩ => ⟨S8192x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1x8x1024, .f32⟩
  | .local _ .vmem, ⟨23, _⟩ => ⟨S1x8x1024, .f32⟩
  | .local _ .vmem, ⟨24, _⟩ => ⟨S1x8192x128, .f32⟩
  | .local _ .vmem, ⟨25, _⟩ => ⟨S1x8192x128, .f32⟩
  | .local _ .vmem, ⟨26, _⟩ => ⟨S8192x128, .f32⟩
  | .local _ .vmem, ⟨27, _⟩ => ⟨S1024x128, .f32⟩
  | .local _ .vmem, ⟨28, _⟩ => ⟨S1024x128, .f32⟩
  | .local _ .vmem, ⟨29, _⟩ => ⟨S8x1024, .f32⟩
  | .local _ .vmem, ⟨30, _⟩ => ⟨S8192x128, .f32⟩
  | .local _ .smem, ⟨0, _⟩ => ⟨S72, .i32⟩
  | .local _ .smem, ⟨1, _⟩ => ⟨S72, .i32⟩
  | .local _ .smem, ⟨2, _⟩ => ⟨S72, .i32⟩
  | _, _ => ⟨S8192x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_arg10 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 72], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v253 : BitVec 32 := Scalar.muli v1 c512_i32
  v253
def k0_cond3 (v5 : BitVec 32) : BitVec 1 :=
  let c0_i32_2 : BitVec 32 := 0#32
  let v13 : BitVec 1 := Scalar.cmpi .eq v5 c0_i32_2
  let v14 : BitVec 32 := Scalar.extui v13
  let c0_i32_3 : BitVec 32 := 0#32
  let v15 : BitVec 1 := Scalar.cmpi .ne v14 c0_i32_3
  v15

def k0_off2 (v1 : BitVec 32) : Fin 2 → Nat :=
  let c512_i32 : BitVec 32 := 512#32
  let v253 : BitVec 32 := Scalar.muli v1 c512_i32
  let v254 : BitVec 32 := v253
  let v255 : Index := Scalar.indexCast v254
  let c0_108 : Index := 0#32
  ![v255.toNat, 0]
def k0_mult2 (v1 : BitVec 32) : BitVec 32 :=
  let c512_i32_112 : BitVec 32 := 512#32
  let v273 : BitVec 32 := Scalar.muli v1 c512_i32_112
  v273
def k0_cond4 (v5 : BitVec 32) : BitVec 1 :=
  let c1_i32 : BitVec 32 := 1#32
  let v16 : BitVec 1 := Scalar.cmpi .eq v5 c1_i32
  let v17 : BitVec 32 := Scalar.extui v16
  let c0_i32_4 : BitVec 32 := 0#32
  let v18 : BitVec 1 := Scalar.cmpi .ne v17 c0_i32_4
  v18

def k0_off3 (v1 : BitVec 32) : Fin 2 → Nat :=
  let c512_i32_112 : BitVec 32 := 512#32
  let v273 : BitVec 32 := Scalar.muli v1 c512_i32_112
  let v274 : BitVec 32 := v273
  let v275 : Index := Scalar.indexCast v274
  let c0_113 : Index := 0#32
  ![v275.toNat, 0]
def k0_mult3 (v1 : BitVec 32) : BitVec 32 :=
  let c512_i32_112 : BitVec 32 := 512#32
  let v273 : BitVec 32 := Scalar.muli v1 c512_i32_112
  v273
def k0_cond5 (v5 : BitVec 32) : BitVec 1 :=
  let c2_i32_5 : BitVec 32 := 2#32
  let v19 : BitVec 1 := Scalar.cmpi .eq v5 c2_i32_5
  let v20 : BitVec 32 := Scalar.extui v19
  let c0_i32_6 : BitVec 32 := 0#32
  let v21 : BitVec 1 := Scalar.cmpi .ne v20 c0_i32_6
  v21

def k0_off4 (v1 : BitVec 32) : Fin 2 → Nat :=
  let c512_i32_112 : BitVec 32 := 512#32
  let v273 : BitVec 32 := Scalar.muli v1 c512_i32_112
  let v274 : BitVec 32 := v273
  let v275 : Index := Scalar.indexCast v274
  let c0_113 : Index := 0#32
  ![v275.toNat, 0]

def k0_chk1 (v1 : BitVec 32) (v5 : BitVec 32) : Prop :=
  (∀ (k0_h3 : k0_cond3 v5 = 1#1), 512 ∣ (k0_mult1 v1).toNat) ∧
  (∀ (k0_h3 : k0_cond3 v5 = 1#1), ∀ a, (k0_off2 v1) a + S512x128.size a ≤ S8192x128.size a) ∧
  (∀ (k0_h4 : k0_cond4 v5 = 1#1), 512 ∣ (k0_mult2 v1).toNat) ∧
  (∀ (k0_h4 : k0_cond4 v5 = 1#1), ∀ a, (k0_off3 v1) a + S512x128.size a ≤ S8192x128.size a) ∧
  (∀ (k0_h5 : k0_cond5 v5 = 1#1), 512 ∣ (k0_mult3 v1).toNat) ∧
  (∀ (k0_h5 : k0_cond5 v5 = 1#1), ∀ a, (k0_off4 v1) a + S512x128.size a ≤ S8192x128.size a)
theorem k0_mult1_dvd : ∀ (v1 : BitVec 32) (v5 : BitVec 32) (k0_hw1 : k0_chk1 v1 v5), ∀ (k0_h3 : k0_cond3 v5 = 1#1), 512 ∣ (k0_mult1 v1).toNat := fun v1 v5 k0_hw1 k0_h3 => k0_hw1.1 k0_h3
theorem k0_off2_inb : ∀ (v1 : BitVec 32) (v5 : BitVec 32) (k0_hw1 : k0_chk1 v1 v5), ∀ (k0_h3 : k0_cond3 v5 = 1#1), ∀ a, (k0_off2 v1) a + S512x128.size a ≤ S8192x128.size a := fun v1 v5 k0_hw1 k0_h3 => k0_hw1.2.1 k0_h3
theorem k0_mult2_dvd : ∀ (v1 : BitVec 32) (v5 : BitVec 32) (k0_hw1 : k0_chk1 v1 v5), ∀ (k0_h4 : k0_cond4 v5 = 1#1), 512 ∣ (k0_mult2 v1).toNat := fun v1 v5 k0_hw1 k0_h4 => k0_hw1.2.2.1 k0_h4
theorem k0_off3_inb : ∀ (v1 : BitVec 32) (v5 : BitVec 32) (k0_hw1 : k0_chk1 v1 v5), ∀ (k0_h4 : k0_cond4 v5 = 1#1), ∀ a, (k0_off3 v1) a + S512x128.size a ≤ S8192x128.size a := fun v1 v5 k0_hw1 k0_h4 => k0_hw1.2.2.2.1 k0_h4
theorem k0_mult3_dvd : ∀ (v1 : BitVec 32) (v5 : BitVec 32) (k0_hw1 : k0_chk1 v1 v5), ∀ (k0_h5 : k0_cond5 v5 = 1#1), 512 ∣ (k0_mult3 v1).toNat := fun v1 v5 k0_hw1 k0_h5 => k0_hw1.2.2.2.2.1 k0_h5
theorem k0_off4_inb : ∀ (v1 : BitVec 32) (v5 : BitVec 32) (k0_hw1 : k0_chk1 v1 v5), ∀ (k0_h5 : k0_cond5 v5 = 1#1), ∀ a, (k0_off4 v1) a + S512x128.size a ≤ S8192x128.size a := fun v1 v5 k0_hw1 k0_h5 => k0_hw1.2.2.2.2.2 k0_h5

def k0_cond7 (i : grid0.Coords) : BitVec 1 :=
  let arg1 : BitVec 32 := BitVec.ofNat 32 (i 1).val
  let c71_i32 : BitVec 32 := 71#32
  let v25 : BitVec 1 := Scalar.cmpi .eq arg1 c71_i32
  let v26 : BitVec 32 := Scalar.extui v25
  let c0_i32_8 : BitVec 32 := 0#32
  let v27 : BitVec 1 := Scalar.cmpi .ne v26 c0_i32_8
  v27

def k0_cond6 (v1 : BitVec 32) : BitVec 1 :=
  let c15_i32 : BitVec 32 := 15#32
  let v22 : BitVec 1 := Scalar.cmpi .eq v1 c15_i32
  let v23 : BitVec 32 := Scalar.extui v22
  let c0_i32_7 : BitVec 32 := 0#32
  let v24 : BitVec 1 := Scalar.cmpi .ne v23 c0_i32_7
  v24

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c28_i32 : BitVec 32 := 28#32
  let v2 : BitVec 32 := Scalar.addi c28_i32 arg0
  let c0_i32 : BitVec 32 := 0#32
  ![v1.toNat, v2.toNat]

def cc0_transform_1 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c32_i32 : BitVec 32 := 32#32
  let v2 : BitVec 32 := Scalar.addi c32_i32 arg0
  let c0_i32 : BitVec 32 := 0#32
  ![v1.toNat, v2.toNat]

def cc0_transform_2 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c36_i32 : BitVec 32 := 36#32
  let v2 : BitVec 32 := Scalar.addi c36_i32 arg0
  let c0_i32 : BitVec 32 := 0#32
  ![v1.toNat, v2.toNat]

def cc0_transform_3 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat]

def cc0_transform_6 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat]

def cc0_transform_7 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  ![v1.toNat, arg0.toNat]

def cc0_transform_11 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  let c0_i32_0 : BitVec 32 := 0#32
  ![arg0.toNat, c0_i32.toNat, v1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8192x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S72 : Shape := ⟨1, ![72]⟩
abbrev S8192x10368 : Shape := ⟨2, ![8192, 10368]⟩
abbrev S8192x512 : Shape := ⟨2, ![8192, 512]⟩
abbrev S4x8192x128 : Shape := ⟨3, ![4, 8192, 128]⟩
abbrev S8192x128 : Shape := ⟨2, ![8192, 128]⟩
abbrev S8x8192 : Shape := ⟨2, ![8, 8192]⟩
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x64x8192 : Shape := ⟨3, ![8, 64, 8192]⟩
abbrev S8x8192x64 : Shape := ⟨3, ![8, 8192, 64]⟩
abbrev S4x8x1 : Shape := ⟨3, ![4, 8, 1]⟩
abbrev S1x8x8192 : Shape := ⟨3, ![1, 8, 8192]⟩
abbrev S4x8x8192 : Shape := ⟨3, ![4, 8, 8192]⟩
abbrev S4x1x128 : Shape := ⟨3, ![4, 1, 128]⟩
abbrev S1x8192x128 : Shape := ⟨3, ![1, 8192, 128]⟩

abbrev nBuf : Space → Nat
  | .hbm => 169
  | .vmem => 0
  | .smem => 0
  | _ => 0

abbrev hbmTy0_0 (i : Nat) : BufTy := match i % 128 with
  | 0 => ⟨S72, .i32⟩
  | 1 => ⟨S72, .i32⟩
  | 2 => ⟨S72, .i32⟩
  | 3 => ⟨S8192x10368, .f32⟩
  | 4 => ⟨S8192x10368, .f32⟩
  | 5 => ⟨S8192x10368, .f32⟩
  | 6 => ⟨S8192x512, .f32⟩
  | 7 => ⟨S4x8192x128, .f32⟩
  | 8 => ⟨S8192x128, .f32⟩
  | 9 => ⟨S8192x128, .f32⟩
  | 10 => ⟨S8x8192, .f32⟩
  | 11 => ⟨S8192x8x64, .f32⟩
  | 12 => ⟨S8192x512, .f32⟩
  | 13 => ⟨S8192x8x64, .f32⟩
  | 14 => ⟨S8192x512, .f32⟩
  | 15 => ⟨S8192x8x64, .f32⟩
  | 16 => ⟨S8192x512, .f32⟩
  | 17 => ⟨S8192x8x64, .f32⟩
  | 18 => ⟨S8192x8, .f32⟩
  | 19 => ⟨S8x8192, .f32⟩
  | 20 => ⟨S8x8192x8192, .f32⟩
  | 21 => ⟨S_, .f32⟩
  | 22 => ⟨S8x8192x8192, .f32⟩
  | 23 => ⟨S8x8192x8192, .f32⟩
  | 24 => ⟨S8x8192x1, .f32⟩
  | 25 => ⟨S8x1x8192, .f32⟩
  | 26 => ⟨S8x8192x8192, .f32⟩
  | 27 => ⟨S8x8192x8192, .f32⟩
  | 28 => ⟨S8x8192x8192, .f32⟩
  | 29 => ⟨S8192, .i32⟩
  | 30 => ⟨S8192x1, .i32⟩
  | 31 => ⟨S8192, .i32⟩
  | 32 => ⟨S1x8192, .i32⟩
  | 33 => ⟨S8192x8192, .i32⟩
  | 34 => ⟨S8192x8192, .i32⟩
  | 35 => ⟨S8192x8192, .i1⟩
  | 36 => ⟨S8x8192x8192, .f32⟩
  | 37 => ⟨S_, .f32⟩
  | 38 => ⟨S_, .f32⟩
  | 39 => ⟨S8x8192x8192, .i1⟩
  | 40 => ⟨S8x8192x8192, .f32⟩
  | 41 => ⟨S8x8192x8192, .f32⟩
  | 42 => ⟨S_, .f32⟩
  | 43 => ⟨S8x8192x8192, .f32⟩
  | 44 => ⟨S_, .f32⟩
  | 45 => ⟨S8x8192, .f32⟩
  | 46 => ⟨S8x8192x1, .f32⟩
  | 47 => ⟨S8x8192x8192, .f32⟩
  | 48 => ⟨S8x8192x8192, .i1⟩
  | 49 => ⟨S8x8192x8192, .f32⟩
  | 50 => ⟨S_, .f32⟩
  | 51 => ⟨S8x8192, .f32⟩
  | 52 => ⟨S_, .f32⟩
  | 53 => ⟨S8x8192, .f32⟩
  | 54 => ⟨S8x8192, .f32⟩
  | 55 => ⟨S_, .f32⟩
  | 56 => ⟨S8x8192, .f32⟩
  | 57 => ⟨S8x8192, .i1⟩
  | 58 => ⟨S_, .f32⟩
  | 59 => ⟨S8x8192, .f32⟩
  | 60 => ⟨S8x8192, .i1⟩
  | 61 => ⟨S_, .f32⟩
  | 62 => ⟨S8x8192, .f32⟩
  | 63 => ⟨S_, .f32⟩
  | 64 => ⟨S8x8192, .f32⟩
  | 65 => ⟨S_, .f32⟩
  | 66 => ⟨S8x8192, .f32⟩
  | 67 => ⟨S8x8192, .f32⟩
  | 68 => ⟨S8x8192, .f32⟩
  | 69 => ⟨S8x8192x1, .f32⟩
  | 70 => ⟨S8x8192x8192, .f32⟩
  | 71 => ⟨S8x8192x8192, .f32⟩
  | 72 => ⟨S8x8192x8192, .f32⟩
  | 73 => ⟨S_, .f32⟩
  | 74 => ⟨S8x8192, .f32⟩
  | 75 => ⟨S8x8192x1, .f32⟩
  | 76 => ⟨S8x8192x8192, .f32⟩
  | 77 => ⟨S8x8192x8192, .f32⟩
  | 78 => ⟨S8x8192x1, .f32⟩
  | 79 => ⟨S_, .f32⟩
  | 80 => ⟨S8x8192x1, .f32⟩
  | 81 => ⟨S8x8192x1, .f32⟩
  | 82 => ⟨S8x64x8192, .f32⟩
  | 83 => ⟨S8192x8x64, .f32⟩
  | 84 => ⟨S8x64x8192, .f32⟩
  | 85 => ⟨S8x8192x8192, .f32⟩
  | 86 => ⟨S8x64x8192, .f32⟩
  | 87 => ⟨S8192x8x64, .f32⟩
  | 88 => ⟨S8x8192x8192, .f32⟩
  | 89 => ⟨S8x8192x8192, .f32⟩
  | 90 => ⟨S8x8192x8192, .f32⟩
  | 91 => ⟨S_, .f32⟩
  | 92 => ⟨S8x8192, .f32⟩
  | 93 => ⟨S8x8192x1, .f32⟩
  | 94 => ⟨S8x8192x1, .f32⟩
  | 95 => ⟨S8x8192x8192, .f32⟩
  | 96 => ⟨S8x8192x8192, .f32⟩
  | 97 => ⟨S_, .f32⟩
  | 98 => ⟨S8x8192, .f32⟩
  | 99 => ⟨S8x8192x8192, .f32⟩
  | 100 => ⟨S8x8192x8192, .f32⟩
  | 101 => ⟨S8x8192x8192, .f32⟩
  | 102 => ⟨S_, .f32⟩
  | 103 => ⟨S8x8192x8192, .f32⟩
  | 104 => ⟨S8x8192x8192, .f32⟩
  | 105 => ⟨S_, .f32⟩
  | 106 => ⟨S8x8192, .f32⟩
  | 107 => ⟨S8x8192x1, .f32⟩
  | 108 => ⟨S8x8192x8192, .f32⟩
  | 109 => ⟨S_, .f32⟩
  | 110 => ⟨S8x8192, .f32⟩
  | 111 => ⟨S8x1x8192, .f32⟩
  | 112 => ⟨S_, .f32⟩
  | 113 => ⟨S8x8192, .f32⟩
  | 114 => ⟨S_, .f32⟩
  | 115 => ⟨S8x8192, .f32⟩
  | 116 => ⟨S_, .f32⟩
  | 117 => ⟨S8x8192x8192, .f32⟩
  | 118 => ⟨S8x8192x8192, .f32⟩
  | 119 => ⟨S8x8192x64, .f32⟩
  | 120 => ⟨S8192x8x64, .f32⟩
  | 121 => ⟨S8x8192x64, .f32⟩
  | 122 => ⟨S8192x8x64, .f32⟩
  | 123 => ⟨S4x8x1, .i32⟩
  | 124 => ⟨S_, .i32⟩
  | 125 => ⟨S4x8x1, .i32⟩
  | 126 => ⟨S4x8x1, .i32⟩
  | 127 => ⟨S4x8x1, .i32⟩
  | _ => ⟨S72, .i32⟩

abbrev hbmTy0_1 (i : Nat) : BufTy := match i % 128 with
  | 0 => ⟨S4x8x1, .i1⟩
  | 1 => ⟨S_, .i32⟩
  | 2 => ⟨S4x8x1, .i32⟩
  | 3 => ⟨S4x8x1, .i32⟩
  | 4 => ⟨S4x8x1, .i1⟩
  | 5 => ⟨S4x8x1, .i1⟩
  | 6 => ⟨S1x8x8192, .f32⟩
  | 7 => ⟨S_, .f32⟩
  | 8 => ⟨S_, .f32⟩
  | 9 => ⟨S4x8x8192, .i1⟩
  | 10 => ⟨S4x8x8192, .f32⟩
  | 11 => ⟨S4x8x8192, .f32⟩
  | 12 => ⟨S4x8x8192, .f32⟩
  | 13 => ⟨S4x1x128, .i32⟩
  | 14 => ⟨S_, .i32⟩
  | 15 => ⟨S4x1x128, .i32⟩
  | 16 => ⟨S4x1x128, .i32⟩
  | 17 => ⟨S4x1x128, .i32⟩
  | 18 => ⟨S4x1x128, .i1⟩
  | 19 => ⟨S_, .i32⟩
  | 20 => ⟨S4x1x128, .i32⟩
  | 21 => ⟨S4x1x128, .i32⟩
  | 22 => ⟨S4x1x128, .i1⟩
  | 23 => ⟨S4x1x128, .i1⟩
  | 24 => ⟨S8192x8, .f32⟩
  | 25 => ⟨S_, .i32⟩
  | 26 => ⟨S_, .f32⟩
  | 27 => ⟨S8192x128, .f32⟩
  | 28 => ⟨S1x8192x128, .f32⟩
  | 29 => ⟨S_, .f32⟩
  | 30 => ⟨S_, .f32⟩
  | 31 => ⟨S4x8192x128, .i1⟩
  | 32 => ⟨S4x8192x128, .f32⟩
  | 33 => ⟨S4x8192x128, .f32⟩
  | 34 => ⟨S4x8192x128, .f32⟩
  | 35 => ⟨S8192x512, .f32⟩
  | 36 => ⟨S8192x512, .bf16⟩
  | 37 => ⟨S8192x512, .f32⟩
  | 38 => ⟨S8192x512, .bf16⟩
  | 39 => ⟨S8192x512, .f32⟩
  | 40 => ⟨S8192x512, .bf16⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_call0_v0 : Ref sig .tc := ⟨.hbm, 38, rfl⟩
abbrev main_v25_1 : Ref sig .tc := ⟨.hbm, 39, rfl⟩
abbrev main_call0_v2 : Ref sig .tc := ⟨.hbm, 40, rfl⟩
abbrev main_v25_0 : Ref sig .tc := ⟨.hbm, 41, rfl⟩
abbrev main_call0_cst : Ref sig .tc := ⟨.hbm, 42, rfl⟩
abbrev main_v25_2 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call1_cst : Ref sig .tc := ⟨.hbm, 102, rfl⟩
abbrev main_call1_v0 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_14 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_cst_16 : Ref sig .tc := ⟨.hbm, 114, rfl⟩
abbrev main_v79 : Ref sig .tc := ⟨.hbm, 115, rfl⟩
abbrev main_cst_17 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_18 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_19 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_call2_v3 : Ref sig .tc := ⟨.hbm, 139, rfl⟩
abbrev main_v96 : Ref sig .tc := ⟨.hbm, 140, rfl⟩
abbrev main_v97 : Ref sig .tc := ⟨.hbm, 141, rfl⟩
abbrev main_c_20 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_c_21 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_c_22 : Ref sig .tc := ⟨.hbm, 153, rfl⟩
abbrev main_call3_v0 : Ref sig .tc := ⟨.hbm, 154, rfl⟩
abbrev main_v107 : Ref sig .tc := ⟨.hbm, 155, rfl⟩
abbrev main_v108 : Ref sig .tc := ⟨.hbm, 156, rfl⟩
abbrev main_cst_23 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩

abbrev nD : Nat := 1
abbrev τ : Topo := Topo.v7x

variable {F : FTy → Type} [FloatOps F]
-- ==== Kernel2.lean ====
abbrev S1024x8192 : Shape := ⟨2, ![1024, 8192]⟩
abbrev S8192x4096 : Shape := ⟨2, ![8192, 4096]⟩
abbrev S1024x4096 : Shape := ⟨2, ![1024, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S8192x4096, .bf16⟩
  | .hbm, ⟨2, _⟩ => ⟨S1024x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S1024x8192 : Shape := ⟨2, ![1024, 8192]⟩
abbrev S8192x4096 : Shape := ⟨2, ![8192, 4096]⟩
abbrev S8192x1024 : Shape := ⟨2, ![8192, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x4096, .bf16⟩
  | .hbm, ⟨2, _⟩ => ⟨S1024x8192, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S1024x4096, .f32⟩
  | .hbm, ⟨7, _⟩ => ⟨S8192x4096, .f32⟩
  | .hbm, ⟨8, _⟩ => ⟨S4096x1024, .f32⟩
  | .hbm, ⟨9, _⟩ => ⟨S1024x4096, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x1536 : Shape := ⟨2, ![8192, 1536]⟩
abbrev S8192x2048 : Shape := ⟨2, ![8192, 2048]⟩
abbrev S8192x512 : Shape := ⟨2, ![8192, 512]⟩
abbrev S8192x4096 : Shape := ⟨2, ![8192, 4096]⟩
abbrev S8192x128 : Shape := ⟨2, ![8192, 128]⟩
abbrev S1024x1536 : Shape := ⟨2, ![1024, 1536]⟩
abbrev S1024x2048 : Shape := ⟨2, ![1024, 2048]⟩
abbrev S1024x512 : Shape := ⟨2, ![1024, 512]⟩
abbrev S1024x4096 : Shape := ⟨2, ![1024, 4096]⟩
abbrev S1024x128 : Shape := ⟨2, ![1024, 128]⟩
abbrev S8192x1024 : Shape := ⟨2, ![8192, 1024]⟩
abbrev S256x1536 : Shape := ⟨2, ![256, 1536]⟩
abbrev S256x2048 : Shape := ⟨2, ![256, 2048]⟩
abbrev S256x512 : Shape := ⟨2, ![256, 512]⟩
abbrev S256x4096 : Shape := ⟨2, ![256, 4096]⟩
abbrev S256x128 : Shape := ⟨2, ![256, 128]⟩
abbrev S256x1024 : Shape := ⟨2, ![256, 1024]⟩
abbrev S_ : Shape := ⟨0, ![]⟩

abbrev nBuf : Space → Nat
  | .hbm => 16
  | .vmem => 25
  | .smem => 0
  | _ => 0

abbrev bufTy : (tb : Table) → Fin (tcTables nBuf tb) → BufTy
  | .hbm, ⟨0, _⟩ => ⟨S8192x1536, .bf16⟩
  | .hbm, ⟨1, _⟩ => ⟨S8192x2048, .bf16⟩
  | .hbm, ⟨2, _⟩ => ⟨S8192x1536, .bf16⟩
  | .hbm, ⟨3, _⟩ => ⟨S8192x512, .bf16⟩
  | .hbm, ⟨4, _⟩ => ⟨S8192x512, .bf16⟩
  | .hbm, ⟨5, _⟩ => ⟨S8192x4096, .bf16⟩
  | .hbm, ⟨6, _⟩ => ⟨S8192x128, .bf16⟩
  | .hbm, ⟨7, _⟩ => ⟨S1024x1536, .bf16⟩
  | .hbm, ⟨8, _⟩ => ⟨S1024x2048, .bf16⟩
  | .hbm, ⟨9, _⟩ => ⟨S1024x1536, .bf16⟩
  | .hbm, ⟨10, _⟩ => ⟨S1024x512, .bf16⟩
  | .hbm, ⟨11, _⟩ => ⟨S1024x512, .bf16⟩
  | .hbm, ⟨12, _⟩ => ⟨S1024x4096, .bf16⟩
  | .hbm, ⟨13, _⟩ => ⟨S1024x128, .bf16⟩
  | .hbm, ⟨14, _⟩ => ⟨S8192x1024, .f32⟩
  | .hbm, ⟨15, _⟩ => ⟨S8192x1024, .f32⟩
  | .local _ .vmem, ⟨0, _⟩ => ⟨S256x1536, .bf16⟩
  | .local _ .vmem, ⟨1, _⟩ => ⟨S256x1536, .bf16⟩
  | .local _ .vmem, ⟨2, _⟩ => ⟨S256x2048, .bf16⟩
  | .local _ .vmem, ⟨3, _⟩ => ⟨S256x2048, .bf16⟩
  | .local _ .vmem, ⟨4, _⟩ => ⟨S256x1536, .bf16⟩
  | .local _ .vmem, ⟨5, _⟩ => ⟨S256x1536, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x4096, .bf16⟩
  | .local _ .vmem, ⟨11, _⟩ => ⟨S256x4096, .bf16⟩
  | .local _ .vmem, ⟨12, _⟩ => ⟨S256x128, .bf16⟩
  | .local _ .vmem, ⟨13, _⟩ => ⟨S256x128, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1024x1536, .bf16⟩
  | .local _ .vmem, ⟨19, _⟩ => ⟨S1024x2048, .bf16⟩
  | .local _ .vmem, ⟨20, _⟩ => ⟨S1024x1536, .bf16⟩
  | .local _ .vmem, ⟨21, _⟩ => ⟨S1024x512, .bf16⟩
  | .local _ .vmem, ⟨22, _⟩ => ⟨S1024x512, .bf16⟩
  | .local _ .vmem, ⟨23, _⟩ => ⟨S1024x4096, .bf16⟩
  | .local _ .vmem, ⟨24, _⟩ => ⟨S1024x128, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8192x1536 : Shape := ⟨2, ![8192, 1536]⟩
abbrev S8192x2048 : Shape := ⟨2, ![8192, 2048]⟩
abbrev S8192x512 : Shape := ⟨2, ![8192, 512]⟩
abbrev S8192x4096 : Shape := ⟨2, ![8192, 4096]⟩
abbrev S8192x128 : Shape := ⟨2, ![8192, 128]⟩
abbrev S1024x1536 : Shape := ⟨2, ![1024, 1536]⟩
abbrev S1024x2048 : Shape := ⟨2, ![1024, 2048]⟩
abbrev S1024x512 : Shape := ⟨2, ![1024, 512]⟩
abbrev S1024x4096 : Shape := ⟨2, ![1024, 4096]⟩
abbrev S1024x128 : Shape := ⟨2, ![1024, 128]⟩
abbrev S8192x1024 : Shape := ⟨2, ![8192, 1024]⟩
abbrev S1024x10368 : Shape := ⟨2, ![1024, 10368]⟩
abbrev S8192x10368 : Shape := ⟨2, ![8192, 10368]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x2048, .bf16⟩
  | .hbm, ⟨2, _⟩ => ⟨S8192x1536, .bf16⟩
  | .hbm, ⟨3, _⟩ => ⟨S8192x512, .bf16⟩
  | .hbm, ⟨4, _⟩ => ⟨S8192x512, .bf16⟩
  | .hbm, ⟨5, _⟩ => ⟨S8192x4096, .bf16⟩
  | .hbm, ⟨6, _⟩ => ⟨S8192x128, .bf16⟩
  | .hbm, ⟨7, _⟩ => ⟨S1024x1536, .bf16⟩
  | .hbm, ⟨8, _⟩ => ⟨S1024x2048, .bf16⟩
  | .hbm, ⟨9, _⟩ => ⟨S1024x1536, .bf16⟩
  | .hbm, ⟨10, _⟩ => ⟨S1024x512, .bf16⟩
  | .hbm, ⟨11, _⟩ => ⟨S1024x512, .bf16⟩
  | .hbm, ⟨12, _⟩ => ⟨S1024x4096, .bf16⟩
  | .hbm, ⟨13, _⟩ => ⟨S1024x128, .bf16⟩
  | .hbm, ⟨14, _⟩ => ⟨S8192x1024, .f32⟩
  | .hbm, ⟨15, _⟩ => ⟨S1024x10368, .bf16⟩
  | .hbm, ⟨16, _⟩ => ⟨S1024x10368, .f32⟩
  | .hbm, ⟨17, _⟩ => ⟨S8192x10368, .bf16⟩
  | .hbm, ⟨18, _⟩ => ⟨S8192x10368, .f32⟩
  | .hbm, ⟨19, _⟩ => ⟨S_, .f32⟩
  | .hbm, ⟨20, _⟩ => ⟨S8192x1024, .f32⟩
  | .hbm, ⟨21, _⟩ => ⟨S8192x10368, .f32⟩
  | .hbm, ⟨22, _⟩ => ⟨S8192x1024, .f32⟩
  | .hbm, ⟨23, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩

abbrev nD : Nat := 1
abbrev τ : Topo := Topo.v7x

variable {F : FTy → Type} [FloatOps F]
-- ==== Kernel4.lean ====
abbrev S8192x1024 : Shape := ⟨2, ![8192, 1024]⟩
abbrev S1024x10368 : Shape := ⟨2, ![1024, 10368]⟩
abbrev S8192x10368 : Shape := ⟨2, ![8192, 10368]⟩
abbrev S512x1024 : Shape := ⟨2, ![512, 1024]⟩
abbrev S1024x3456 : Shape := ⟨2, ![1024, 3456]⟩
abbrev S512x3456 : Shape := ⟨2, ![512, 3456]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S8192x10368, .f32⟩
  | .local _ .vmem, ⟨0, _⟩ => ⟨S512x1024, .bf16⟩
  | .local _ .vmem, ⟨1, _⟩ => ⟨S512x1024, .bf16⟩
  | .local _ .vmem, ⟨2, _⟩ => ⟨S1024x3456, .bf16⟩
  | .local _ .vmem, ⟨3, _⟩ => ⟨S1024x3456, .bf16⟩
  | .local _ .vmem, ⟨4, _⟩ => ⟨S512x3456, .f32⟩
  | .local _ .vmem, ⟨5, _⟩ => ⟨S512x3456, .f32⟩
  | .local _ .vmem, ⟨6, _⟩ => ⟨S512x3456, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 16, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x3456 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x10368 : Shape := ⟨2, ![1024, 10368]⟩
abbrev S8192x10368 : Shape := ⟨2, ![8192, 10368]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S8192x1024, .f32⟩
  | .hbm, ⟨3, _⟩ => ⟨S1024x10368, .f32⟩
  | .hbm, ⟨4, _⟩ => ⟨S8192x10368, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8192x512 : Shape := ⟨2, ![8192, 512]⟩
abbrev S8192x256 : Shape := ⟨2, ![8192, 256]⟩
abbrev S8192x10368 : Shape := ⟨2, ![8192, 10368]⟩
abbrev S1792x1024 : Shape := ⟨2, ![1792, 1024]⟩
abbrev S1024x1024 : Shape := ⟨2, ![1024, 1024]⟩
abbrev S8192x1024 : Shape := ⟨2, ![8192, 1024]⟩
abbrev S1x1024 : Shape := ⟨2, ![1, 1024]⟩
abbrev S1024x8192 : Shape := ⟨2, ![1024, 8192]⟩
abbrev S256x512 : Shape := ⟨2, ![256, 512]⟩
abbrev S256x256 : Shape := ⟨2, ![256, 256]⟩
abbrev S256x1024 : Shape := ⟨2, ![256, 1024]⟩
abbrev S1024x256 : Shape := ⟨2, ![1024, 256]⟩
abbrev S_ : Shape := ⟨0, ![]⟩
abbrev S512x1024 : Shape := ⟨2, ![512, 1024]⟩
abbrev S256 : Shape := ⟨1, ![256]⟩
abbrev S256x1 : Shape := ⟨2, ![256, 1]⟩

abbrev nBuf : Space → Nat
  | .hbm => 16
  | .vmem => 28
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x10368, .f32⟩
  | .hbm, ⟨5, _⟩ => ⟨S8192x10368, .f32⟩
  | .hbm, ⟨6, _⟩ => ⟨S8192x10368, .f32⟩
  | .hbm, ⟨7, _⟩ => ⟨S8192x10368, .f32⟩
  | .hbm, ⟨8, _⟩ => ⟨S1792x1024, .bf16⟩
  | .hbm, ⟨9, _⟩ => ⟨S1024x1024, .bf16⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .bf16⟩
  | .hbm, ⟨15, _⟩ => ⟨S1024x8192, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x256, .bf16⟩
  | .local _ .vmem, ⟨7, _⟩ => ⟨S256x256, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S1024x256, .bf16⟩
  | .local _ .vmem, ⟨25, _⟩ => ⟨S1024x256, .bf16⟩
  | .local _ .vmem, ⟨26, _⟩ => ⟨S1792x1024, .bf16⟩
  | .local _ .vmem, ⟨27, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S8192x512 : Shape := ⟨2, ![8192, 512]⟩
abbrev S8192x256 : Shape := ⟨2, ![8192, 256]⟩
abbrev S8192x10368 : Shape := ⟨2, ![8192, 10368]⟩
abbrev S1792x1024 : Shape := ⟨2, ![1792, 1024]⟩
abbrev S1024x1024 : Shape := ⟨2, ![1024, 1024]⟩
abbrev S8192x1024 : Shape := ⟨2, ![8192, 1024]⟩
abbrev S1x1024 : Shape := ⟨2, ![1, 1024]⟩
abbrev S_ : Shape := ⟨0, ![]⟩
abbrev S512x1024 : Shape := ⟨2, ![512, 1024]⟩
abbrev S256x1024 : Shape := ⟨2, ![256, 1024]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 105
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x10368, .f32⟩
  | .hbm, ⟨5, _⟩ => ⟨S8192x10368, .f32⟩
  | .hbm, ⟨6, _⟩ => ⟨S8192x10368, .f32⟩
  | .hbm, ⟨7, _⟩ => ⟨S8192x10368, .f32⟩
  | .hbm, ⟨8, _⟩ => ⟨S1792x1024, .bf16⟩
  | .hbm, ⟨9, _⟩ => ⟨S1024x1024, .bf16⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S1792x1024, .f32⟩
  | .hbm, ⟨50, _⟩ => ⟨S8192x512, .f32⟩
  | .hbm, ⟨51, _⟩ => ⟨S512x1024, .f32⟩
  | .hbm, ⟨52, _⟩ => ⟨S8192x1024, .f32⟩
  | .hbm, ⟨53, _⟩ => ⟨S8192x512, .f32⟩
  | .hbm, ⟨54, _⟩ => ⟨S512x1024, .f32⟩
  | .hbm, ⟨55, _⟩ => ⟨S8192x1024, .f32⟩
  | .hbm, ⟨56, _⟩ => ⟨S8192x512, .f32⟩
  | .hbm, ⟨57, _⟩ => ⟨S512x1024, .f32⟩
  | .hbm, ⟨58, _⟩ => ⟨S8192x1024, .f32⟩
  | .hbm, ⟨59, _⟩ => ⟨S8192x256, .f32⟩
  | .hbm, ⟨60, _⟩ => ⟨S256x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192x1024, .f32⟩
  | .hbm, ⟨71, _⟩ => ⟨S8192x1024, .f32⟩
  | .hbm, ⟨72, _⟩ => ⟨S1024x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S8192x1, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .bf16⟩
  | .hbm, ⟨103, _⟩ => ⟨S1024x8192, .f32⟩
  | .hbm, ⟨104, _⟩ => ⟨S1024x8192, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Kernel6.lean ====
abbrev S4x1024x2562 : Shape := ⟨3, ![4, 1024, 2562]⟩
abbrev S1x256x2562 : Shape := ⟨3, ![1, 256, 2562]⟩

abbrev nBuf : Space → Nat
  | .hbm => 7
  | .vmem => 14
  | .smem => 0
  | _ => 0

abbrev bufTy : (tb : Table) → Fin (tcTables nBuf tb) → BufTy
  | .hbm, ⟨0, _⟩ => ⟨S4x1024x2562, .f32⟩
  | .hbm, ⟨1, _⟩ => ⟨S4x1024x2562, .f32⟩
  | .hbm, ⟨2, _⟩ => ⟨S4x1024x2562, .f32⟩
  | .hbm, ⟨3, _⟩ => ⟨S4x1024x2562, .f32⟩
  | .hbm, ⟨4, _⟩ => ⟨S4x1024x2562, .f32⟩
  | .hbm, ⟨5, _⟩ => ⟨S4x1024x2562, .f32⟩
  | .hbm, ⟨6, _⟩ => ⟨S4x1024x2562, .f32⟩
  | .local _ .vmem, ⟨0, _⟩ => ⟨S1x256x2562, .f32⟩
  | .local _ .vmem, ⟨1, _⟩ => ⟨S1x256x2562, .f32⟩
  | .local _ .vmem, ⟨2, _⟩ => ⟨S1x256x2562, .f32⟩
  | .local _ .vmem, ⟨3, _⟩ => ⟨S1x256x2562, .f32⟩
  | .local _ .vmem, ⟨4, _⟩ => ⟨S1x256x2562, .f32⟩
  | .local _ .vmem, ⟨5, _⟩ => ⟨S1x256x2562, .f32⟩
  | .local _ .vmem, ⟨6, _⟩ => ⟨S1x256x2562, .f32⟩
  | .local _ .vmem, ⟨7, _⟩ => ⟨S1x256x2562, .f32⟩
  | .local _ .vmem, ⟨8, _⟩ => ⟨S1x256x2562, .f32⟩
  | .local _ .vmem, ⟨9, _⟩ => ⟨S1x256x2562, .f32⟩
  | .local _ .vmem, ⟨10, _⟩ => ⟨S1x256x2562, .f32⟩
  | .local _ .vmem, ⟨11, _⟩ => ⟨S1x256x2562, .f32⟩
  | .local _ .vmem, ⟨12, _⟩ => ⟨S1x256x2562, .f32⟩
  | .local _ .vmem, ⟨13, _⟩ => ⟨S1x256x2562, .f32⟩
  | _, _ => ⟨S4x1024x2562, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2562 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2562 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2562 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2562 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2562 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2562 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2562 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S4x1024x2562 : Shape := ⟨3, ![4, 1024, 2562]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x2562, .f32⟩
  | .hbm, ⟨1, _⟩ => ⟨S4x1024x2562, .f32⟩
  | .hbm, ⟨2, _⟩ => ⟨S4x1024x2562, .f32⟩
  | .hbm, ⟨3, _⟩ => ⟨S4x1024x2562, .f32⟩
  | .hbm, ⟨4, _⟩ => ⟨S_, .f32⟩
  | .hbm, ⟨5, _⟩ => ⟨S4x1024x2562, .f32⟩
  | .hbm, ⟨6, _⟩ => ⟨S4x1024x2562, .f32⟩
  | .hbm, ⟨7, _⟩ => ⟨S_, .f32⟩
  | .hbm, ⟨8, _⟩ => ⟨S4x1024x2562, .f32⟩
  | .hbm, ⟨9, _⟩ => ⟨S4x1024x2562, .f32⟩
  | .hbm, ⟨10, _⟩ => ⟨S4x1024x2562, .f32⟩
  | .hbm, ⟨11, _⟩ => ⟨S_, .f32⟩
  | .hbm, ⟨12, _⟩ => ⟨S4x1024x2562, .f32⟩
  | .hbm, ⟨13, _⟩ => ⟨S4x1024x2562, .f32⟩
  | .hbm, ⟨14, _⟩ => ⟨S4x1024x2562, .f32⟩
  | .hbm, ⟨15, _⟩ => ⟨S_, .f32⟩
  | .hbm, ⟨16, _⟩ => ⟨S4x1024x2562, .f32⟩
  | .hbm, ⟨17, _⟩ => ⟨S4x1024x2562, .f32⟩
  | .hbm, ⟨18, _⟩ => ⟨S4x1024x2562, .f32⟩
  | .hbm, ⟨19, _⟩ => ⟨S_, .f32⟩
  | .hbm, ⟨20, _⟩ => ⟨S4x1024x2562, .f32⟩
  | .hbm, ⟨21, _⟩ => ⟨S4x1024x2562, .f32⟩
  | .hbm, ⟨22, _⟩ => ⟨S_, .f32⟩
  | .hbm, ⟨23, _⟩ => ⟨S4x1024x2562, .f32⟩
  | .hbm, ⟨24, _⟩ => ⟨S4x1024x2562, .f32⟩
  | .hbm, ⟨25, _⟩ => ⟨S4x1024x2562, .f32⟩
  | .hbm, ⟨26, _⟩ => ⟨S_, .f32⟩
  | .hbm, ⟨27, _⟩ => ⟨S4x1024x2562, .f32⟩
  | .hbm, ⟨28, _⟩ => ⟨S4x1024x2562, .f32⟩
  | .hbm, ⟨29, _⟩ => ⟨S4x1024x2562, .f32⟩
  | .hbm, ⟨30, _⟩ => ⟨S_, .f32⟩
  | .hbm, ⟨31, _⟩ => ⟨S4x1024x2562, .f32⟩
  | .hbm, ⟨32, _⟩ => ⟨S4x1024x2562, .f32⟩
  | .hbm, ⟨33, _⟩ => ⟨S4x1024x2562, .f32⟩
  | .hbm, ⟨34, _⟩ => ⟨S_, .f32⟩
  | .hbm, ⟨35, _⟩ => ⟨S4x1024x2562, .f32⟩
  | .hbm, ⟨36, _⟩ => ⟨S4x1024x2562, .f32⟩
  | _, _ => ⟨S4x1024x2562, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S1024x8192 : Shape := ⟨2, ![1024, 8192]⟩
abbrev S8192x1536 : Shape := ⟨2, ![8192, 1536]⟩
abbrev S1024x1536 : Shape := ⟨2, ![1024, 1536]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S8192x1536, .bf16⟩
  | .hbm, ⟨2, _⟩ => ⟨S1024x1536, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x8192 : Shape := ⟨2, ![1024, 8192]⟩
abbrev S8192x1536 : Shape := ⟨2, ![8192, 1536]⟩
abbrev S8192x1024 : Shape := ⟨2, ![8192, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1536, .bf16⟩
  | .hbm, ⟨2, _⟩ => ⟨S1024x8192, .f32⟩
  | .hbm, ⟨3, _⟩ => ⟨S8192x1024, .f32⟩
  | .hbm, ⟨4, _⟩ => ⟨S8192x1536, .f32⟩
  | .hbm, ⟨5, _⟩ => ⟨S_, .f32⟩
  | .hbm, ⟨6, _⟩ => ⟨S1024x1536, .f32⟩
  | .hbm, ⟨7, _⟩ => ⟨S8192x1536, .f32⟩
  | .hbm, ⟨8, _⟩ => ⟨S1536x1024, .f32⟩
  | .hbm, ⟨9, _⟩ => ⟨S1024x1536, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S1024x8192 : Shape := ⟨2, ![1024, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S8192x2048, .bf16⟩
  | .hbm, ⟨2, _⟩ => ⟨S1024x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S1024x8192 : Shape := ⟨2, ![1024, 8192]⟩
abbrev S8192x2048 : Shape := ⟨2, ![8192, 2048]⟩
abbrev S8192x1024 : Shape := ⟨2, ![8192, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x2048, .bf16⟩
  | .hbm, ⟨2, _⟩ => ⟨S1024x8192, .f32⟩
  | .hbm, ⟨3, _⟩ => ⟨S8192x1024, .f32⟩
  | .hbm, ⟨4, _⟩ => ⟨S8192x2048, .f32⟩
  | .hbm, ⟨5, _⟩ => ⟨S_, .f32⟩
  | .hbm, ⟨6, _⟩ => ⟨S1024x2048, .f32⟩
  | .hbm, ⟨7, _⟩ => ⟨S8192x2048, .f32⟩
  | .hbm, ⟨8, _⟩ => ⟨S2048x1024, .f32⟩
  | .hbm, ⟨9, _⟩ => ⟨S1024x2048, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S1024x8192 : Shape := ⟨2, ![1024, 8192]⟩
abbrev S8192x512 : Shape := ⟨2, ![8192, 512]⟩
abbrev S1024x512 : Shape := ⟨2, ![1024, 512]⟩
abbrev S1024x2048 : Shape := ⟨2, ![1024, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S8192x512, .bf16⟩
  | .hbm, ⟨2, _⟩ => ⟨S1024x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S1024x8192 : Shape := ⟨2, ![1024, 8192]⟩
abbrev S8192x512 : Shape := ⟨2, ![8192, 512]⟩
abbrev S8192x1024 : Shape := ⟨2, ![8192, 1024]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x512, .bf16⟩
  | .hbm, ⟨2, _⟩ => ⟨S1024x8192, .f32⟩
  | .hbm, ⟨3, _⟩ => ⟨S8192x1024, .f32⟩
  | .hbm, ⟨4, _⟩ => ⟨S8192x512, .f32⟩
  | .hbm, ⟨5, _⟩ => ⟨S_, .f32⟩
  | .hbm, ⟨6, _⟩ => ⟨S1024x512, .f32⟩
  | .hbm, ⟨7, _⟩ => ⟨S8192x512, .f32⟩
  | .hbm, ⟨8, _⟩ => ⟨S512x1024, .f32⟩
  | .hbm, ⟨9, _⟩ => ⟨S1024x512, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4x512x256 : Shape := ⟨3, ![4, 512, 256]⟩
abbrev S1x256x256 : Shape := ⟨3, ![1, 256, 256]⟩

abbrev nBuf : Space → Nat
  | .hbm => 7
  | .vmem => 14
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S4x512x256 : Shape := ⟨3, ![4, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S_, .f32⟩
  | .hbm, ⟨5, _⟩ => ⟨S4x512x256, .f32⟩
  | .hbm, ⟨6, _⟩ => ⟨S4x512x256, .f32⟩
  | .hbm, ⟨7, _⟩ => ⟨S_, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S_, .f32⟩
  | .hbm, ⟨23, _⟩ => ⟨S4x512x256, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S1x4x512 : Shape := ⟨3, ![1, 4, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x4x512, .f32⟩
  | .hbm, ⟨1, _⟩ => ⟨S1x4x512, .f32⟩
  | .hbm, ⟨2, _⟩ => ⟨S1x4x512, .f32⟩
  | .hbm, ⟨3, _⟩ => ⟨S1x4x512, .f32⟩
  | .hbm, ⟨4, _⟩ => ⟨S1x4x512, .f32⟩
  | .hbm, ⟨5, _⟩ => ⟨S1x4x512, .f32⟩
  | .hbm, ⟨6, _⟩ => ⟨S1x4x512, .f32⟩
  | .local _ .vmem, ⟨0, _⟩ => ⟨S1x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | _, _ => ⟨S1x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference11Ideal.lean ====
abbrev S1x4x512 : Shape := ⟨3, ![1, 4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x512, .f32⟩
  | .hbm, ⟨1, _⟩ => ⟨S1x4x512, .f32⟩
  | .hbm, ⟨2, _⟩ => ⟨S1x4x512, .f32⟩
  | .hbm, ⟨3, _⟩ => ⟨S1x4x512, .f32⟩
  | .hbm, ⟨4, _⟩ => ⟨S_, .f32⟩
  | .hbm, ⟨5, _⟩ => ⟨S1x4x512, .f32⟩
  | .hbm, ⟨6, _⟩ => ⟨S1x4x512, .f32⟩
  | .hbm, ⟨7, _⟩ => ⟨S_, .f32⟩
  | .hbm, ⟨8, _⟩ => ⟨S1x4x512, .f32⟩
  | .hbm, ⟨9, _⟩ => ⟨S1x4x512, .f32⟩
  | .hbm, ⟨10, _⟩ => ⟨S1x4x512, .f32⟩
  | .hbm, ⟨11, _⟩ => ⟨S_, .f32⟩
  | .hbm, ⟨12, _⟩ => ⟨S1x4x512, .f32⟩
  | .hbm, ⟨13, _⟩ => ⟨S1x4x512, .f32⟩
  | .hbm, ⟨14, _⟩ => ⟨S1x4x512, .f32⟩
  | .hbm, ⟨15, _⟩ => ⟨S_, .f32⟩
  | .hbm, ⟨16, _⟩ => ⟨S1x4x512, .f32⟩
  | .hbm, ⟨17, _⟩ => ⟨S1x4x512, .f32⟩
  | .hbm, ⟨18, _⟩ => ⟨S1x4x512, .f32⟩
  | .hbm, ⟨19, _⟩ => ⟨S_, .f32⟩
  | .hbm, ⟨20, _⟩ => ⟨S1x4x512, .f32⟩
  | .hbm, ⟨21, _⟩ => ⟨S1x4x512, .f32⟩
  | .hbm, ⟨22, _⟩ => ⟨S_, .f32⟩
  | .hbm, ⟨23, _⟩ => ⟨S1x4x512, .f32⟩
  | .hbm, ⟨24, _⟩ => ⟨S1x4x512, .f32⟩
  | .hbm, ⟨25, _⟩ => ⟨S1x4x512, .f32⟩
  | .hbm, ⟨26, _⟩ => ⟨S_, .f32⟩
  | .hbm, ⟨27, _⟩ => ⟨S1x4x512, .f32⟩
  | .hbm, ⟨28, _⟩ => ⟨S1x4x512, .f32⟩
  | .hbm, ⟨29, _⟩ => ⟨S1x4x512, .f32⟩
  | .hbm, ⟨30, _⟩ => ⟨S_, .f32⟩
  | .hbm, ⟨31, _⟩ => ⟨S1x4x512, .f32⟩
  | .hbm, ⟨32, _⟩ => ⟨S1x4x512, .f32⟩
  | .hbm, ⟨33, _⟩ => ⟨S1x4x512, .f32⟩
  | .hbm, ⟨34, _⟩ => ⟨S_, .f32⟩
  | .hbm, ⟨35, _⟩ => ⟨S1x4x512, .f32⟩
  | .hbm, ⟨36, _⟩ => ⟨S1x4x512, .f32⟩
  | _, _ => ⟨S1x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S1x4x1024 : Shape := ⟨3, ![1, 4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x4x1024, .f32⟩
  | .hbm, ⟨1, _⟩ => ⟨S1x4x1024, .f32⟩
  | .hbm, ⟨2, _⟩ => ⟨S1x4x1024, .f32⟩
  | .hbm, ⟨3, _⟩ => ⟨S1x4x1024, .f32⟩
  | .hbm, ⟨4, _⟩ => ⟨S1x4x1024, .f32⟩
  | .hbm, ⟨5, _⟩ => ⟨S1x4x1024, .f32⟩
  | .hbm, ⟨6, _⟩ => ⟨S1x4x1024, .f32⟩
  | .local _ .vmem, ⟨0, _⟩ => ⟨S1x4x1024, .f32⟩
  | .local _ .vmem, ⟨1, _⟩ => ⟨S1x4x1024, .f32⟩
  | .local _ .vmem, ⟨2, _⟩ => ⟨S1x4x1024, .f32⟩
  | .local _ .vmem, ⟨3, _⟩ => ⟨S1x4x1024, .f32⟩
  | .local _ .vmem, ⟨4, _⟩ => ⟨S1x4x1024, .f32⟩
  | .local _ .vmem, ⟨5, _⟩ => ⟨S1x4x1024, .f32⟩
  | .local _ .vmem, ⟨6, _⟩ => ⟨S1x4x1024, .f32⟩
  | _, _ => ⟨S1x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference12Ideal.lean ====
abbrev S1x4x1024 : Shape := ⟨3, ![1, 4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x1024, .f32⟩
  | .hbm, ⟨1, _⟩ => ⟨S1x4x1024, .f32⟩
  | .hbm, ⟨2, _⟩ => ⟨S1x4x1024, .f32⟩
  | .hbm, ⟨3, _⟩ => ⟨S1x4x1024, .f32⟩
  | .hbm, ⟨4, _⟩ => ⟨S_, .f32⟩
  | .hbm, ⟨5, _⟩ => ⟨S1x4x1024, .f32⟩
  | .hbm, ⟨6, _⟩ => ⟨S1x4x1024, .f32⟩
  | .hbm, ⟨7, _⟩ => ⟨S_, .f32⟩
  | .hbm, ⟨8, _⟩ => ⟨S1x4x1024, .f32⟩
  | .hbm, ⟨9, _⟩ => ⟨S1x4x1024, .f32⟩
  | .hbm, ⟨10, _⟩ => ⟨S1x4x1024, .f32⟩
  | .hbm, ⟨11, _⟩ => ⟨S_, .f32⟩
  | .hbm, ⟨12, _⟩ => ⟨S1x4x1024, .f32⟩
  | .hbm, ⟨13, _⟩ => ⟨S1x4x1024, .f32⟩
  | .hbm, ⟨14, _⟩ => ⟨S1x4x1024, .f32⟩
  | .hbm, ⟨15, _⟩ => ⟨S_, .f32⟩
  | .hbm, ⟨16, _⟩ => ⟨S1x4x1024, .f32⟩
  | .hbm, ⟨17, _⟩ => ⟨S1x4x1024, .f32⟩
  | .hbm, ⟨18, _⟩ => ⟨S1x4x1024, .f32⟩
  | .hbm, ⟨19, _⟩ => ⟨S_, .f32⟩
  | .hbm, ⟨20, _⟩ => ⟨S1x4x1024, .f32⟩
  | .hbm, ⟨21, _⟩ => ⟨S1x4x1024, .f32⟩
  | .hbm, ⟨22, _⟩ => ⟨S_, .f32⟩
  | .hbm, ⟨23, _⟩ => ⟨S1x4x1024, .f32⟩
  | .hbm, ⟨24, _⟩ => ⟨S1x4x1024, .f32⟩
  | .hbm, ⟨25, _⟩ => ⟨S1x4x1024, .f32⟩
  | .hbm, ⟨26, _⟩ => ⟨S_, .f32⟩
  | .hbm, ⟨27, _⟩ => ⟨S1x4x1024, .f32⟩
  | .hbm, ⟨28, _⟩ => ⟨S1x4x1024, .f32⟩
  | .hbm, ⟨29, _⟩ => ⟨S1x4x1024, .f32⟩
  | .hbm, ⟨30, _⟩ => ⟨S_, .f32⟩
  | .hbm, ⟨31, _⟩ => ⟨S1x4x1024, .f32⟩
  | .hbm, ⟨32, _⟩ => ⟨S1x4x1024, .f32⟩
  | .hbm, ⟨33, _⟩ => ⟨S1x4x1024, .f32⟩
  | .hbm, ⟨34, _⟩ => ⟨S_, .f32⟩
  | .hbm, ⟨35, _⟩ => ⟨S1x4x1024, .f32⟩
  | .hbm, ⟨36, _⟩ => ⟨S1x4x1024, .f32⟩
  | _, _ => ⟨S1x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1x1x1024 : Shape := ⟨3, ![1, 1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference13Ideal.lean ====
abbrev S1x1x1024 : Shape := ⟨3, ![1, 1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S_, .f32⟩
  | .hbm, ⟨5, _⟩ => ⟨S1x1x1024, .f32⟩
  | .hbm, ⟨6, _⟩ => ⟨S1x1x1024, .f32⟩
  | .hbm, ⟨7, _⟩ => ⟨S_, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S_, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S_, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S_, .f32⟩
  | .hbm, ⟨20, _⟩ => ⟨S1x1x1024, .f32⟩
  | .hbm, ⟨21, _⟩ => ⟨S1x1x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S1x1x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S1x1x1024, .f32⟩
  | .hbm, ⟨34, _⟩ => ⟨S_, .f32⟩
  | .hbm, ⟨35, _⟩ => ⟨S1x1x1024, .f32⟩
  | .hbm, ⟨36, _⟩ => ⟨S1x1x1024, .f32⟩
  | _, _ => ⟨S1x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S4x256x1024 : Shape := ⟨3, ![4, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference14Ideal.lean ====
abbrev S4x256x1024 : Shape := ⟨3, ![4, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4x8x8192 : Shape := ⟨3, ![4, 8, 8192]⟩
abbrev S4x8192x128 : Shape := ⟨3, ![4, 8192, 128]⟩
abbrev S8x8192 : Shape := ⟨2, ![8, 8192]⟩
abbrev S8192x128 : Shape := ⟨2, ![8192, 128]⟩
abbrev S8x128 : Shape := ⟨2, ![8, 128]⟩
abbrev S4x8x512 : Shape := ⟨3, ![4, 8, 512]⟩
abbrev S4x512x128 : Shape := ⟨3, ![4, 512, 128]⟩
abbrev S8x512 : Shape := ⟨2, ![8, 512]⟩
abbrev S512x128 : Shape := ⟨2, ![512, 128]⟩
abbrev S1x512x128 : Shape := ⟨3, ![1, 512, 128]⟩
abbrev S1x8x512 : Shape := ⟨3, ![1, 8, 512]⟩
abbrev S128x512 : Shape := ⟨2, ![128, 512]⟩
abbrev S512x512 : Shape := ⟨2, ![512, 512]⟩
abbrev S8x1 : Shape := ⟨2, ![8, 1]⟩
abbrev S8 : Shape := ⟨1, ![8]⟩
abbrev S120x512 : Shape := ⟨2, ![120, 512]⟩

abbrev nBuf : Space → Nat
  | .hbm => 5
  | .vmem => 10
  | .smem => 0
  | _ => 0

abbrev bufTy : (tb : Table) → Fin (tcTables nBuf tb) → BufTy
  | .hbm, ⟨0, _⟩ => ⟨S4x8x8192, .f32⟩
  | .hbm, ⟨1, _⟩ => ⟨S4x8192x128, .f32⟩
  | .hbm, ⟨2, _⟩ => ⟨S8x8192, .f32⟩
  | .hbm, ⟨3, _⟩ => ⟨S8192x128, .bf16⟩
  | .hbm, ⟨4, _⟩ => ⟨S8x128, .f32⟩
  | .local _ .vmem, ⟨0, _⟩ => ⟨S4x8x512, .f32⟩
  | .local _ .vmem, ⟨1, _⟩ => ⟨S4x8x512, .f32⟩
  | .local _ .vmem, ⟨2, _⟩ => ⟨S4x512x128, .f32⟩
  | .local _ .vmem, ⟨3, _⟩ => ⟨S4x512x128, .f32⟩
  | .local _ .vmem, ⟨4, _⟩ => ⟨S8x512, .f32⟩
  | .local _ .vmem, ⟨5, _⟩ => ⟨S8x512, .f32⟩
  | .local _ .vmem, ⟨6, _⟩ => ⟨S512x128, .bf16⟩
  | .local _ .vmem, ⟨7, _⟩ => ⟨S512x128, .bf16⟩
  | .local _ .vmem, ⟨8, _⟩ => ⟨S8x128, .f32⟩
  | .local _ .vmem, ⟨9, _⟩ => ⟨S8x128, .f32⟩
  | _, _ => ⟨S4x8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference15Ideal.lean ====
abbrev S4x8x8192 : Shape := ⟨3, ![4, 8, 8192]⟩
abbrev S4x8192x128 : Shape := ⟨3, ![4, 8192, 128]⟩
abbrev S8x8192 : Shape := ⟨2, ![8, 8192]⟩
abbrev S_ : Shape := ⟨0, ![]⟩
abbrev S4x8192x8 : Shape := ⟨3, ![4, 8192, 8]⟩
abbrev S8192x8 : Shape := ⟨2, ![8192, 8]⟩
abbrev S8 : Shape := ⟨1, ![8]⟩
abbrev S8x1 : Shape := ⟨2, ![8, 1]⟩
abbrev S8192x120 : Shape := ⟨2, ![8192, 120]⟩
abbrev S8192x128 : Shape := ⟨2, ![8192, 128]⟩
abbrev S8x128 : Shape := ⟨2, ![8, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x8x8192, .f32⟩
  | .hbm, ⟨1, _⟩ => ⟨S4x8192x128, .f32⟩
  | .hbm, ⟨2, _⟩ => ⟨S8x8192, .f32⟩
  | .hbm, ⟨3, _⟩ => ⟨S_, .f32⟩
  | .hbm, ⟨4, _⟩ => ⟨S8x8192, .f32⟩
  | .hbm, ⟨5, _⟩ => ⟨S4x8192x8, .f32⟩
  | .hbm, ⟨6, _⟩ => ⟨S_, .f32⟩
  | .hbm, ⟨7, _⟩ => ⟨S8192x8, .f32⟩
  | .hbm, ⟨8, _⟩ => ⟨S8x8192, .f32⟩
  | .hbm, ⟨9, _⟩ => ⟨S8x8192, .f32⟩
  | .hbm, ⟨10, _⟩ => ⟨S_, .f32⟩
  | .hbm, ⟨11, _⟩ => ⟨S8x8192, .f32⟩
  | .hbm, ⟨12, _⟩ => ⟨S_, .f32⟩
  | .hbm, ⟨13, _⟩ => ⟨S_, .f32⟩
  | .hbm, ⟨14, _⟩ => ⟨S8x8192, .f32⟩
  | .hbm, ⟨15, _⟩ => ⟨S_, .f32⟩
  | .hbm, ⟨16, _⟩ => ⟨S_, .f32⟩
  | .hbm, ⟨17, _⟩ => ⟨S8x8192, .f32⟩
  | .hbm, ⟨18, _⟩ => ⟨S8x8192, .f32⟩
  | .hbm, ⟨19, _⟩ => ⟨S_, .f32⟩
  | .hbm, ⟨20, _⟩ => ⟨S8, .f32⟩
  | .hbm, ⟨21, _⟩ => ⟨S8x1, .f32⟩
  | .hbm, ⟨22, _⟩ => ⟨S8192x8, .f32⟩
  | .hbm, ⟨23, _⟩ => ⟨S_, .f32⟩
  | .hbm, ⟨24, _⟩ => ⟨S8192x120, .f32⟩
  | .hbm, ⟨25, _⟩ => ⟨S8192x128, .f32⟩
  | .hbm, ⟨26, _⟩ => ⟨S8192x128, .bf16⟩
  | .hbm, ⟨27, _⟩ => ⟨S8x128, .f32⟩
  | _, _ => ⟨S4x8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_call0_call0_cst : Ref sig .tc := ⟨.hbm, 12, rfl⟩
abbrev main_call0_call0_v0 : Ref sig .tc := ⟨.hbm, 13, rfl⟩
abbrev main_v6 : Ref sig .tc := ⟨.hbm, 14, rfl⟩
abbrev main_call1_call0_cst : Ref sig .tc := ⟨.hbm, 15, rfl⟩
abbrev main_call1_call0_v0 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Kernel16.lean ====
abbrev S1x4x8 : Shape := ⟨3, ![1, 4, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x4x8, .f32⟩
  | .hbm, ⟨1, _⟩ => ⟨S1x4x8, .f32⟩
  | .hbm, ⟨2, _⟩ => ⟨S1x4x8, .f32⟩
  | .hbm, ⟨3, _⟩ => ⟨S1x4x8, .f32⟩
  | .hbm, ⟨4, _⟩ => ⟨S1x4x8, .f32⟩
  | .hbm, ⟨5, _⟩ => ⟨S1x4x8, .f32⟩
  | .hbm, ⟨6, _⟩ => ⟨S1x4x8, .f32⟩
  | .local _ .vmem, ⟨0, _⟩ => ⟨S1x4x8, .f32⟩
  | .local _ .vmem, ⟨1, _⟩ => ⟨S1x4x8, .f32⟩
  | .local _ .vmem, ⟨2, _⟩ => ⟨S1x4x8, .f32⟩
  | .local _ .vmem, ⟨3, _⟩ => ⟨S1x4x8, .f32⟩
  | .local _ .vmem, ⟨4, _⟩ => ⟨S1x4x8, .f32⟩
  | .local _ .vmem, ⟨5, _⟩ => ⟨S1x4x8, .f32⟩
  | .local _ .vmem, ⟨6, _⟩ => ⟨S1x4x8, .f32⟩
  | _, _ => ⟨S1x4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference16Ideal.lean ====
abbrev S1x4x8 : Shape := ⟨3, ![1, 4, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x8, .f32⟩
  | .hbm, ⟨1, _⟩ => ⟨S1x4x8, .f32⟩
  | .hbm, ⟨2, _⟩ => ⟨S1x4x8, .f32⟩
  | .hbm, ⟨3, _⟩ => ⟨S1x4x8, .f32⟩
  | .hbm, ⟨4, _⟩ => ⟨S_, .f32⟩
  | .hbm, ⟨5, _⟩ => ⟨S1x4x8, .f32⟩
  | .hbm, ⟨6, _⟩ => ⟨S1x4x8, .f32⟩
  | .hbm, ⟨7, _⟩ => ⟨S_, .f32⟩
  | .hbm, ⟨8, _⟩ => ⟨S1x4x8, .f32⟩
  | .hbm, ⟨9, _⟩ => ⟨S1x4x8, .f32⟩
  | .hbm, ⟨10, _⟩ => ⟨S1x4x8, .f32⟩
  | .hbm, ⟨11, _⟩ => ⟨S_, .f32⟩
  | .hbm, ⟨12, _⟩ => ⟨S1x4x8, .f32⟩
  | .hbm, ⟨13, _⟩ => ⟨S1x4x8, .f32⟩
  | .hbm, ⟨14, _⟩ => ⟨S1x4x8, .f32⟩
  | .hbm, ⟨15, _⟩ => ⟨S_, .f32⟩
  | .hbm, ⟨16, _⟩ => ⟨S1x4x8, .f32⟩
  | .hbm, ⟨17, _⟩ => ⟨S1x4x8, .f32⟩
  | .hbm, ⟨18, _⟩ => ⟨S1x4x8, .f32⟩
  | .hbm, ⟨19, _⟩ => ⟨S_, .f32⟩
  | .hbm, ⟨20, _⟩ => ⟨S1x4x8, .f32⟩
  | .hbm, ⟨21, _⟩ => ⟨S1x4x8, .f32⟩
  | .hbm, ⟨22, _⟩ => ⟨S_, .f32⟩
  | .hbm, ⟨23, _⟩ => ⟨S1x4x8, .f32⟩
  | .hbm, ⟨24, _⟩ => ⟨S1x4x8, .f32⟩
  | .hbm, ⟨25, _⟩ => ⟨S1x4x8, .f32⟩
  | .hbm, ⟨26, _⟩ => ⟨S_, .f32⟩
  | .hbm, ⟨27, _⟩ => ⟨S1x4x8, .f32⟩
  | .hbm, ⟨28, _⟩ => ⟨S1x4x8, .f32⟩
  | .hbm, ⟨29, _⟩ => ⟨S1x4x8, .f32⟩
  | .hbm, ⟨30, _⟩ => ⟨S_, .f32⟩
  | .hbm, ⟨31, _⟩ => ⟨S1x4x8, .f32⟩
  | .hbm, ⟨32, _⟩ => ⟨S1x4x8, .f32⟩
  | .hbm, ⟨33, _⟩ => ⟨S1x4x8, .f32⟩
  | .hbm, ⟨34, _⟩ => ⟨S_, .f32⟩
  | .hbm, ⟨35, _⟩ => ⟨S1x4x8, .f32⟩
  | .hbm, ⟨36, _⟩ => ⟨S1x4x8, .f32⟩
  | _, _ => ⟨S1x4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S4x31x128 : Shape := ⟨3, ![4, 31, 128]⟩
abbrev S1x31x128 : Shape := ⟨3, ![1, 31, 128]⟩

abbrev nBuf : Space → Nat
  | .hbm => 7
  | .vmem => 14
  | .smem => 0
  | _ => 0

abbrev bufTy : (tb : Table) → Fin (tcTables nBuf tb) → BufTy
  | .hbm, ⟨0, _⟩ => ⟨S4x31x128, .f32⟩
  | .hbm, ⟨1, _⟩ => ⟨S4x31x128, .f32⟩
  | .hbm, ⟨2, _⟩ => ⟨S4x31x128, .f32⟩
  | .hbm, ⟨3, _⟩ => ⟨S4x31x128, .f32⟩
  | .hbm, ⟨4, _⟩ => ⟨S4x31x128, .f32⟩
  | .hbm, ⟨5, _⟩ => ⟨S4x31x128, .f32⟩
  | .hbm, ⟨6, _⟩ => ⟨S4x31x128, .f32⟩
  | .local _ .vmem, ⟨0, _⟩ => ⟨S1x31x128, .f32⟩
  | .local _ .vmem, ⟨1, _⟩ => ⟨S1x31x128, .f32⟩
  | .local _ .vmem, ⟨2, _⟩ => ⟨S1x31x128, .f32⟩
  | .local _ .vmem, ⟨3, _⟩ => ⟨S1x31x128, .f32⟩
  | .local _ .vmem, ⟨4, _⟩ => ⟨S1x31x128, .f32⟩
  | .local _ .vmem, ⟨5, _⟩ => ⟨S1x31x128, .f32⟩
  | .local _ .vmem, ⟨6, _⟩ => ⟨S1x31x128, .f32⟩
  | .local _ .vmem, ⟨7, _⟩ => ⟨S1x31x128, .f32⟩
  | .local _ .vmem, ⟨8, _⟩ => ⟨S1x31x128, .f32⟩
  | .local _ .vmem, ⟨9, _⟩ => ⟨S1x31x128, .f32⟩
  | .local _ .vmem, ⟨10, _⟩ => ⟨S1x31x128, .f32⟩
  | .local _ .vmem, ⟨11, _⟩ => ⟨S1x31x128, .f32⟩
  | .local _ .vmem, ⟨12, _⟩ => ⟨S1x31x128, .f32⟩
  | .local _ .vmem, ⟨13, _⟩ => ⟨S1x31x128, .f32⟩
  | _, _ => ⟨S4x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x31x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x31x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x31x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x31x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S4x31x128 : Shape := ⟨3, ![4, 31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x31x128, .f32⟩
  | .hbm, ⟨1, _⟩ => ⟨S4x31x128, .f32⟩
  | .hbm, ⟨2, _⟩ => ⟨S4x31x128, .f32⟩
  | .hbm, ⟨3, _⟩ => ⟨S4x31x128, .f32⟩
  | .hbm, ⟨4, _⟩ => ⟨S_, .f32⟩
  | .hbm, ⟨5, _⟩ => ⟨S4x31x128, .f32⟩
  | .hbm, ⟨6, _⟩ => ⟨S4x31x128, .f32⟩
  | .hbm, ⟨7, _⟩ => ⟨S_, .f32⟩
  | .hbm, ⟨8, _⟩ => ⟨S4x31x128, .f32⟩
  | .hbm, ⟨9, _⟩ => ⟨S4x31x128, .f32⟩
  | .hbm, ⟨10, _⟩ => ⟨S4x31x128, .f32⟩
  | .hbm, ⟨11, _⟩ => ⟨S_, .f32⟩
  | .hbm, ⟨12, _⟩ => ⟨S4x31x128, .f32⟩
  | .hbm, ⟨13, _⟩ => ⟨S4x31x128, .f32⟩
  | .hbm, ⟨14, _⟩ => ⟨S4x31x128, .f32⟩
  | .hbm, ⟨15, _⟩ => ⟨S_, .f32⟩
  | .hbm, ⟨16, _⟩ => ⟨S4x31x128, .f32⟩
  | .hbm, ⟨17, _⟩ => ⟨S4x31x128, .f32⟩
  | .hbm, ⟨18, _⟩ => ⟨S4x31x128, .f32⟩
  | .hbm, ⟨19, _⟩ => ⟨S_, .f32⟩
  | .hbm, ⟨20, _⟩ => ⟨S4x31x128, .f32⟩
  | .hbm, ⟨21, _⟩ => ⟨S4x31x128, .f32⟩
  | .hbm, ⟨22, _⟩ => ⟨S_, .f32⟩
  | .hbm, ⟨23, _⟩ => ⟨S4x31x128, .f32⟩
  | .hbm, ⟨24, _⟩ => ⟨S4x31x128, .f32⟩
  | .hbm, ⟨25, _⟩ => ⟨S4x31x128, .f32⟩
  | .hbm, ⟨26, _⟩ => ⟨S_, .f32⟩
  | .hbm, ⟨27, _⟩ => ⟨S4x31x128, .f32⟩
  | .hbm, ⟨28, _⟩ => ⟨S4x31x128, .f32⟩
  | .hbm, ⟨29, _⟩ => ⟨S4x31x128, .f32⟩
  | .hbm, ⟨30, _⟩ => ⟨S_, .f32⟩
  | .hbm, ⟨31, _⟩ => ⟨S4x31x128, .f32⟩
  | .hbm, ⟨32, _⟩ => ⟨S4x31x128, .f32⟩
  | .hbm, ⟨33, _⟩ => ⟨S4x31x128, .f32⟩
  | .hbm, ⟨34, _⟩ => ⟨S_, .f32⟩
  | .hbm, ⟨35, _⟩ => ⟨S4x31x128, .f32⟩
  | .hbm, ⟨36, _⟩ => ⟨S4x31x128, .f32⟩
  | _, _ => ⟨S4x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S4x3x128 : Shape := ⟨3, ![4, 3, 128]⟩
abbrev S1x3x128 : Shape := ⟨3, ![1, 3, 128]⟩

abbrev nBuf : Space → Nat
  | .hbm => 7
  | .vmem => 14
  | .smem => 0
  | _ => 0

abbrev bufTy : (tb : Table) → Fin (tcTables nBuf tb) → BufTy
  | .hbm, ⟨0, _⟩ => ⟨S4x3x128, .f32⟩
  | .hbm, ⟨1, _⟩ => ⟨S4x3x128, .f32⟩
  | .hbm, ⟨2, _⟩ => ⟨S4x3x128, .f32⟩
  | .hbm, ⟨3, _⟩ => ⟨S4x3x128, .f32⟩
  | .hbm, ⟨4, _⟩ => ⟨S4x3x128, .f32⟩
  | .hbm, ⟨5, _⟩ => ⟨S4x3x128, .f32⟩
  | .hbm, ⟨6, _⟩ => ⟨S4x3x128, .f32⟩
  | .local _ .vmem, ⟨0, _⟩ => ⟨S1x3x128, .f32⟩
  | .local _ .vmem, ⟨1, _⟩ => ⟨S1x3x128, .f32⟩
  | .local _ .vmem, ⟨2, _⟩ => ⟨S1x3x128, .f32⟩
  | .local _ .vmem, ⟨3, _⟩ => ⟨S1x3x128, .f32⟩
  | .local _ .vmem, ⟨4, _⟩ => ⟨S1x3x128, .f32⟩
  | .local _ .vmem, ⟨5, _⟩ => ⟨S1x3x128, .f32⟩
  | .local _ .vmem, ⟨6, _⟩ => ⟨S1x3x128, .f32⟩
  | .local _ .vmem, ⟨7, _⟩ => ⟨S1x3x128, .f32⟩
  | .local _ .vmem, ⟨8, _⟩ => ⟨S1x3x128, .f32⟩
  | .local _ .vmem, ⟨9, _⟩ => ⟨S1x3x128, .f32⟩
  | .local _ .vmem, ⟨10, _⟩ => ⟨S1x3x128, .f32⟩
  | .local _ .vmem, ⟨11, _⟩ => ⟨S1x3x128, .f32⟩
  | .local _ .vmem, ⟨12, _⟩ => ⟨S1x3x128, .f32⟩
  | .local _ .vmem, ⟨13, _⟩ => ⟨S1x3x128, .f32⟩
  | _, _ => ⟨S4x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S4x3x128 : Shape := ⟨3, ![4, 3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x3x128, .f32⟩
  | .hbm, ⟨1, _⟩ => ⟨S4x3x128, .f32⟩
  | .hbm, ⟨2, _⟩ => ⟨S4x3x128, .f32⟩
  | .hbm, ⟨3, _⟩ => ⟨S4x3x128, .f32⟩
  | .hbm, ⟨4, _⟩ => ⟨S_, .f32⟩
  | .hbm, ⟨5, _⟩ => ⟨S4x3x128, .f32⟩
  | .hbm, ⟨6, _⟩ => ⟨S4x3x128, .f32⟩
  | .hbm, ⟨7, _⟩ => ⟨S_, .f32⟩
  | .hbm, ⟨8, _⟩ => ⟨S4x3x128, .f32⟩
  | .hbm, ⟨9, _⟩ => ⟨S4x3x128, .f32⟩
  | .hbm, ⟨10, _⟩ => ⟨S4x3x128, .f32⟩
  | .hbm, ⟨11, _⟩ => ⟨S_, .f32⟩
  | .hbm, ⟨12, _⟩ => ⟨S4x3x128, .f32⟩
  | .hbm, ⟨13, _⟩ => ⟨S4x3x128, .f32⟩
  | .hbm, ⟨14, _⟩ => ⟨S4x3x128, .f32⟩
  | .hbm, ⟨15, _⟩ => ⟨S_, .f32⟩
  | .hbm, ⟨16, _⟩ => ⟨S4x3x128, .f32⟩
  | .hbm, ⟨17, _⟩ => ⟨S4x3x128, .f32⟩
  | .hbm, ⟨18, _⟩ => ⟨S4x3x128, .f32⟩
  | .hbm, ⟨19, _⟩ => ⟨S_, .f32⟩
  | .hbm, ⟨20, _⟩ => ⟨S4x3x128, .f32⟩
  | .hbm, ⟨21, _⟩ => ⟨S4x3x128, .f32⟩
  | .hbm, ⟨22, _⟩ => ⟨S_, .f32⟩
  | .hbm, ⟨23, _⟩ => ⟨S4x3x128, .f32⟩
  | .hbm, ⟨24, _⟩ => ⟨S4x3x128, .f32⟩
  | .hbm, ⟨25, _⟩ => ⟨S4x3x128, .f32⟩
  | .hbm, ⟨26, _⟩ => ⟨S_, .f32⟩
  | .hbm, ⟨27, _⟩ => ⟨S4x3x128, .f32⟩
  | .hbm, ⟨28, _⟩ => ⟨S4x3x128, .f32⟩
  | .hbm, ⟨29, _⟩ => ⟨S4x3x128, .f32⟩
  | .hbm, ⟨30, _⟩ => ⟨S_, .f32⟩
  | .hbm, ⟨31, _⟩ => ⟨S4x3x128, .f32⟩
  | .hbm, ⟨32, _⟩ => ⟨S4x3x128, .f32⟩
  | .hbm, ⟨33, _⟩ => ⟨S4x3x128, .f32⟩
  | .hbm, ⟨34, _⟩ => ⟨S_, .f32⟩
  | .hbm, ⟨35, _⟩ => ⟨S4x3x128, .f32⟩
  | .hbm, ⟨36, _⟩ => ⟨S4x3x128, .f32⟩
  | _, _ => ⟨S4x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S4x256x512 : Shape := ⟨3, ![4, 256, 512]⟩
abbrev S1x256x512 : Shape := ⟨3, ![1, 256, 512]⟩

abbrev nBuf : Space → Nat
  | .hbm => 7
  | .vmem => 14
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S4x256x512, .f32⟩
  | .hbm, ⟨5, _⟩ => ⟨S4x256x512, .f32⟩
  | .hbm, ⟨6, _⟩ => ⟨S4x256x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S4x256x512 : Shape := ⟨3, ![4, 256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S_, .f32⟩
  | .hbm, ⟨5, _⟩ => ⟨S4x256x512, .f32⟩
  | .hbm, ⟨6, _⟩ => ⟨S4x256x512, .f32⟩
  | .hbm, ⟨7, _⟩ => ⟨S_, .f32⟩
  | .hbm, ⟨8, _⟩ => ⟨S4x256x512, .f32⟩
  | .hbm, ⟨9, _⟩ => ⟨S4x256x512, .f32⟩
  | .hbm, ⟨10, _⟩ => ⟨S4x256x512, .f32⟩
  | .hbm, ⟨11, _⟩ => ⟨S_, .f32⟩
  | .hbm, ⟨12, _⟩ => ⟨S4x256x512, .f32⟩
  | .hbm, ⟨13, _⟩ => ⟨S4x256x512, .f32⟩
  | .hbm, ⟨14, _⟩ => ⟨S4x256x512, .f32⟩
  | .hbm, ⟨15, _⟩ => ⟨S_, .f32⟩
  | .hbm, ⟨16, _⟩ => ⟨S4x256x512, .f32⟩
  | .hbm, ⟨17, _⟩ => ⟨S4x256x512, .f32⟩
  | .hbm, ⟨18, _⟩ => ⟨S4x256x512, .f32⟩
  | .hbm, ⟨19, _⟩ => ⟨S_, .f32⟩
  | .hbm, ⟨20, _⟩ => ⟨S4x256x512, .f32⟩
  | .hbm, ⟨21, _⟩ => ⟨S4x256x512, .f32⟩
  | .hbm, ⟨22, _⟩ => ⟨S_, .f32⟩
  | .hbm, ⟨23, _⟩ => ⟨S4x256x512, .f32⟩
  | .hbm, ⟨24, _⟩ => ⟨S4x256x512, .f32⟩
  | .hbm, ⟨25, _⟩ => ⟨S4x256x512, .f32⟩
  | .hbm, ⟨26, _⟩ => ⟨S_, .f32⟩
  | .hbm, ⟨27, _⟩ => ⟨S4x256x512, .f32⟩
  | .hbm, ⟨28, _⟩ => ⟨S4x256x512, .f32⟩
  | .hbm, ⟨29, _⟩ => ⟨S4x256x512, .f32⟩
  | .hbm, ⟨30, _⟩ => ⟨S_, .f32⟩
  | .hbm, ⟨31, _⟩ => ⟨S4x256x512, .f32⟩
  | .hbm, ⟨32, _⟩ => ⟨S4x256x512, .f32⟩
  | .hbm, ⟨33, _⟩ => ⟨S4x256x512, .f32⟩
  | .hbm, ⟨34, _⟩ => ⟨S_, .f32⟩
  | .hbm, ⟨35, _⟩ => ⟨S4x256x512, .f32⟩
  | .hbm, ⟨36, _⟩ => ⟨S4x256x512, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4x256x256 : Shape := ⟨3, ![4, 256, 256]⟩
abbrev S1x256x256 : Shape := ⟨3, ![1, 256, 256]⟩

abbrev nBuf : Space → Nat
  | .hbm => 7
  | .vmem => 14
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S4x256x256, .f32⟩
  | .hbm, ⟨6, _⟩ => ⟨S4x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S4x256x256 : Shape := ⟨3, ![4, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S_, .f32⟩
  | .hbm, ⟨5, _⟩ => ⟨S4x256x256, .f32⟩
  | .hbm, ⟨6, _⟩ => ⟨S4x256x256, .f32⟩
  | .hbm, ⟨7, _⟩ => ⟨S_, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S_, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S4x256x256, .f32⟩
  | .hbm, ⟨21, _⟩ => ⟨S4x256x256, .f32⟩
  | .hbm, ⟨22, _⟩ => ⟨S_, .f32⟩
  | .hbm, ⟨23, _⟩ => ⟨S4x256x256, .f32⟩
  | .hbm, ⟨24, _⟩ => ⟨S4x256x256, .f32⟩
  | .hbm, ⟨25, _⟩ => ⟨S4x256x256, .f32⟩
  | .hbm, ⟨26, _⟩ => ⟨S_, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4x256x256, .f32⟩
  | .hbm, ⟨36, _⟩ => ⟨S4x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.SavedShapes.lean ====
/- The shape relations that the precondition `saved` takes, proved. -/
module

public import proofs.«01_k».proof.Pre_saved
public import Idealize.ShloMosaic.Lib.Decide

@[expose] public section

namespace Cert.Pre_saved.Shapes

open Idealize.ShloMosaic

/-- Every shape relation of `saved` is a decidable statement about small lists. -/
instance facts : Cert.Pre_saved.Facts where
  slices_S8192x10368_S8192x512_0_3584 := by decide
  shapeCasts_S8192x512_S8192x8x64 := by decide
  slices_S8192x10368_S8192x512_0_4096 := by decide
  slices_S8192x10368_S8192x512_0_4608 := by decide
  slices_S8192x128_S8192x8_0_0 := by decide
  transposes_S8192x8_S8x8192_1_0 := by decide
  bcast_S_S8192x8x64 := by decide
  reducesTo_S8192x8x64_S_d0_1_2 := by decide
  h_S_ := by decide
  bcast_S_S8x8192 := by decide
  reducesTo_S8x8192_S_d0_1 := by decide
  bcast_S_S8192x512 := by decide
  reducesTo_S8192x512_S_d0_1 := by decide
  shapeCasts_S8x8192_S8x16x512 := by decide
  slices_S8x16x512_S8x16x1_0_0_0 := by decide
  bcast_S8x16x1_S8x16x512_0_1_2 := by decide
  shapeCasts_S8x16x512_S8x8192 := by decide
  bcast_S_S8x8192x8192 := by decide
  bcast_S8x8192_S8x8192x1_0_1 := by decide
  bcast_S8x8192_S8x1x8192_0_2 := by decide
  bcast_S8x8192x1_S8x8192x8192_0_1_2 := by decide
  bcast_S8x1x8192_S8x8192x8192_0_1_2 := by decide
  bcast_S8192_S8192x1_0 := by decide
  bcast_S8192_S1x8192_1 := by decide
  bcast_S8192x1_S8192x8192_0_1 := by decide
  bcast_S1x8192_S8192x8192_0_1 := by decide
  bcast_S8192x8192_S8x8192x8192_1_2 := by decide
  reducesTo_S8x8192x8192_S8x8192_d2 := by decide
  slices_S4x8192x128_S4x8192x2_0_0_0 := by decide
  shapeCasts_S8x8192_S4x2x8192 := by decide
  transposes_S4x2x8192_S4x8192x2_0_2_1 := by decide
  reducesTo_S4x8192x2_S_d0_1_2 := by decide
  transposes_S8x64x8192_S8192x8x64_2_0_1 := by decide
  reducesTo_S8192x8x64_S8192x8_d2 := by decide
  reducesTo_S8192x8_S_d0_1 := by decide
  reducesTo_S72_S_d0 := by decide
  dot_S8192x8x64_S8192x8x64_S8x8192x8192_2_2_0_0_1_1_wf := by decide
  dot_S8192x8x64_S8x8192x8192_S8x64x8192_0_2_2_1_1_0_wf := by decide

end Cert.Pre_saved.Shapes
-- ==== Proof.Tables.lean ====
/- `tables` pins the three tables of the call, for the kernel as printed and idealized: read off the printed predicate. -/
module

public import proofs.«01_k».proof.Proof.Gen.Pre_tables
public import proofs.«01_k».proof.Defs
public import proofs.«01_k».proof.Proof.Gen.Kernel.Flash.Pins
public import proofs.«01_k».proof.Proof.Gen.KernelIdeal.Flash.Pins
public import Idealize.ShloMosaic.Lib.ReduceAll
public import Idealize.ShloMosaic.Lib.WordCmp

@[expose] public section

noncomputable section

namespace Cert.Fox

open Idealize.ShloMosaic

/-- A conjunction of two one-bit arrays that is one has both ones. -/
theorem and_one {s : Shape} {x y : IVec s 1} {i : s.Idx} (h : andi x y i = 1#1) : x i = 1#1 ∧ y i = 1#1 := by
  have h' : x i &&& y i = 1#1 := h
  generalize x i = a at *
  generalize y i = b at *
  revert a b
  decide

/-- Two words that compare equal are equal. -/
theorem eq_one {s : Shape} {x y : IVec s 32} {i : s.Idx} (h : cmpi .eq x y i = 1#1) : x i = y i := by
  simpa [cmpi, IntOp.cmpi, WordCmp.ofBool_eq_one_iff] using h

instance : Subsingleton Cert.Pre_tables.S_.Idx := ⟨fun a b => funext fun k => k.elim0⟩

section Tables

open Cert.Pre_tables

variable {F : FTy → Type} [FloatOps F]

/-- The index of the one entry of a rank-zero array. -/
def z0 : Cert.Pre_tables.S_.Idx := fun k => k.elim0

theorem of_tables {a0 a1 a2 : IVec S72 32} {a3 a4 a5 a6 a7 a8 a9 a10}
    (h : Cert.Pre_tables.fn (F := F) a0 a1 a2 a3 a4 a5 a6 a7 a8 a9 a10 = fun _ => 1#1) :
    (a0 = fun i => lit0 (S72.rowMajor i)) ∧ (a1 = fun i => lit1 (S72.rowMajor i)) ∧ (a2 = fun i => lit2 (S72.rowMajor i)) := by
  have e := congrFun h z0
  obtain ⟨e01, e2⟩ := and_one e
  obtain ⟨e0, e1⟩ := and_one e01
  exact ⟨funext fun i => eq_one (Host.reduce_andi_all _ _ _ _ _ e0 i), funext fun i => eq_one (Host.reduce_andi_all _ _ _ _ _ e1 i),
    funext fun i => eq_one (Host.reduce_andi_all _ _ _ _ _ e2 i)⟩

theorem lit0_eq : ∀ y : S72.Idx, lit0 (S72.rowMajor y) = Cert.KernelIdeal.Gen.pinT_0 0 y := by decide +kernel
theorem lit1_eq : ∀ y : S72.Idx, lit1 (S72.rowMajor y) = Cert.KernelIdeal.Gen.pinT_1 0 y := by decide +kernel
theorem lit2_eq : ∀ y : S72.Idx, lit2 (S72.rowMajor y) = Cert.KernelIdeal.Gen.pinT_2 0 y := by decide +kernel

end Tables

end Cert.Fox

namespace Cert.KernelIdeal

open Idealize.ShloMosaic Cert.KernelIdeal.Gen

theorem pinned_of_tables (m : (ℓ : Loc nD τ sig) → Buf (Elt Ideal) ℓ) (h : Cert.Pre_KernelIdeal m) : Pinned 0 m := by
  refine ⟨fun c => ?_, fun c => ?_, fun c => ?_⟩
  · exact (Cert.Fox.of_tables (h c)).1.trans (funext Cert.Fox.lit0_eq)
  · exact (Cert.Fox.of_tables (h c)).2.1.trans (funext Cert.Fox.lit1_eq)
  · exact (Cert.Fox.of_tables (h c)).2.2.trans (funext Cert.Fox.lit2_eq)

end Cert.KernelIdeal

namespace Cert.Kernel

open Idealize.ShloMosaic Cert.Kernel.Gen

theorem pinned_of_tables (m : (ℓ : Loc nD τ sig) → Buf (Elt Bits) ℓ) (h : Cert.Pre_Kernel m) : Pinned 0 m := by
  refine ⟨fun c => ?_, fun c => ?_, fun c => ?_⟩
  · exact (Cert.Fox.of_tables (h c)).1.trans (funext Cert.Fox.lit0_eq)
  · exact (Cert.Fox.of_tables (h c)).2.1.trans (funext Cert.Fox.lit1_eq)
  · exact (Cert.Fox.of_tables (h c)).2.2.trans (funext Cert.Fox.lit2_eq)

end Cert.Kernel

end
-- ==== Proof.Frame.Facts.lean ====
/- The decisions of the bit-exact kernel at each grid point, when each buffer is first stored, and the per-point facts. -/
module

public import proofs.«01_k».proof.Proof.Gen.Kernel.Flash.Checks0

@[expose] public section

set_option maxRecDepth 16384
set_option Elab.async false

noncomputable section

namespace Cert.Kernel.Frame

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's propositions at the bit-exact values. -/
local notation "𝕄" => MT nD τ sig Unit (Elt Bits) ℕ (UR sig nD τ) ℕ

variable (ch : Fin 1)
variable (m : (ℓ : Loc nD τ sig) → Buf (Elt Bits) ℓ) (ρ : Dev nD → PrngReg)

/-- The checks at every point of every member (decided beforehand). -/
theorem allChecks : ∀ (ch : Fin 1) (t : Fin (cfgA ch).N), ChecksAt ch t := fun ch => match ch with
  | ⟨0, _⟩ => allChecks_0
  | ⟨_ + 1, h⟩ => absurd h (by omega)

theorem hchk0_k0_hw1 : ∀ (ch : Fin 1) (t : Fin (cfgA ch).N), k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos))) := fun ch t => (allChecks ch t).1
theorem hchkR0_k0_hw1 : ∀ (ch : Fin 1) (t : Fin (cfgA ch).N), k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos))) := hchk0_k0_hw1

/-! ## The control's decisions at a point, at the pinned words (what tells the paths apart) -/

abbrev P0_0 (t : Fin (cfgA ch).N) : Prop := (Scalar.cmpi .ne (Scalar.extui (Scalar.cmpi .eq (BitVec.ofNat 32 ((crd ch t) 1).val) 0#32)) 0#32) = 1#1
abbrev P0_1 (t : Fin (cfgA ch).N) : Prop := (Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1
abbrev P0_2 (t : Fin (cfgA ch).N) : Prop := k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1
abbrev P0_3 (t : Fin (cfgA ch).N) : Prop := k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1

/-- Whether scratch 0 (`cc0_scratch0`) holds nothing a point has determined, before position `n`: until a path that stores it
    whole first (A) has run. -/
noncomputable def sfresh0_0 : ℕ → Bool
  | 0 => true
  | n + 1 => if h : n < (cfgA ch).N then (if P0_0 ch ⟨n, h⟩ then false else (if P0_1 ch ⟨n, h⟩ then sfresh0_0 n else (if P0_2 ch ⟨n, h⟩ then (if P0_3 ch ⟨n, h⟩ then sfresh0_0 n else sfresh0_0 n) else (if P0_3 ch ⟨n, h⟩ then sfresh0_0 n else sfresh0_0 n)))) else true

/-- Its CLOSED FORM: fresh before position `n` iff no point below `n` covers it — `n` at most member `ch`'s first covering
    point (read off the walk; the recursion's step is decided against it point by point, the recursion never run). -/
noncomputable def sfirst0_0 (ch : Fin 1) : ℕ := 0
noncomputable def sfrTab0_0 : ℕ → Bool := fun n => decide (n ≤ sfirst0_0 ch)

/-- Whether scratch 1 (`cc0_scratch1`) holds nothing a point has determined, before position `n`: until a path that stores it
    whole first (A, E) has run. -/
noncomputable def sfresh0_1 : ℕ → Bool
  | 0 => true
  | n + 1 => if h : n < (cfgA ch).N then (if P0_0 ch ⟨n, h⟩ then false else (if P0_1 ch ⟨n, h⟩ then false else (if P0_2 ch ⟨n, h⟩ then (if P0_3 ch ⟨n, h⟩ then sfresh0_1 n else sfresh0_1 n) else (if P0_3 ch ⟨n, h⟩ then sfresh0_1 n else sfresh0_1 n)))) else true

/-- Its CLOSED FORM: fresh before position `n` iff no point below `n` covers it — `n` at most member `ch`'s first covering
    point (read off the walk; the recursion's step is decided against it point by point, the recursion never run). -/
noncomputable def sfirst0_1 (ch : Fin 1) : ℕ := 0
noncomputable def sfrTab0_1 : ℕ → Bool := fun n => decide (n ≤ sfirst0_1 ch)

/-- Whether scratch 2 (`cc0_scratch2`) holds nothing a point has determined, before position `n`: until a path that stores it
    whole first (A, E) has run. -/
noncomputable def sfresh0_2 : ℕ → Bool
  | 0 => true
  | n + 1 => if h : n < (cfgA ch).N then (if P0_0 ch ⟨n, h⟩ then false else (if P0_1 ch ⟨n, h⟩ then false else (if P0_2 ch ⟨n, h⟩ then (if P0_3 ch ⟨n, h⟩ then sfresh0_2 n else sfresh0_2 n) else (if P0_3 ch ⟨n, h⟩ then sfresh0_2 n else sfresh0_2 n)))) else true

/-- Its CLOSED FORM: fresh before position `n` iff no point below `n` covers it — `n` at most member `ch`'s first covering
    point (read off the walk; the recursion's step is decided against it point by point, the recursion never run). -/
noncomputable def sfirst0_2 (ch : Fin 1) : ℕ := 0
noncomputable def sfrTab0_2 : ℕ → Bool := fun n => decide (n ≤ sfirst0_2 ch)

/-- Whether scratch 3 (`cc0_scratch3`) holds nothing a point has determined, before position `n`: until a path that stores it
    whole first (A, E) has run. -/
noncomputable def sfresh0_3 : ℕ → Bool
  | 0 => true
  | n + 1 => if h : n < (cfgA ch).N then (if P0_0 ch ⟨n, h⟩ then false else (if P0_1 ch ⟨n, h⟩ then false else (if P0_2 ch ⟨n, h⟩ then (if P0_3 ch ⟨n, h⟩ then sfresh0_3 n else sfresh0_3 n) else (if P0_3 ch ⟨n, h⟩ then sfresh0_3 n else sfresh0_3 n)))) else true

/-- Its CLOSED FORM: fresh before position `n` iff no point below `n` covers it — `n` at most member `ch`'s first covering
    point (read off the walk; the recursion's step is decided against it point by point, the recursion never run). -/
noncomputable def sfirst0_3 (ch : Fin 1) : ℕ := 0
noncomputable def sfrTab0_3 : ℕ → Bool := fun n => decide (n ≤ sfirst0_3 ch)

/-- Whether scratch 4 (`cc0_scratch4`) holds nothing a point has determined, before position `n`: until a path that stores it
    whole first (A) has run. -/
noncomputable def sfresh0_4 : ℕ → Bool
  | 0 => true
  | n + 1 => if h : n < (cfgA ch).N then (if P0_0 ch ⟨n, h⟩ then false else (if P0_1 ch ⟨n, h⟩ then sfresh0_4 n else (if P0_2 ch ⟨n, h⟩ then (if P0_3 ch ⟨n, h⟩ then sfresh0_4 n else sfresh0_4 n) else (if P0_3 ch ⟨n, h⟩ then sfresh0_4 n else sfresh0_4 n)))) else true

/-- Its CLOSED FORM: fresh before position `n` iff no point below `n` covers it — `n` at most member `ch`'s first covering
    point (read off the walk; the recursion's step is decided against it point by point, the recursion never run). -/
noncomputable def sfirst0_4 (ch : Fin 1) : ℕ := 0
noncomputable def sfrTab0_4 : ℕ → Bool := fun n => decide (n ≤ sfirst0_4 ch)

set_option backward.proofsInPublic true in
/-- Whether output 8 holds junk BEFORE each position `1 ‥ N` of member `ch`'s grid — nothing stored into it since
    its last write-back —: the classifier's table (written back at the point before, or idle there and junk
    before it) as a bitmask, bit `n` for position `n + 1`, which `frTab0_8_step` checks against the pipeline's
    own recursion point by point (a bit test is one kernel step; a list walk or the recursion, hundreds). -/
noncomputable def frMask0_8 : Fin 1 → ℕ
  | ⟨0, _⟩ => 0xffffffffffffffffffffffffffffffffffffffffffffffffffffffffffffffffffffffff
  | ⟨_ + 1, h⟩ => absurd h (by omega)
/-- `(cfgA ch).fresh 8` TABULATED (TableIdle.lean `Cfg.fresh_tab`): true before the first point, then the table. -/
noncomputable def frTab0_8 : ℕ → Bool
  | 0 => true
  | n + 1 => (frMask0_8 ch).testBit n

set_option backward.proofsInPublic true in
/-- Whether output 9 holds junk BEFORE each position `1 ‥ N` of member `ch`'s grid — nothing stored into it since
    its last write-back —: the classifier's table (written back at the point before, or idle there and junk
    before it) as a bitmask, bit `n` for position `n + 1`, which `frTab0_9_step` checks against the pipeline's
    own recursion point by point (a bit test is one kernel step; a list walk or the recursion, hundreds). -/
noncomputable def frMask0_9 : Fin 1 → ℕ
  | ⟨0, _⟩ => 0xffffffffffffffffffffffffffffffffffffffffffffffffffffffffffffffffffffffff
  | ⟨_ + 1, h⟩ => absurd h (by omega)
/-- `(cfgA ch).fresh 9` TABULATED (TableIdle.lean `Cfg.fresh_tab`): true before the first point, then the table. -/
noncomputable def frTab0_9 : ℕ → Bool
  | 0 => true
  | n + 1 => (frMask0_9 ch).testBit n

set_option backward.proofsInPublic true in
/-- Whether output 10 holds junk BEFORE each position `1 ‥ N` of member `ch`'s grid — nothing stored into it since
    its last write-back —: the classifier's table (written back at the point before, or idle there and junk
    before it) as a bitmask, bit `n` for position `n + 1`, which `frTab0_10_step` checks against the pipeline's
    own recursion point by point (a bit test is one kernel step; a list walk or the recursion, hundreds). -/
noncomputable def frMask0_10 : Fin 1 → ℕ
  | ⟨0, _⟩ => 0xffffffffffffffffffffffffffffffffffffffffffffffffffffffffffffffffffffffff
  | ⟨_ + 1, h⟩ => absurd h (by omega)
/-- `(cfgA ch).fresh 10` TABULATED (TableIdle.lean `Cfg.fresh_tab`): true before the first point, then the table. -/
noncomputable def frTab0_10 : ℕ → Bool
  | 0 => true
  | n + 1 => (frMask0_10 ch).testBit n

set_option backward.proofsInPublic true in
/-- Whether output 11 holds junk BEFORE each position `1 ‥ N` of member `ch`'s grid — nothing stored into it since
    its last write-back —: the classifier's table (written back at the point before, or idle there and junk
    before it) as a bitmask, bit `n` for position `n + 1`, which `frTab0_11_step` checks against the pipeline's
    own recursion point by point (a bit test is one kernel step; a list walk or the recursion, hundreds). -/
noncomputable def frMask0_11 : Fin 1 → ℕ
  | ⟨0, _⟩ => 0xffffffffffffffffffffffffffffffffffffffffffffffffffffffffffffffffffffffff
  | ⟨_ + 1, h⟩ => absurd h (by omega)
/-- `(cfgA ch).fresh 11` TABULATED (TableIdle.lean `Cfg.fresh_tab`): true before the first point, then the table. -/
noncomputable def frTab0_11 : ℕ → Bool
  | 0 => true
  | n + 1 => (frMask0_11 ch).testBit n

set_option backward.proofsInPublic true in
/-- Whether output 12 holds junk BEFORE each position `1 ‥ N` of member `ch`'s grid — nothing stored into it since
    its last write-back —: the classifier's table (written back at the point before, or idle there and junk
    before it) as a bitmask, bit `n` for position `n + 1`, which `frTab0_12_step` checks against the pipeline's
    own recursion point by point (a bit test is one kernel step; a list walk or the recursion, hundreds). -/
noncomputable def frMask0_12 : Fin 1 → ℕ
  | ⟨0, _⟩ => 0xffffffffffffffffffffffffffffffffffffffffffffffffffffffffffffffffffffffff
  | ⟨_ + 1, h⟩ => absurd h (by omega)
/-- `(cfgA ch).fresh 12` TABULATED (TableIdle.lean `Cfg.fresh_tab`): true before the first point, then the table. -/
noncomputable def frTab0_12 : ℕ → Bool
  | 0 => true
  | n + 1 => (frMask0_12 ch).testBit n

/-! ## Every per-point fact as ONE proposition, decided member by member; the named facts its projections -/

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, sfrTab0_3_step, sfrTab0_4_step, frTab0_8_step, frTab0_9_step, frTab0_10_step, frTab0_11_step, frTab0_12_step, hyps0_A, sched0_A, hyps0_B, sched0_B, hyps0_C, sched0_C, hyps0_D, sched0_D, hyps0_E, sched0_E, hyps0_F, sched0_F
  (sfrTab0_0 ch (t.val + 1) = (if P0_0 ch t then false else (if P0_1 ch t then sfrTab0_0 ch t.val else (if P0_2 ch t then (if P0_3 ch t then sfrTab0_0 ch t.val else sfrTab0_0 ch t.val) else (if P0_3 ch t then sfrTab0_0 ch t.val else sfrTab0_0 ch t.val)))))
  ∧ (sfrTab0_1 ch (t.val + 1) = (if P0_0 ch t then false else (if P0_1 ch t then false else (if P0_2 ch t then (if P0_3 ch t then sfrTab0_1 ch t.val else sfrTab0_1 ch t.val) else (if P0_3 ch t then sfrTab0_1 ch t.val else sfrTab0_1 ch t.val)))))
  ∧ (sfrTab0_2 ch (t.val + 1) = (if P0_0 ch t then false else (if P0_1 ch t then false else (if P0_2 ch t then (if P0_3 ch t then sfrTab0_2 ch t.val else sfrTab0_2 ch t.val) else (if P0_3 ch t then sfrTab0_2 ch t.val else sfrTab0_2 ch t.val)))))
  ∧ (sfrTab0_3 ch (t.val + 1) = (if P0_0 ch t then false else (if P0_1 ch t then false else (if P0_2 ch t then (if P0_3 ch t then sfrTab0_3 ch t.val else sfrTab0_3 ch t.val) else (if P0_3 ch t then sfrTab0_3 ch t.val else sfrTab0_3 ch t.val)))))
  ∧ (sfrTab0_4 ch (t.val + 1) = (if P0_0 ch t then false else (if P0_1 ch t then sfrTab0_4 ch t.val else (if P0_2 ch t then (if P0_3 ch t then sfrTab0_4 ch t.val else sfrTab0_4 ch t.val) else (if P0_3 ch t then sfrTab0_4 ch t.val else sfrTab0_4 ch t.val)))))
  ∧ (frTab0_8 ch (t.val + 1) = (((cfgA ch).win (8 : Fin 13)).flush t || ((cfgA ch).idle (8 : Fin 13) ((cfgA ch).grid.coords t) && frTab0_8 ch t.val)))
  ∧ (frTab0_9 ch (t.val + 1) = (((cfgA ch).win (9 : Fin 13)).flush t || ((cfgA ch).idle (9 : Fin 13) ((cfgA ch).grid.coords t) && frTab0_9 ch t.val)))
  ∧ (frTab0_10 ch (t.val + 1) = (((cfgA ch).win (10 : Fin 13)).flush t || ((cfgA ch).idle (10 : Fin 13) ((cfgA ch).grid.coords t) && frTab0_10 ch t.val)))
  ∧ (frTab0_11 ch (t.val + 1) = (((cfgA ch).win (11 : Fin 13)).flush t || ((cfgA ch).idle (11 : Fin 13) ((cfgA ch).grid.coords t) && frTab0_11 ch t.val)))
  ∧ (frTab0_12 ch (t.val + 1) = (((cfgA ch).win (12 : Fin 13)).flush t || ((cfgA ch).idle (12 : Fin 13) ((cfgA ch).grid.coords t) && frTab0_12 ch t.val)))
  ∧ (P0_0 ch t → ((Scalar.cmpi .ne (Scalar.extui (Scalar.cmpi .eq (BitVec.ofNat 32 ((crd ch t) 1).val) 0#32)) 0#32) = 1#1) ∧ (((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1) ∧ ((¬(k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1)) ∧ ((¬(k0_cond7 (crd ch t) = 1#1)) ∧ (True))))))))
  ∧ (P0_0 ch t → (cfgA ch).idle (8 : Fin 13) ((cfgA ch).grid.coords t) = true ∧ ((cfgA ch).win (8 : Fin 13)).flush t = false ∧ frTab0_8 ch t.val = true ∧ (cfgA ch).idle (9 : Fin 13) ((cfgA ch).grid.coords t) = true ∧ ((cfgA ch).win (9 : Fin 13)).flush t = false ∧ frTab0_9 ch t.val = true ∧ (cfgA ch).idle (10 : Fin 13) ((cfgA ch).grid.coords t) = true ∧ ((cfgA ch).win (10 : Fin 13)).flush t = false ∧ frTab0_10 ch t.val = true ∧ (cfgA ch).idle (11 : Fin 13) ((cfgA ch).grid.coords t) = true ∧ ((cfgA ch).win (11 : Fin 13)).flush t = false ∧ frTab0_11 ch t.val = true ∧ (cfgA ch).idle (12 : Fin 13) ((cfgA ch).grid.coords t) = true ∧ ((cfgA ch).win (12 : Fin 13)).flush t = false ∧ frTab0_12 ch t.val = true ∧ sfrTab0_0 ch (t.val + 1) = false ∧ sfrTab0_1 ch (t.val + 1) = false ∧ sfrTab0_2 ch (t.val + 1) = false ∧ sfrTab0_3 ch (t.val + 1) = false ∧ sfrTab0_4 ch (t.val + 1) = false)
  ∧ (¬P0_0 ch t → ¬P0_1 ch t → ¬P0_2 ch t → ¬P0_3 ch t → (¬((Scalar.cmpi .ne (Scalar.extui (Scalar.cmpi .eq (BitVec.ofNat 32 ((crd ch t) 1).val) 0#32)) 0#32) = 1#1)) ∧ ((¬((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1)) ∧ ((¬(k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1)) ∧ ((¬(k0_cond7 (crd ch t) = 1#1)) ∧ (True))))))))
  ∧ (¬P0_0 ch t → ¬P0_1 ch t → ¬P0_2 ch t → ¬P0_3 ch t → (cfgA ch).idle (8 : Fin 13) ((cfgA ch).grid.coords t) = true ∧ ((cfgA ch).win (8 : Fin 13)).flush t = false ∧ frTab0_8 ch t.val = true ∧ (cfgA ch).idle (9 : Fin 13) ((cfgA ch).grid.coords t) = true ∧ ((cfgA ch).win (9 : Fin 13)).flush t = false ∧ frTab0_9 ch t.val = true ∧ (cfgA ch).idle (10 : Fin 13) ((cfgA ch).grid.coords t) = true ∧ ((cfgA ch).win (10 : Fin 13)).flush t = false ∧ frTab0_10 ch t.val = true ∧ (cfgA ch).idle (11 : Fin 13) ((cfgA ch).grid.coords t) = true ∧ ((cfgA ch).win (11 : Fin 13)).flush t = false ∧ frTab0_11 ch t.val = true ∧ (cfgA ch).idle (12 : Fin 13) ((cfgA ch).grid.coords t) = true ∧ ((cfgA ch).win (12 : Fin 13)).flush t = false ∧ frTab0_12 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false)
  ∧ (¬P0_0 ch t → ¬P0_1 ch t → P0_2 ch t → ¬P0_3 ch t → (¬((Scalar.cmpi .ne (Scalar.extui (Scalar.cmpi .eq (BitVec.ofNat 32 ((crd ch t) 1).val) 0#32)) 0#32) = 1#1)) ∧ ((¬((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1)) ∧ ((k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1)) ∧ ((¬(k0_cond7 (crd ch t) = 1#1)) ∧ (True))))))))
  ∧ (¬P0_0 ch t → ¬P0_1 ch t → P0_2 ch t → ¬P0_3 ch t → (cfgA ch).idle (8 : Fin 13) ((cfgA ch).grid.coords t) = true ∧ ((cfgA ch).win (8 : Fin 13)).flush t = false ∧ frTab0_8 ch t.val = true ∧ (cfgA ch).idle (9 : Fin 13) ((cfgA ch).grid.coords t) = true ∧ ((cfgA ch).win (9 : Fin 13)).flush t = false ∧ frTab0_9 ch t.val = true ∧ (cfgA ch).idle (10 : Fin 13) ((cfgA ch).grid.coords t) = true ∧ ((cfgA ch).win (10 : Fin 13)).flush t = false ∧ frTab0_10 ch t.val = true ∧ (cfgA ch).idle (11 : Fin 13) ((cfgA ch).grid.coords t) = true ∧ ((cfgA ch).win (11 : Fin 13)).flush t = false ∧ frTab0_11 ch t.val = true ∧ (cfgA ch).idle (12 : Fin 13) ((cfgA ch).grid.coords t) = true ∧ ((cfgA ch).win (12 : Fin 13)).flush t = false ∧ frTab0_12 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false)
  ∧ (¬P0_0 ch t → ¬P0_1 ch t → P0_2 ch t → P0_3 ch t → (¬((Scalar.cmpi .ne (Scalar.extui (Scalar.cmpi .eq (BitVec.ofNat 32 ((crd ch t) 1).val) 0#32)) 0#32) = 1#1)) ∧ ((¬((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1)) ∧ ((k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1) ∧ ((¬(k0_cond7 (crd ch t) = 1#1)) ∧ (True))))))))
  ∧ (¬P0_0 ch t → ¬P0_1 ch t → P0_2 ch t → P0_3 ch t → (cfgA ch).idle (8 : Fin 13) ((cfgA ch).grid.coords t) = true ∧ ((cfgA ch).win (8 : Fin 13)).flush t = false ∧ frTab0_8 ch t.val = true ∧ (cfgA ch).idle (9 : Fin 13) ((cfgA ch).grid.coords t) = false ∧ ((cfgA ch).win (9 : Fin 13)).flush t = true ∧ frTab0_9 ch t.val = true ∧ (cfgA ch).idle (10 : Fin 13) ((cfgA ch).grid.coords t) = false ∧ ((cfgA ch).win (10 : Fin 13)).flush t = true ∧ frTab0_10 ch t.val = true ∧ (cfgA ch).idle (11 : Fin 13) ((cfgA ch).grid.coords t) = false ∧ ((cfgA ch).win (11 : Fin 13)).flush t = true ∧ frTab0_11 ch t.val = true ∧ (cfgA ch).idle (12 : Fin 13) ((cfgA ch).grid.coords t) = true ∧ ((cfgA ch).win (12 : Fin 13)).flush t = false ∧ frTab0_12 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false)
  ∧ (¬P0_0 ch t → P0_1 ch t → (¬((Scalar.cmpi .ne (Scalar.extui (Scalar.cmpi .eq (BitVec.ofNat 32 ((crd ch t) 1).val) 0#32)) 0#32) = 1#1)) ∧ (((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1) ∧ ((¬(k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1)) ∧ ((¬(k0_cond7 (crd ch t) = 1#1)) ∧ (True))))))))
  ∧ (¬P0_0 ch t → P0_1 ch t → (cfgA ch).idle (8 : Fin 13) ((cfgA ch).grid.coords t) = true ∧ ((cfgA ch).win (8 : Fin 13)).flush t = false ∧ frTab0_8 ch t.val = true ∧ (cfgA ch).idle (9 : Fin 13) ((cfgA ch).grid.coords t) = true ∧ ((cfgA ch).win (9 : Fin 13)).flush t = false ∧ frTab0_9 ch t.val = true ∧ (cfgA ch).idle (10 : Fin 13) ((cfgA ch).grid.coords t) = true ∧ ((cfgA ch).win (10 : Fin 13)).flush t = false ∧ frTab0_10 ch t.val = true ∧ (cfgA ch).idle (11 : Fin 13) ((cfgA ch).grid.coords t) = true ∧ ((cfgA ch).win (11 : Fin 13)).flush t = false ∧ frTab0_11 ch t.val = true ∧ (cfgA ch).idle (12 : Fin 13) ((cfgA ch).grid.coords t) = true ∧ ((cfgA ch).win (12 : Fin 13)).flush t = false ∧ frTab0_12 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false)
  ∧ (¬P0_0 ch t → ¬P0_1 ch t → ¬P0_2 ch t → P0_3 ch t → (¬((Scalar.cmpi .ne (Scalar.extui (Scalar.cmpi .eq (BitVec.ofNat 32 ((crd ch t) 1).val) 0#32)) 0#32) = 1#1)) ∧ ((¬((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1)) ∧ ((¬(k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1) ∧ ((k0_cond7 (crd ch t) = 1#1) ∧ (True))))))))
  ∧ (¬P0_0 ch t → ¬P0_1 ch t → ¬P0_2 ch t → P0_3 ch t → (cfgA ch).idle (8 : Fin 13) ((cfgA ch).grid.coords t) = false ∧ ((cfgA ch).win (8 : Fin 13)).flush t = true ∧ frTab0_8 ch t.val = true ∧ (cfgA ch).idle (9 : Fin 13) ((cfgA ch).grid.coords t) = false ∧ ((cfgA ch).win (9 : Fin 13)).flush t = true ∧ frTab0_9 ch t.val = true ∧ (cfgA ch).idle (10 : Fin 13) ((cfgA ch).grid.coords t) = false ∧ ((cfgA ch).win (10 : Fin 13)).flush t = true ∧ frTab0_10 ch t.val = true ∧ (cfgA ch).idle (11 : Fin 13) ((cfgA ch).grid.coords t) = false ∧ ((cfgA ch).win (11 : Fin 13)).flush t = true ∧ frTab0_11 ch t.val = true ∧ (cfgA ch).idle (12 : Fin 13) ((cfgA ch).grid.coords t) = false ∧ ((cfgA ch).win (12 : Fin 13)).flush t = true ∧ frTab0_12 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false)

set_option synthInstance.maxSize 65536 in
noncomputable instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))))))))))))

theorem allFacts_0_0 : ∀ t : Fin (cfgA (⟨0, by omega⟩ : Fin 1)).N, 0 ≤ t.val → t.val < 36 → FactsAt (⟨0, by omega⟩ : Fin 1) t := by decide +kernel
theorem allFacts_0_1 : ∀ t : Fin (cfgA (⟨0, by omega⟩ : Fin 1)).N, 36 ≤ t.val → t.val < 72 → FactsAt (⟨0, by omega⟩ : Fin 1) t := by decide +kernel
theorem allFacts_0_2 : ∀ t : Fin (cfgA (⟨0, by omega⟩ : Fin 1)).N, 72 ≤ t.val → t.val < 108 → FactsAt (⟨0, by omega⟩ : Fin 1) t := by decide +kernel
theorem allFacts_0_3 : ∀ t : Fin (cfgA (⟨0, by omega⟩ : Fin 1)).N, 108 ≤ t.val → t.val < 144 → FactsAt (⟨0, by omega⟩ : Fin 1) t := by decide +kernel
theorem allFacts_0_4 : ∀ t : Fin (cfgA (⟨0, by omega⟩ : Fin 1)).N, 144 ≤ t.val → t.val < 180 → FactsAt (⟨0, by omega⟩ : Fin 1) t := by decide +kernel
theorem allFacts_0_5 : ∀ t : Fin (cfgA (⟨0, by omega⟩ : Fin 1)).N, 180 ≤ t.val → t.val < 216 → FactsAt (⟨0, by omega⟩ : Fin 1) t := by decide +kernel
theorem allFacts_0_6 : ∀ t : Fin (cfgA (⟨0, by omega⟩ : Fin 1)).N, 216 ≤ t.val → t.val < 252 → FactsAt (⟨0, by omega⟩ : Fin 1) t := by decide +kernel
theorem allFacts_0_7 : ∀ t : Fin (cfgA (⟨0, by omega⟩ : Fin 1)).N, 252 ≤ t.val → t.val < 288 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 36 with h1 | h1; · exact allFacts_0_0 t h0 h1
  rcases Nat.lt_or_ge t.val 72 with h2 | h2; · exact allFacts_0_1 t h1 h2
  rcases Nat.lt_or_ge t.val 108 with h3 | h3; · exact allFacts_0_2 t h2 h3
  rcases Nat.lt_or_ge t.val 144 with h4 | h4; · exact allFacts_0_3 t h3 h4
  rcases Nat.lt_or_ge t.val 180 with h5 | h5; · exact allFacts_0_4 t h4 h5
  rcases Nat.lt_or_ge t.val 216 with h6 | h6; · exact allFacts_0_5 t h5 h6
  rcases Nat.lt_or_ge t.val 252 with h7 | h7; · exact allFacts_0_6 t h6 h7
  exact allFacts_0_7 t h7 t.isLt

end Cert.Kernel.Frame

end
-- ==== Proof.Frame.Hyps.lean ====
/- Each control path's hypotheses and schedule, read off the per-point facts. -/
module

public import proofs.«01_k».proof.Proof.Gen.Kernel.Flash.Runs
public import proofs.«01_k».proof.Proof.Frame.Facts
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Frame

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's propositions at the bit-exact values. -/
local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Bits) ℓ) (ρ : Dev nD → PrngReg)

/-- The facts at every point of every member (decided in slices of points). -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem sfrTab0_0_step : ∀ (ch : Fin 1) (t : Fin (cfgA ch).N), sfrTab0_0 ch (t.val + 1) = (if P0_0 ch t then false else (if P0_1 ch t then sfrTab0_0 ch t.val else (if P0_2 ch t then (if P0_3 ch t then sfrTab0_0 ch t.val else sfrTab0_0 ch t.val) else (if P0_3 ch t then sfrTab0_0 ch t.val else sfrTab0_0 ch t.val)))) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then false else (if P0_1 ch t then false else (if P0_2 ch t then (if P0_3 ch t then sfrTab0_1 ch t.val else sfrTab0_1 ch t.val) else (if P0_3 ch t then sfrTab0_1 ch t.val else sfrTab0_1 ch t.val)))) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then false else (if P0_1 ch t then false else (if P0_2 ch t then (if P0_3 ch t then sfrTab0_2 ch t.val else sfrTab0_2 ch t.val) else (if P0_3 ch t then sfrTab0_2 ch t.val else sfrTab0_2 ch t.val)))) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem sfrTab0_3_step : ∀ (ch : Fin 1) (t : Fin (cfgA ch).N), sfrTab0_3 ch (t.val + 1) = (if P0_0 ch t then false else (if P0_1 ch t then false else (if P0_2 ch t then (if P0_3 ch t then sfrTab0_3 ch t.val else sfrTab0_3 ch t.val) else (if P0_3 ch t then sfrTab0_3 ch t.val else sfrTab0_3 ch t.val)))) := fun ch t => (allFacts ch t).2.2.2.1
theorem sfresh0_3_eq : ∀ n, n ≤ (cfgA ch).N → sfresh0_3 ch n = sfrTab0_3 ch n
  | 0, _ => by simp only [sfresh0_3, sfrTab0_3, Nat.zero_le, decide_true]
  | n + 1, h => by simp only [sfresh0_3, dif_pos (show n < (cfgA ch).N from h), sfresh0_3_eq n (Nat.le_of_lt h), sfrTab0_3_step ch ⟨n, h⟩]
theorem sfreshF0_3 (t : Fin (cfgA ch).N) : sfresh0_3 ch t.val = sfrTab0_3 ch t.val := sfresh0_3_eq ch t.val (Nat.le_of_lt t.isLt)
theorem sfreshS0_3 (t : Fin (cfgA ch).N) : sfresh0_3 ch (t.val + 1) = sfrTab0_3 ch (t.val + 1) := sfresh0_3_eq ch (t.val + 1) t.isLt

theorem sfrTab0_4_step : ∀ (ch : Fin 1) (t : Fin (cfgA ch).N), sfrTab0_4 ch (t.val + 1) = (if P0_0 ch t then false else (if P0_1 ch t then sfrTab0_4 ch t.val else (if P0_2 ch t then (if P0_3 ch t then sfrTab0_4 ch t.val else sfrTab0_4 ch t.val) else (if P0_3 ch t then sfrTab0_4 ch t.val else sfrTab0_4 ch t.val)))) := fun ch t => (allFacts ch t).2.2.2.2.1
theorem sfresh0_4_eq : ∀ n, n ≤ (cfgA ch).N → sfresh0_4 ch n = sfrTab0_4 ch n
  | 0, _ => by simp only [sfresh0_4, sfrTab0_4, Nat.zero_le, decide_true]
  | n + 1, h => by simp only [sfresh0_4, dif_pos (show n < (cfgA ch).N from h), sfresh0_4_eq n (Nat.le_of_lt h), sfrTab0_4_step ch ⟨n, h⟩]
theorem sfreshF0_4 (t : Fin (cfgA ch).N) : sfresh0_4 ch t.val = sfrTab0_4 ch t.val := sfresh0_4_eq ch t.val (Nat.le_of_lt t.isLt)
theorem sfreshS0_4 (t : Fin (cfgA ch).N) : sfresh0_4 ch (t.val + 1) = sfrTab0_4 ch (t.val + 1) := sfresh0_4_eq ch (t.val + 1) t.isLt

theorem frTab0_8_step : ∀ (ch : Fin 1) (t : Fin (cfgA ch).N),
    frTab0_8 ch (t.val + 1) = (((cfgA ch).win (8 : Fin 13)).flush t || ((cfgA ch).idle (8 : Fin 13) ((cfgA ch).grid.coords t) && frTab0_8 ch t.val)) := fun ch t => (allFacts ch t).2.2.2.2.2.1
theorem freshF0_8 (t : Fin (cfgA ch).N) : (cfgA ch).fresh (8 : Fin 13) t.val = frTab0_8 ch t.val :=
  Pipeline.Cfg.fresh_tab (cfgA ch) (8 : Fin 13) (frTab0_8 ch) rfl (frTab0_8_step ch) t.val (Nat.le_of_lt t.isLt)

theorem frTab0_9_step : ∀ (ch : Fin 1) (t : Fin (cfgA ch).N),
    frTab0_9 ch (t.val + 1) = (((cfgA ch).win (9 : Fin 13)).flush t || ((cfgA ch).idle (9 : Fin 13) ((cfgA ch).grid.coords t) && frTab0_9 ch t.val)) := fun ch t => (allFacts ch t).2.2.2.2.2.2.1
theorem freshF0_9 (t : Fin (cfgA ch).N) : (cfgA ch).fresh (9 : Fin 13) t.val = frTab0_9 ch t.val :=
  Pipeline.Cfg.fresh_tab (cfgA ch) (9 : Fin 13) (frTab0_9 ch) rfl (frTab0_9_step ch) t.val (Nat.le_of_lt t.isLt)

theorem frTab0_10_step : ∀ (ch : Fin 1) (t : Fin (cfgA ch).N),
    frTab0_10 ch (t.val + 1) = (((cfgA ch).win (10 : Fin 13)).flush t || ((cfgA ch).idle (10 : Fin 13) ((cfgA ch).grid.coords t) && frTab0_10 ch t.val)) := fun ch t => (allFacts ch t).2.2.2.2.2.2.2.1
theorem freshF0_10 (t : Fin (cfgA ch).N) : (cfgA ch).fresh (10 : Fin 13) t.val = frTab0_10 ch t.val :=
  Pipeline.Cfg.fresh_tab (cfgA ch) (10 : Fin 13) (frTab0_10 ch) rfl (frTab0_10_step ch) t.val (Nat.le_of_lt t.isLt)

theorem frTab0_11_step : ∀ (ch : Fin 1) (t : Fin (cfgA ch).N),
    frTab0_11 ch (t.val + 1) = (((cfgA ch).win (11 : Fin 13)).flush t || ((cfgA ch).idle (11 : Fin 13) ((cfgA ch).grid.coords t) && frTab0_11 ch t.val)) := fun ch t => (allFacts ch t).2.2.2.2.2.2.2.2.1
theorem freshF0_11 (t : Fin (cfgA ch).N) : (cfgA ch).fresh (11 : Fin 13) t.val = frTab0_11 ch t.val :=
  Pipeline.Cfg.fresh_tab (cfgA ch) (11 : Fin 13) (frTab0_11 ch) rfl (frTab0_11_step ch) t.val (Nat.le_of_lt t.isLt)

theorem frTab0_12_step : ∀ (ch : Fin 1) (t : Fin (cfgA ch).N),
    frTab0_12 ch (t.val + 1) = (((cfgA ch).win (12 : Fin 13)).flush t || ((cfgA ch).idle (12 : Fin 13) ((cfgA ch).grid.coords t) && frTab0_12 ch t.val)) := fun ch t => (allFacts ch t).2.2.2.2.2.2.2.2.2.1
theorem freshF0_12 (t : Fin (cfgA ch).N) : (cfgA ch).fresh (12 : Fin 13) t.val = frTab0_12 ch t.val :=
  Pipeline.Cfg.fresh_tab (cfgA ch) (12 : Fin 13) (frTab0_12 ch) rfl (frTab0_12_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N), P0_0 ch t →
    (k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))) ∧ ∀ (k0_hw1 : k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))), (((Scalar.cmpi .ne (Scalar.extui (Scalar.cmpi .eq (BitVec.ofNat 32 ((crd ch t) 1).val) 0#32)) 0#32) = 1#1) ∧ (((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1) ∧ ((¬(k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1)) ∧ ((¬(k0_cond7 (crd ch t) = 1#1)) ∧ (True)))))))) := fun ch t q0 =>
  ⟨hchk0_k0_hw1 ch t, fun k0_hw1 => ⟨((allFacts ch t).2.2.2.2.2.2.2.2.2.2.1 q0).1, ⟨((allFacts ch t).2.2.2.2.2.2.2.2.2.2.1 q0).2.1, ⟨((allFacts ch t).2.2.2.2.2.2.2.2.2.2.1 q0).2.2.1, ⟨((allFacts ch t).2.2.2.2.2.2.2.2.2.2.1 q0).2.2.2.1, ⟨((allFacts ch t).2.2.2.2.2.2.2.2.2.2.1 q0).2.2.2.2.1, ⟨((allFacts ch t).2.2.2.2.2.2.2.2.2.2.1 q0).2.2.2.2.2.1, ⟨((allFacts ch t).2.2.2.2.2.2.2.2.2.2.1 q0).2.2.2.2.2.2.1, trivial⟩⟩⟩⟩⟩⟩⟩⟩

theorem hypsR0_A : ∀ (ch : Fin 1) (t : Fin (cfgA ch).N), P0_0 ch t →
    (k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))) ∧ ∀ (k0_hw1 : k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))), (((Scalar.cmpi .ne (Scalar.extui (Scalar.cmpi .eq (BitVec.ofNat 32 ((crd ch t) 1).val) 0#32)) 0#32) = 1#1) ∧ (((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1) ∧ ((¬(k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1)) ∧ ((¬(k0_cond7 (crd ch t) = 1#1)) ∧ (True)))))))) := hyps0_A

/-! Path A's hypotheses that the body's accesses or later hypotheses may cite by name (a check, a trip count),
    one theorem each, numbered by the hypothesis' place in the conjunction and proved off `hypsR0_A`; the step
    (`step0`, `step0_A`) cites these where it projects that conjunction, instead of spelling its spine again. -/
theorem hyp0_A_0 (ch : Fin 1) (t : Fin (cfgA ch).N) (q0 : P0_0 ch t) :
    k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos))) := (hypsR0_A ch t q0).1

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t →
    (cfgA ch).idle (8 : Fin 13) ((cfgA ch).grid.coords t) = true ∧ ((cfgA ch).win (8 : Fin 13)).flush t = false ∧ (cfgA ch).fresh (8 : Fin 13) t.val = true ∧ (cfgA ch).idle (9 : Fin 13) ((cfgA ch).grid.coords t) = true ∧ ((cfgA ch).win (9 : Fin 13)).flush t = false ∧ (cfgA ch).fresh (9 : Fin 13) t.val = true ∧ (cfgA ch).idle (10 : Fin 13) ((cfgA ch).grid.coords t) = true ∧ ((cfgA ch).win (10 : Fin 13)).flush t = false ∧ (cfgA ch).fresh (10 : Fin 13) t.val = true ∧ (cfgA ch).idle (11 : Fin 13) ((cfgA ch).grid.coords t) = true ∧ ((cfgA ch).win (11 : Fin 13)).flush t = false ∧ (cfgA ch).fresh (11 : Fin 13) t.val = true ∧ (cfgA ch).idle (12 : Fin 13) ((cfgA ch).grid.coords t) = true ∧ ((cfgA ch).win (12 : Fin 13)).flush t = false ∧ (cfgA ch).fresh (12 : Fin 13) t.val = true ∧ sfresh0_0 ch (t.val + 1) = false ∧ sfresh0_1 ch (t.val + 1) = false ∧ sfresh0_2 ch (t.val + 1) = false ∧ sfresh0_3 ch (t.val + 1) = false ∧ sfresh0_4 ch (t.val + 1) = false := by
  intro ch t; rw [freshF0_8 ch t, freshF0_9 ch t, freshF0_10 ch t, freshF0_11 ch t, freshF0_12 ch t, sfreshS0_0 ch t, sfreshS0_1 ch t, sfreshS0_2 ch t, sfreshS0_3 ch t, sfreshS0_4 ch t]; exact (fun ch t => (allFacts ch t).2.2.2.2.2.2.2.2.2.2.2.1) ch t

/-- At a point of path B, the path's hypotheses hold of the words the body reads there (the pinned tables read,
    a pinned window's word AS the word `pinBlk ch t (r.idx x)`; the checks among them cited from `ChecksAt`). -/
theorem hyps0_B : ∀ (ch : Fin 1) (t : Fin (cfgA ch).N), ¬P0_0 ch t → ¬P0_1 ch t → ¬P0_2 ch t → ¬P0_3 ch t →
    (k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))) ∧ ∀ (k0_hw1 : k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))), ((¬((Scalar.cmpi .ne (Scalar.extui (Scalar.cmpi .eq (BitVec.ofNat 32 ((crd ch t) 1).val) 0#32)) 0#32) = 1#1)) ∧ ((¬((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1)) ∧ ((¬(k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1)) ∧ ((¬(k0_cond7 (crd ch t) = 1#1)) ∧ (True)))))))) := fun ch t q0 q1 q2 q3 =>
  ⟨hchk0_k0_hw1 ch t, fun k0_hw1 => ⟨((allFacts ch t).2.2.2.2.2.2.2.2.2.2.2.2.1 q0 q1 q2 q3).1, ⟨((allFacts ch t).2.2.2.2.2.2.2.2.2.2.2.2.1 q0 q1 q2 q3).2.1, ⟨((allFacts ch t).2.2.2.2.2.2.2.2.2.2.2.2.1 q0 q1 q2 q3).2.2.1, ⟨((allFacts ch t).2.2.2.2.2.2.2.2.2.2.2.2.1 q0 q1 q2 q3).2.2.2.1, ⟨((allFacts ch t).2.2.2.2.2.2.2.2.2.2.2.2.1 q0 q1 q2 q3).2.2.2.2.1, ⟨((allFacts ch t).2.2.2.2.2.2.2.2.2.2.2.2.1 q0 q1 q2 q3).2.2.2.2.2.1, ⟨((allFacts ch t).2.2.2.2.2.2.2.2.2.2.2.2.1 q0 q1 q2 q3).2.2.2.2.2.2.1, trivial⟩⟩⟩⟩⟩⟩⟩⟩

theorem hypsR0_B : ∀ (ch : Fin 1) (t : Fin (cfgA ch).N), ¬P0_0 ch t → ¬P0_1 ch t → ¬P0_2 ch t → ¬P0_3 ch t →
    (k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))) ∧ ∀ (k0_hw1 : k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))), ((¬((Scalar.cmpi .ne (Scalar.extui (Scalar.cmpi .eq (BitVec.ofNat 32 ((crd ch t) 1).val) 0#32)) 0#32) = 1#1)) ∧ ((¬((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1)) ∧ ((¬(k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1)) ∧ ((¬(k0_cond7 (crd ch t) = 1#1)) ∧ (True)))))))) := hyps0_B

/-! Path B's hypotheses that the body's accesses or later hypotheses may cite by name (a check, a trip count),
    one theorem each, numbered by the hypothesis' place in the conjunction and proved off `hypsR0_B`; the step
    (`step0`, `step0_B`) cites these where it projects that conjunction, instead of spelling its spine again. -/
theorem hyp0_B_0 (ch : Fin 1) (t : Fin (cfgA ch).N) (q0 : ¬P0_0 ch t) (q1 : ¬P0_1 ch t) (q2 : ¬P0_2 ch t) (q3 : ¬P0_3 ch t) :
    k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos))) := (hypsR0_B ch t q0 q1 q2 q3).1

/-- At a point of path B: the idle table, the write-backs and which buffers hold junk (decided over the
    freshness tables `frTab`/`sfrTab`, restated over `Cfg.fresh`/`sfresh` by their agreement). -/
theorem sched0_B : ∀ (ch : Fin 1) (t : Fin (cfgA ch).N), ¬P0_0 ch t → ¬P0_1 ch t → ¬P0_2 ch t → ¬P0_3 ch t →
    (cfgA ch).idle (8 : Fin 13) ((cfgA ch).grid.coords t) = true ∧ ((cfgA ch).win (8 : Fin 13)).flush t = false ∧ (cfgA ch).fresh (8 : Fin 13) t.val = true ∧ (cfgA ch).idle (9 : Fin 13) ((cfgA ch).grid.coords t) = true ∧ ((cfgA ch).win (9 : Fin 13)).flush t = false ∧ (cfgA ch).fresh (9 : Fin 13) t.val = true ∧ (cfgA ch).idle (10 : Fin 13) ((cfgA ch).grid.coords t) = true ∧ ((cfgA ch).win (10 : Fin 13)).flush t = false ∧ (cfgA ch).fresh (10 : Fin 13) t.val = true ∧ (cfgA ch).idle (11 : Fin 13) ((cfgA ch).grid.coords t) = true ∧ ((cfgA ch).win (11 : Fin 13)).flush t = false ∧ (cfgA ch).fresh (11 : Fin 13) t.val = true ∧ (cfgA ch).idle (12 : Fin 13) ((cfgA ch).grid.coords t) = true ∧ ((cfgA ch).win (12 : Fin 13)).flush t = false ∧ (cfgA ch).fresh (12 : Fin 13) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false := by
  intro ch t; rw [freshF0_8 ch t, freshF0_9 ch t, freshF0_10 ch t, freshF0_11 ch t, freshF0_12 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t]; exact (fun ch t => (allFacts ch t).2.2.2.2.2.2.2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Fin 1) (t : Fin (cfgA ch).N), ¬P0_0 ch t → ¬P0_1 ch t → P0_2 ch t → ¬P0_3 ch t →
    (k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))) ∧ ∀ (k0_hw1 : k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))), ((¬((Scalar.cmpi .ne (Scalar.extui (Scalar.cmpi .eq (BitVec.ofNat 32 ((crd ch t) 1).val) 0#32)) 0#32) = 1#1)) ∧ ((¬((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1)) ∧ ((k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1)) ∧ ((¬(k0_cond7 (crd ch t) = 1#1)) ∧ (True)))))))) := fun ch t q0 q1 q2 q3 =>
  ⟨hchk0_k0_hw1 ch t, fun k0_hw1 => ⟨((allFacts ch t).2.2.2.2.2.2.2.2.2.2.2.2.2.2.1 q0 q1 q2 q3).1, ⟨((allFacts ch t).2.2.2.2.2.2.2.2.2.2.2.2.2.2.1 q0 q1 q2 q3).2.1, ⟨((allFacts ch t).2.2.2.2.2.2.2.2.2.2.2.2.2.2.1 q0 q1 q2 q3).2.2.1, ⟨((allFacts ch t).2.2.2.2.2.2.2.2.2.2.2.2.2.2.1 q0 q1 q2 q3).2.2.2.1, ⟨((allFacts ch t).2.2.2.2.2.2.2.2.2.2.2.2.2.2.1 q0 q1 q2 q3).2.2.2.2.1, ⟨((allFacts ch t).2.2.2.2.2.2.2.2.2.2.2.2.2.2.1 q0 q1 q2 q3).2.2.2.2.2.1, ⟨((allFacts ch t).2.2.2.2.2.2.2.2.2.2.2.2.2.2.1 q0 q1 q2 q3).2.2.2.2.2.2.1, trivial⟩⟩⟩⟩⟩⟩⟩⟩

theorem hypsR0_C : ∀ (ch : Fin 1) (t : Fin (cfgA ch).N), ¬P0_0 ch t → ¬P0_1 ch t → P0_2 ch t → ¬P0_3 ch t →
    (k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))) ∧ ∀ (k0_hw1 : k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))), ((¬((Scalar.cmpi .ne (Scalar.extui (Scalar.cmpi .eq (BitVec.ofNat 32 ((crd ch t) 1).val) 0#32)) 0#32) = 1#1)) ∧ ((¬((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1)) ∧ ((k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1)) ∧ ((¬(k0_cond7 (crd ch t) = 1#1)) ∧ (True)))))))) := hyps0_C

/-! Path C's hypotheses that the body's accesses or later hypotheses may cite by name (a check, a trip count),
    one theorem each, numbered by the hypothesis' place in the conjunction and proved off `hypsR0_C`; the step
    (`step0`, `step0_C`) cites these where it projects that conjunction, instead of spelling its spine again. -/
theorem hyp0_C_0 (ch : Fin 1) (t : Fin (cfgA ch).N) (q0 : ¬P0_0 ch t) (q1 : ¬P0_1 ch t) (q2 : P0_2 ch t) (q3 : ¬P0_3 ch t) :
    k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos))) := (hypsR0_C ch t q0 q1 q2 q3).1

/-- At a point of path C: the idle table, the write-backs and which buffers hold junk (decided over the
    freshness tables `frTab`/`sfrTab`, restated over `Cfg.fresh`/`sfresh` by their agreement). -/
theorem sched0_C : ∀ (ch : Fin 1) (t : Fin (cfgA ch).N), ¬P0_0 ch t → ¬P0_1 ch t → P0_2 ch t → ¬P0_3 ch t →
    (cfgA ch).idle (8 : Fin 13) ((cfgA ch).grid.coords t) = true ∧ ((cfgA ch).win (8 : Fin 13)).flush t = false ∧ (cfgA ch).fresh (8 : Fin 13) t.val = true ∧ (cfgA ch).idle (9 : Fin 13) ((cfgA ch).grid.coords t) = true ∧ ((cfgA ch).win (9 : Fin 13)).flush t = false ∧ (cfgA ch).fresh (9 : Fin 13) t.val = true ∧ (cfgA ch).idle (10 : Fin 13) ((cfgA ch).grid.coords t) = true ∧ ((cfgA ch).win (10 : Fin 13)).flush t = false ∧ (cfgA ch).fresh (10 : Fin 13) t.val = true ∧ (cfgA ch).idle (11 : Fin 13) ((cfgA ch).grid.coords t) = true ∧ ((cfgA ch).win (11 : Fin 13)).flush t = false ∧ (cfgA ch).fresh (11 : Fin 13) t.val = true ∧ (cfgA ch).idle (12 : Fin 13) ((cfgA ch).grid.coords t) = true ∧ ((cfgA ch).win (12 : Fin 13)).flush t = false ∧ (cfgA ch).fresh (12 : Fin 13) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false := by
  intro ch t; rw [freshF0_8 ch t, freshF0_9 ch t, freshF0_10 ch t, freshF0_11 ch t, freshF0_12 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t]; exact (fun ch t => (allFacts ch t).2.2.2.2.2.2.2.2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Fin 1) (t : Fin (cfgA ch).N), ¬P0_0 ch t → ¬P0_1 ch t → P0_2 ch t → P0_3 ch t →
    (k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))) ∧ ∀ (k0_hw1 : k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))), ((¬((Scalar.cmpi .ne (Scalar.extui (Scalar.cmpi .eq (BitVec.ofNat 32 ((crd ch t) 1).val) 0#32)) 0#32) = 1#1)) ∧ ((¬((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1)) ∧ ((k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1) ∧ ((¬(k0_cond7 (crd ch t) = 1#1)) ∧ (True)))))))) := fun ch t q0 q1 q2 q3 =>
  ⟨hchk0_k0_hw1 ch t, fun k0_hw1 => ⟨((allFacts ch t).2.2.2.2.2.2.2.2.2.2.2.2.2.2.2.2.1 q0 q1 q2 q3).1, ⟨((allFacts ch t).2.2.2.2.2.2.2.2.2.2.2.2.2.2.2.2.1 q0 q1 q2 q3).2.1, ⟨((allFacts ch t).2.2.2.2.2.2.2.2.2.2.2.2.2.2.2.2.1 q0 q1 q2 q3).2.2.1, ⟨((allFacts ch t).2.2.2.2.2.2.2.2.2.2.2.2.2.2.2.2.1 q0 q1 q2 q3).2.2.2.1, ⟨((allFacts ch t).2.2.2.2.2.2.2.2.2.2.2.2.2.2.2.2.1 q0 q1 q2 q3).2.2.2.2.1, ⟨((allFacts ch t).2.2.2.2.2.2.2.2.2.2.2.2.2.2.2.2.1 q0 q1 q2 q3).2.2.2.2.2.1, ⟨((allFacts ch t).2.2.2.2.2.2.2.2.2.2.2.2.2.2.2.2.1 q0 q1 q2 q3).2.2.2.2.2.2.1, trivial⟩⟩⟩⟩⟩⟩⟩⟩

theorem hypsR0_D : ∀ (ch : Fin 1) (t : Fin (cfgA ch).N), ¬P0_0 ch t → ¬P0_1 ch t → P0_2 ch t → P0_3 ch t →
    (k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))) ∧ ∀ (k0_hw1 : k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))), ((¬((Scalar.cmpi .ne (Scalar.extui (Scalar.cmpi .eq (BitVec.ofNat 32 ((crd ch t) 1).val) 0#32)) 0#32) = 1#1)) ∧ ((¬((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1)) ∧ ((k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1) ∧ ((¬(k0_cond7 (crd ch t) = 1#1)) ∧ (True)))))))) := hyps0_D

/-! Path D's hypotheses that the body's accesses or later hypotheses may cite by name (a check, a trip count),
    one theorem each, numbered by the hypothesis' place in the conjunction and proved off `hypsR0_D`; the step
    (`step0`, `step0_D`) cites these where it projects that conjunction, instead of spelling its spine again. -/
theorem hyp0_D_0 (ch : Fin 1) (t : Fin (cfgA ch).N) (q0 : ¬P0_0 ch t) (q1 : ¬P0_1 ch t) (q2 : P0_2 ch t) (q3 : P0_3 ch t) :
    k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos))) := (hypsR0_D ch t q0 q1 q2 q3).1

/-- At a point of path D: the idle table, the write-backs and which buffers hold junk (decided over the
    freshness tables `frTab`/`sfrTab`, restated over `Cfg.fresh`/`sfresh` by their agreement). -/
theorem sched0_D : ∀ (ch : Fin 1) (t : Fin (cfgA ch).N), ¬P0_0 ch t → ¬P0_1 ch t → P0_2 ch t → P0_3 ch t →
    (cfgA ch).idle (8 : Fin 13) ((cfgA ch).grid.coords t) = true ∧ ((cfgA ch).win (8 : Fin 13)).flush t = false ∧ (cfgA ch).fresh (8 : Fin 13) t.val = true ∧ (cfgA ch).idle (9 : Fin 13) ((cfgA ch).grid.coords t) = false ∧ ((cfgA ch).win (9 : Fin 13)).flush t = true ∧ (cfgA ch).fresh (9 : Fin 13) t.val = true ∧ (cfgA ch).idle (10 : Fin 13) ((cfgA ch).grid.coords t) = false ∧ ((cfgA ch).win (10 : Fin 13)).flush t = true ∧ (cfgA ch).fresh (10 : Fin 13) t.val = true ∧ (cfgA ch).idle (11 : Fin 13) ((cfgA ch).grid.coords t) = false ∧ ((cfgA ch).win (11 : Fin 13)).flush t = true ∧ (cfgA ch).fresh (11 : Fin 13) t.val = true ∧ (cfgA ch).idle (12 : Fin 13) ((cfgA ch).grid.coords t) = true ∧ ((cfgA ch).win (12 : Fin 13)).flush t = false ∧ (cfgA ch).fresh (12 : Fin 13) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false := by
  intro ch t; rw [freshF0_8 ch t, freshF0_9 ch t, freshF0_10 ch t, freshF0_11 ch t, freshF0_12 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t]; exact (fun ch t => (allFacts ch t).2.2.2.2.2.2.2.2.2.2.2.2.2.2.2.2.2.1) ch t

/-- At a point of path E, the path's hypotheses hold of the words the body reads there (the pinned tables read,
    a pinned window's word AS the word `pinBlk ch t (r.idx x)`; the checks among them cited from `ChecksAt`). -/
theorem hyps0_E : ∀ (ch : Fin 1) (t : Fin (cfgA ch).N), ¬P0_0 ch t → P0_1 ch t →
    (k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))) ∧ ∀ (k0_hw1 : k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))), ((¬((Scalar.cmpi .ne (Scalar.extui (Scalar.cmpi .eq (BitVec.ofNat 32 ((crd ch t) 1).val) 0#32)) 0#32) = 1#1)) ∧ (((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1) ∧ ((¬(k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1)) ∧ ((¬(k0_cond7 (crd ch t) = 1#1)) ∧ (True)))))))) := fun ch t q0 q1 =>
  ⟨hchk0_k0_hw1 ch t, fun k0_hw1 => ⟨((allFacts ch t).2.2.2.2.2.2.2.2.2.2.2.2.2.2.2.2.2.2.1 q0 q1).1, ⟨((allFacts ch t).2.2.2.2.2.2.2.2.2.2.2.2.2.2.2.2.2.2.1 q0 q1).2.1, ⟨((allFacts ch t).2.2.2.2.2.2.2.2.2.2.2.2.2.2.2.2.2.2.1 q0 q1).2.2.1, ⟨((allFacts ch t).2.2.2.2.2.2.2.2.2.2.2.2.2.2.2.2.2.2.1 q0 q1).2.2.2.1, ⟨((allFacts ch t).2.2.2.2.2.2.2.2.2.2.2.2.2.2.2.2.2.2.1 q0 q1).2.2.2.2.1, ⟨((allFacts ch t).2.2.2.2.2.2.2.2.2.2.2.2.2.2.2.2.2.2.1 q0 q1).2.2.2.2.2.1, ⟨((allFacts ch t).2.2.2.2.2.2.2.2.2.2.2.2.2.2.2.2.2.2.1 q0 q1).2.2.2.2.2.2.1, trivial⟩⟩⟩⟩⟩⟩⟩⟩

theorem hypsR0_E : ∀ (ch : Fin 1) (t : Fin (cfgA ch).N), ¬P0_0 ch t → P0_1 ch t →
    (k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))) ∧ ∀ (k0_hw1 : k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))), ((¬((Scalar.cmpi .ne (Scalar.extui (Scalar.cmpi .eq (BitVec.ofNat 32 ((crd ch t) 1).val) 0#32)) 0#32) = 1#1)) ∧ (((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1) ∧ ((¬(k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((¬(k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1)) ∧ ((¬(k0_cond7 (crd ch t) = 1#1)) ∧ (True)))))))) := hyps0_E

/-! Path E's hypotheses that the body's accesses or later hypotheses may cite by name (a check, a trip count),
    one theorem each, numbered by the hypothesis' place in the conjunction and proved off `hypsR0_E`; the step
    (`step0`, `step0_E`) cites these where it projects that conjunction, instead of spelling its spine again. -/
theorem hyp0_E_0 (ch : Fin 1) (t : Fin (cfgA ch).N) (q0 : ¬P0_0 ch t) (q1 : P0_1 ch t) :
    k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos))) := (hypsR0_E ch t q0 q1).1

/-- At a point of path E: the idle table, the write-backs and which buffers hold junk (decided over the
    freshness tables `frTab`/`sfrTab`, restated over `Cfg.fresh`/`sfresh` by their agreement). -/
theorem sched0_E : ∀ (ch : Fin 1) (t : Fin (cfgA ch).N), ¬P0_0 ch t → P0_1 ch t →
    (cfgA ch).idle (8 : Fin 13) ((cfgA ch).grid.coords t) = true ∧ ((cfgA ch).win (8 : Fin 13)).flush t = false ∧ (cfgA ch).fresh (8 : Fin 13) t.val = true ∧ (cfgA ch).idle (9 : Fin 13) ((cfgA ch).grid.coords t) = true ∧ ((cfgA ch).win (9 : Fin 13)).flush t = false ∧ (cfgA ch).fresh (9 : Fin 13) t.val = true ∧ (cfgA ch).idle (10 : Fin 13) ((cfgA ch).grid.coords t) = true ∧ ((cfgA ch).win (10 : Fin 13)).flush t = false ∧ (cfgA ch).fresh (10 : Fin 13) t.val = true ∧ (cfgA ch).idle (11 : Fin 13) ((cfgA ch).grid.coords t) = true ∧ ((cfgA ch).win (11 : Fin 13)).flush t = false ∧ (cfgA ch).fresh (11 : Fin 13) t.val = true ∧ (cfgA ch).idle (12 : Fin 13) ((cfgA ch).grid.coords t) = true ∧ ((cfgA ch).win (12 : Fin 13)).flush t = false ∧ (cfgA ch).fresh (12 : Fin 13) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false := by
  intro ch t; rw [freshF0_8 ch t, freshF0_9 ch t, freshF0_10 ch t, freshF0_11 ch t, freshF0_12 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t]; exact (fun ch t => (allFacts ch t).2.2.2.2.2.2.2.2.2.2.2.2.2.2.2.2.2.2.2.1) ch t

/-- At a point of path F, the path's hypotheses hold of the words the body reads there (the pinned tables read,
    a pinned window's word AS the word `pinBlk ch t (r.idx x)`; the checks among them cited from `ChecksAt`). -/
theorem hyps0_F : ∀ (ch : Fin 1) (t : Fin (cfgA ch).N), ¬P0_0 ch t → ¬P0_1 ch t → ¬P0_2 ch t → P0_3 ch t →
    (k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))) ∧ ∀ (k0_hw1 : k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))), ((¬((Scalar.cmpi .ne (Scalar.extui (Scalar.cmpi .eq (BitVec.ofNat 32 ((crd ch t) 1).val) 0#32)) 0#32) = 1#1)) ∧ ((¬((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1)) ∧ ((¬(k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1) ∧ ((k0_cond7 (crd ch t) = 1#1) ∧ (True)))))))) := fun ch t q0 q1 q2 q3 =>
  ⟨hchk0_k0_hw1 ch t, fun k0_hw1 => ⟨((allFacts ch t).2.2.2.2.2.2.2.2.2.2.2.2.2.2.2.2.2.2.2.2.1 q0 q1 q2 q3).1, ⟨((allFacts ch t).2.2.2.2.2.2.2.2.2.2.2.2.2.2.2.2.2.2.2.2.1 q0 q1 q2 q3).2.1, ⟨((allFacts ch t).2.2.2.2.2.2.2.2.2.2.2.2.2.2.2.2.2.2.2.2.1 q0 q1 q2 q3).2.2.1, ⟨((allFacts ch t).2.2.2.2.2.2.2.2.2.2.2.2.2.2.2.2.2.2.2.2.1 q0 q1 q2 q3).2.2.2.1, ⟨((allFacts ch t).2.2.2.2.2.2.2.2.2.2.2.2.2.2.2.2.2.2.2.2.1 q0 q1 q2 q3).2.2.2.2.1, ⟨((allFacts ch t).2.2.2.2.2.2.2.2.2.2.2.2.2.2.2.2.2.2.2.2.1 q0 q1 q2 q3).2.2.2.2.2.1, ⟨((allFacts ch t).2.2.2.2.2.2.2.2.2.2.2.2.2.2.2.2.2.2.2.2.1 q0 q1 q2 q3).2.2.2.2.2.2.1, trivial⟩⟩⟩⟩⟩⟩⟩⟩

theorem hypsR0_F : ∀ (ch : Fin 1) (t : Fin (cfgA ch).N), ¬P0_0 ch t → ¬P0_1 ch t → ¬P0_2 ch t → P0_3 ch t →
    (k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))) ∧ ∀ (k0_hw1 : k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos)))), ((¬((Scalar.cmpi .ne (Scalar.extui (Scalar.cmpi .eq (BitVec.ofNat 32 ((crd ch t) 1).val) 0#32)) 0#32) = 1#1)) ∧ ((¬((Scalar.cmpi .ne (Scalar.extui (Scalar.cmpi .eq (View.readAt (Elt Bits) (tbM0_0).view (Rect.unit (s := S72) (k0_off1 (crd ch t)) S1.size (k0_off1_inb (crd ch t))).toLoadRect (pinT_0 ch) (Shape.Idx.first (numel1_S1.symm ▸ Nat.one_pos))) (Scalar.muli (View.readAt (Elt Bits) (tbM0_1).view (Rect.unit (s := S72) (k0_off1 (crd ch t)) S1.size (k0_off1_inb (crd ch t))).toLoadRect (pinT_1 ch) (Shape.Idx.first (numel1_S1.symm ▸ Nat.one_pos))) 2#32))) 0#32) = 1#1)) ∧ ((¬(k0_cond3 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((¬(k0_cond4 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1)) ∧ ((k0_cond5 (View.readAt (Elt Bits) (tbM0_2).view (Rect.unit (s := S72) (k0_off1 (crd ch t)) S1.size (k0_off1_inb (crd ch t))).toLoadRect (pinT_2 ch) (Shape.Idx.first (numel1_S1.symm ▸ Nat.one_pos))) = 1#1) ∧ ((k0_cond6 (View.readAt (Elt Bits) (tbM0_0).view (Rect.unit (s := S72) (k0_off1 (crd ch t)) S1.size (k0_off1_inb (crd ch t))).toLoadRect (pinT_0 ch) (Shape.Idx.first (numel1_S1.symm ▸ Nat.one_pos))) = 1#1) ∧ ((k0_cond7 (crd ch t) = 1#1) ∧ (True)))))))) := hyps0_F

/-! Path F's hypotheses that the body's accesses or later hypotheses may cite by name (a check, a trip count),
    one theorem each, numbered by the hypothesis' place in the conjunction and proved off `hypsR0_F`; the step
    (`step0`, `step0_F`) cites these where it projects that conjunction, instead of spelling its spine again. -/
theorem hyp0_F_0 (ch : Fin 1) (t : Fin (cfgA ch).N) (q0 : ¬P0_0 ch t) (q1 : ¬P0_1 ch t) (q2 : ¬P0_2 ch t) (q3 : P0_3 ch t) :
    k0_chk1 (View.readAt (Elt Bits) (tbM0_0).view (Rect.unit (s := S72) (k0_off1 (crd ch t)) S1.size (k0_off1_inb (crd ch t))).toLoadRect (pinT_0 ch) (Shape.Idx.first (numel1_S1.symm ▸ Nat.one_pos))) (View.readAt (Elt Bits) (tbM0_2).view (Rect.unit (s := S72) (k0_off1 (crd ch t)) S1.size (k0_off1_inb (crd ch t))).toLoadRect (pinT_2 ch) (Shape.Idx.first (numel1_S1.symm ▸ Nat.one_pos))) := (hypsR0_F ch t q0 q1 q2 q3).1

/-- At a point of path F: the idle table, the write-backs and which buffers hold junk (decided over the
    freshness tables `frTab`/`sfrTab`, restated over `Cfg.fresh`/`sfresh` by their agreement). -/
theorem sched0_F : ∀ (ch : Fin 1) (t : Fin (cfgA ch).N), ¬P0_0 ch t → ¬P0_1 ch t → ¬P0_2 ch t → P0_3 ch t →
    (cfgA ch).idle (8 : Fin 13) ((cfgA ch).grid.coords t) = false ∧ ((cfgA ch).win (8 : Fin 13)).flush t = true ∧ (cfgA ch).fresh (8 : Fin 13) t.val = true ∧ (cfgA ch).idle (9 : Fin 13) ((cfgA ch).grid.coords t) = false ∧ ((cfgA ch).win (9 : Fin 13)).flush t = true ∧ (cfgA ch).fresh (9 : Fin 13) t.val = true ∧ (cfgA ch).idle (10 : Fin 13) ((cfgA ch).grid.coords t) = false ∧ ((cfgA ch).win (10 : Fin 13)).flush t = true ∧ (cfgA ch).fresh (10 : Fin 13) t.val = true ∧ (cfgA ch).idle (11 : Fin 13) ((cfgA ch).grid.coords t) = false ∧ ((cfgA ch).win (11 : Fin 13)).flush t = true ∧ (cfgA ch).fresh (11 : Fin 13) t.val = true ∧ (cfgA ch).idle (12 : Fin 13) ((cfgA ch).grid.coords t) = false ∧ ((cfgA ch).win (12 : Fin 13)).flush t = true ∧ (cfgA ch).fresh (12 : Fin 13) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false := by
  intro ch t; rw [freshF0_8 ch t, freshF0_9 ch t, freshF0_10 ch t, freshF0_11 ch t, freshF0_12 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t]; exact (fun ch t => (allFacts ch t).2.2.2.2.2.2.2.2.2.2.2.2.2.2.2.2.2.2.2.2.2) ch t

end Cert.Kernel.Frame

end
-- ==== Proof.Frame.Steps.lean ====
/- What the outputs and scratches of the bit-exact kernel hold after each point. -/
module

public import proofs.«01_k».proof.Proof.Frame.Hyps

@[expose] public section

set_option maxRecDepth 16384
set_option Elab.async false

noncomputable section

namespace Cert.Kernel.Frame

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's propositions at the bit-exact values. -/
local notation "𝕄" => MT nD τ sig Unit (Elt Bits) ℕ (UR sig nD τ) ℕ

variable (ch : Fin 1)
variable (m : (ℓ : Loc nD τ sig) → Buf (Elt Bits) ℓ) (ρ : Dev nD → PrngReg)

/-! ## What the outputs and scratches hold after each point -/

/-- ONE STEP of the trajectory: what the outputs' current buffers and the scratches hold after the body at point `t`
    (output 8, output 9, output 10, output 11, output 12, scratch 0, scratch 1, scratch 2, scratch 3, scratch 4), from what they held before (`prev`): the path the decisions select at `t`, its
    run's contents; an output the path leaves idle keeps what it held (junk — `default`, named by nothing — where fresh). -/
noncomputable def step0 (c : Dev nD) (t : Fin (cfgA ch).N) (prev : (S8192x128.Idx → Elt Bits .bf16) × (S1024x128.Idx → Elt Bits .bf16) × (S1024x128.Idx → Elt Bits .bf16) × (S1x8x1024.Idx → Elt Bits .f32) × (S1x8192x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4)) : (S8192x128.Idx → Elt Bits .bf16) × (S1024x128.Idx → Elt Bits .bf16) × (S1024x128.Idx → Elt Bits .bf16) × (S1x8x1024.Idx → Elt Bits .f32) × (S1x8192x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) :=
  if q0 : P0_0 ch t then
    ((if (cfgA ch).fresh (8 : Fin 13) t.val then default else prev.1), (if (cfgA ch).fresh (9 : Fin 13) t.val then default else prev.2.1), (if (cfgA ch).fresh (10 : Fin 13) t.val then default else prev.2.2.1), (if (cfgA ch).fresh (11 : Fin 13) t.val then default else prev.2.2.2.1), (if (cfgA ch).fresh (12 : Fin 13) t.val then default else prev.2.2.2.2.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1 ((hypsR0_A ch t q0).2 (hyp0_A_0 ch t q0)).2.2.2.2.1 ((hypsR0_A ch t q0).2 (hyp0_A_0 ch t q0)).2.2.2.2.2.1 ((hypsR0_A ch t q0).2 (hyp0_A_0 ch t q0)).2.2.2.2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1 ((hypsR0_A ch t q0).2 (hyp0_A_0 ch t q0)).2.2.2.2.1 ((hypsR0_A ch t q0).2 (hyp0_A_0 ch t q0)).2.2.2.2.2.1 ((hypsR0_A ch t q0).2 (hyp0_A_0 ch t q0)).2.2.2.2.2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1 ((hypsR0_A ch t q0).2 (hyp0_A_0 ch t q0)).2.2.2.2.1 ((hypsR0_A ch t q0).2 (hyp0_A_0 ch t q0)).2.2.2.2.2.1 ((hypsR0_A ch t q0).2 (hyp0_A_0 ch t q0)).2.2.2.2.2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1 ((hypsR0_A ch t q0).2 (hyp0_A_0 ch t q0)).2.2.2.2.1 ((hypsR0_A ch t q0).2 (hyp0_A_0 ch t q0)).2.2.2.2.2.1 ((hypsR0_A ch t q0).2 (hyp0_A_0 ch t q0)).2.2.2.2.2.2.1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1 ((hypsR0_A ch t q0).2 (hyp0_A_0 ch t q0)).2.2.2.2.1 ((hypsR0_A ch t q0).2 (hyp0_A_0 ch t q0)).2.2.2.2.2.1 ((hypsR0_A ch t q0).2 (hyp0_A_0 ch t q0)).2.2.2.2.2.2.1).2.2.2.2.1)
  else
    if q1 : P0_1 ch t then
      ((if (cfgA ch).fresh (8 : Fin 13) t.val then default else prev.1), (if (cfgA ch).fresh (9 : Fin 13) t.val then default else prev.2.1), (if (cfgA ch).fresh (10 : Fin 13) t.val then default else prev.2.2.1), (if (cfgA ch).fresh (11 : Fin 13) t.val then default else prev.2.2.2.1), (if (cfgA ch).fresh (12 : Fin 13) t.val then default else prev.2.2.2.2.1), (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.2.2.2 (hyp0_E_0 ch t q0 q1) ((hypsR0_E ch t q0 q1).2 (hyp0_E_0 ch t q0 q1)).1 ((hypsR0_E ch t q0 q1).2 (hyp0_E_0 ch t q0 q1)).2.1 ((hypsR0_E ch t q0 q1).2 (hyp0_E_0 ch t q0 q1)).2.2.1 ((hypsR0_E ch t q0 q1).2 (hyp0_E_0 ch t q0 q1)).2.2.2.1 ((hypsR0_E ch t q0 q1).2 (hyp0_E_0 ch t q0 q1)).2.2.2.2.1 ((hypsR0_E ch t q0 q1).2 (hyp0_E_0 ch t q0 q1)).2.2.2.2.2.1 ((hypsR0_E ch t q0 q1).2 (hyp0_E_0 ch t q0 q1)).2.2.2.2.2.2.1).1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.2.2.2 (hyp0_E_0 ch t q0 q1) ((hypsR0_E ch t q0 q1).2 (hyp0_E_0 ch t q0 q1)).1 ((hypsR0_E ch t q0 q1).2 (hyp0_E_0 ch t q0 q1)).2.1 ((hypsR0_E ch t q0 q1).2 (hyp0_E_0 ch t q0 q1)).2.2.1 ((hypsR0_E ch t q0 q1).2 (hyp0_E_0 ch t q0 q1)).2.2.2.1 ((hypsR0_E ch t q0 q1).2 (hyp0_E_0 ch t q0 q1)).2.2.2.2.1 ((hypsR0_E ch t q0 q1).2 (hyp0_E_0 ch t q0 q1)).2.2.2.2.2.1 ((hypsR0_E ch t q0 q1).2 (hyp0_E_0 ch t q0 q1)).2.2.2.2.2.2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.2.2.2 (hyp0_E_0 ch t q0 q1) ((hypsR0_E ch t q0 q1).2 (hyp0_E_0 ch t q0 q1)).1 ((hypsR0_E ch t q0 q1).2 (hyp0_E_0 ch t q0 q1)).2.1 ((hypsR0_E ch t q0 q1).2 (hyp0_E_0 ch t q0 q1)).2.2.1 ((hypsR0_E ch t q0 q1).2 (hyp0_E_0 ch t q0 q1)).2.2.2.1 ((hypsR0_E ch t q0 q1).2 (hyp0_E_0 ch t q0 q1)).2.2.2.2.1 ((hypsR0_E ch t q0 q1).2 (hyp0_E_0 ch t q0 q1)).2.2.2.2.2.1 ((hypsR0_E ch t q0 q1).2 (hyp0_E_0 ch t q0 q1)).2.2.2.2.2.2.1).2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.2.2.2 (hyp0_E_0 ch t q0 q1) ((hypsR0_E ch t q0 q1).2 (hyp0_E_0 ch t q0 q1)).1 ((hypsR0_E ch t q0 q1).2 (hyp0_E_0 ch t q0 q1)).2.1 ((hypsR0_E ch t q0 q1).2 (hyp0_E_0 ch t q0 q1)).2.2.1 ((hypsR0_E ch t q0 q1).2 (hyp0_E_0 ch t q0 q1)).2.2.2.1 ((hypsR0_E ch t q0 q1).2 (hyp0_E_0 ch t q0 q1)).2.2.2.2.1 ((hypsR0_E ch t q0 q1).2 (hyp0_E_0 ch t q0 q1)).2.2.2.2.2.1 ((hypsR0_E ch t q0 q1).2 (hyp0_E_0 ch t q0 q1)).2.2.2.2.2.2.1).2.2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.2.2.2 (hyp0_E_0 ch t q0 q1) ((hypsR0_E ch t q0 q1).2 (hyp0_E_0 ch t q0 q1)).1 ((hypsR0_E ch t q0 q1).2 (hyp0_E_0 ch t q0 q1)).2.1 ((hypsR0_E ch t q0 q1).2 (hyp0_E_0 ch t q0 q1)).2.2.1 ((hypsR0_E ch t q0 q1).2 (hyp0_E_0 ch t q0 q1)).2.2.2.1 ((hypsR0_E ch t q0 q1).2 (hyp0_E_0 ch t q0 q1)).2.2.2.2.1 ((hypsR0_E ch t q0 q1).2 (hyp0_E_0 ch t q0 q1)).2.2.2.2.2.1 ((hypsR0_E ch t q0 q1).2 (hyp0_E_0 ch t q0 q1)).2.2.2.2.2.2.1).2.2.2.2.1)
    else
      if q2 : P0_2 ch t then
        if q3 : P0_3 ch t then
          ((if (cfgA ch).fresh (8 : Fin 13) t.val then default else prev.1), out0_D_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1, out0_D_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1, out0_D_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1, (if (cfgA ch).fresh (12 : Fin 13) t.val then default else prev.2.2.2.2.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1).2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1).2.2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1).2.2.2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1).2.2.2.2.2.2.2.1)
        else
          ((if (cfgA ch).fresh (8 : Fin 13) t.val then default else prev.1), (if (cfgA ch).fresh (9 : Fin 13) t.val then default else prev.2.1), (if (cfgA ch).fresh (10 : Fin 13) t.val then default else prev.2.2.1), (if (cfgA ch).fresh (11 : Fin 13) t.val then default else prev.2.2.2.1), (if (cfgA ch).fresh (12 : Fin 13) t.val then default else prev.2.2.2.2.1), (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1 ((hypsR0_C ch t q0 q1 q2 q3).2 (hyp0_C_0 ch t q0 q1 q2 q3)).2.2.2.2.1 ((hypsR0_C ch t q0 q1 q2 q3).2 (hyp0_C_0 ch t q0 q1 q2 q3)).2.2.2.2.2.1 ((hypsR0_C ch t q0 q1 q2 q3).2 (hyp0_C_0 ch t q0 q1 q2 q3)).2.2.2.2.2.2.1).1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1 ((hypsR0_C ch t q0 q1 q2 q3).2 (hyp0_C_0 ch t q0 q1 q2 q3)).2.2.2.2.1 ((hypsR0_C ch t q0 q1 q2 q3).2 (hyp0_C_0 ch t q0 q1 q2 q3)).2.2.2.2.2.1 ((hypsR0_C ch t q0 q1 q2 q3).2 (hyp0_C_0 ch t q0 q1 q2 q3)).2.2.2.2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1 ((hypsR0_C ch t q0 q1 q2 q3).2 (hyp0_C_0 ch t q0 q1 q2 q3)).2.2.2.2.1 ((hypsR0_C ch t q0 q1 q2 q3).2 (hyp0_C_0 ch t q0 q1 q2 q3)).2.2.2.2.2.1 ((hypsR0_C ch t q0 q1 q2 q3).2 (hyp0_C_0 ch t q0 q1 q2 q3)).2.2.2.2.2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1 ((hypsR0_C ch t q0 q1 q2 q3).2 (hyp0_C_0 ch t q0 q1 q2 q3)).2.2.2.2.1 ((hypsR0_C ch t q0 q1 q2 q3).2 (hyp0_C_0 ch t q0 q1 q2 q3)).2.2.2.2.2.1 ((hypsR0_C ch t q0 q1 q2 q3).2 (hyp0_C_0 ch t q0 q1 q2 q3)).2.2.2.2.2.2.1).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1 ((hypsR0_C ch t q0 q1 q2 q3).2 (hyp0_C_0 ch t q0 q1 q2 q3)).2.2.2.2.1 ((hypsR0_C ch t q0 q1 q2 q3).2 (hyp0_C_0 ch t q0 q1 q2 q3)).2.2.2.2.2.1 ((hypsR0_C ch t q0 q1 q2 q3).2 (hyp0_C_0 ch t q0 q1 q2 q3)).2.2.2.2.2.2.1).2.2.2.2.1)
      else
        if q3 : P0_3 ch t then
          (out0_F_8 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1, out0_F_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1, out0_F_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1, out0_F_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1, out0_F_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1).2.2.2.2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1).2.2.2.2.2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1).2.2.2.2.2.2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1).2.2.2.2.2.2.2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1).2.2.2.2.2.2.2.2.2.1)
        else
          ((if (cfgA ch).fresh (8 : Fin 13) t.val then default else prev.1), (if (cfgA ch).fresh (9 : Fin 13) t.val then default else prev.2.1), (if (cfgA ch).fresh (10 : Fin 13) t.val then default else prev.2.2.1), (if (cfgA ch).fresh (11 : Fin 13) t.val then default else prev.2.2.2.1), (if (cfgA ch).fresh (12 : Fin 13) t.val then default else prev.2.2.2.2.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_B_0 ch t q0 q1 q2 q3) ((hypsR0_B ch t q0 q1 q2 q3).2 (hyp0_B_0 ch t q0 q1 q2 q3)).1 ((hypsR0_B ch t q0 q1 q2 q3).2 (hyp0_B_0 ch t q0 q1 q2 q3)).2.1 ((hypsR0_B ch t q0 q1 q2 q3).2 (hyp0_B_0 ch t q0 q1 q2 q3)).2.2.1 ((hypsR0_B ch t q0 q1 q2 q3).2 (hyp0_B_0 ch t q0 q1 q2 q3)).2.2.2.1 ((hypsR0_B ch t q0 q1 q2 q3).2 (hyp0_B_0 ch t q0 q1 q2 q3)).2.2.2.2.1 ((hypsR0_B ch t q0 q1 q2 q3).2 (hyp0_B_0 ch t q0 q1 q2 q3)).2.2.2.2.2.1 ((hypsR0_B ch t q0 q1 q2 q3).2 (hyp0_B_0 ch t q0 q1 q2 q3)).2.2.2.2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_B_0 ch t q0 q1 q2 q3) ((hypsR0_B ch t q0 q1 q2 q3).2 (hyp0_B_0 ch t q0 q1 q2 q3)).1 ((hypsR0_B ch t q0 q1 q2 q3).2 (hyp0_B_0 ch t q0 q1 q2 q3)).2.1 ((hypsR0_B ch t q0 q1 q2 q3).2 (hyp0_B_0 ch t q0 q1 q2 q3)).2.2.1 ((hypsR0_B ch t q0 q1 q2 q3).2 (hyp0_B_0 ch t q0 q1 q2 q3)).2.2.2.1 ((hypsR0_B ch t q0 q1 q2 q3).2 (hyp0_B_0 ch t q0 q1 q2 q3)).2.2.2.2.1 ((hypsR0_B ch t q0 q1 q2 q3).2 (hyp0_B_0 ch t q0 q1 q2 q3)).2.2.2.2.2.1 ((hypsR0_B ch t q0 q1 q2 q3).2 (hyp0_B_0 ch t q0 q1 q2 q3)).2.2.2.2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_B_0 ch t q0 q1 q2 q3) ((hypsR0_B ch t q0 q1 q2 q3).2 (hyp0_B_0 ch t q0 q1 q2 q3)).1 ((hypsR0_B ch t q0 q1 q2 q3).2 (hyp0_B_0 ch t q0 q1 q2 q3)).2.1 ((hypsR0_B ch t q0 q1 q2 q3).2 (hyp0_B_0 ch t q0 q1 q2 q3)).2.2.1 ((hypsR0_B ch t q0 q1 q2 q3).2 (hyp0_B_0 ch t q0 q1 q2 q3)).2.2.2.1 ((hypsR0_B ch t q0 q1 q2 q3).2 (hyp0_B_0 ch t q0 q1 q2 q3)).2.2.2.2.1 ((hypsR0_B ch t q0 q1 q2 q3).2 (hyp0_B_0 ch t q0 q1 q2 q3)).2.2.2.2.2.1 ((hypsR0_B ch t q0 q1 q2 q3).2 (hyp0_B_0 ch t q0 q1 q2 q3)).2.2.2.2.2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_B_0 ch t q0 q1 q2 q3) ((hypsR0_B ch t q0 q1 q2 q3).2 (hyp0_B_0 ch t q0 q1 q2 q3)).1 ((hypsR0_B ch t q0 q1 q2 q3).2 (hyp0_B_0 ch t q0 q1 q2 q3)).2.1 ((hypsR0_B ch t q0 q1 q2 q3).2 (hyp0_B_0 ch t q0 q1 q2 q3)).2.2.1 ((hypsR0_B ch t q0 q1 q2 q3).2 (hyp0_B_0 ch t q0 q1 q2 q3)).2.2.2.1 ((hypsR0_B ch t q0 q1 q2 q3).2 (hyp0_B_0 ch t q0 q1 q2 q3)).2.2.2.2.1 ((hypsR0_B ch t q0 q1 q2 q3).2 (hyp0_B_0 ch t q0 q1 q2 q3)).2.2.2.2.2.1 ((hypsR0_B ch t q0 q1 q2 q3).2 (hyp0_B_0 ch t q0 q1 q2 q3)).2.2.2.2.2.2.1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_B_0 ch t q0 q1 q2 q3) ((hypsR0_B ch t q0 q1 q2 q3).2 (hyp0_B_0 ch t q0 q1 q2 q3)).1 ((hypsR0_B ch t q0 q1 q2 q3).2 (hyp0_B_0 ch t q0 q1 q2 q3)).2.1 ((hypsR0_B ch t q0 q1 q2 q3).2 (hyp0_B_0 ch t q0 q1 q2 q3)).2.2.1 ((hypsR0_B ch t q0 q1 q2 q3).2 (hyp0_B_0 ch t q0 q1 q2 q3)).2.2.2.1 ((hypsR0_B ch t q0 q1 q2 q3).2 (hyp0_B_0 ch t q0 q1 q2 q3)).2.2.2.2.1 ((hypsR0_B ch t q0 q1 q2 q3).2 (hyp0_B_0 ch t q0 q1 q2 q3)).2.2.2.2.2.1 ((hypsR0_B ch t q0 q1 q2 q3).2 (hyp0_B_0 ch t q0 q1 q2 q3)).2.2.2.2.2.2.1).2.2.2.2.1)

/-- THE TRAJECTORY: after position `n`. -/
noncomputable def traj0 (c : Dev nD) : (n : ℕ) → n < (cfgA ch).N → (S8192x128.Idx → Elt Bits .bf16) × (S1024x128.Idx → Elt Bits .bf16) × (S1024x128.Idx → Elt Bits .bf16) × (S1x8x1024.Idx → Elt Bits .f32) × (S1x8192x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4)
  | 0, h => step0 ch m ρ c ⟨0, h⟩ (default, default, default, default, default, default, default, default, default, default)
  | n + 1, h => step0 ch m ρ c ⟨n + 1, h⟩ (traj0 c n (Nat.lt_of_succ_lt h))

/-- What they held BEFORE point `t` (junk before the first). -/
noncomputable def prev0 (c : Dev nD) (t : Fin (cfgA ch).N) : (S8192x128.Idx → Elt Bits .bf16) × (S1024x128.Idx → Elt Bits .bf16) × (S1024x128.Idx → Elt Bits .bf16) × (S1x8x1024.Idx → Elt Bits .f32) × (S1x8192x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) :=
  if h : t.val = 0 then (default, default, default, default, default, default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S8192x128.Idx → Elt Bits .bf16) × (S1024x128.Idx → Elt Bits .bf16) × (S1024x128.Idx → Elt Bits .bf16) × (S1x8x1024.Idx → Elt Bits .f32) × (S1x8192x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4)) (q0 : P0_0 ch t) :
    step0 ch m ρ c t prev = ((if (cfgA ch).fresh (8 : Fin 13) t.val then default else prev.1), (if (cfgA ch).fresh (9 : Fin 13) t.val then default else prev.2.1), (if (cfgA ch).fresh (10 : Fin 13) t.val then default else prev.2.2.1), (if (cfgA ch).fresh (11 : Fin 13) t.val then default else prev.2.2.2.1), (if (cfgA ch).fresh (12 : Fin 13) t.val then default else prev.2.2.2.2.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1 ((hypsR0_A ch t q0).2 (hyp0_A_0 ch t q0)).2.2.2.2.1 ((hypsR0_A ch t q0).2 (hyp0_A_0 ch t q0)).2.2.2.2.2.1 ((hypsR0_A ch t q0).2 (hyp0_A_0 ch t q0)).2.2.2.2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1 ((hypsR0_A ch t q0).2 (hyp0_A_0 ch t q0)).2.2.2.2.1 ((hypsR0_A ch t q0).2 (hyp0_A_0 ch t q0)).2.2.2.2.2.1 ((hypsR0_A ch t q0).2 (hyp0_A_0 ch t q0)).2.2.2.2.2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1 ((hypsR0_A ch t q0).2 (hyp0_A_0 ch t q0)).2.2.2.2.1 ((hypsR0_A ch t q0).2 (hyp0_A_0 ch t q0)).2.2.2.2.2.1 ((hypsR0_A ch t q0).2 (hyp0_A_0 ch t q0)).2.2.2.2.2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1 ((hypsR0_A ch t q0).2 (hyp0_A_0 ch t q0)).2.2.2.2.1 ((hypsR0_A ch t q0).2 (hyp0_A_0 ch t q0)).2.2.2.2.2.1 ((hypsR0_A ch t q0).2 (hyp0_A_0 ch t q0)).2.2.2.2.2.2.1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1 ((hypsR0_A ch t q0).2 (hyp0_A_0 ch t q0)).2.2.2.2.1 ((hypsR0_A ch t q0).2 (hyp0_A_0 ch t q0)).2.2.2.2.2.1 ((hypsR0_A ch t q0).2 (hyp0_A_0 ch t q0)).2.2.2.2.2.2.1).2.2.2.2.1) := by
  unfold step0; simp only [dif_pos q0]

/-- `step0` at a point of path B. -/
theorem step0_B (c : Dev nD) (t : Fin (cfgA ch).N) (prev : (S8192x128.Idx → Elt Bits .bf16) × (S1024x128.Idx → Elt Bits .bf16) × (S1024x128.Idx → Elt Bits .bf16) × (S1x8x1024.Idx → Elt Bits .f32) × (S1x8192x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4)) (q0 : ¬P0_0 ch t) (q1 : ¬P0_1 ch t) (q2 : ¬P0_2 ch t) (q3 : ¬P0_3 ch t) :
    step0 ch m ρ c t prev = ((if (cfgA ch).fresh (8 : Fin 13) t.val then default else prev.1), (if (cfgA ch).fresh (9 : Fin 13) t.val then default else prev.2.1), (if (cfgA ch).fresh (10 : Fin 13) t.val then default else prev.2.2.1), (if (cfgA ch).fresh (11 : Fin 13) t.val then default else prev.2.2.2.1), (if (cfgA ch).fresh (12 : Fin 13) t.val then default else prev.2.2.2.2.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_B_0 ch t q0 q1 q2 q3) ((hypsR0_B ch t q0 q1 q2 q3).2 (hyp0_B_0 ch t q0 q1 q2 q3)).1 ((hypsR0_B ch t q0 q1 q2 q3).2 (hyp0_B_0 ch t q0 q1 q2 q3)).2.1 ((hypsR0_B ch t q0 q1 q2 q3).2 (hyp0_B_0 ch t q0 q1 q2 q3)).2.2.1 ((hypsR0_B ch t q0 q1 q2 q3).2 (hyp0_B_0 ch t q0 q1 q2 q3)).2.2.2.1 ((hypsR0_B ch t q0 q1 q2 q3).2 (hyp0_B_0 ch t q0 q1 q2 q3)).2.2.2.2.1 ((hypsR0_B ch t q0 q1 q2 q3).2 (hyp0_B_0 ch t q0 q1 q2 q3)).2.2.2.2.2.1 ((hypsR0_B ch t q0 q1 q2 q3).2 (hyp0_B_0 ch t q0 q1 q2 q3)).2.2.2.2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_B_0 ch t q0 q1 q2 q3) ((hypsR0_B ch t q0 q1 q2 q3).2 (hyp0_B_0 ch t q0 q1 q2 q3)).1 ((hypsR0_B ch t q0 q1 q2 q3).2 (hyp0_B_0 ch t q0 q1 q2 q3)).2.1 ((hypsR0_B ch t q0 q1 q2 q3).2 (hyp0_B_0 ch t q0 q1 q2 q3)).2.2.1 ((hypsR0_B ch t q0 q1 q2 q3).2 (hyp0_B_0 ch t q0 q1 q2 q3)).2.2.2.1 ((hypsR0_B ch t q0 q1 q2 q3).2 (hyp0_B_0 ch t q0 q1 q2 q3)).2.2.2.2.1 ((hypsR0_B ch t q0 q1 q2 q3).2 (hyp0_B_0 ch t q0 q1 q2 q3)).2.2.2.2.2.1 ((hypsR0_B ch t q0 q1 q2 q3).2 (hyp0_B_0 ch t q0 q1 q2 q3)).2.2.2.2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_B_0 ch t q0 q1 q2 q3) ((hypsR0_B ch t q0 q1 q2 q3).2 (hyp0_B_0 ch t q0 q1 q2 q3)).1 ((hypsR0_B ch t q0 q1 q2 q3).2 (hyp0_B_0 ch t q0 q1 q2 q3)).2.1 ((hypsR0_B ch t q0 q1 q2 q3).2 (hyp0_B_0 ch t q0 q1 q2 q3)).2.2.1 ((hypsR0_B ch t q0 q1 q2 q3).2 (hyp0_B_0 ch t q0 q1 q2 q3)).2.2.2.1 ((hypsR0_B ch t q0 q1 q2 q3).2 (hyp0_B_0 ch t q0 q1 q2 q3)).2.2.2.2.1 ((hypsR0_B ch t q0 q1 q2 q3).2 (hyp0_B_0 ch t q0 q1 q2 q3)).2.2.2.2.2.1 ((hypsR0_B ch t q0 q1 q2 q3).2 (hyp0_B_0 ch t q0 q1 q2 q3)).2.2.2.2.2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_B_0 ch t q0 q1 q2 q3) ((hypsR0_B ch t q0 q1 q2 q3).2 (hyp0_B_0 ch t q0 q1 q2 q3)).1 ((hypsR0_B ch t q0 q1 q2 q3).2 (hyp0_B_0 ch t q0 q1 q2 q3)).2.1 ((hypsR0_B ch t q0 q1 q2 q3).2 (hyp0_B_0 ch t q0 q1 q2 q3)).2.2.1 ((hypsR0_B ch t q0 q1 q2 q3).2 (hyp0_B_0 ch t q0 q1 q2 q3)).2.2.2.1 ((hypsR0_B ch t q0 q1 q2 q3).2 (hyp0_B_0 ch t q0 q1 q2 q3)).2.2.2.2.1 ((hypsR0_B ch t q0 q1 q2 q3).2 (hyp0_B_0 ch t q0 q1 q2 q3)).2.2.2.2.2.1 ((hypsR0_B ch t q0 q1 q2 q3).2 (hyp0_B_0 ch t q0 q1 q2 q3)).2.2.2.2.2.2.1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_B_0 ch t q0 q1 q2 q3) ((hypsR0_B ch t q0 q1 q2 q3).2 (hyp0_B_0 ch t q0 q1 q2 q3)).1 ((hypsR0_B ch t q0 q1 q2 q3).2 (hyp0_B_0 ch t q0 q1 q2 q3)).2.1 ((hypsR0_B ch t q0 q1 q2 q3).2 (hyp0_B_0 ch t q0 q1 q2 q3)).2.2.1 ((hypsR0_B ch t q0 q1 q2 q3).2 (hyp0_B_0 ch t q0 q1 q2 q3)).2.2.2.1 ((hypsR0_B ch t q0 q1 q2 q3).2 (hyp0_B_0 ch t q0 q1 q2 q3)).2.2.2.2.1 ((hypsR0_B ch t q0 q1 q2 q3).2 (hyp0_B_0 ch t q0 q1 q2 q3)).2.2.2.2.2.1 ((hypsR0_B ch t q0 q1 q2 q3).2 (hyp0_B_0 ch t q0 q1 q2 q3)).2.2.2.2.2.2.1).2.2.2.2.1) := by
  unfold step0; simp only [dif_neg q0, dif_neg q1, dif_neg q2, dif_neg q3]

/-- `step0` at a point of path C. -/
theorem step0_C (c : Dev nD) (t : Fin (cfgA ch).N) (prev : (S8192x128.Idx → Elt Bits .bf16) × (S1024x128.Idx → Elt Bits .bf16) × (S1024x128.Idx → Elt Bits .bf16) × (S1x8x1024.Idx → Elt Bits .f32) × (S1x8192x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4)) (q0 : ¬P0_0 ch t) (q1 : ¬P0_1 ch t) (q2 : P0_2 ch t) (q3 : ¬P0_3 ch t) :
    step0 ch m ρ c t prev = ((if (cfgA ch).fresh (8 : Fin 13) t.val then default else prev.1), (if (cfgA ch).fresh (9 : Fin 13) t.val then default else prev.2.1), (if (cfgA ch).fresh (10 : Fin 13) t.val then default else prev.2.2.1), (if (cfgA ch).fresh (11 : Fin 13) t.val then default else prev.2.2.2.1), (if (cfgA ch).fresh (12 : Fin 13) t.val then default else prev.2.2.2.2.1), (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1 ((hypsR0_C ch t q0 q1 q2 q3).2 (hyp0_C_0 ch t q0 q1 q2 q3)).2.2.2.2.1 ((hypsR0_C ch t q0 q1 q2 q3).2 (hyp0_C_0 ch t q0 q1 q2 q3)).2.2.2.2.2.1 ((hypsR0_C ch t q0 q1 q2 q3).2 (hyp0_C_0 ch t q0 q1 q2 q3)).2.2.2.2.2.2.1).1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1 ((hypsR0_C ch t q0 q1 q2 q3).2 (hyp0_C_0 ch t q0 q1 q2 q3)).2.2.2.2.1 ((hypsR0_C ch t q0 q1 q2 q3).2 (hyp0_C_0 ch t q0 q1 q2 q3)).2.2.2.2.2.1 ((hypsR0_C ch t q0 q1 q2 q3).2 (hyp0_C_0 ch t q0 q1 q2 q3)).2.2.2.2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1 ((hypsR0_C ch t q0 q1 q2 q3).2 (hyp0_C_0 ch t q0 q1 q2 q3)).2.2.2.2.1 ((hypsR0_C ch t q0 q1 q2 q3).2 (hyp0_C_0 ch t q0 q1 q2 q3)).2.2.2.2.2.1 ((hypsR0_C ch t q0 q1 q2 q3).2 (hyp0_C_0 ch t q0 q1 q2 q3)).2.2.2.2.2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1 ((hypsR0_C ch t q0 q1 q2 q3).2 (hyp0_C_0 ch t q0 q1 q2 q3)).2.2.2.2.1 ((hypsR0_C ch t q0 q1 q2 q3).2 (hyp0_C_0 ch t q0 q1 q2 q3)).2.2.2.2.2.1 ((hypsR0_C ch t q0 q1 q2 q3).2 (hyp0_C_0 ch t q0 q1 q2 q3)).2.2.2.2.2.2.1).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1 ((hypsR0_C ch t q0 q1 q2 q3).2 (hyp0_C_0 ch t q0 q1 q2 q3)).2.2.2.2.1 ((hypsR0_C ch t q0 q1 q2 q3).2 (hyp0_C_0 ch t q0 q1 q2 q3)).2.2.2.2.2.1 ((hypsR0_C ch t q0 q1 q2 q3).2 (hyp0_C_0 ch t q0 q1 q2 q3)).2.2.2.2.2.2.1).2.2.2.2.1) := by
  unfold step0; simp only [dif_neg q0, dif_neg q1, dif_pos q2, dif_neg q3]

/-- `step0` at a point of path D. -/
theorem step0_D (c : Dev nD) (t : Fin (cfgA ch).N) (prev : (S8192x128.Idx → Elt Bits .bf16) × (S1024x128.Idx → Elt Bits .bf16) × (S1024x128.Idx → Elt Bits .bf16) × (S1x8x1024.Idx → Elt Bits .f32) × (S1x8192x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4)) (q0 : ¬P0_0 ch t) (q1 : ¬P0_1 ch t) (q2 : P0_2 ch t) (q3 : P0_3 ch t) :
    step0 ch m ρ c t prev = ((if (cfgA ch).fresh (8 : Fin 13) t.val then default else prev.1), out0_D_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1, out0_D_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1, out0_D_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1, (if (cfgA ch).fresh (12 : Fin 13) t.val then default else prev.2.2.2.2.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1).2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1).2.2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1).2.2.2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_D_0 ch t q0 q1 q2 q3) ((hypsR0_D ch t q0 q1 q2 q3).2 (hyp0_D_0 ch t q0 q1 q2 q3)).1 ((hypsR0_D ch t q0 q1 q2 q3).2 (hyp0_D_0 ch t q0 q1 q2 q3)).2.1 ((hypsR0_D ch t q0 q1 q2 q3).2 (hyp0_D_0 ch t q0 q1 q2 q3)).2.2.1 ((hypsR0_D ch t q0 q1 q2 q3).2 (hyp0_D_0 ch t q0 q1 q2 q3)).2.2.2.1 ((hypsR0_D ch t q0 q1 q2 q3).2 (hyp0_D_0 ch t q0 q1 q2 q3)).2.2.2.2.1 ((hypsR0_D ch t q0 q1 q2 q3).2 (hyp0_D_0 ch t q0 q1 q2 q3)).2.2.2.2.2.1 ((hypsR0_D ch t q0 q1 q2 q3).2 (hyp0_D_0 ch t q0 q1 q2 q3)).2.2.2.2.2.2.1).2.2.2.2.2.2.2.1) := by
  unfold step0; simp only [dif_neg q0, dif_neg q1, dif_pos q2, dif_pos q3]

/-- `step0` at a point of path E. -/
theorem step0_E (c : Dev nD) (t : Fin (cfgA ch).N) (prev : (S8192x128.Idx → Elt Bits .bf16) × (S1024x128.Idx → Elt Bits .bf16) × (S1024x128.Idx → Elt Bits .bf16) × (S1x8x1024.Idx → Elt Bits .f32) × (S1x8192x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4)) (q0 : ¬P0_0 ch t) (q1 : P0_1 ch t) :
    step0 ch m ρ c t prev = ((if (cfgA ch).fresh (8 : Fin 13) t.val then default else prev.1), (if (cfgA ch).fresh (9 : Fin 13) t.val then default else prev.2.1), (if (cfgA ch).fresh (10 : Fin 13) t.val then default else prev.2.2.1), (if (cfgA ch).fresh (11 : Fin 13) t.val then default else prev.2.2.2.1), (if (cfgA ch).fresh (12 : Fin 13) t.val then default else prev.2.2.2.2.1), (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.2.2.2 (hyp0_E_0 ch t q0 q1) ((hypsR0_E ch t q0 q1).2 (hyp0_E_0 ch t q0 q1)).1 ((hypsR0_E ch t q0 q1).2 (hyp0_E_0 ch t q0 q1)).2.1 ((hypsR0_E ch t q0 q1).2 (hyp0_E_0 ch t q0 q1)).2.2.1 ((hypsR0_E ch t q0 q1).2 (hyp0_E_0 ch t q0 q1)).2.2.2.1 ((hypsR0_E ch t q0 q1).2 (hyp0_E_0 ch t q0 q1)).2.2.2.2.1 ((hypsR0_E ch t q0 q1).2 (hyp0_E_0 ch t q0 q1)).2.2.2.2.2.1 ((hypsR0_E ch t q0 q1).2 (hyp0_E_0 ch t q0 q1)).2.2.2.2.2.2.1).1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.2.2.2 (hyp0_E_0 ch t q0 q1) ((hypsR0_E ch t q0 q1).2 (hyp0_E_0 ch t q0 q1)).1 ((hypsR0_E ch t q0 q1).2 (hyp0_E_0 ch t q0 q1)).2.1 ((hypsR0_E ch t q0 q1).2 (hyp0_E_0 ch t q0 q1)).2.2.1 ((hypsR0_E ch t q0 q1).2 (hyp0_E_0 ch t q0 q1)).2.2.2.1 ((hypsR0_E ch t q0 q1).2 (hyp0_E_0 ch t q0 q1)).2.2.2.2.1 ((hypsR0_E ch t q0 q1).2 (hyp0_E_0 ch t q0 q1)).2.2.2.2.2.1 ((hypsR0_E ch t q0 q1).2 (hyp0_E_0 ch t q0 q1)).2.2.2.2.2.2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.2.2.2 (hyp0_E_0 ch t q0 q1) ((hypsR0_E ch t q0 q1).2 (hyp0_E_0 ch t q0 q1)).1 ((hypsR0_E ch t q0 q1).2 (hyp0_E_0 ch t q0 q1)).2.1 ((hypsR0_E ch t q0 q1).2 (hyp0_E_0 ch t q0 q1)).2.2.1 ((hypsR0_E ch t q0 q1).2 (hyp0_E_0 ch t q0 q1)).2.2.2.1 ((hypsR0_E ch t q0 q1).2 (hyp0_E_0 ch t q0 q1)).2.2.2.2.1 ((hypsR0_E ch t q0 q1).2 (hyp0_E_0 ch t q0 q1)).2.2.2.2.2.1 ((hypsR0_E ch t q0 q1).2 (hyp0_E_0 ch t q0 q1)).2.2.2.2.2.2.1).2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.2.2.2 (hyp0_E_0 ch t q0 q1) ((hypsR0_E ch t q0 q1).2 (hyp0_E_0 ch t q0 q1)).1 ((hypsR0_E ch t q0 q1).2 (hyp0_E_0 ch t q0 q1)).2.1 ((hypsR0_E ch t q0 q1).2 (hyp0_E_0 ch t q0 q1)).2.2.1 ((hypsR0_E ch t q0 q1).2 (hyp0_E_0 ch t q0 q1)).2.2.2.1 ((hypsR0_E ch t q0 q1).2 (hyp0_E_0 ch t q0 q1)).2.2.2.2.1 ((hypsR0_E ch t q0 q1).2 (hyp0_E_0 ch t q0 q1)).2.2.2.2.2.1 ((hypsR0_E ch t q0 q1).2 (hyp0_E_0 ch t q0 q1)).2.2.2.2.2.2.1).2.2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.2.2.2 (hyp0_E_0 ch t q0 q1) ((hypsR0_E ch t q0 q1).2 (hyp0_E_0 ch t q0 q1)).1 ((hypsR0_E ch t q0 q1).2 (hyp0_E_0 ch t q0 q1)).2.1 ((hypsR0_E ch t q0 q1).2 (hyp0_E_0 ch t q0 q1)).2.2.1 ((hypsR0_E ch t q0 q1).2 (hyp0_E_0 ch t q0 q1)).2.2.2.1 ((hypsR0_E ch t q0 q1).2 (hyp0_E_0 ch t q0 q1)).2.2.2.2.1 ((hypsR0_E ch t q0 q1).2 (hyp0_E_0 ch t q0 q1)).2.2.2.2.2.1 ((hypsR0_E ch t q0 q1).2 (hyp0_E_0 ch t q0 q1)).2.2.2.2.2.2.1).2.2.2.2.1) := by
  unfold step0; simp only [dif_neg q0, dif_pos q1]

/-- `step0` at a point of path F. -/
theorem step0_F (c : Dev nD) (t : Fin (cfgA ch).N) (prev : (S8192x128.Idx → Elt Bits .bf16) × (S1024x128.Idx → Elt Bits .bf16) × (S1024x128.Idx → Elt Bits .bf16) × (S1x8x1024.Idx → Elt Bits .f32) × (S1x8192x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4)) (q0 : ¬P0_0 ch t) (q1 : ¬P0_1 ch t) (q2 : ¬P0_2 ch t) (q3 : P0_3 ch t) :
    step0 ch m ρ c t prev = (out0_F_8 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1, out0_F_9 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1, out0_F_10 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1, out0_F_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1, out0_F_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1).2.2.2.2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1).2.2.2.2.2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1).2.2.2.2.2.2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1).2.2.2.2.2.2.2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) prev.2.2.2.2.2.1 prev.2.2.2.2.2.2.1 prev.2.2.2.2.2.2.2.1 prev.2.2.2.2.2.2.2.2.1 prev.2.2.2.2.2.2.2.2.2 (hyp0_F_0 ch t q0 q1 q2 q3) ((hypsR0_F ch t q0 q1 q2 q3).2 (hyp0_F_0 ch t q0 q1 q2 q3)).1 ((hypsR0_F ch t q0 q1 q2 q3).2 (hyp0_F_0 ch t q0 q1 q2 q3)).2.1 ((hypsR0_F ch t q0 q1 q2 q3).2 (hyp0_F_0 ch t q0 q1 q2 q3)).2.2.1 ((hypsR0_F ch t q0 q1 q2 q3).2 (hyp0_F_0 ch t q0 q1 q2 q3)).2.2.2.1 ((hypsR0_F ch t q0 q1 q2 q3).2 (hyp0_F_0 ch t q0 q1 q2 q3)).2.2.2.2.1 ((hypsR0_F ch t q0 q1 q2 q3).2 (hyp0_F_0 ch t q0 q1 q2 q3)).2.2.2.2.2.1 ((hypsR0_F ch t q0 q1 q2 q3).2 (hyp0_F_0 ch t q0 q1 q2 q3)).2.2.2.2.2.2.1).2.2.2.2.2.2.2.2.2.1) := by
  unfold step0; simp only [dif_neg q0, dif_neg q1, dif_neg q2, dif_pos q3]

/-! ## The pipeline's proof data -/

/-- What the tracked buffers held before position `t` of `Fin (N+1)` (the invariant's index). -/
noncomputable def prev0T (c : Dev nD) (t : Fin ((cfgA ch).N + 1)) : (S8192x128.Idx → Elt Bits .bf16) × (S1024x128.Idx → Elt Bits .bf16) × (S1024x128.Idx → Elt Bits .bf16) × (S1x8x1024.Idx → Elt Bits .f32) × (S1x8192x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) :=
  if h : t.val = 0 then (default, default, default, default, default, default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

end Cert.Kernel.Frame

end
-- ==== Proof.Frame.Carry.lean ====
/- The proof data of the bit-exact kernel's pipeline, and what each buffer holds before a point. -/
module

public import proofs.«01_k».proof.Proof.Frame.Steps

@[expose] public section

set_option maxRecDepth 16384
set_option Elab.async false

noncomputable section

namespace Cert.Kernel.Frame

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's propositions at the bit-exact values. -/
local notation "𝕄" => MT nD τ sig Unit (Elt Bits) ℕ (UR sig nD τ) ℕ

variable (ch : Fin 1)
variable (m : (ℓ : Loc nD τ sig) → Buf (Elt Bits) ℓ) (ρ : Dev nD → PrngReg)

/-- THE INVARIANT before point `t`: each scratch at what the trajectory says once a point has determined it (anything
    before), the body's halves of the tables. -/
noncomputable def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2.2.2.2.2.1⌝ ∗ (scM0_0.view.loc (c : Thread nD τ) ↦{fullShare} a)) ∗ (∃ a, ⌜sfresh0_1 ch t.val = false → a = (prev0T ch m ρ c t).2.2.2.2.2.2.1⌝ ∗ (scM0_1.view.loc (c : Thread nD τ) ↦{fullShare} a)) ∗ (∃ a, ⌜sfresh0_2 ch t.val = false → a = (prev0T ch m ρ c t).2.2.2.2.2.2.2.1⌝ ∗ (scM0_2.view.loc (c : Thread nD τ) ↦{fullShare} a)) ∗ (∃ a, ⌜sfresh0_3 ch t.val = false → a = (prev0T ch m ρ c t).2.2.2.2.2.2.2.2.1⌝ ∗ (scM0_3.view.loc (c : Thread nD τ) ↦{fullShare} a)) ∗ (∃ a, ⌜sfresh0_4 ch t.val = false → a = (prev0T ch m ρ c t).2.2.2.2.2.2.2.2.2⌝ ∗ (scM0_4.view.loc (c : Thread nD τ) ↦{fullShare} a)) ∗ (tbM0_0.view.loc (c : Thread nD τ) ↦{fullShare.right} pinT_0 ch) ∗ (tbM0_1.view.loc (c : Thread nD τ) ↦{fullShare.right} pinT_1 ch) ∗ (tbM0_2.view.loc (c : Thread nD τ) ↦{fullShare.right} pinT_2 ch))

/-- The proof data of the one pipeline on core `c`. -/
noncomputable def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 13) t
    | ⟨1, _⟩ => iblk ch m ρ c (1 : Fin 13) t
    | ⟨2, _⟩ => iblk ch m ρ c (2 : Fin 13) t
    | ⟨3, _⟩ => iblk ch m ρ c (3 : Fin 13) t
    | ⟨4, _⟩ => iblk ch m ρ c (4 : Fin 13) t
    | ⟨5, _⟩ => iblk ch m ρ c (5 : Fin 13) t
    | ⟨6, _⟩ => iblk ch m ρ c (6 : Fin 13) t
    | ⟨7, _⟩ => iblk ch m ρ c (7 : Fin 13) t
    | ⟨8, _⟩ => (traj0 ch m ρ c t.val t.isLt).1
    | ⟨9, _⟩ => (traj0 ch m ρ c t.val t.isLt).2.1
    | ⟨10, _⟩ => (traj0 ch m ρ c t.val t.isLt).2.2.1
    | ⟨11, _⟩ => (traj0 ch m ρ c t.val t.isLt).2.2.2.1
    | ⟨12, _⟩ => (traj0 ch m ρ c t.val t.isLt).2.2.2.2.1
  Φ t := Phi ch m ρ c t
  q _ := fullShare
  owed _ := 0

theorem after0_0 (c : Dev nD) (t : Fin (cfgA ch).N) : (dats ch m ρ 0 c).after (0 : Fin 13) t = iblk ch m ρ c (0 : Fin 13) t := rfl
theorem after0_1 (c : Dev nD) (t : Fin (cfgA ch).N) : (dats ch m ρ 0 c).after (1 : Fin 13) t = iblk ch m ρ c (1 : Fin 13) t := rfl
theorem after0_2 (c : Dev nD) (t : Fin (cfgA ch).N) : (dats ch m ρ 0 c).after (2 : Fin 13) t = iblk ch m ρ c (2 : Fin 13) t := rfl
theorem after0_3 (c : Dev nD) (t : Fin (cfgA ch).N) : (dats ch m ρ 0 c).after (3 : Fin 13) t = iblk ch m ρ c (3 : Fin 13) t := rfl
theorem after0_4 (c : Dev nD) (t : Fin (cfgA ch).N) : (dats ch m ρ 0 c).after (4 : Fin 13) t = iblk ch m ρ c (4 : Fin 13) t := rfl
theorem after0_5 (c : Dev nD) (t : Fin (cfgA ch).N) : (dats ch m ρ 0 c).after (5 : Fin 13) t = iblk ch m ρ c (5 : Fin 13) t := rfl
theorem after0_6 (c : Dev nD) (t : Fin (cfgA ch).N) : (dats ch m ρ 0 c).after (6 : Fin 13) t = iblk ch m ρ c (6 : Fin 13) t := rfl
theorem after0_7 (c : Dev nD) (t : Fin (cfgA ch).N) : (dats ch m ρ 0 c).after (7 : Fin 13) t = iblk ch m ρ c (7 : Fin 13) t := rfl
theorem after0_8 (c : Dev nD) (t : Fin (cfgA ch).N) : (dats ch m ρ 0 c).after (8 : Fin 13) t = (traj0 ch m ρ c t.val t.isLt).1 := rfl
theorem after0_9 (c : Dev nD) (t : Fin (cfgA ch).N) : (dats ch m ρ 0 c).after (9 : Fin 13) t = (traj0 ch m ρ c t.val t.isLt).2.1 := rfl
theorem after0_10 (c : Dev nD) (t : Fin (cfgA ch).N) : (dats ch m ρ 0 c).after (10 : Fin 13) t = (traj0 ch m ρ c t.val t.isLt).2.2.1 := rfl
theorem after0_11 (c : Dev nD) (t : Fin (cfgA ch).N) : (dats ch m ρ 0 c).after (11 : Fin 13) t = (traj0 ch m ρ c t.val t.isLt).2.2.2.1 := rfl
theorem after0_12 (c : Dev nD) (t : Fin (cfgA ch).N) : (dats ch m ρ 0 c).after (12 : Fin 13) t = (traj0 ch m ρ c t.val t.isLt).2.2.2.2.1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 13) t d = iblk ch m ρ c (0 : Fin 13) t :=
  ((dats ch m ρ 0 c).before_in_eq_fetched (0 : Fin 13) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 13) t d = iblk ch m ρ c (1 : Fin 13) t :=
  ((dats ch m ρ 0 c).before_in_eq_fetched (1 : Fin 13) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 13) t d = iblk ch m ρ c (2 : Fin 13) t :=
  ((dats ch m ρ 0 c).before_in_eq_fetched (2 : Fin 13) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 13) t d = iblk ch m ρ c (3 : Fin 13) t :=
  ((dats ch m ρ 0 c).before_in_eq_fetched (3 : Fin 13) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 13) t d = iblk ch m ρ c (4 : Fin 13) t :=
  ((dats ch m ρ 0 c).before_in_eq_fetched (4 : Fin 13) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 13) t d = iblk ch m ρ c (5 : Fin 13) t :=
  ((dats ch m ρ 0 c).before_in_eq_fetched (5 : Fin 13) rfl (fun _ => rfl) (fun _ _ _ => rfl) (fun t => by rw [after0_5]; unfold Dat.blockOf iblk; rfl) t d).trans
    (by unfold Dat.fetched Dat.blockOf iblk; rfl)

/-- Input window 6 holds its block, fetched there or not (Lib/Pipeline/FrameBody.lean `Dat.before_in_eq_fetched`). -/
theorem before0_6 (c : Dev nD) (t : Fin (cfgA ch).N) (d) : (dats ch m ρ 0 c).before (6 : Fin 13) t d = iblk ch m ρ c (6 : Fin 13) t :=
  ((dats ch m ρ 0 c).before_in_eq_fetched (6 : Fin 13) rfl (fun _ => rfl) (fun _ _ _ => rfl) (fun t => by rw [after0_6]; unfold Dat.blockOf iblk; rfl) t d).trans
    (by unfold Dat.fetched Dat.blockOf iblk; rfl)

/-- Input window 7 holds its block, fetched there or not (Lib/Pipeline/FrameBody.lean `Dat.before_in_eq_fetched`). -/
theorem before0_7 (c : Dev nD) (t : Fin (cfgA ch).N) (d) : (dats ch m ρ 0 c).before (7 : Fin 13) t d = iblk ch m ρ c (7 : Fin 13) t :=
  ((dats ch m ρ 0 c).before_in_eq_fetched (7 : Fin 13) rfl (fun _ => rfl) (fun _ _ _ => rfl) (fun t => by rw [after0_7]; unfold Dat.blockOf iblk; rfl) t d).trans
    (by unfold Dat.fetched Dat.blockOf iblk; rfl)

/-- Output 8's `after` carries through the points that leave it idle. -/
theorem hcarry0_8 (c : Dev nD) : ∀ (t : Fin (cfgA ch).N) (ht : t.val ≠ 0), (cfgA ch).idle (8 : Fin 13) ((cfgA ch).grid.coords t) = true → (cfgA ch).fresh (8 : Fin 13) t.val = false →
    (dats ch m ρ 0 c).after (8 : Fin 13) t = (dats ch m ρ 0 c).after (8 : Fin 13) ⟨t.val - 1, by omega⟩ := by
  intro t ht hi hf
  rw [after0_8, after0_8, traj0_eq]
  by_cases q0 : P0_0 ch t
  · rw [step0_A ch m ρ c t _ q0]
    simp only [hf, Bool.false_eq_true, ↓reduceIte]
    unfold prev0; rw [dif_neg ht]
  · by_cases q1 : P0_1 ch t
    · rw [step0_E ch m ρ c t _ q0 q1]
      simp only [hf, Bool.false_eq_true, ↓reduceIte]
      unfold prev0; rw [dif_neg ht]
    · by_cases q2 : P0_2 ch t
      · by_cases q3 : P0_3 ch t
        · rw [step0_D ch m ρ c t _ q0 q1 q2 q3]
          simp only [hf, Bool.false_eq_true, ↓reduceIte]
          unfold prev0; rw [dif_neg ht]
        · rw [step0_C ch m ρ c t _ q0 q1 q2 q3]
          simp only [hf, Bool.false_eq_true, ↓reduceIte]
          unfold prev0; rw [dif_neg ht]
      · by_cases q3 : P0_3 ch t
        · obtain ⟨i8, -, -, -, -, -, -, -, -, -, -, -, -, -, -, -, -, -, -, -, -, -, -, -, -⟩ := sched0_F ch t q0 q1 q2 q3
          rw [i8] at hi; exact absurd hi (by decide)
        · rw [step0_B ch m ρ c t _ q0 q1 q2 q3]
          simp only [hf, Bool.false_eq_true, ↓reduceIte]
          unfold prev0; rw [dif_neg ht]

/-- Output window 8 holds, when the body runs at `t`: junk if nothing was stored since its last write-back (`Cfg.fresh`),
    else what the point before left (TableIdle.lean `Dat.before_out_traj`). -/
theorem before0_8 (c : Dev nD) (t : Fin (cfgA ch).N) (d) :
    (dats ch m ρ 0 c).before (8 : Fin 13) t d = if (cfgA ch).fresh (8 : Fin 13) t.val then d else (prev0 ch m ρ c t).1 := by
  rw [(dats ch m ρ 0 c).before_out_traj (8 : Fin 13) rfl (fun _ _ => rfl) (hcarry0_8 ch m ρ c) t.val t rfl d]
  by_cases hf : (cfgA ch).fresh (8 : Fin 13) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_8]; unfold prev0; rw [dif_neg h0]

/-- Output 9's `after` carries through the points that leave it idle. -/
theorem hcarry0_9 (c : Dev nD) : ∀ (t : Fin (cfgA ch).N) (ht : t.val ≠ 0), (cfgA ch).idle (9 : Fin 13) ((cfgA ch).grid.coords t) = true → (cfgA ch).fresh (9 : Fin 13) t.val = false →
    (dats ch m ρ 0 c).after (9 : Fin 13) t = (dats ch m ρ 0 c).after (9 : Fin 13) ⟨t.val - 1, by omega⟩ := by
  intro t ht hi hf
  rw [after0_9, after0_9, traj0_eq]
  by_cases q0 : P0_0 ch t
  · rw [step0_A ch m ρ c t _ q0]
    simp only [hf, Bool.false_eq_true, ↓reduceIte]
    unfold prev0; rw [dif_neg ht]
  · by_cases q1 : P0_1 ch t
    · rw [step0_E ch m ρ c t _ q0 q1]
      simp only [hf, Bool.false_eq_true, ↓reduceIte]
      unfold prev0; rw [dif_neg ht]
    · by_cases q2 : P0_2 ch t
      · by_cases q3 : P0_3 ch t
        · obtain ⟨-, -, -, i9, -, -, -, -, -, -, -, -, -, -, -, -, -, -, -, -, -, -, -, -, -⟩ := sched0_D ch t q0 q1 q2 q3
          rw [i9] at hi; exact absurd hi (by decide)
        · rw [step0_C ch m ρ c t _ q0 q1 q2 q3]
          simp only [hf, Bool.false_eq_true, ↓reduceIte]
          unfold prev0; rw [dif_neg ht]
      · by_cases q3 : P0_3 ch t
        · obtain ⟨-, -, -, i9, -, -, -, -, -, -, -, -, -, -, -, -, -, -, -, -, -, -, -, -, -⟩ := sched0_F ch t q0 q1 q2 q3
          rw [i9] at hi; exact absurd hi (by decide)
        · rw [step0_B ch m ρ c t _ q0 q1 q2 q3]
          simp only [hf, Bool.false_eq_true, ↓reduceIte]
          unfold prev0; rw [dif_neg ht]

/-- Output window 9 holds, when the body runs at `t`: junk if nothing was stored since its last write-back (`Cfg.fresh`),
    else what the point before left (TableIdle.lean `Dat.before_out_traj`). -/
theorem before0_9 (c : Dev nD) (t : Fin (cfgA ch).N) (d) :
    (dats ch m ρ 0 c).before (9 : Fin 13) t d = if (cfgA ch).fresh (9 : Fin 13) t.val then d else (prev0 ch m ρ c t).2.1 := by
  rw [(dats ch m ρ 0 c).before_out_traj (9 : Fin 13) rfl (fun _ _ => rfl) (hcarry0_9 ch m ρ c) t.val t rfl d]
  by_cases hf : (cfgA ch).fresh (9 : Fin 13) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_9]; unfold prev0; rw [dif_neg h0]

/-- Output 10's `after` carries through the points that leave it idle. -/
theorem hcarry0_10 (c : Dev nD) : ∀ (t : Fin (cfgA ch).N) (ht : t.val ≠ 0), (cfgA ch).idle (10 : Fin 13) ((cfgA ch).grid.coords t) = true → (cfgA ch).fresh (10 : Fin 13) t.val = false →
    (dats ch m ρ 0 c).after (10 : Fin 13) t = (dats ch m ρ 0 c).after (10 : Fin 13) ⟨t.val - 1, by omega⟩ := by
  intro t ht hi hf
  rw [after0_10, after0_10, traj0_eq]
  by_cases q0 : P0_0 ch t
  · rw [step0_A ch m ρ c t _ q0]
    simp only [hf, Bool.false_eq_true, ↓reduceIte]
    unfold prev0; rw [dif_neg ht]
  · by_cases q1 : P0_1 ch t
    · rw [step0_E ch m ρ c t _ q0 q1]
      simp only [hf, Bool.false_eq_true, ↓reduceIte]
      unfold prev0; rw [dif_neg ht]
    · by_cases q2 : P0_2 ch t
      · by_cases q3 : P0_3 ch t
        · obtain ⟨-, -, -, -, -, -, i10, -, -, -, -, -, -, -, -, -, -, -, -, -, -, -, -, -, -⟩ := sched0_D ch t q0 q1 q2 q3
          rw [i10] at hi; exact absurd hi (by decide)
        · rw [step0_C ch m ρ c t _ q0 q1 q2 q3]
          simp only [hf, Bool.false_eq_true, ↓reduceIte]
          unfold prev0; rw [dif_neg ht]
      · by_cases q3 : P0_3 ch t
        · obtain ⟨-, -, -, -, -, -, i10, -, -, -, -, -, -, -, -, -, -, -, -, -, -, -, -, -, -⟩ := sched0_F ch t q0 q1 q2 q3
          rw [i10] at hi; exact absurd hi (by decide)
        · rw [step0_B ch m ρ c t _ q0 q1 q2 q3]
          simp only [hf, Bool.false_eq_true, ↓reduceIte]
          unfold prev0; rw [dif_neg ht]

/-- Output window 10 holds, when the body runs at `t`: junk if nothing was stored since its last write-back (`Cfg.fresh`),
    else what the point before left (TableIdle.lean `Dat.before_out_traj`). -/
theorem before0_10 (c : Dev nD) (t : Fin (cfgA ch).N) (d) :
    (dats ch m ρ 0 c).before (10 : Fin 13) t d = if (cfgA ch).fresh (10 : Fin 13) t.val then d else (prev0 ch m ρ c t).2.2.1 := by
  rw [(dats ch m ρ 0 c).before_out_traj (10 : Fin 13) rfl (fun _ _ => rfl) (hcarry0_10 ch m ρ c) t.val t rfl d]
  by_cases hf : (cfgA ch).fresh (10 : Fin 13) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_10]; unfold prev0; rw [dif_neg h0]

/-- Output 11's `after` carries through the points that leave it idle. -/
theorem hcarry0_11 (c : Dev nD) : ∀ (t : Fin (cfgA ch).N) (ht : t.val ≠ 0), (cfgA ch).idle (11 : Fin 13) ((cfgA ch).grid.coords t) = true → (cfgA ch).fresh (11 : Fin 13) t.val = false →
    (dats ch m ρ 0 c).after (11 : Fin 13) t = (dats ch m ρ 0 c).after (11 : Fin 13) ⟨t.val - 1, by omega⟩ := by
  intro t ht hi hf
  rw [after0_11, after0_11, traj0_eq]
  by_cases q0 : P0_0 ch t
  · rw [step0_A ch m ρ c t _ q0]
    simp only [hf, Bool.false_eq_true, ↓reduceIte]
    unfold prev0; rw [dif_neg ht]
  · by_cases q1 : P0_1 ch t
    · rw [step0_E ch m ρ c t _ q0 q1]
      simp only [hf, Bool.false_eq_true, ↓reduceIte]
      unfold prev0; rw [dif_neg ht]
    · by_cases q2 : P0_2 ch t
      · by_cases q3 : P0_3 ch t
        · obtain ⟨-, -, -, -, -, -, -, -, -, i11, -, -, -, -, -, -, -, -, -, -, -, -, -, -, -⟩ := sched0_D ch t q0 q1 q2 q3
          rw [i11] at hi; exact absurd hi (by decide)
        · rw [step0_C ch m ρ c t _ q0 q1 q2 q3]
          simp only [hf, Bool.false_eq_true, ↓reduceIte]
          unfold prev0; rw [dif_neg ht]
      · by_cases q3 : P0_3 ch t
        · obtain ⟨-, -, -, -, -, -, -, -, -, i11, -, -, -, -, -, -, -, -, -, -, -, -, -, -, -⟩ := sched0_F ch t q0 q1 q2 q3
          rw [i11] at hi; exact absurd hi (by decide)
        · rw [step0_B ch m ρ c t _ q0 q1 q2 q3]
          simp only [hf, Bool.false_eq_true, ↓reduceIte]
          unfold prev0; rw [dif_neg ht]

/-- Output window 11 holds, when the body runs at `t`: junk if nothing was stored since its last write-back (`Cfg.fresh`),
    else what the point before left (TableIdle.lean `Dat.before_out_traj`). -/
theorem before0_11 (c : Dev nD) (t : Fin (cfgA ch).N) (d) :
    (dats ch m ρ 0 c).before (11 : Fin 13) t d = if (cfgA ch).fresh (11 : Fin 13) t.val then d else (prev0 ch m ρ c t).2.2.2.1 := by
  rw [(dats ch m ρ 0 c).before_out_traj (11 : Fin 13) rfl (fun _ _ => rfl) (hcarry0_11 ch m ρ c) t.val t rfl d]
  by_cases hf : (cfgA ch).fresh (11 : Fin 13) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_11]; unfold prev0; rw [dif_neg h0]

/-- Output 12's `after` carries through the points that leave it idle. -/
theorem hcarry0_12 (c : Dev nD) : ∀ (t : Fin (cfgA ch).N) (ht : t.val ≠ 0), (cfgA ch).idle (12 : Fin 13) ((cfgA ch).grid.coords t) = true → (cfgA ch).fresh (12 : Fin 13) t.val = false →
    (dats ch m ρ 0 c).after (12 : Fin 13) t = (dats ch m ρ 0 c).after (12 : Fin 13) ⟨t.val - 1, by omega⟩ := by
  intro t ht hi hf
  rw [after0_12, after0_12, traj0_eq]
  by_cases q0 : P0_0 ch t
  · rw [step0_A ch m ρ c t _ q0]
    simp only [hf, Bool.false_eq_true, ↓reduceIte]
    unfold prev0; rw [dif_neg ht]
  · by_cases q1 : P0_1 ch t
    · rw [step0_E ch m ρ c t _ q0 q1]
      simp only [hf, Bool.false_eq_true, ↓reduceIte]
      unfold prev0; rw [dif_neg ht]
    · by_cases q2 : P0_2 ch t
      · by_cases q3 : P0_3 ch t
        · rw [step0_D ch m ρ c t _ q0 q1 q2 q3]
          simp only [hf, Bool.false_eq_true, ↓reduceIte]
          unfold prev0; rw [dif_neg ht]
        · rw [step0_C ch m ρ c t _ q0 q1 q2 q3]
          simp only [hf, Bool.false_eq_true, ↓reduceIte]
          unfold prev0; rw [dif_neg ht]
      · by_cases q3 : P0_3 ch t
        · obtain ⟨-, -, -, -, -, -, -, -, -, -, -, -, i12, -, -, -, -, -, -, -, -, -, -, -, -⟩ := sched0_F ch t q0 q1 q2 q3
          rw [i12] at hi; exact absurd hi (by decide)
        · rw [step0_B ch m ρ c t _ q0 q1 q2 q3]
          simp only [hf, Bool.false_eq_true, ↓reduceIte]
          unfold prev0; rw [dif_neg ht]

/-- Output window 12 holds, when the body runs at `t`: junk if nothing was stored since its last write-back (`Cfg.fresh`),
    else what the point before left (TableIdle.lean `Dat.before_out_traj`). -/
theorem before0_12 (c : Dev nD) (t : Fin (cfgA ch).N) (d) :
    (dats ch m ρ 0 c).before (12 : Fin 13) t d = if (cfgA ch).fresh (12 : Fin 13) t.val then d else (prev0 ch m ρ c t).2.2.2.2.1 := by
  rw [(dats ch m ρ 0 c).before_out_traj (12 : Fin 13) rfl (fun _ _ => rfl) (hcarry0_12 ch m ρ c) t.val t rfl d]
  by_cases hf : (cfgA ch).fresh (12 : Fin 13) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_12]; unfold prev0; rw [dif_neg h0]

/-! ## The body obligation, at a generic point, by path -/

end Cert.Kernel.Frame

end
-- ==== Proof.Frame.Body.lean ====
/- The body of the bit-exact kernel at a grid point keeps the invariant. -/
module

public import proofs.«01_k».proof.Proof.Frame.Carry

@[expose] public section

set_option maxRecDepth 16384
set_option Elab.async false

noncomputable section

namespace Cert.Kernel.Frame

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's propositions at the bit-exact values. -/
local notation "𝕄" => MT nD τ sig Unit (Elt Bits) ℕ (UR sig nD τ) ℕ

variable (ch : Fin 1)
variable (m : (ℓ : Loc nD τ sig) → Buf (Elt Bits) ℓ) (ρ : Dev nD → PrngReg)

/-- The body at point `t` on its staging memrefs, as the pipeline calls it. -/
abbrev bodyAt0 (t : Fin (cfgA ch).N) : Prog (TpuEff nD τ sig (Elt Bits) Λ₀ .tc) PUnit :=
  cc0_fox_bwd_0 (crd ch t) (Memref.whole main_arg0) (Memref.isWhole_whole _) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

set_option maxHeartbeats 14400000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 13) t d))
        ∗ (∃ d, owns (c : Thread nD τ) (ms0_1 ch t) fullShare ((dats ch m ρ 0 c).before (1 : Fin 13) t d))
        ∗ (∃ d, owns (c : Thread nD τ) (ms0_2 ch t) fullShare ((dats ch m ρ 0 c).before (2 : Fin 13) t d))
        ∗ (∃ d, owns (c : Thread nD τ) (ms0_3 ch t) fullShare ((dats ch m ρ 0 c).before (3 : Fin 13) t d))
        ∗ (∃ d, owns (c : Thread nD τ) (ms0_4 ch t) fullShare ((dats ch m ρ 0 c).before (4 : Fin 13) t d))
        ∗ (∃ d, owns (c : Thread nD τ) (ms0_5 ch t) fullShare ((dats ch m ρ 0 c).before (5 : Fin 13) t d))
        ∗ (∃ d, owns (c : Thread nD τ) (ms0_6 ch t) fullShare ((dats ch m ρ 0 c).before (6 : Fin 13) t d))
        ∗ (∃ d, owns (c : Thread nD τ) (ms0_7 ch t) fullShare ((dats ch m ρ 0 c).before (7 : Fin 13) t d))
        ∗ (∃ d, owns (c : Thread nD τ) (ms0_8 ch t) fullShare ((dats ch m ρ 0 c).before (8 : Fin 13) t d))
        ∗ (∃ d, owns (c : Thread nD τ) (ms0_9 ch t) fullShare ((dats ch m ρ 0 c).before (9 : Fin 13) t d))
        ∗ (∃ d, owns (c : Thread nD τ) (ms0_10 ch t) fullShare ((dats ch m ρ 0 c).before (10 : Fin 13) t d))
        ∗ (∃ d, owns (c : Thread nD τ) (ms0_11 ch t) fullShare ((dats ch m ρ 0 c).before (11 : Fin 13) t d))
        ∗ (∃ d, owns (c : Thread nD τ) (ms0_12 ch t) fullShare ((dats ch m ρ 0 c).before (12 : Fin 13) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i8, f8, fr8, i9, f9, fr9, i10, f10, fr10, i11, f11, fr11, i12, f12, fr12, sfn0, sfn1, sfn2, sfn3, sfn4⟩ := sched0_A ch t q0
    have F0 := hypsR0_A ch t q0
    have k0_hw1 := F0.1; have F1 := F0.2 k0_hw1
    have k0_h1 := F1.1; have F2 := F1.2
    have hc2 := F2.1; have F3 := F2.2
    have k0_h3 := F3.1; have F4 := F3.2
    have k0_h4 := F4.1; have F5 := F4.2
    have k0_h5 := F5.1; have F6 := F5.2
    have k0_h6 := F6.1; have F7 := F6.2
    have k0_h7 := F7.1; have F8 := F7.2
    clear F0 F1 F2 F3 F4 F5 F6 F7 F8
    rewrite [i8, i9]
    simp only [before0_0, before0_1, before0_2, before0_3, before0_4, before0_5, before0_6, before0_7, before0_8, before0_9, before0_10, before0_11, before0_12, after0_0, after0_1, after0_2, after0_3, after0_4, after0_5, after0_6, after0_7, after0_8, after0_9, after0_10, after0_11, after0_12, f8, f9, f10, f11, f12]
    simp only [fr8, fr9, fr10, fr11, fr12, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, ⟨%a1, %ha1, HS1⟩, ⟨%a2, %ha2, HS2⟩, ⟨%a3, %ha3, HS3⟩, ⟨%a4, %ha4, HS4⟩, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) k0_hw1 k0_h1 hc2 k0_h3 k0_h4 k0_h5 k0_h6 k0_h7).2.2.2.2.2 _ _ _ _ _ a0 a1 a2 a3 a4 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [HT0]; · iexact HT0
    isplitl [HT1]; · iexact HT1
    isplitl [HT2]; · iexact HT2
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HT0, HT1, HT2, H8, H9, H10, H11, H12, HS0, HS1, HS2, HS3, HS4⟩
    isplitl [HS0 HS1 HS2 HS3 HS4 HT0 HT1 HT2]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HS2]
      · iexists _; isplitr; swap
        · iexact HS2
        · ipureintro; intro hn; first | rfl | exact absurd hn (by first | (rw [sfn2]; decide) | decide)
      isplitl [HS3]
      · iexists _; isplitr; swap
        · iexact HS3
        · ipureintro; intro hn; first | rfl | exact absurd hn (by first | (rw [sfn3]; decide) | decide)
      isplitl [HS4]
      · iexists _; isplitr; swap
        · iexact HS4
        · ipureintro; intro hn; first | rfl | exact absurd hn (by first | (rw [sfn4]; decide) | decide)
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    isplitl [H7]
    · iapply owns_of_rep; iexact H7
    isplitl [H8]
    · first | (iexists d8; iexact H8) | iexact H8
    isplitl [H9]
    · first | (iexists d9; iexact H9) | iexact H9
    isplitl [H10]
    · first | (iexists d10; iexact H10) | iexact H10
    isplitl [H11]
    · first | (iexists d11; iexact H11) | iexact H11
    first | (iexists d12; iexact H12) | iexact H12
  · by_cases q1 : P0_1 ch t
    · obtain ⟨i8, f8, fr8, i9, f9, fr9, i10, f10, fr10, i11, f11, fr11, i12, f12, fr12, sf0, sfn0, sf1, sfn1, sf2, sfn2, sf3, sfn3, sf4, sfn4⟩ := sched0_E ch t q0 q1
      have F0 := hypsR0_E ch t q0 q1
      have k0_hw1 := F0.1; have F1 := F0.2 k0_hw1
      have k0_h1 := F1.1; have F2 := F1.2
      have hc2 := F2.1; have F3 := F2.2
      have k0_h3 := F3.1; have F4 := F3.2
      have k0_h4 := F4.1; have F5 := F4.2
      have k0_h5 := F5.1; have F6 := F5.2
      have k0_h6 := F6.1; have F7 := F6.2
      have k0_h7 := F7.1; have F8 := F7.2
      clear F0 F1 F2 F3 F4 F5 F6 F7 F8
      rewrite [i8, i9]
      simp only [before0_0, before0_1, before0_2, before0_3, before0_4, before0_5, before0_6, before0_7, before0_8, before0_9, before0_10, before0_11, before0_12, after0_0, after0_1, after0_2, after0_3, after0_4, after0_5, after0_6, after0_7, after0_8, after0_9, after0_10, after0_11, after0_12, f8, f9, f10, f11, f12]
      simp only [fr8, fr9, fr10, fr11, fr12, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_E ch m ρ c t _ q0 q1]
      unfold Phi; simp only [prev0T_castSucc, prev0T_succ, traj0_eq, step0_E ch m ρ c t _ q0 q1, Fin.val_castSucc, Fin.val_succ]
      simp only [exists_held sf0, exists_held sf4]
      iintro ⟨⟨HS0, ⟨%a1, %ha1, HS1⟩, ⟨%a2, %ha2, HS2⟩, ⟨%a3, %ha3, HS3⟩, HS4, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) _ _ k0_hw1 k0_h1 hc2 k0_h3 k0_h4 k0_h5 k0_h6 k0_h7).2.2.2.2.2 _ _ _ _ _ a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [HT0]; · iexact HT0
      isplitl [HT1]; · iexact HT1
      isplitl [HT2]; · iexact HT2
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HT0, HT1, HT2, H8, H9, H10, H11, H12, HS0, HS1, HS2, HS3, HS4⟩
      isplitl [HS0 HS1 HS2 HS3 HS4 HT0 HT1 HT2]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · iapply owns_of_rep; iexact H6
      isplitl [H7]
      · iapply owns_of_rep; iexact H7
      isplitl [H8]
      · first | (iexists d8; iexact H8) | iexact H8
      isplitl [H9]
      · first | (iexists d9; iexact H9) | iexact H9
      isplitl [H10]
      · first | (iexists d10; iexact H10) | iexact H10
      isplitl [H11]
      · first | (iexists d11; iexact H11) | iexact H11
      first | (iexists d12; iexact H12) | iexact H12
    · by_cases q2 : P0_2 ch t
      · by_cases q3 : P0_3 ch t
        · obtain ⟨i8, f8, fr8, i9, f9, fr9, i10, f10, fr10, i11, f11, fr11, i12, f12, fr12, sf0, sfn0, sf1, sfn1, sf2, sfn2, sf3, sfn3, sf4, sfn4⟩ := sched0_D ch t q0 q1 q2 q3
          have F0 := hypsR0_D ch t q0 q1 q2 q3
          have k0_hw1 := F0.1; have F1 := F0.2 k0_hw1
          have k0_h1 := F1.1; have F2 := F1.2
          have hc2 := F2.1; have F3 := F2.2
          have k0_h3 := F3.1; have F4 := F3.2
          have k0_h4 := F4.1; have F5 := F4.2
          have k0_h5 := F5.1; have F6 := F5.2
          have k0_h6 := F6.1; have F7 := F6.2
          have k0_h7 := F7.1; have F8 := F7.2
          clear F0 F1 F2 F3 F4 F5 F6 F7 F8
          rewrite [i8, i9]
          simp only [before0_0, before0_1, before0_2, before0_3, before0_4, before0_5, before0_6, before0_7, before0_8, before0_9, before0_10, before0_11, before0_12, after0_0, after0_1, after0_2, after0_3, after0_4, after0_5, after0_6, after0_7, after0_8, after0_9, after0_10, after0_11, after0_12, f8, f9, f10, f11, f12]
          simp only [fr8, fr9, fr10, fr11, fr12, Bool.false_eq_true, ↓reduceIte]
          rewrite [show (dats ch m ρ 0 c).Φ t.succ = Phi ch m ρ c t.succ from rfl, show (dats ch m ρ 0 c).Φ t.castSucc = Phi ch m ρ c t.castSucc from rfl,
            show (dats ch m ρ 0 c).owesAt () t.succ = (dats ch m ρ 0 c).owesAt () t.castSucc from rfl]
          try rewrite [traj0_eq, step0_D ch m ρ c t _ q0 q1 q2 q3]
          unfold Phi; simp only [prev0T_castSucc, prev0T_succ, traj0_eq, step0_D ch m ρ c t _ q0 q1 q2 q3, Fin.val_castSucc, Fin.val_succ]
          simp only [exists_held sf0, exists_held sf1, exists_held sf2, exists_held sf3, exists_held sf4]
          iintro ⟨⟨HS0, HS1, HS2, HS3, HS4, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) _ _ _ _ _ k0_hw1 k0_h1 hc2 k0_h3 k0_h4 k0_h5 k0_h6 k0_h7).2.2.2.2.2.2.2.2 _ _ _)
          isplitl [H0]; · iapply rep_of_owns; iexact H0
          isplitl [H1]; · iapply rep_of_owns; iexact H1
          isplitl [H2]; · iapply rep_of_owns; iexact H2
          isplitl [H3]; · iapply rep_of_owns; iexact H3
          isplitl [H4]; · iapply rep_of_owns; iexact H4
          isplitl [H5]; · iapply rep_of_owns; iexact H5
          isplitl [H6]; · iapply rep_of_owns; iexact H6
          isplitl [H7]; · iapply rep_of_owns; iexact H7
          isplitl [HT0]; · iexact HT0
          isplitl [HT1]; · iexact HT1
          isplitl [HT2]; · iexact HT2
          isplitl [H8]; · iexact H8
          isplitl [H9]; · iexists _; iexact H9
          isplitl [H10]; · iexists _; iexact H10
          isplitl [H11]; · iexists _; iexact H11
          isplitl [H12]; · iexact H12
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, HT0, HT1, HT2, H8, ⟨%e9, H9⟩, ⟨%e10, H10⟩, ⟨%e11, H11⟩, H12, HS0, HS1, HS2, HS3, HS4⟩
          isplitl [HS0 HS1 HS2 HS3 HS4 HT0 HT1 HT2]
          · isplitl [HS0]
            · iexists _; isplitr; swap
              · iexact HS0
              · ipureintro; intro hn; first | rfl | exact absurd hn (by first | (rw [sfn0]; decide) | decide)
            isplitl [HS1]
            · iexists _; isplitr; swap
              · iexact HS1
              · ipureintro; intro hn; first | rfl | exact absurd hn (by first | (rw [sfn1]; decide) | decide)
            isplitl [HS2]
            · iexists _; isplitr; swap
              · iexact HS2
              · ipureintro; intro hn; first | rfl | exact absurd hn (by first | (rw [sfn2]; decide) | decide)
            isplitl [HS3]
            · iexists _; isplitr; swap
              · iexact HS3
              · ipureintro; intro hn; first | rfl | exact absurd hn (by first | (rw [sfn3]; decide) | decide)
            isplitl [HS4]
            · iexists _; isplitr; swap
              · iexact HS4
              · ipureintro; intro hn; first | rfl | exact absurd hn (by first | (rw [sfn4]; decide) | decide)
            isplitl [HT0]
            · iexact HT0
            isplitl [HT1]
            · iexact HT1
            iexact HT2
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          isplitl [H4]
          · iapply owns_of_rep; iexact H4
          isplitl [H5]
          · iapply owns_of_rep; iexact H5
          isplitl [H6]
          · iapply owns_of_rep; iexact H6
          isplitl [H7]
          · iapply owns_of_rep; iexact H7
          isplitl [H8]
          · first | (iexists d8; iexact H8) | iexact H8
          isplitl [H9]
          · unfold owns; iexists _; isplitr; swap
            · iexact H9
            · ipureintro; exact View.read_writes_of_cover _ _ _ _ _ (cover0_D_9 c _ _ _ _ _ _ _ _ _ _ _ _ _ _ _ _ _ _ _ _ _ _ _ _ _ _ _ _ _ _ _ _ _ _ _ _ _ _ _ _ _ _ _ _ _ _ _ _ _ _ _)
          isplitl [H10]
          · unfold owns; iexists _; isplitr; swap
            · iexact H10
            · ipureintro; exact View.read_writes_of_cover _ _ _ _ _ (cover0_D_10 c _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr; swap
            · iexact H11
            · ipureintro; exact View.read_writes_of_cover _ _ _ _ _ (cover0_D_11 c _ _ _ _ _ _ _ _ _ _ _ _ _ _ _ _ _ _ _ _ _ _ _ _ _ _ _ _ _ _ _ _ _ _ _ _ _ _ _ _ _ _ _ _ _ _ _ _ _ _ _)
          first | (iexists d12; iexact H12) | iexact H12
        · obtain ⟨i8, f8, fr8, i9, f9, fr9, i10, f10, fr10, i11, f11, fr11, i12, f12, fr12, sf0, sfn0, sf1, sfn1, sf2, sfn2, sf3, sfn3, sf4, sfn4⟩ := sched0_C ch t q0 q1 q2 q3
          have F0 := hypsR0_C ch t q0 q1 q2 q3
          have k0_hw1 := F0.1; have F1 := F0.2 k0_hw1
          have k0_h1 := F1.1; have F2 := F1.2
          have hc2 := F2.1; have F3 := F2.2
          have k0_h3 := F3.1; have F4 := F3.2
          have k0_h4 := F4.1; have F5 := F4.2
          have k0_h5 := F5.1; have F6 := F5.2
          have k0_h6 := F6.1; have F7 := F6.2
          have k0_h7 := F7.1; have F8 := F7.2
          clear F0 F1 F2 F3 F4 F5 F6 F7 F8
          rewrite [i8, i9]
          simp only [before0_0, before0_1, before0_2, before0_3, before0_4, before0_5, before0_6, before0_7, before0_8, before0_9, before0_10, before0_11, before0_12, after0_0, after0_1, after0_2, after0_3, after0_4, after0_5, after0_6, after0_7, after0_8, after0_9, after0_10, after0_11, after0_12, f8, f9, f10, f11, f12]
          simp only [fr8, fr9, fr10, fr11, fr12, Bool.false_eq_true, ↓reduceIte]
          rewrite [show (dats ch m ρ 0 c).Φ t.succ = Phi ch m ρ c t.succ from rfl, show (dats ch m ρ 0 c).Φ t.castSucc = Phi ch m ρ c t.castSucc from rfl,
            show (dats ch m ρ 0 c).owesAt () t.succ = (dats ch m ρ 0 c).owesAt () t.castSucc from rfl]
          try rewrite [traj0_eq, step0_C ch m ρ c t _ q0 q1 q2 q3]
          unfold Phi; simp only [prev0T_castSucc, prev0T_succ, traj0_eq, step0_C ch m ρ c t _ q0 q1 q2 q3, Fin.val_castSucc, Fin.val_succ]
          simp only [exists_held sf0, exists_held sf1, exists_held sf2, exists_held sf3, exists_held sf4]
          iintro ⟨⟨HS0, HS1, HS2, HS3, HS4, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) _ _ _ _ _ k0_hw1 k0_h1 hc2 k0_h3 k0_h4 k0_h5 k0_h6 k0_h7).2.2.2.2.2 _ _ _ _ _ _)
          isplitl [H0]; · iapply rep_of_owns; iexact H0
          isplitl [H1]; · iapply rep_of_owns; iexact H1
          isplitl [H2]; · iapply rep_of_owns; iexact H2
          isplitl [H3]; · iapply rep_of_owns; iexact H3
          isplitl [H4]; · iapply rep_of_owns; iexact H4
          isplitl [H5]; · iapply rep_of_owns; iexact H5
          isplitl [H6]; · iapply rep_of_owns; iexact H6
          isplitl [H7]; · iapply rep_of_owns; iexact H7
          isplitl [HT0]; · iexact HT0
          isplitl [HT1]; · iexact HT1
          isplitl [HT2]; · iexact HT2
          isplitl [H8]; · iexact H8
          isplitl [H9]; · iexact H9
          isplitl [H10]; · iexact H10
          isplitl [H11]; · iexact H11
          isplitl [H12]; · iexact H12
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, HT0, HT1, HT2, H8, H9, H10, H11, H12, HS0, HS1, HS2, HS3, HS4⟩
          isplitl [HS0 HS1 HS2 HS3 HS4 HT0 HT1 HT2]
          · isplitl [HS0]
            · iexists _; isplitr; swap
              · iexact HS0
              · ipureintro; intro hn; first | rfl | exact absurd hn (by first | (rw [sfn0]; decide) | decide)
            isplitl [HS1]
            · iexists _; isplitr; swap
              · iexact HS1
              · ipureintro; intro hn; first | rfl | exact absurd hn (by first | (rw [sfn1]; decide) | decide)
            isplitl [HS2]
            · iexists _; isplitr; swap
              · iexact HS2
              · ipureintro; intro hn; first | rfl | exact absurd hn (by first | (rw [sfn2]; decide) | decide)
            isplitl [HS3]
            · iexists _; isplitr; swap
              · iexact HS3
              · ipureintro; intro hn; first | rfl | exact absurd hn (by first | (rw [sfn3]; decide) | decide)
            isplitl [HS4]
            · iexists _; isplitr; swap
              · iexact HS4
              · ipureintro; intro hn; first | rfl | exact absurd hn (by first | (rw [sfn4]; decide) | decide)
            isplitl [HT0]
            · iexact HT0
            isplitl [HT1]
            · iexact HT1
            iexact HT2
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          isplitl [H4]
          · iapply owns_of_rep; iexact H4
          isplitl [H5]
          · iapply owns_of_rep; iexact H5
          isplitl [H6]
          · iapply owns_of_rep; iexact H6
          isplitl [H7]
          · iapply owns_of_rep; iexact H7
          isplitl [H8]
          · first | (iexists d8; iexact H8) | iexact H8
          isplitl [H9]
          · first | (iexists d9; iexact H9) | iexact H9
          isplitl [H10]
          · first | (iexists d10; iexact H10) | iexact H10
          isplitl [H11]
          · first | (iexists d11; iexact H11) | iexact H11
          first | (iexists d12; iexact H12) | iexact H12
      · by_cases q3 : P0_3 ch t
        · obtain ⟨i8, f8, fr8, i9, f9, fr9, i10, f10, fr10, i11, f11, fr11, i12, f12, fr12, sf0, sfn0, sf1, sfn1, sf2, sfn2, sf3, sfn3, sf4, sfn4⟩ := sched0_F ch t q0 q1 q2 q3
          have F0 := hypsR0_F ch t q0 q1 q2 q3
          have k0_hw1 := F0.1; have F1 := F0.2 k0_hw1
          have k0_h1 := F1.1; have F2 := F1.2
          have hc2 := F2.1; have F3 := F2.2
          have k0_h3 := F3.1; have F4 := F3.2
          have k0_h4 := F4.1; have F5 := F4.2
          have k0_h5 := F5.1; have F6 := F5.2
          have k0_h6 := F6.1; have F7 := F6.2
          have k0_h7 := F7.1; have F8 := F7.2
          clear F0 F1 F2 F3 F4 F5 F6 F7 F8
          rewrite [i8, i9]
          simp only [before0_0, before0_1, before0_2, before0_3, before0_4, before0_5, before0_6, before0_7, before0_8, before0_9, before0_10, before0_11, before0_12, after0_0, after0_1, after0_2, after0_3, after0_4, after0_5, after0_6, after0_7, after0_8, after0_9, after0_10, after0_11, after0_12, f8, f9, f10, f11, f12]
          simp only [fr8, fr9, fr10, fr11, fr12, Bool.false_eq_true, ↓reduceIte]
          rewrite [show (dats ch m ρ 0 c).Φ t.succ = Phi ch m ρ c t.succ from rfl, show (dats ch m ρ 0 c).Φ t.castSucc = Phi ch m ρ c t.castSucc from rfl,
            show (dats ch m ρ 0 c).owesAt () t.succ = (dats ch m ρ 0 c).owesAt () t.castSucc from rfl]
          try rewrite [traj0_eq, step0_F ch m ρ c t _ q0 q1 q2 q3]
          unfold Phi; simp only [prev0T_castSucc, prev0T_succ, traj0_eq, step0_F ch m ρ c t _ q0 q1 q2 q3, Fin.val_castSucc, Fin.val_succ]
          simp only [exists_held sf0, exists_held sf1, exists_held sf2, exists_held sf3, exists_held sf4]
          iintro ⟨⟨HS0, HS1, HS2, HS3, HS4, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) _ _ _ _ _ k0_hw1 k0_h1 hc2 k0_h3 k0_h4 k0_h5 k0_h6 k0_h7).2.2.2.2.2.2.2.2.2.2 _)
          isplitl [H0]; · iapply rep_of_owns; iexact H0
          isplitl [H1]; · iapply rep_of_owns; iexact H1
          isplitl [H2]; · iapply rep_of_owns; iexact H2
          isplitl [H3]; · iapply rep_of_owns; iexact H3
          isplitl [H4]; · iapply rep_of_owns; iexact H4
          isplitl [H5]; · iapply rep_of_owns; iexact H5
          isplitl [H6]; · iapply rep_of_owns; iexact H6
          isplitl [H7]; · iapply rep_of_owns; iexact H7
          isplitl [HT0]; · iexact HT0
          isplitl [HT1]; · iexact HT1
          isplitl [HT2]; · iexact HT2
          isplitl [H8]; · iexists _; iexact H8
          isplitl [H9]; · iexists _; iexact H9
          isplitl [H10]; · iexists _; iexact H10
          isplitl [H11]; · iexists _; iexact H11
          isplitl [H12]; · iexists _; iexact H12
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, HT0, HT1, HT2, ⟨%e8, H8⟩, ⟨%e9, H9⟩, ⟨%e10, H10⟩, ⟨%e11, H11⟩, ⟨%e12, H12⟩, HS0, HS1, HS2, HS3, HS4⟩
          isplitl [HS0 HS1 HS2 HS3 HS4 HT0 HT1 HT2]
          · isplitl [HS0]
            · iexists _; isplitr; swap
              · iexact HS0
              · ipureintro; intro hn; first | rfl | exact absurd hn (by first | (rw [sfn0]; decide) | decide)
            isplitl [HS1]
            · iexists _; isplitr; swap
              · iexact HS1
              · ipureintro; intro hn; first | rfl | exact absurd hn (by first | (rw [sfn1]; decide) | decide)
            isplitl [HS2]
            · iexists _; isplitr; swap
              · iexact HS2
              · ipureintro; intro hn; first | rfl | exact absurd hn (by first | (rw [sfn2]; decide) | decide)
            isplitl [HS3]
            · iexists _; isplitr; swap
              · iexact HS3
              · ipureintro; intro hn; first | rfl | exact absurd hn (by first | (rw [sfn3]; decide) | decide)
            isplitl [HS4]
            · iexists _; isplitr; swap
              · iexact HS4
              · ipureintro; intro hn; first | rfl | exact absurd hn (by first | (rw [sfn4]; decide) | decide)
            isplitl [HT0]
            · iexact HT0
            isplitl [HT1]
            · iexact HT1
            iexact HT2
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          isplitl [H4]
          · iapply owns_of_rep; iexact H4
          isplitl [H5]
          · iapply owns_of_rep; iexact H5
          isplitl [H6]
          · iapply owns_of_rep; iexact H6
          isplitl [H7]
          · iapply owns_of_rep; iexact H7
          isplitl [H8]
          · unfold owns; iexists _; isplitr; swap
            · iexact H8
            · ipureintro; exact View.read_writes_of_cover _ _ _ _ _ (cover0_F_8 c _ _ _ _ _ _ _ _ _ _ _ _ _ _ _ _ _ _ _ _ _ _ _ _ _ _ _ _ _ _ _ _ _ _ _ _ _ _ _ _ _ _ _ _ _ _ _ _ _ _ _)
          isplitl [H9]
          · unfold owns; iexists _; isplitr; swap
            · iexact H9
            · ipureintro; exact View.read_writes_of_cover _ _ _ _ _ (cover0_F_9 c _ _ _ _ _ _ _ _ _ _ _ _ _ _ _ _ _ _ _ _ _ _ _ _ _ _ _ _ _ _ _ _ _ _ _ _ _ _ _ _ _ _ _ _ _ _ _ _ _ _ _)
          isplitl [H10]
          · unfold owns; iexists _; isplitr; swap
            · iexact H10
            · ipureintro; exact View.read_writes_of_cover _ _ _ _ _ (cover0_F_10 c _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr; swap
            · iexact H11
            · ipureintro; exact View.read_writes_of_cover _ _ _ _ _ (cover0_F_11 c _ _ _ _ _ _ _ _ _ _ _ _ _ _ _ _ _ _ _ _ _ _ _ _ _ _ _ _ _ _ _ _ _ _ _ _ _ _ _ _ _ _ _ _ _ _ _ _ _ _ _)
          unfold owns; iexists _; isplitr; swap
          · iexact H12
          · ipureintro; exact View.read_writes_of_cover _ _ _ _ _ (cover0_F_12 c _ _ _ _ _ _ _ _ _ _ _ _ _ _ _ _ _ _ _ _ _ _ _ _ _ _ _ _ _ _ _ _ _ _ _ _ _ _ _ _ _ _ _ _ _ _ _ _ _ _ _)
        · obtain ⟨i8, f8, fr8, i9, f9, fr9, i10, f10, fr10, i11, f11, fr11, i12, f12, fr12, sf0, sfn0, sf1, sfn1, sf2, sfn2, sf3, sfn3, sf4, sfn4⟩ := sched0_B ch t q0 q1 q2 q3
          have F0 := hypsR0_B ch t q0 q1 q2 q3
          have k0_hw1 := F0.1; have F1 := F0.2 k0_hw1
          have k0_h1 := F1.1; have F2 := F1.2
          have hc2 := F2.1; have F3 := F2.2
          have k0_h3 := F3.1; have F4 := F3.2
          have k0_h4 := F4.1; have F5 := F4.2
          have k0_h5 := F5.1; have F6 := F5.2
          have k0_h6 := F6.1; have F7 := F6.2
          have k0_h7 := F7.1; have F8 := F7.2
          clear F0 F1 F2 F3 F4 F5 F6 F7 F8
          rewrite [i8, i9]
          simp only [before0_0, before0_1, before0_2, before0_3, before0_4, before0_5, before0_6, before0_7, before0_8, before0_9, before0_10, before0_11, before0_12, after0_0, after0_1, after0_2, after0_3, after0_4, after0_5, after0_6, after0_7, after0_8, after0_9, after0_10, after0_11, after0_12, f8, f9, f10, f11, f12]
          simp only [fr8, fr9, fr10, fr11, fr12, Bool.false_eq_true, ↓reduceIte]
          rewrite [show (dats ch m ρ 0 c).Φ t.succ = Phi ch m ρ c t.succ from rfl, show (dats ch m ρ 0 c).Φ t.castSucc = Phi ch m ρ c t.castSucc from rfl,
            show (dats ch m ρ 0 c).owesAt () t.succ = (dats ch m ρ 0 c).owesAt () t.castSucc from rfl]
          try rewrite [traj0_eq, step0_B ch m ρ c t _ q0 q1 q2 q3]
          unfold Phi; simp only [prev0T_castSucc, prev0T_succ, traj0_eq, step0_B ch m ρ c t _ q0 q1 q2 q3, Fin.val_castSucc, Fin.val_succ]
          simp only [exists_held sf0, exists_held sf1, exists_held sf2, exists_held sf3, exists_held sf4]
          iintro ⟨⟨HS0, HS1, HS2, HS3, HS4, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (pinT_0 ch) (pinT_1 ch) (pinT_2 ch) (iblk ch m ρ c (0 : Fin 13) t) (iblk ch m ρ c (1 : Fin 13) t) (iblk ch m ρ c (2 : Fin 13) t) (iblk ch m ρ c (3 : Fin 13) t) (iblk ch m ρ c (4 : Fin 13) t) (iblk ch m ρ c (5 : Fin 13) t) (iblk ch m ρ c (6 : Fin 13) t) (iblk ch m ρ c (7 : Fin 13) t) _ _ _ _ _ k0_hw1 k0_h1 hc2 k0_h3 k0_h4 k0_h5 k0_h6 k0_h7).2.2.2.2.2 _ _ _ _ _ _)
          isplitl [H0]; · iapply rep_of_owns; iexact H0
          isplitl [H1]; · iapply rep_of_owns; iexact H1
          isplitl [H2]; · iapply rep_of_owns; iexact H2
          isplitl [H3]; · iapply rep_of_owns; iexact H3
          isplitl [H4]; · iapply rep_of_owns; iexact H4
          isplitl [H5]; · iapply rep_of_owns; iexact H5
          isplitl [H6]; · iapply rep_of_owns; iexact H6
          isplitl [H7]; · iapply rep_of_owns; iexact H7
          isplitl [HT0]; · iexact HT0
          isplitl [HT1]; · iexact HT1
          isplitl [HT2]; · iexact HT2
          isplitl [H8]; · iexact H8
          isplitl [H9]; · iexact H9
          isplitl [H10]; · iexact H10
          isplitl [H11]; · iexact H11
          isplitl [H12]; · iexact H12
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, HT0, HT1, HT2, H8, H9, H10, H11, H12, HS0, HS1, HS2, HS3, HS4⟩
          isplitl [HS0 HS1 HS2 HS3 HS4 HT0 HT1 HT2]
          · isplitl [HS0]
            · iexists _; isplitr; swap
              · iexact HS0
              · ipureintro; intro hn; first | rfl | exact absurd hn (by first | (rw [sfn0]; decide) | decide)
            isplitl [HS1]
            · iexists _; isplitr; swap
              · iexact HS1
              · ipureintro; intro hn; first | rfl | exact absurd hn (by first | (rw [sfn1]; decide) | decide)
            isplitl [HS2]
            · iexists _; isplitr; swap
              · iexact HS2
              · ipureintro; intro hn; first | rfl | exact absurd hn (by first | (rw [sfn2]; decide) | decide)
            isplitl [HS3]
            · iexists _; isplitr; swap
              · iexact HS3
              · ipureintro; intro hn; first | rfl | exact absurd hn (by first | (rw [sfn3]; decide) | decide)
            isplitl [HS4]
            · iexists _; isplitr; swap
              · iexact HS4
              · ipureintro; intro hn; first | rfl | exact absurd hn (by first | (rw [sfn4]; decide) | decide)
            isplitl [HT0]
            · iexact HT0
            isplitl [HT1]
            · iexact HT1
            iexact HT2
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          isplitl [H4]
          · iapply owns_of_rep; iexact H4
          isplitl [H5]
          · iapply owns_of_rep; iexact H5
          isplitl [H6]
          · iapply owns_of_rep; iexact H6
          isplitl [H7]
          · iapply owns_of_rep; iexact H7
          isplitl [H8]
          · first | (iexists d8; iexact H8) | iexact H8
          isplitl [H9]
          · first | (iexists d9; iexact H9) | iexact H9
          isplitl [H10]
          · first | (iexists d10; iexact H10) | iexact H10
          isplitl [H11]
          · first | (iexists d11; iexact H11) | iexact H11
          first | (iexists d12; iexact H12) | iexact H12

end Cert.Kernel.Frame

end
-- ==== Proof.Frame.Launch.lean ====
/- The launch of the bit-exact kernel, and its frame. -/
module

public import proofs.«01_k».proof.Proof.Frame.Body

@[expose] public section

set_option maxRecDepth 16384
set_option Elab.async false

noncomputable section

namespace Cert.Kernel.Frame

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's propositions at the bit-exact values. -/
local notation "𝕄" => MT nD τ sig Unit (Elt Bits) ℕ (UR sig nD τ) ℕ

variable (ch : Fin 1)
variable (m : (ℓ : Loc nD τ sig) → Buf (Elt Bits) ℓ) (ρ : Dev nD → PrngReg)

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
noncomputable def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 3 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1, HT2⟩, ⟨%a0, HS0⟩, ⟨%a1, HS1⟩, ⟨%a2, HS2⟩, ⟨%a3, HS3⟩, ⟨%a4, HS4⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HS4]
  · iexists a4; isplitr; swap
    · iexact HS4
    · ipureintro; intro h; exact absurd (h.symm.trans (show sfresh0_4 ch 0 = true from rfl)) Bool.false_ne_true
  isplitl [HT0]
  · iexact HT0
  isplitl [HT1]
  · iexact HT1
  iexact HT2

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, ⟨%a4, -, HS4⟩, -, -, -⟩
  isplitr; · iempintro
  isplitl [HS0]
  · iexists a0; iexact HS0
  isplitl [HS1]
  · iexists a1; iexact HS1
  isplitl [HS2]
  · iexists a2; iexact HS2
  isplitl [HS3]
  · iexists a3; iexact HS3
  iexists a4; iexact HS4

/-- The physical post: every array at what the library computes, every table at what the pipeline ran at. -/
noncomputable def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 3) : m ((c : Thread nD τ).loc (pre0.ref j)) = (adm ch).1 j := by
  fin_cases j
  · exact hp.1 c
  · exact hp.2.1 c
  · exact hp.2.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 0).trans (hp.1 c).symm, ((h c).2 1).trans (hp.2.1 c).symm, ((h c).2 2).trans (hp.2.2 c).symm, ((h c).1 (0 : Fin 13)).trans ((dats ch m ρ 0 c).arrAt_in (0 : Fin 13) rfl _), ((h c).1 (1 : Fin 13)).trans ((dats ch m ρ 0 c).arrAt_in (1 : Fin 13) rfl _), ((h c).1 (2 : Fin 13)).trans ((dats ch m ρ 0 c).arrAt_in (2 : Fin 13) rfl _), ((h c).1 (3 : Fin 13)).trans ((dats ch m ρ 0 c).arrAt_in (3 : Fin 13) rfl _), ((h c).1 (4 : Fin 13)).trans ((dats ch m ρ 0 c).arrAt_in (4 : Fin 13) rfl _), ((h c).1 (5 : Fin 13)).trans ((dats ch m ρ 0 c).arrAt_in (5 : Fin 13) rfl _), ((h c).1 (6 : Fin 13)).trans ((dats ch m ρ 0 c).arrAt_in (6 : Fin 13) rfl _), ((h c).1 (7 : Fin 13)).trans ((dats ch m ρ 0 c).arrAt_in (7 : Fin 13) rfl _)⟩) (run_main ch m ρ hp)

/-- THE FRAME under the pinning: from a launch memory whose tables and steering words are member `ch`'s, every weakly fair
    execution terminates, nothing faults, every argument array ends unchanged and every semaphore counter of the machine reads
    zero at every final state — `Cert.quiescent_Kernel`'s post.
    Proof.lean: `theorem Cert.Proof.claim : Cert.Claim := ⟨Cert.Kernel.Gen.facts, <Pre>.Gen.facts, fun m ρ h => (pinned_of_pre m h).elim fun ch hp => Cert.Kernel.Gen.frame ch m ρ hp⟩`. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged ch m ρ hp) ((θ_run defs _ _).mono (fun _ h => h.2) (run_main_quiescent ch m ρ hp))

end Cert.Kernel.Frame

end
-- ==== Proof.Frames.lean ====
/- The frames of the three programs: each run terminates, nothing faults, and the argument arrays end unchanged. -/
module

public import proofs.«01_k».proof.Defs
public import proofs.«01_k».proof.Proof.Tables
public import proofs.«01_k».proof.Proof.Frame.Launch
public import proofs.«01_k».proof.Proof.Gen.KernelIdeal.Flash
public import proofs.«01_k».proof.Proof.Gen.ReferenceIdeal.Run
public import Idealize.ShloMosaic.Adequacy
public import Idealize.ShloMosaic.Init

@[expose] public section

noncomputable section

namespace Cert.Fox

open Idealize.ShloMosaic Idealize.SL.Sem

theorem frame_kernel : Cert.quiescent_Kernel :=
  fun m g h => Cert.Kernel.Frame.frame 0 m g (Cert.Kernel.pinned_of_tables m h)

theorem frame_ideal : Cert.quiescent_KernelIdeal :=
  fun m g h => Cert.KernelIdeal.Gen.frame 0 m g (Cert.KernelIdeal.pinned_of_tables m h)

theorem frame_reference : Cert.quiescent_ReferenceIdeal := fun m g _ =>
  (θ_run Cert.ReferenceIdeal.defs _ _).mono
    (fun r h => ⟨fun c => (h c).2.2.2.2.2, sem_eq_zero_of_no_sems (by decide) r.2⟩)
    (Cert.ReferenceIdeal.Value.run (F := Ideal) m g)

theorem preserves : Cert.preserves_Kernel_KernelIdeal :=
  IdealRules.named_const.statement _ _ _ _ _ rfl

end Cert.Fox

end
-- ==== Proof.Saved.lean ====
/- `saved` holds the comparisons of `tables`, so it pins the tables as well. -/
module

public import proofs.«01_k».proof.Proof.SavedShapes
public import proofs.«01_k».proof.Proof.Tables

@[expose] public section

noncomputable section

namespace Cert.Fox

open Idealize.ShloMosaic

instance : Subsingleton Cert.Pre_saved.S_.Idx := ⟨fun a b => funext fun k => k.elim0⟩

/-- `saved` holds the same three comparisons. -/
theorem of_saved {F : FTy → Type} [FloatOps F] {a0 a1 a2 : IVec Cert.Pre_saved.S72 32} {a3 a4 a5 a6 a7 a8 a9 a10}
    (h : Cert.Pre_saved.fn (F := F) a0 a1 a2 a3 a4 a5 a6 a7 a8 a9 a10 = fun _ => 1#1) :
    Cert.Pre_tables.fn (F := F) a0 a1 a2 a3 a4 a5 a6 a7 a8 a9 a10 = fun _ => 1#1 := by
  refine funext fun z => ?_
  have e := congrFun h z
  unfold Cert.Pre_saved.fn at e
  unfold Cert.Pre_saved.fn_part1 at e
  unfold Cert.Pre_saved.fn_part2 at e
  unfold Cert.Pre_saved.fn_part3 at e
  unfold Cert.Pre_saved.fn_part4 at e
  unfold Cert.Pre_saved.fn_part5 at e
  dsimp only at e
  obtain ⟨-, e'⟩ := and_one e
  exact e'

end Cert.Fox

namespace Cert.KernelIdeal

open Idealize.ShloMosaic Cert.KernelIdeal.Gen

theorem tables_of_saved (m : (ℓ : Loc nD τ sig) → Buf (Elt Ideal) ℓ) (h : Cert.Pre_KernelIdeal_saved m) : Cert.Pre_KernelIdeal m :=
  fun c => Cert.Fox.of_saved (h c)

theorem pinned_of_saved (m : (ℓ : Loc nD τ sig) → Buf (Elt Ideal) ℓ) (h : Cert.Pre_KernelIdeal_saved m) : Pinned 0 m :=
  pinned_of_tables m (tables_of_saved m h)

end Cert.KernelIdeal

end
-- ==== Proof.Schedule.lean ====
/-
  The schedule: which pair, query block and key block each of the 288 grid points is, which of the kernel's six paths it takes,
  and where its windows and its rows of the scratch arrays lie.
-/
module

public import proofs.«01_k».proof.Proof.Gen.KernelIdeal.Flash

@[expose] public section

set_option maxRecDepth 16384

noncomputable section

open Idealize.ShloMosaic Idealize.ShloMosaic.TcCoe

namespace Cert.KernelIdeal.Step

open Cert.KernelIdeal Cert.KernelIdeal.Gen

/-- The pair of point `n`. -/
def pn (n : ℕ) : ℕ := n / 72
/-- Key block `k` begins at this position of the 72 of a pair: it is met by the query blocks from `2 * k`. -/
def first (k : ℕ) : ℕ := 17 * k - k * k
/-- The key block of point `n`. -/
def kn (n : ℕ) : ℕ := ((List.range 7).filter fun k => first (k + 1) ≤ n % 72).length
/-- The query block of point `n`. -/
def qn (n : ℕ) : ℕ := 2 * kn n + (n % 72 - first (kn n))

theorem bounds : ∀ n : Fin 288, pn n < 4 ∧ kn n < 8 ∧ qn n < 16 ∧ 2 * kn n ≤ qn n := by decide +kernel

theorem at_A : ∀ t : Fin (cfgA 0).N, P0_0 0 t → qn t = 0 ∧ kn t = 0 := by decide +kernel
theorem at_E : ∀ t : Fin (cfgA 0).N, ¬P0_0 0 t → P0_1 0 t →
    0 < t.val ∧ pn t = pn (t - 1) ∧ qn t = 2 * kn t ∧ kn t = kn (t - 1) + 1 ∧ qn (t - 1) = 15 := by decide +kernel
theorem at_rest : ∀ t : Fin (cfgA 0).N, ¬P0_0 0 t → ¬P0_1 0 t →
    0 < t.val ∧ pn t = pn (t - 1) ∧ kn t = kn (t - 1) ∧ qn t = qn (t - 1) + 1 := by decide +kernel
theorem at_full : ∀ t : Fin (cfgA 0).N, ¬P0_0 0 t → ¬P0_1 0 t → P0_2 0 t → 2 * kn t + 2 ≤ qn t := by decide +kernel
theorem at_diag : ∀ t : Fin (cfgA 0).N, ¬P0_0 0 t → ¬P0_1 0 t → ¬P0_2 0 t → qn t = 2 * kn t + 1 := by decide +kernel
theorem at_end : ∀ t : Fin (cfgA 0).N, ¬P0_0 0 t → ¬P0_1 0 t → P0_3 0 t → qn t = 15 := by decide +kernel
theorem at_mid : ∀ t : Fin (cfgA 0).N, ¬P0_0 0 t → ¬P0_1 0 t → ¬P0_3 0 t → qn t ≠ 15 := by decide +kernel

theorem crd_val : ∀ t : Fin (cfgA 0).N, (crd 0 t 0).val = pn t := by decide +kernel

theorem word_r : ∀ t : Fin (cfgA 0).N, kernelRun0_A.sl.r (crd 0 t) (pinT_0 0) = BitVec.ofNat 32 (qn t) := by decide +kernel

end Cert.KernelIdeal.Step

end
-- ==== Proof.Spec.lean ====
/-
  One step of the backward pass of the forgetting attention, over the real numbers: a block of 512 queries against a
  block of `W` keys, for the two heads whose 64 columns lie side by side in the block's 128 lanes.
-/
module

public import Mathlib.Analysis.SpecialFunctions.Exp
public import Mathlib.Algebra.BigOperators.Fin

@[expose] public section

noncomputable section

namespace Cert.Fox

open Classical in
/-- The blocks a step reads, as real numbers: queries `Q`, keys `K`, values `V`, the output's gradient `D`, the
    log-sums `L` (lane = head of the pair), the row dots `R` (lane = head), the running sum of the log-gates at the
    block's first query `b` (lane = head) and at the keys `c` (row = head), and which pairs are causal. -/
structure Blk (W : ℕ) where
  Q : Fin 512 → Fin 128 → ℝ
  K : Fin W → Fin 128 → ℝ
  V : Fin W → Fin 128 → ℝ
  D : Fin 512 → Fin 128 → ℝ
  L : Fin 512 → Fin 128 → ℝ
  R : Fin 512 → Fin 128 → ℝ
  b : Fin 128 → ℝ
  c : Fin 8 → Fin W → ℝ
  M : Fin 512 → Fin W → Prop

namespace Blk

variable {W : ℕ} (B : Blk W) (h : Fin 8) (hh : Fin 2)

/-- The lane of head `h`, of the 128 lanes that hold one head each. -/
def lane (h : Fin 8) : Fin 128 := ⟨h.val, by omega⟩
/-- The lane of the pair's head `hh`. -/
def lane2 (hh : Fin 2) : Fin 128 := ⟨hh.val, by omega⟩

/-- The scaled queries at the lanes of head `hh` of the pair, zero at the other's. -/
def qm (t : Fin 512) (l : Fin 128) : ℝ := if l.val / 64 = hh.val then B.Q t l * (1 / 8) else 0
/-- The output's gradient at the lanes of head `hh`, zero at the other's. -/
def dm (t : Fin 512) (l : Fin 128) : ℝ := if l.val / 64 = hh.val then B.D t l else 0
/-- The score less the log-sum. -/
def sc (t : Fin 512) (s : Fin W) : ℝ := (∑ l, B.qm hh t l * B.K s l) + (B.b (lane h) - B.c h s) - B.L t (lane2 hh)
open Classical in
/-- The probability, rebuilt from the log-sum. -/
def p (t : Fin 512) (s : Fin W) : ℝ := if B.M t s then Real.exp (B.sc h hh t s) else 0
/-- The gradient of the score. -/
def ds (t : Fin 512) (s : Fin W) : ℝ := B.p h hh t s * ((∑ l, B.dm hh t l * B.V s l) - B.R t (lane h))

end Blk

end Cert.Fox

end
-- ==== Proof.Acc.lean ====
/-
  What one step adds to the five accumulators, as real numbers, and the steps of a launch on them.
-/
module

public import proofs.«01_k».proof.Proof.Spec

@[expose] public section

noncomputable section

namespace Cert.Fox

namespace Blk

variable {W : ℕ} (B : Blk W) (h0 h1 : Fin 8)

def dk (s : Fin W) (l : Fin 128) : ℝ := (∑ t, B.ds h0 0 t s * B.qm 0 t l) + ∑ t, B.ds h1 1 t s * B.qm 1 t l
def dv (s : Fin W) (l : Fin 128) : ℝ := (∑ t, B.p h0 0 t s * B.dm 0 t l) + ∑ t, B.p h1 1 t s * B.dm 1 t l
def dc (h : Fin 8) (s : Fin W) : ℝ :=
  (if h.val = h0.val then -∑ t, B.ds h0 0 t s else 0) + if h.val = h1.val then -∑ t, B.ds h1 1 t s else 0
def dq (t : Fin 512) (l : Fin 128) : ℝ :=
  ((if l.val / 64 = 0 then ∑ s, B.ds h0 0 t s * B.K s l else 0) + if l.val / 64 = 1 then ∑ s, B.ds h1 1 t s * B.K s l else 0) * (1 / 8)
def dcq (t : Fin 512) (l : Fin 128) : ℝ :=
  (if l.val = h0.val then ∑ s, B.ds h0 0 t s else 0) + if l.val = h1.val then ∑ s, B.ds h1 1 t s else 0

/-- The first 512 of a block's 1024 keys. -/
def half (B : Blk 1024) : Blk 512 where
  Q := B.Q
  K s := B.K (s.castLE (by decide))
  V s := B.V (s.castLE (by decide))
  D := B.D
  L := B.L
  R := B.R
  b := B.b
  c h s := B.c h (s.castLE (by decide))
  M t s := B.M t (s.castLE (by decide))

section Half

variable (B : Blk 1024) (hM : ∀ t s, B.M t s → s.val < 512) (h : Fin 8) (hh : Fin 2)

theorem half_ds (t : Fin 512) (s : Fin 512) : B.half.ds h hh t s = B.ds h hh t (s.castLE (by decide)) := rfl
theorem half_p (t : Fin 512) (s : Fin 512) : B.half.p h hh t s = B.p h hh t (s.castLE (by decide)) := rfl

include hM

theorem p_zero (t : Fin 512) (s : Fin 1024) (hs : 512 ≤ s.val) : B.p h hh t s = 0 :=
  if_neg fun hm => absurd (hM t s hm) (by omega)

theorem ds_zero (t : Fin 512) (s : Fin 1024) (hs : 512 ≤ s.val) : B.ds h hh t s = 0 := by
  simp [ds, B.p_zero hM h hh t s hs]

omit hM in
/-- A sum over 1024 keys whose upper half is zero. -/
theorem sum_lower (f : Fin 1024 → ℝ) (hf : ∀ s, 512 ≤ s.val → f s = 0) : ∑ s, f s = ∑ s : Fin 512, f (s.castLE (by decide)) := by
  have h : ∑ s : Fin 512, f (Fin.natAdd 512 s) = 0 := Finset.sum_eq_zero fun s _ => hf _ (Nat.le_add_right 512 s.val)
  rw [Fin.sum_univ_add (a := 512) (b := 512) f, h, add_zero]
  rfl

theorem half_dq (t : Fin 512) (l : Fin 128) : B.half.dq h0 h1 t l = B.dq h0 h1 t l := by
  unfold dq
  rw [sum_lower (fun s => B.ds h0 0 t s * B.K s l) fun s hs => by simp [B.ds_zero hM _ _ t s hs],
    sum_lower (fun s => B.ds h1 1 t s * B.K s l) fun s hs => by simp [B.ds_zero hM _ _ t s hs]]
  rfl

theorem half_dcq (t : Fin 512) (l : Fin 128) : B.half.dcq h0 h1 t l = B.dcq h0 h1 t l := by
  unfold dcq
  rw [sum_lower (fun s => B.ds h0 0 t s) fun s hs => B.ds_zero hM _ _ t s hs,
    sum_lower (fun s => B.ds h1 1 t s) fun s hs => B.ds_zero hM _ _ t s hs]
  rfl

theorem dk_zero (s : Fin 1024) (hs : 512 ≤ s.val) (l : Fin 128) : B.dk h0 h1 s l = 0 := by
  simp [dk, B.ds_zero hM _ _ _ s hs]
theorem dv_zero (s : Fin 1024) (hs : 512 ≤ s.val) (l : Fin 128) : B.dv h0 h1 s l = 0 := by
  simp [dv, B.p_zero hM _ _ _ s hs]
theorem dc_zero (h : Fin 8) (s : Fin 1024) (hs : 512 ≤ s.val) : B.dc h0 h1 h s = 0 := by
  simp [dc, B.ds_zero hM _ _ _ s hs]

end Half

end Blk

/-- The five accumulators. -/
@[ext] structure Acc where
  dq : Fin 8192 → Fin 128 → ℝ
  dk : Fin 1024 → Fin 128 → ℝ
  dv : Fin 1024 → Fin 128 → ℝ
  dc : Fin 8 → Fin 1024 → ℝ
  dcq : Fin 8192 → Fin 128 → ℝ

namespace Acc

/-- All five at zero. -/
def zero : Acc := ⟨0, 0, 0, 0, 0⟩
/-- The three of a key block at zero. -/
def clear (A : Acc) : Acc := ⟨A.dq, 0, 0, 0, A.dcq⟩

/-- `Y` at the 512 rows from `o`, zero elsewhere. -/
def rows (o : ℕ) (Y : Fin 512 → Fin 128 → ℝ) (r : Fin 8192) (l : Fin 128) : ℝ :=
  if h : o ≤ r.val ∧ r.val < o + 512 then Y ⟨r.val - o, by omega⟩ l else 0

/-- One step: the block's contribution, its queries the rows from `o`. -/
def add (A : Acc) (B : Blk 1024) (h0 h1 : Fin 8) (o : ℕ) : Acc where
  dq r l := A.dq r l + rows o (B.dq h0 h1) r l
  dk s l := A.dk s l + B.dk h0 h1 s l
  dv s l := A.dv s l + B.dv h0 h1 s l
  dc h s := A.dc h s + B.dc h0 h1 h s
  dcq r l := A.dcq r l + rows o (B.dcq h0 h1) r l

end Acc

end Cert.Fox

end
-- ==== Proof.Words.lean ====
/-
  The words of the payloads' masks, and sums of extended reals that are real numbers.
-/
module

public import Idealize.ShloMosaic.Lib.Pointwise
public import Idealize.ShloMosaic.Lib.WordCmp
public import proofs.«01_k».proof.Proof.Spec

@[expose] public section

noncomputable section

open Idealize.ShloMosaic Idealize.ShloMosaic.WordCmp

namespace Cert.Fox

/-- A sum of real numbers, read as an extended real. -/
theorem coe_sum {ι : Type} [Fintype ι] (f : ι → ℝ) : (∑ i, (f i : EReal)) = ((∑ i, f i : ℝ) : EReal) := by
  classical
  refine Finset.induction_on (Finset.univ : Finset ι) (by simp) fun a s ha ih => ?_
  rw [Finset.sum_insert ha, Finset.sum_insert ha, ih, EReal.coe_add]

theorem eighth : Ideal.ofBits .f32 1040187392#32 = ((1 / 8 : ℝ) : EReal) := by
  simp [Ideal.ofBits, Ideal.ieee, ← EReal.coe_mul]; norm_num

/-- A select on a decided condition. -/
theorem select_ofBool {α : Type} (P : Prop) [Decidable P] (a b : α) :
    Scalar.select (BitVec.ofBool (decide P)) a b = if P then a else b := by
  by_cases h : P <;> simp [Scalar.select, h]

theorem word_eq (x y : ℕ) (hx : x < 2 ^ 32) (hy : y < 2 ^ 32) :
    IntOp.cmpi .eq (BitVec.ofNat 32 x) (BitVec.ofNat 32 y) = BitVec.ofBool (decide (x = y)) := by
  exact cmpi_eq_ofNat hx hy

/-- A sum over lanes masked to one of them. -/
theorem sum_one {n : ℕ} (hn : n ≤ 2 ^ 32) (i : Fin n) (w : BitVec 32) (hw : w = BitVec.ofNat 32 i.val) (f : Fin n → EReal) :
    (∑ x : Fin n, Scalar.select (IntOp.cmpi .eq (BitVec.ofNat 32 x.val) w) (f x) 0) = f i := by
  have e : ∀ x : Fin n, Scalar.select (IntOp.cmpi .eq (BitVec.ofNat 32 x.val) w) (f x) 0 = if x = i then f x else 0 := fun x => by
    rw [hw, word_eq _ _ (by omega) (by omega), select_ofBool]
    simp only [Fin.ext_iff]
  simp only [e, Finset.sum_ite_eq', Finset.mem_univ, if_true]

theorem sum_lane (h : Fin 8) (f : Fin 128 → EReal) :
    (∑ x : Fin 128, Scalar.select (IntOp.cmpi .eq (BitVec.ofNat 32 x.val) (BitVec.ofNat 32 h.val)) (f x) 0) = f (Blk.lane h) :=
  sum_one (by norm_num) (Blk.lane h) _ rfl f
theorem sum_head (h : Fin 8) (f : Fin 8 → EReal) :
    (∑ x : Fin 8, Scalar.select (IntOp.cmpi .eq (BitVec.ofNat 32 x.val) (BitVec.ofNat 32 h.val)) (f x) 0) = f h :=
  sum_one (by norm_num) h _ rfl f
theorem sum_lane0 (f : Fin 128 → EReal) :
    (∑ x : Fin 128, Scalar.select (IntOp.cmpi .eq (BitVec.ofNat 32 x.val) 0#32) (f x) 0) = f (Blk.lane2 0) :=
  sum_one (by norm_num) (Blk.lane2 0) _ rfl f
theorem sum_lane1 (f : Fin 128 → EReal) :
    (∑ x : Fin 128, Scalar.select (IntOp.cmpi .eq (BitVec.ofNat 32 x.val) 1#32) (f x) 0) = f (Blk.lane2 1) :=
  sum_one (by norm_num) (Blk.lane2 1) _ rfl f

theorem sel_lane (l : Fin 128) (h : Fin 8) (a : EReal) :
    Scalar.select (IntOp.cmpi .eq (BitVec.ofNat 32 l.val) (BitVec.ofNat 32 h.val)) a 0 = if l.val = h.val then a else 0 := by
  rw [word_eq _ _ (by omega) (by omega), select_ofBool]
theorem sel_head (l : Fin 8) (h : Fin 8) (a : EReal) :
    Scalar.select (IntOp.cmpi .eq (BitVec.ofNat 32 l.val) (BitVec.ofNat 32 h.val)) a 0 = if l.val = h.val then a else 0 := by
  rw [word_eq _ _ (by omega) (by omega), select_ofBool]

theorem real_lane (h : Fin 8) (f : Fin 128 → ℝ) : (∑ x : Fin 128, if x.val = h.val then f x else 0) = f (Blk.lane h) := by
  simp [show ∀ x : Fin 128, (x.val = h.val) = (x = Blk.lane h) from fun x => by simp [Fin.ext_iff, Blk.lane]]
theorem ereal_lane (h : Fin 8) (f : Fin 128 → EReal) : (∑ x : Fin 128, if x.val = h.val then f x else 0) = f (Blk.lane h) := by
  simp [show ∀ x : Fin 128, (x.val = h.val) = (x = Blk.lane h) from fun x => by simp [Fin.ext_iff, Blk.lane]]
theorem real_head (h : Fin 8) (f : Fin 8 → ℝ) : (∑ x : Fin 8, if x.val = h.val then f x else 0) = f h := by
  simp [← Fin.ext_iff]

/-- The lanes of one head of the pair. -/
theorem sel_between (l : Fin 128) (lo hi hh : ℕ) (hlo : lo = 64 * hh) (hhi : hi = lo + 64) (hb : hh < 2) (a : EReal) :
    Scalar.select (IntOp.andi (IntOp.cmpi .sge (BitVec.ofNat 32 l.val) (BitVec.ofNat 32 lo)) (IntOp.cmpi .slt (BitVec.ofNat 32 l.val) (BitVec.ofNat 32 hi))) a 0
      = if l.val / 64 = hh then a else 0 := by
  rw [cmpi_sge_ofNat (by omega) (by omega), cmpi_slt_ofNat (by omega) (by omega),
    andi_ofBool, ← Bool.decide_and, select_ofBool]
  exact if_congr (by omega) rfl rfl
theorem sel_left (l : Fin 128) (a : EReal) :
    Scalar.select (IntOp.andi (IntOp.cmpi .sge (BitVec.ofNat 32 l.val) 0#32) (IntOp.cmpi .slt (BitVec.ofNat 32 l.val) 64#32)) a 0
      = if l.val / 64 = 0 then a else 0 := sel_between l 0 64 0 rfl rfl (by norm_num) a
theorem sel_right (l : Fin 128) (a : EReal) :
    Scalar.select (IntOp.andi (IntOp.cmpi .sge (BitVec.ofNat 32 l.val) 64#32) (IntOp.cmpi .slt (BitVec.ofNat 32 l.val) 128#32)) a 0
      = if l.val / 64 = 1 then a else 0 := sel_between l 64 128 1 rfl rfl (by norm_num) a

/-- A select on a causal mask whose rows start `off` below its columns. -/
theorem sel_causal (t s off : ℕ) (ht : t < 1024) (hs : s < 1024) (ho : off < 1024) (a b : EReal) :
    Scalar.select (IntOp.cmpi .sge (IntOp.addi (BitVec.ofNat 32 t) (BitVec.ofNat 32 off)) (BitVec.ofNat 32 s)) a b
      = if s ≤ t + off then a else b := by
  rw [show IntOp.addi (BitVec.ofNat 32 t) (BitVec.ofNat 32 off) = BitVec.ofNat 32 (t + off) from (BitVec.ofNat_add t off).symm,
    cmpi_sge_ofNat (by omega) (by omega), select_ofBool]

/-- The words of the two heads of pair `pr`. -/
abbrev w0 (pr : BitVec 32) : BitVec 32 := Scalar.addi (Scalar.muli 2#32 pr) 0#32
abbrev w1 (pr : BitVec 32) : BitVec 32 := Scalar.addi (Scalar.muli 2#32 pr) 1#32

/-- A real number under a condition, zero otherwise. -/
theorem coe_ite (P : Prop) [Decidable P] (a : ℝ) : (if P then (a : EReal) else 0) = ((if P then a else 0 : ℝ) : EReal) := by
  split <;> rfl

/-- The exponential of a masked score: nothing outside the mask. -/
theorem exp_masked (P : Prop) [Decidable P] (a b : ℝ) :
    Ideal.exp ((if P then (a : EReal) else ⊥) - (b : EReal)) = ((if P then Real.exp (a - b) else 0 : ℝ) : EReal) := by
  split
  · rw [← EReal.coe_sub, Ideal.exp_coe]
  · rw [EReal.bot_sub]; rfl

end Cert.Fox

end
-- ==== Proof.StepLib.lean ====
/-
  The kernel's five scratch arrays as real numbers, and what its loads and stores do to them.
-/
module

public import proofs.«01_k».proof.Proof.Gen.KernelIdeal.Flash.Pins
public import proofs.«01_k».proof.Proof.Acc
public import proofs.«01_k».proof.Proof.Words
public import Idealize.ShloMosaic.Lib.VecWindow
public import Idealize.ShloMosaic.Lib.WritesUnit
public import Idealize.ShloMosaic.Lib.Pointwise

@[expose] public section

noncomputable section

open Idealize.ShloMosaic Idealize.ShloMosaic.TcCoe Idealize.SL.Sem

namespace Cert.KernelIdeal.Step

open Cert.KernelIdeal Cert.KernelIdeal.Gen Cert.Fox

/-- The five scratch arrays hold the accumulators `A`. -/
structure Reads (c : Dev nD) (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2)) (xa3 : Buf (Elt Ideal) ((c : Thread nD τ).loc cc0_scratch3))
    (xa4 : Buf (Elt Ideal) ((c : Thread nD τ).loc cc0_scratch4)) (A : Acc) : Prop where
  dq : ∀ r l, scM0_0.view.read (Elt Ideal) xa0 (ix2 r l) = (A.dq r l : EReal)
  dk : ∀ s l, scM0_1.view.read (Elt Ideal) xa1 (ix2 s l) = (A.dk s l : EReal)
  dv : ∀ s l, scM0_2.view.read (Elt Ideal) xa2 (ix2 s l) = (A.dv s l : EReal)
  dc : ∀ h s, scM0_3.view.read (Elt Ideal) xa3 (ix2 h s) = (A.dc h s : EReal)
  dcq : ∀ r l, scM0_4.view.read (Elt Ideal) xa4 (ix2 r l) = (A.dcq r l : EReal)

/-- The eight blocks a step reads hold the real numbers of `B`; the words `w0 pr`, `w1 pr` are the pair's two heads. -/
structure Args (pr : BitVec 32) (x0 : Vec Ideal S512x128 .f32) (x1 x2 : Vec Ideal S1024x128 .f32) (x3 : Vec Ideal S512x128 .f32)
    (x4 : Vec Ideal S1x512x128 .f32) (x5 x6 : Vec Ideal S512x128 .f32) (x7 : Vec Ideal S8x1024 .f32) (B : Blk 1024) (h0 h1 : Fin 8) : Prop where
  w0 : w0 pr = BitVec.ofNat 32 h0.val
  w1 : w1 pr = BitVec.ofNat 32 h1.val
  q : ∀ t l, x0 (ix2 t l) = (B.Q t l : EReal)
  d : ∀ t l, x3 (ix2 t l) = (B.D t l : EReal)
  k : ∀ s l, x1 (ix2 s l) = (B.K s l : EReal)
  v : ∀ s l, x2 (ix2 s l) = (B.V s l : EReal)
  ls : ∀ t hh, x4 (ix3 0 t (Blk.lane2 hh)) = (B.L t (Blk.lane2 hh) : EReal)
  de : ∀ t h, x5 (ix2 t (Blk.lane h)) = (B.R t (Blk.lane h) : EReal)
  cr : ∀ h, x6 (ix2 0 (Blk.lane h)) = (B.b (Blk.lane h) : EReal)
  ct : ∀ h s, x7 (ix2 h s) = (B.c h s : EReal)

variable {sg : RefSig} {κ : Kind} {sp : Space} {s : Shape} {e : EltTy}

/-- A load of a whole block through its window. -/
theorem load_whole (v : View sg κ sp s e) {off : Fin s.rank → ℕ} (inb : ∀ a, off a + s.size a ≤ s.size a) (x : s.Idx → Elt Ideal e) :
    v.readAt (Elt Ideal) (Rect.unit off s.size inb).toLoadRect (v.rep x) = x := by
  rw [View.readAt_full, View.read_rep]

/-- A load reads the buffer at the rectangle's places. -/
theorem load_at (v : View sg κ sp s e) (r : LoadRect s) (f : v.ty.Contents (Elt Ideal)) (y : r.shape.Idx) :
    v.readAt (Elt Ideal) r f y = v.read (Elt Ideal) f (r.idx y) := rfl

/-- A rectangle at the origin keeps the places. -/
theorem idx_origin {m n M N : ℕ} {off : Fin 2 → ℕ} (hoff : off = ![0, 0]) (inb : ∀ a, off a + (⟨2, ![m, n]⟩ : Shape).size a ≤ (⟨2, ![M, N]⟩ : Shape).size a)
    (hm : m ≤ M) (hn : n ≤ N) (a : Fin m) (b : Fin n) :
    (Rect.unit (s := ⟨2, ![M, N]⟩) off (⟨2, ![m, n]⟩ : Shape).size inb).toLoadRect.idx (ix2 a b) = ix2 (a.castLE hm) (b.castLE hn) := by
  subst hoff
  funext k
  refine Fin.ext ?_
  match k with
  | ⟨0, _⟩ => show 0 + 1 * a.val = a.val; omega
  | ⟨1, _⟩ => show 0 + 1 * b.val = b.val; omega

/-- A rectangle of whole rows from row `o`. -/
theorem idx_rows {off : Fin 2 → ℕ} {o : ℕ} (hoff : off = ![o, 0]) (inb : ∀ a, off a + S512x128.size a ≤ S8192x128.size a)
    (t : Fin 512) (l : Fin 128) (r : Fin 8192) (hr : r.val = o + t.val) :
    (Rect.unit (s := S8192x128) off S512x128.size inb).toLoadRect.idx (ix2 t l) = ix2 r l := by
  subst hoff
  funext k
  refine Fin.ext ?_
  match k with
  | ⟨0, _⟩ => show o + 1 * t.val = r.val; omega
  | ⟨1, _⟩ => show 0 + 1 * l.val = l.val; omega

/-- Storing, at the 512 rows from `o`, what they held plus `Y`. -/
theorem add_rows (v : View sg κ sp S8192x128 .f32) (f : v.ty.Contents (Elt Ideal)) (L : List (View.Piece (Elt Ideal) S8192x128 .f32))
    {off : Fin 2 → ℕ} {o : ℕ} (hoff : off = ![o, 0]) (inb : ∀ a, off a + S512x128.size a ≤ S8192x128.size a)
    (w : (Rect.unit (s := S8192x128) off S512x128.size inb).shape.Idx → Elt Ideal .f32) (X : Fin 8192 → Fin 128 → ℝ) (Y : Fin 512 → Fin 128 → ℝ)
    (hX : ∀ r l, v.read (Elt Ideal) (v.writes (Elt Ideal) f L) (ix2 r l) = (X r l : EReal))
    (hw : ∀ (t : Fin 512) (l : Fin 128), w (ix2 t l)
      = v.readAt (Elt Ideal) (Rect.unit (s := S8192x128) off S512x128.size inb).toLoadRect (v.writes (Elt Ideal) f L) (ix2 t l) + (Y t l : EReal))
    (r : Fin 8192) (l : Fin 128) :
    v.read (Elt Ideal) (v.writes (Elt Ideal) f (⟨Rect.unit (s := S8192x128) off S512x128.size inb, w⟩ :: L)) (ix2 r l)
      = ((X r l + Acc.rows o Y r l : ℝ) : EReal) := by
  by_cases h : o ≤ r.val ∧ r.val < o + 512
  · have hr : r.val = o + (⟨r.val - o, by omega⟩ : Fin 512).val := by show r.val = o + (r.val - o); omega
    rw [View.read_writes_cons_rows_of_mem v f inb w L (ix2 r l) (ix2 (⟨r.val - o, by omega⟩ : Fin 512) l) hoff hr rfl,
      hw, load_at, idx_rows hoff inb _ _ r hr, hX, Acc.rows, dif_pos h, EReal.coe_add]
  · rw [View.read_writes_cons_rows_of_not_mem v f inb w L (ix2 r l) hoff (W := 512) rfl (by show r.val < o ∨ o + 512 ≤ r.val; omega),
      hX, Acc.rows, dif_neg h, add_zero]

/-- Storing over a sub-rectangle at the origin: inside it the payload, outside it what was there. -/
theorem put_origin {m n M N : ℕ} (v : View sg κ sp ⟨2, ![M, N]⟩ e) (f : v.ty.Contents (Elt Ideal))
    (L : List (View.Piece (Elt Ideal) ⟨2, ![M, N]⟩ e)) {off : Fin 2 → ℕ} (hoff : off = ![0, 0])
    (inb : ∀ a, off a + (⟨2, ![m, n]⟩ : Shape).size a ≤ (⟨2, ![M, N]⟩ : Shape).size a)
    (w : (Rect.unit (s := ⟨2, ![M, N]⟩) off (⟨2, ![m, n]⟩ : Shape).size inb).shape.Idx → Elt Ideal e) (a : Fin M) (b : Fin N) :
    v.read (Elt Ideal) (v.writes (Elt Ideal) f (⟨Rect.unit (s := ⟨2, ![M, N]⟩) off (⟨2, ![m, n]⟩ : Shape).size inb, w⟩ :: L)) (ix2 a b)
      = if h : a.val < m ∧ b.val < n then w (ix2 (⟨a.val, h.1⟩ : Fin m) (⟨b.val, h.2⟩ : Fin n))
        else v.read (Elt Ideal) (v.writes (Elt Ideal) f L) (ix2 a b) := by
  by_cases h : a.val < m ∧ b.val < n
  · rw [dif_pos h]
    refine View.read_writes_cons_unit_of_mem v f inb w L (ix2 a b) (ix2 (⟨a.val, h.1⟩ : Fin m) (⟨b.val, h.2⟩ : Fin n)) hoff fun k => ?_
    match k with
    | ⟨0, _⟩ => exact (Nat.zero_add _).symm
    | ⟨1, _⟩ => exact (Nat.zero_add _).symm
  · rw [dif_neg h]
    by_cases ha : a.val < m
    · refine View.read_writes_cons_unit_of_not_mem v f inb w L (ix2 a b) hoff 1 (Or.inr ?_)
      show 0 + n ≤ b.val
      have := not_and.mp h ha
      omega
    · refine View.read_writes_cons_unit_of_not_mem v f inb w L (ix2 a b) hoff 0 (Or.inr ?_)
      show 0 + m ≤ a.val
      omega

/-- Two stores over a whole buffer, each of what it held plus something: before the first, `X`. -/
theorem add_twice {M N : ℕ} (v : View sg κ sp ⟨2, ![M, N]⟩ .f32) (f g : v.ty.Contents (Elt Ideal)) {off : Fin 2 → ℕ}
    (inb : ∀ a, off a + (⟨2, ![M, N]⟩ : Shape).size a ≤ (⟨2, ![M, N]⟩ : Shape).size a)
    {w1 w2 : (Rect.unit (s := ⟨2, ![M, N]⟩) off (⟨2, ![M, N]⟩ : Shape).size inb).shape.Idx → Elt Ideal .f32} {X Y1 Y2 : Fin M → Fin N → ℝ}
    (hX : ∀ a b, v.read (Elt Ideal) f (ix2 a b) = (X a b : EReal))
    (h1 : ∀ (a : Fin M) (b : Fin N), w1 (ix2 a b)
      = v.readAt (Elt Ideal) (Rect.unit (s := ⟨2, ![M, N]⟩) off (⟨2, ![M, N]⟩ : Shape).size inb).toLoadRect f (ix2 a b) + (Y1 a b : EReal))
    (h2 : ∀ (a : Fin M) (b : Fin N), w2 (ix2 a b)
      = v.readCov [⟨Rect.unit (s := ⟨2, ![M, N]⟩) off (⟨2, ![M, N]⟩ : Shape).size inb, w1⟩]
          (Rect.unit (s := ⟨2, ![M, N]⟩) off (⟨2, ![M, N]⟩ : Shape).size inb).toLoadRect (ix2 a b) + (Y2 a b : EReal)) (a : Fin M) (b : Fin N) :
    v.read (Elt Ideal) (v.writes (Elt Ideal) g [⟨Rect.unit (s := ⟨2, ![M, N]⟩) off (⟨2, ![M, N]⟩ : Shape).size inb, w2⟩,
        ⟨Rect.unit (s := ⟨2, ![M, N]⟩) off (⟨2, ![M, N]⟩ : Shape).size inb, w1⟩]) (ix2 a b)
      = ((X a b + (Y1 a b + Y2 a b) : ℝ) : EReal) := by
  have e1 := h1 a b
  have e2 := h2 a b
  rw [View.readAt_full, hX] at e1
  rw [View.readCov_full] at e2
  rw [View.read_writes_full, e2, e1, ← EReal.coe_add, ← EReal.coe_add, add_assoc]

/-- Two stores over a rectangle at the origin, each of what it held plus something, over stores that left `X`. -/
theorem put_twice {m n M N : ℕ} (v : View sg κ sp ⟨2, ![M, N]⟩ .f32) (L : List (View.Piece (Elt Ideal) ⟨2, ![M, N]⟩ .f32)) {off : Fin 2 → ℕ}
    (hoff : off = ![0, 0]) (inb : ∀ a, off a + (⟨2, ![m, n]⟩ : Shape).size a ≤ (⟨2, ![M, N]⟩ : Shape).size a) (hm : m ≤ M) (hn : n ≤ N)
    {w1 w2 : (Rect.unit (s := ⟨2, ![M, N]⟩) off (⟨2, ![m, n]⟩ : Shape).size inb).shape.Idx → Elt Ideal .f32}
    {X Z : Fin M → Fin N → ℝ} {Y1 Y2 : Fin m → Fin n → ℝ}
    (hX : ∀ a b, v.read (Elt Ideal) (v.writes (Elt Ideal) v.junk L) (ix2 a b) = (X a b : EReal))
    (h1 : ∀ (a : Fin m) (b : Fin n), w1 (ix2 a b)
      = v.readCov L (Rect.unit (s := ⟨2, ![M, N]⟩) off (⟨2, ![m, n]⟩ : Shape).size inb).toLoadRect (ix2 a b) + (Y1 a b : EReal))
    (h2 : ∀ (a : Fin m) (b : Fin n), w2 (ix2 a b)
      = v.readCov (⟨Rect.unit (s := ⟨2, ![M, N]⟩) off (⟨2, ![m, n]⟩ : Shape).size inb, w1⟩ :: L)
          (Rect.unit (s := ⟨2, ![M, N]⟩) off (⟨2, ![m, n]⟩ : Shape).size inb).toLoadRect (ix2 a b) + (Y2 a b : EReal))
    (hin : ∀ (a : Fin m) (b : Fin n), Y1 a b + Y2 a b = Z (a.castLE hm) (b.castLE hn))
    (hout : ∀ (a : Fin M) (b : Fin N), ¬(a.val < m ∧ b.val < n) → Z a b = 0) (a : Fin M) (b : Fin N) :
    v.read (Elt Ideal) (v.writes (Elt Ideal) v.junk (⟨Rect.unit (s := ⟨2, ![M, N]⟩) off (⟨2, ![m, n]⟩ : Shape).size inb, w2⟩
        :: ⟨Rect.unit (s := ⟨2, ![M, N]⟩) off (⟨2, ![m, n]⟩ : Shape).size inb, w1⟩ :: L)) (ix2 a b)
      = ((X a b + Z a b : ℝ) : EReal) := by
  rw [put_origin v _ _ hoff inb w2 a b]
  by_cases h : a.val < m ∧ b.val < n
  · have e1 := h1 ⟨a.val, h.1⟩ ⟨b.val, h.2⟩
    have e2 := h2 ⟨a.val, h.1⟩ ⟨b.val, h.2⟩
    rw [View.readCov, load_at, idx_origin hoff inb hm hn] at e1 e2
    have e3 := put_origin v v.junk L hoff inb w1 a b
    rw [dif_pos h] at e3
    rw [dif_pos h, e2]
    refine (congrArg (· + _) (e3.trans (e1.trans (congrArg (· + _) (hX a b))))).trans ?_
    rw [← EReal.coe_add, ← EReal.coe_add, add_assoc, hin]
    rfl
  · rw [dif_neg h, put_origin v _ _ hoff inb w1 a b, dif_neg h, hX, hout a b h, add_zero]

end Cert.KernelIdeal.Step

end
-- ==== Proof.PayFull.lean ====
/-
  A step whose block lies wholly below the diagonal: what each store adds, for the pair's first head and for its second.
-/
module

public import proofs.«01_k».proof.Proof.Gen.KernelIdeal.Skeleton
public import proofs.«01_k».proof.Proof.Words
public import Idealize.ShloMosaic.Lib.Pointwise

@[expose] public section

set_option maxRecDepth 16384

noncomputable section

open Idealize.ShloMosaic Idealize.ShloMosaic.TcCoe Idealize.SL.Sem

namespace Cert.KernelIdeal.PayFull

open Cert.KernelIdeal Cert.KernelIdeal.Gen Cert.Fox

variable (pr : BitVec 32) (q d : Vec Ideal S512x128 .f32) (k v : Vec Ideal S1024x128 .f32) (ls : Vec Ideal S1x512x128 .f32)
  (de : Vec Ideal S512x128 .f32) (cr : Vec Ideal S1x128 .f32) (ct : Vec Ideal S8x1024 .f32)

abbrev p0 : FVec Ideal S512x1024 .f32 := k0_pay24 (k0_pay16 k) ct (w0 pr) (k0_pay21 q) (k0_pay23 pr cr) ls
abbrev dp0 : FVec Ideal S512x1024 .f32 := k0_pay26 (k0_pay17 v) (k0_pay22 d)
abbrev dl0 : Vec Ideal S512x128 .f32 := k0_pay27 (w0 pr) de
abbrev s1 : FVec Ideal S512x1024 .f32 := k0_pay37 pr (k0_pay15 q) (k0_pay16 k) ct cr
abbrev ds1 : FVec Ideal S512x1024 .f32 :=
  k0_pay42 (k0_pay17 v) (w1 pr) (k0_pay36 d) (s1 pr q k cr ct) (k0_pay38 ls) k0_pay39 de
abbrev rows : IVec S8x1024 32 := iota .tc S8x1024 32 [0] iota_S8x1024_d0_w32
abbrev lanes : IVec S512x128 32 := iota .tc S512x128 32 [1] iota_S512x128_d1_w32

/-- The step's blocks hold the real numbers of `B`, and nothing is masked. -/
structure Holds (B : Blk 1024) (h0 h1 : Fin 8) : Prop where
  w0 : w0 pr = BitVec.ofNat 32 h0.val
  w1 : w1 pr = BitVec.ofNat 32 h1.val
  q : ∀ t l, q (ix2 t l) = (B.Q t l : EReal)
  d : ∀ t l, d (ix2 t l) = (B.D t l : EReal)
  k : ∀ s l, k (ix2 s l) = (B.K s l : EReal)
  v : ∀ s l, v (ix2 s l) = (B.V s l : EReal)
  ls : ∀ t hh, ls (ix3 0 t (Blk.lane2 hh)) = (B.L t (Blk.lane2 hh) : EReal)
  de : ∀ t h, de (ix2 t (Blk.lane h)) = (B.R t (Blk.lane h) : EReal)
  cr : ∀ h, cr (ix2 0 (Blk.lane h)) = (B.b (Blk.lane h) : EReal)
  ct : ∀ h s, ct (ix2 h s) = (B.c h s : EReal)

attribute [local simp] real_lane ereal_lane real_head sum_lane sum_head sum_lane0 sum_lane1 sel_left sel_right sel_lane sel_head eighth coe_ite exp_masked coe_sum Ideal.exp_coe
attribute [local simp ←] EReal.coe_mul EReal.coe_add EReal.coe_sub EReal.coe_neg

variable {pr q d k v ls de cr ct} {B : Blk 1024} {h0 h1 : Fin 8} (H : Holds pr q d k v ls de cr ct B h0 h1) (hM : ∀ t s, B.M t s)

include H hM

theorem p0_at (t : Fin 512) (s : Fin 1024) : p0 pr q k ls cr ct (ix2 t s) = (B.p h0 0 t s : EReal) := by
  pointwise [p0, k0_pay24, k0_pay16, k0_pay21, k0_pay20, k0_pay23, k0_pay15]
  simp [H.w0, H.q, H.k, H.cr, H.ct, H.ls, Blk.p, Blk.sc, Blk.qm, hM]

theorem ds0_at (t : Fin 512) (s : Fin 1024) :
    k0_pay28 (p0 pr q k ls cr ct) (dp0 d v) (dl0 pr de) (ix2 t s) = (B.ds h0 0 t s : EReal) := by
  have hp := p0_at H hM
  pointwise [k0_pay28, dp0, dl0, k0_pay26, k0_pay27, k0_pay17, k0_pay22, k0_pay20, hp]
  simp [H.w0, H.d, H.v, H.de, Blk.ds, Blk.dm]

theorem dv0_at (old : Vec Ideal S1024x128 .f32) (s : Fin 1024) (l : Fin 128) :
    k0_pay25 (k0_pay16 k) ct (w0 pr) (k0_pay21 q) (k0_pay22 d) (k0_pay23 pr cr) ls old (ix2 s l)
      = old (ix2 s l) + ((∑ t, B.p h0 0 t s * B.dm 0 t l : ℝ) : EReal) := by
  have hp := p0_at H hM
  pointwise [k0_pay25, k0_pay22, k0_pay20, hp]
  simp [H.d, Blk.dm]

theorem dc0_at (old : Vec Ideal S8x1024 .f32) (h : Fin 8) (s : Fin 1024) :
    k0_pay29 rows (w0 pr) (p0 pr q k ls cr ct) (dp0 d v) (dl0 pr de) old (ix2 h s)
      = old (ix2 h s) + ((if h.val = h0.val then -∑ t, B.ds h0 0 t s else 0 : ℝ) : EReal) := by
  have hp := ds0_at H hM
  pointwise [k0_pay29, rows, hp]
  simp [H.w0]

theorem dcq0_at (t : Fin 512) (l : Fin 128) :
    k0_pay30 k0_pay19 lanes (w0 pr) (p0 pr q k ls cr ct) (dp0 d v) (dl0 pr de) (ix2 t l)
      = ((if l.val = h0.val then ∑ s, B.ds h0 0 t s else 0 : ℝ) : EReal) := by
  have hp := ds0_at H hM
  pointwise [k0_pay30, k0_pay19, lanes, hp]
  simp [H.w0]

theorem dk0_at (old : Vec Ideal S1024x128 .f32) (s : Fin 1024) (l : Fin 128) :
    k0_pay32 (k0_pay21 q) (p0 pr q k ls cr ct) (dp0 d v) (dl0 pr de) old (ix2 s l)
      = old (ix2 s l) + ((∑ t, B.ds h0 0 t s * B.qm 0 t l : ℝ) : EReal) := by
  have hp := ds0_at H hM
  pointwise [k0_pay32, k0_pay31, k0_pay21, k0_pay20, k0_pay15, hp]
  simp [H.q, Blk.qm]

theorem dq0_at (t : Fin 512) (l : Fin 128) :
    k0_pay33 (k0_pay16 k) k0_pay18 k0_pay20 (p0 pr q k ls cr ct) (dp0 d v) (dl0 pr de) (ix2 t l)
      = ((if l.val / 64 = 0 then ∑ s, B.ds h0 0 t s * B.K s l else 0 : ℝ) : EReal) := by
  have hp := ds0_at H hM
  pointwise [k0_pay33, k0_pay31, k0_pay18, k0_pay20, k0_pay16, hp]
  simp [H.k]

theorem p1_at (t : Fin 512) (s : Fin 1024) :
    k0_pay40 (s1 pr q k cr ct) (k0_pay38 ls) k0_pay39 (ix2 t s) = (B.p h1 1 t s : EReal) := by
  pointwise [s1, k0_pay40, k0_pay38, k0_pay39, k0_pay37, k0_pay35, k0_pay34, k0_pay16, k0_pay15]
  simp [H.w1, H.q, H.k, H.cr, H.ct, H.ls, Blk.p, Blk.sc, Blk.qm, hM]

theorem ds1_at (t : Fin 512) (s : Fin 1024) : ds1 pr q d k v ls de cr ct (ix2 t s) = (B.ds h1 1 t s : EReal) := by
  have hp := p1_at H hM
  pointwise [ds1, k0_pay42, k0_pay17, k0_pay36, k0_pay34, hp]
  simp [H.w1, H.d, H.v, H.de, Blk.ds, Blk.dm]

theorem dv1_at (old : Vec Ideal S1024x128 .f32) (s : Fin 1024) (l : Fin 128) :
    k0_pay41 (k0_pay36 d) (s1 pr q k cr ct) (k0_pay38 ls) k0_pay39 old (ix2 s l)
      = old (ix2 s l) + ((∑ t, B.p h1 1 t s * B.dm 1 t l : ℝ) : EReal) := by
  have hp := p1_at H hM
  pointwise [k0_pay41, k0_pay36, k0_pay34, hp]
  simp [H.d, Blk.dm]

theorem dc1_at (old : Vec Ideal S8x1024 .f32) (h : Fin 8) (s : Fin 1024) :
    k0_pay44 (k0_pay43 (k0_pay17 v) rows (w1 pr) (k0_pay36 d) (s1 pr q k cr ct) (k0_pay38 ls) k0_pay39 de old) (ix2 h s)
      = old (ix2 h s) + ((if h.val = h1.val then -∑ t, B.ds h1 1 t s else 0 : ℝ) : EReal) := by
  have hp := ds1_at H hM
  pointwise [k0_pay44, k0_pay43, rows, hp]
  simp [H.w1]

theorem dk1_at (old : Vec Ideal S1024x128 .f32) (s : Fin 1024) (l : Fin 128) :
    k0_pay46 (k0_pay35 (k0_pay15 q)) (ds1 pr q d k v ls de cr ct) old (ix2 s l)
      = old (ix2 s l) + ((∑ t, B.ds h1 1 t s * B.qm 1 t l : ℝ) : EReal) := by
  have hp := ds1_at H hM
  pointwise [k0_pay46, k0_pay45, k0_pay35, k0_pay34, k0_pay15, hp]
  simp [H.q, Blk.qm]

theorem dq1_at (old : Vec Ideal S512x128 .f32) (t : Fin 512) (l : Fin 128) :
    k0_pay47 (k0_pay16 k) (k0_pay33 (k0_pay16 k) k0_pay18 k0_pay20 (p0 pr q k ls cr ct) (dp0 d v) (dl0 pr de))
        k0_pay34 (ds1 pr q d k v ls de cr ct) old (ix2 t l)
      = old (ix2 t l) + ((((if l.val / 64 = 0 then ∑ s, B.ds h0 0 t s * B.K s l else 0)
          + if l.val / 64 = 1 then ∑ s, B.ds h1 1 t s * B.K s l else 0) * (1 / 8) : ℝ) : EReal) := by
  have hp := ds1_at H hM
  have hq := dq0_at H hM
  generalize k0_pay33 (k0_pay16 k) k0_pay18 k0_pay20 (p0 pr q k ls cr ct) (dp0 d v) (dl0 pr de) = y at hq ⊢
  pointwise [k0_pay47, k0_pay45, k0_pay34, k0_pay16, hp, hq]
  simp [H.k]

theorem dcq1_at (old : Vec Ideal S512x128 .f32) (t : Fin 512) (l : Fin 128) :
    k0_pay48 lanes (k0_pay30 k0_pay19 lanes (w0 pr) (p0 pr q k ls cr ct) (dp0 d v) (dl0 pr de)) (w1 pr)
        (ds1 pr q d k v ls de cr ct) old (ix2 t l)
      = old (ix2 t l) + (((if l.val = h0.val then ∑ s, B.ds h0 0 t s else 0)
          + (if l.val = h1.val then ∑ s, B.ds h1 1 t s else 0) : ℝ) : EReal) := by
  have hp := ds1_at H hM
  have hq := dcq0_at H hM
  pointwise [k0_pay48, lanes, hp, hq]
  simp [H.w1]

end Cert.KernelIdeal.PayFull

end
-- ==== Proof.PayStore.lean ====
/-
  The payloads that only move data: zeros, the row-wise accumulations, and the casts that write the results out.
-/
module

public import proofs.«01_k».proof.Proof.Gen.KernelIdeal.Skeleton
public import proofs.«01_k».proof.Proof.Words
public import Idealize.ShloMosaic.Lib.Pointwise

@[expose] public section

set_option maxRecDepth 16384

noncomputable section

open Idealize.ShloMosaic Idealize.ShloMosaic.TcCoe Idealize.SL.Sem

namespace Cert.KernelIdeal.PayStore

open Cert.KernelIdeal Cert.KernelIdeal.Gen Cert.Fox

attribute [local simp] eighth

theorem zero1 (r : Fin 8192) (l : Fin 128) : k0_pay1 (F := Ideal) (ix2 r l) = ((0 : ℝ) : EReal) := by
  pointwise [k0_pay1]
  exact EReal.coe_zero.symm
theorem zero2 (r : Fin 8192) (l : Fin 128) : k0_pay2 (F := Ideal) (ix2 r l) = ((0 : ℝ) : EReal) := by
  pointwise [k0_pay2]
  exact EReal.coe_zero.symm
theorem zero3 (s : Fin 1024) (l : Fin 128) : k0_pay3 (F := Ideal) (ix2 s l) = ((0 : ℝ) : EReal) := by
  pointwise [k0_pay3]
  exact EReal.coe_zero.symm
theorem zero4 (s : Fin 1024) (l : Fin 128) : k0_pay4 (F := Ideal) (ix2 s l) = ((0 : ℝ) : EReal) := by
  pointwise [k0_pay4]
  exact EReal.coe_zero.symm
theorem zero5 (h : Fin 8) (s : Fin 1024) : k0_pay5 (F := Ideal) (ix2 h s) = ((0 : ℝ) : EReal) := by
  pointwise [k0_pay5]
  exact EReal.coe_zero.symm

theorem pay6_at (w old : Vec Ideal S512x128 .f32) (t : Fin 512) (l : Fin 128) :
    k0_pay6 w old (ix2 t l) = old (ix2 t l) + w (ix2 t l) * ((1 / 8 : ℝ) : EReal) := by
  pointwise [k0_pay6]
  simp
theorem pay7_at (w old : Vec Ideal S512x128 .f32) (t : Fin 512) (l : Fin 128) :
    k0_pay7 w old (ix2 t l) = old (ix2 t l) + w (ix2 t l) := by
  pointwise [k0_pay7]

/-- The scaled accumulation of a row block whose payload is real. -/
theorem row6 {w old : Vec Ideal S512x128 .f32} {t : Fin 512} {l : Fin 128} {y : ℝ} (hw : w (ix2 t l) = (y : EReal)) :
    k0_pay6 w old (ix2 t l) = old (ix2 t l) + ((y * (1 / 8) : ℝ) : EReal) := by
  rw [pay6_at, hw, EReal.coe_mul]
theorem row7 {w old : Vec Ideal S512x128 .f32} {t : Fin 512} {l : Fin 128} {y : ℝ} (hw : w (ix2 t l) = (y : EReal)) :
    k0_pay7 w old (ix2 t l) = old (ix2 t l) + (y : EReal) := by
  rw [pay7_at, hw]

theorem pay10_at (x : Vec Ideal S1024x128 .f32) (s : Fin 1024) (l : Fin 128) : k0_pay10 x (ix2 s l) = x (ix2 s l) := by
  pointwise [k0_pay10]
theorem pay11_at (x : Vec Ideal S1024x128 .f32) (s : Fin 1024) (l : Fin 128) : k0_pay11 x (ix2 s l) = x (ix2 s l) := by
  pointwise [k0_pay11]
theorem pay12_at (x : Vec Ideal S8x1024 .f32) (h : Fin 8) (s : Fin 1024) : k0_pay12 x (ix3 0 h s) = x (ix2 h s) := by
  pointwise [k0_pay12]
theorem pay13_at (x : Vec Ideal S8192x128 .f32) (r : Fin 8192) (l : Fin 128) : k0_pay13 x (ix2 r l) = x (ix2 r l) := by
  pointwise [k0_pay13]
theorem pay14_at (x : Vec Ideal S8192x128 .f32) (r : Fin 8192) (l : Fin 128) : k0_pay14 x (ix3 0 r l) = x (ix2 r l) := by
  pointwise [k0_pay14]

end Cert.KernelIdeal.PayStore

end
-- ==== Proof.StepFull.lean ====
/-
  A step whose block lies wholly below the diagonal: what the five scratch arrays hold after it, with the key block going on
  (path C) and at its last query block (path D).
-/
module

public import proofs.«01_k».proof.Proof.Gen.KernelIdeal.Flash.Runs
public import proofs.«01_k».proof.Proof.StepLib
public import proofs.«01_k».proof.Proof.PayFull
public import proofs.«01_k».proof.Proof.PayStore

@[expose] public section

set_option maxRecDepth 16384

noncomputable section

open Idealize.ShloMosaic Idealize.ShloMosaic.TcCoe Idealize.SL.Sem

namespace Cert.KernelIdeal.StepFull

open Cert.KernelIdeal Cert.KernelIdeal.Gen Cert.Fox Cert.KernelIdeal.Step

variable {c : Dev nD} {i : grid0.Coords} {arg5 : Memref sig .tc .vmem S512x128 .f32} {arg6 arg7 : Memref sig .tc .vmem S1024x128 .f32}
  {arg8 : Memref sig .tc .vmem S512x128 .f32} {arg9 : Memref sig .tc .vmem S1x512x128 .f32} {arg10 arg11 : Memref sig .tc .vmem S512x128 .f32}
  {arg12 : Memref sig .tc .vmem S8x1024 .f32}
  {x0 : Vec Ideal S512x128 .f32} {x1 x2 : Vec Ideal S1024x128 .f32} {x3 : Vec Ideal S512x128 .f32} {x4 : Vec Ideal S1x512x128 .f32}
  {x5 x6 : Vec Ideal S512x128 .f32} {x7 : Vec Ideal S8x1024 .f32}
variable {B : Blk 1024} {h0 h1 : Fin 8} (H : Args (BitVec.ofNat 32 (i 0).val) x0 x1 x2 x3 x4 x5 x6 x7 B h0 h1)
  (hM : ∀ t s, B.M t s)

variable (arg5 arg6 arg7 arg8 arg9 arg10 arg11 arg12) in
include H in
/-- The values the step loads. -/
theorem loads : PayFull.Holds (BitVec.ofNat 32 (i 0).val)
    (View.readAt (Elt Ideal) arg5.view (Rect.unit (s := S512x128) ![0, 0] S512x128.size inb_S512x128_S512x128_0_0).toLoadRect (arg5.view.rep x0))
    (View.readAt (Elt Ideal) arg8.view (Rect.unit (s := S512x128) ![0, 0] S512x128.size inb_S512x128_S512x128_0_0).toLoadRect (arg8.view.rep x3))
    (View.readAt (Elt Ideal) arg6.view (Rect.unit (s := S1024x128) ![0, 0] S1024x128.size inb_S1024x128_S1024x128_0_0).toLoadRect (arg6.view.rep x1))
    (View.readAt (Elt Ideal) arg7.view (Rect.unit (s := S1024x128) ![0, 0] S1024x128.size inb_S1024x128_S1024x128_0_0).toLoadRect (arg7.view.rep x2))
    (View.readAt (Elt Ideal) arg9.view (Rect.unit (s := S1x512x128) ![0, 0, 0] S1x512x128.size inb_S1x512x128_S1x512x128_0_0_0).toLoadRect (arg9.view.rep x4))
    (View.readAt (Elt Ideal) arg10.view (Rect.unit (s := S512x128) ![0, 0] S512x128.size inb_S512x128_S512x128_0_0).toLoadRect (arg10.view.rep x5))
    (View.readAt (Elt Ideal) arg11.view (Rect.unit (s := S512x128) ![0, 0] S1x128.size inb_S512x128_S1x128_0_0).toLoadRect (arg11.view.rep x6))
    (View.readAt (Elt Ideal) arg12.view (Rect.unit (s := S8x1024) ![0, 0] S8x1024.size inb_S8x1024_S8x1024_0_0).toLoadRect (arg12.view.rep x7)) B h0 h1 where
  w0 := H.w0
  w1 := H.w1
  q := by rw [load_whole]; exact H.q
  d := by rw [load_whole]; exact H.d
  k := by rw [load_whole]; exact H.k
  v := by rw [load_whole]; exact H.v
  ls := by rw [load_whole]; exact H.ls
  de := by rw [load_whole]; exact H.de
  cr l := by rw [load_at, View.read_rep]; erw [idx_origin (m := 1) (n := 128) rfl _ (by decide) (by decide)]; exact H.cr l
  ct := by rw [load_whole]; exact H.ct

variable {T0 T2 : S72.Idx → Elt Ideal .i32}
  {xa0 : Buf (Elt Ideal) ((c : Thread nD τ).loc cc0_scratch0)} {xa1 : Buf (Elt Ideal) ((c : Thread nD τ).loc cc0_scratch1)}
  {xa2 : Buf (Elt Ideal) ((c : Thread nD τ).loc cc0_scratch2)} {xa3 : Buf (Elt Ideal) ((c : Thread nD τ).loc cc0_scratch3)}
  {xa4 : Buf (Elt Ideal) ((c : Thread nD τ).loc cc0_scratch4)} {A : Acc} (R : Reads c xa0 xa1 xa2 xa3 xa4 A) {o : ℕ}

include H hM R in
theorem step_C (hw : k0_chk1 (kernelRun0_C.sl.r i T0) (kernelRun0_C.sl.r_2 i T2)) (h3 : k0_cond3 (kernelRun0_C.sl.r_2 i T2) = 1#1)
    (ho : k0_off2 (kernelRun0_C.sl.r i T0) = ![o, 0]) :
    Reads c (scM0_0.view.writes (Elt Ideal) xa0 [⟨Rect.unit (s := S8192x128) (k0_off2 (kernelRun0_C.sl.r i T0)) S512x128.size (hw.2.1 h3),
        kernelRun0_C.sl.v263 c i arg5 arg6 arg7 arg8 arg9 arg10 arg11 arg12 T0 T2 x0 x1 x2 x3 x4 x5 x6 x7 xa0 hw h3⟩])
      (scM0_1.view.writes (Elt Ideal) scM0_1.view.junk (kernelRun0_C.sl.HS1_2 c i arg5 arg6 arg7 arg8 arg9 arg10 arg11 arg12 x0 x1 x2 x3 x4 x5 x6 x7 xa1))
      (scM0_2.view.writes (Elt Ideal) scM0_2.view.junk (kernelRun0_C.sl.HS2_2 c i arg5 arg6 arg8 arg9 arg11 arg12 x0 x1 x3 x4 x6 x7 xa2))
      (scM0_3.view.writes (Elt Ideal) scM0_3.view.junk (kernelRun0_C.sl.HS3_2 c i arg5 arg6 arg7 arg8 arg9 arg10 arg11 arg12 x0 x1 x2 x3 x4 x5 x6 x7 xa3))
      (scM0_4.view.writes (Elt Ideal) xa4 [⟨Rect.unit (s := S8192x128) (k0_off2 (kernelRun0_C.sl.r i T0)) S512x128.size (hw.2.1 h3),
        kernelRun0_C.sl.v270 c i arg5 arg6 arg7 arg8 arg9 arg10 arg11 arg12 T0 T2 x0 x1 x2 x3 x4 x5 x6 x7 xa4 hw h3⟩]) (A.add B h0 h1 o) where
  dq := add_rows scM0_0.view xa0 [] ho (hw.2.1 h3) _ A.dq (B.dq h0 h1) R.dq fun t l => PayFull.dq1_at (loads arg5 arg6 arg7 arg8 arg9 arg10 arg11 arg12 H) hM _ t l
  dk := add_twice scM0_1.view xa1 _ inb_S1024x128_S1024x128_0_0 R.dk (fun s l => PayFull.dk0_at (loads arg5 arg6 arg7 arg8 arg9 arg10 arg11 arg12 H) hM _ s l) fun s l => PayFull.dk1_at (loads arg5 arg6 arg7 arg8 arg9 arg10 arg11 arg12 H) hM _ s l
  dv := add_twice scM0_2.view xa2 _ inb_S1024x128_S1024x128_0_0 R.dv (fun s l => PayFull.dv0_at (loads arg5 arg6 arg7 arg8 arg9 arg10 arg11 arg12 H) hM _ s l) fun s l => PayFull.dv1_at (loads arg5 arg6 arg7 arg8 arg9 arg10 arg11 arg12 H) hM _ s l
  dc := add_twice scM0_3.view xa3 _ inb_S8x1024_S8x1024_0_0 R.dc (fun h s => PayFull.dc0_at (loads arg5 arg6 arg7 arg8 arg9 arg10 arg11 arg12 H) hM _ h s) fun h s => PayFull.dc1_at (loads arg5 arg6 arg7 arg8 arg9 arg10 arg11 arg12 H) hM _ h s
  dcq := add_rows scM0_4.view xa4 [] ho (hw.2.1 h3) _ A.dcq (B.dcq h0 h1) R.dcq fun t l => PayFull.dcq1_at (loads arg5 arg6 arg7 arg8 arg9 arg10 arg11 arg12 H) hM _ t l

include H hM R in
theorem step_D (hw : k0_chk1 (kernelRun0_D.sl.r i T0) (kernelRun0_D.sl.r_2 i T2)) (h3 : k0_cond3 (kernelRun0_D.sl.r_2 i T2) = 1#1)
    (ho : k0_off2 (kernelRun0_D.sl.r i T0) = ![o, 0]) :
    Reads c (scM0_0.view.writes (Elt Ideal) xa0 [⟨Rect.unit (s := S8192x128) (k0_off2 (kernelRun0_D.sl.r i T0)) S512x128.size (hw.2.1 h3),
        kernelRun0_D.sl.v263 c i arg5 arg6 arg7 arg8 arg9 arg10 arg11 arg12 T0 T2 x0 x1 x2 x3 x4 x5 x6 x7 xa0 hw h3⟩])
      (scM0_1.view.writes (Elt Ideal) scM0_1.view.junk (kernelRun0_D.sl.HS1_2 c i arg5 arg6 arg7 arg8 arg9 arg10 arg11 arg12 x0 x1 x2 x3 x4 x5 x6 x7 xa1))
      (scM0_2.view.writes (Elt Ideal) scM0_2.view.junk (kernelRun0_D.sl.HS2_2 c i arg5 arg6 arg8 arg9 arg11 arg12 x0 x1 x3 x4 x6 x7 xa2))
      (scM0_3.view.writes (Elt Ideal) scM0_3.view.junk (kernelRun0_D.sl.HS3_2 c i arg5 arg6 arg7 arg8 arg9 arg10 arg11 arg12 x0 x1 x2 x3 x4 x5 x6 x7 xa3))
      (scM0_4.view.writes (Elt Ideal) xa4 [⟨Rect.unit (s := S8192x128) (k0_off2 (kernelRun0_D.sl.r i T0)) S512x128.size (hw.2.1 h3),
        kernelRun0_D.sl.v270 c i arg5 arg6 arg7 arg8 arg9 arg10 arg11 arg12 T0 T2 x0 x1 x2 x3 x4 x5 x6 x7 xa4 hw h3⟩]) (A.add B h0 h1 o) where
  dq := add_rows scM0_0.view xa0 [] ho (hw.2.1 h3) _ A.dq (B.dq h0 h1) R.dq fun t l => PayFull.dq1_at (loads arg5 arg6 arg7 arg8 arg9 arg10 arg11 arg12 H) hM _ t l
  dk := add_twice scM0_1.view xa1 _ inb_S1024x128_S1024x128_0_0 R.dk (fun s l => PayFull.dk0_at (loads arg5 arg6 arg7 arg8 arg9 arg10 arg11 arg12 H) hM _ s l) fun s l => PayFull.dk1_at (loads arg5 arg6 arg7 arg8 arg9 arg10 arg11 arg12 H) hM _ s l
  dv := add_twice scM0_2.view xa2 _ inb_S1024x128_S1024x128_0_0 R.dv (fun s l => PayFull.dv0_at (loads arg5 arg6 arg7 arg8 arg9 arg10 arg11 arg12 H) hM _ s l) fun s l => PayFull.dv1_at (loads arg5 arg6 arg7 arg8 arg9 arg10 arg11 arg12 H) hM _ s l
  dc := add_twice scM0_3.view xa3 _ inb_S8x1024_S8x1024_0_0 R.dc (fun h s => PayFull.dc0_at (loads arg5 arg6 arg7 arg8 arg9 arg10 arg11 arg12 H) hM _ h s) fun h s => PayFull.dc1_at (loads arg5 arg6 arg7 arg8 arg9 arg10 arg11 arg12 H) hM _ h s
  dcq := add_rows scM0_4.view xa4 [] ho (hw.2.1 h3) _ A.dcq (B.dcq h0 h1) R.dcq fun t l => PayFull.dcq1_at (loads arg5 arg6 arg7 arg8 arg9 arg10 arg11 arg12 H) hM _ t l

end Cert.KernelIdeal.StepFull

end
-- ==== Proof.PayDiag.lean ====
/-
  The second step of a key block: all its keys against the second block of queries, under the causal mask.
-/
module

public import proofs.«01_k».proof.Proof.Gen.KernelIdeal.Skeleton
public import proofs.«01_k».proof.Proof.Words
public import Idealize.ShloMosaic.Lib.Pointwise

@[expose] public section

set_option maxRecDepth 16384

noncomputable section

open Idealize.ShloMosaic Idealize.ShloMosaic.TcCoe Idealize.SL.Sem

namespace Cert.KernelIdeal.PayDiag

open Cert.KernelIdeal Cert.KernelIdeal.Gen Cert.Fox

variable (pr off : BitVec 32) (q d : Vec Ideal S512x128 .f32) (k v : Vec Ideal S1024x128 .f32) (ls : Vec Ideal S1x512x128 .f32)
  (de : Vec Ideal S512x128 .f32) (cr : Vec Ideal S1x128 .f32) (ct : Vec Ideal S8x1024 .f32)

abbrev rows : IVec S8x1024 32 := iota .tc S8x1024 32 [0] iota_S8x1024_d0_w32
abbrev lanes : IVec S512x128 32 := iota .tc S512x128 32 [1] iota_S512x128_d1_w32
abbrev lane1 : IVec S1x128 32 := iota .tc S1x128 32 [1] iota_S1x128_d1_w32
abbrev p0 : FVec Ideal S512x1024 .f32 := k0_pay92 (k0_pay84 k) ct (w0 pr) (k0_pay89 q) off cr lane1 (k0_pay91 pr) ls
abbrev p1 : FVec Ideal S512x1024 .f32 :=
  k0_pay107 ct off (k0_pay104 pr cr) (k0_pay105 (k0_pay83 q) (k0_pay84 k)) (k0_pay106 pr) (Scalar.ofBits .f32 0x00000000#32) ls
abbrev dp1 : FVec Ideal S512x1024 .f32 := k0_pay109 (k0_pay85 v) (k0_pay103 d)
abbrev dl1 : Vec Ideal S512x128 .f32 := k0_pay110 (w1 pr) de
abbrev dsb0 : FVec Ideal S512x1024 .bf16 := k0_pay97 (k0_pay85 v) (w0 pr) (k0_pay90 d) (p0 pr off q k ls cr ct) de
abbrev dcq0 : FVec Ideal S512x128 .f32 := k0_pay96 (k0_pay85 v) k0_pay87 lanes (w0 pr) (k0_pay90 d) (p0 pr off q k ls cr ct) de
abbrev dq0 : FVec Ideal S512x128 .f32 := k0_pay100 (k0_pay84 k) k0_pay86 k0_pay88 (dsb0 pr off q d k v ls de cr ct)

/-- The step's blocks hold the real numbers of `B`, and query `t` sees key `s` when `s ≤ t + o`. -/
structure Holds (B : Blk 1024) (h0 h1 : Fin 8) (o : Fin 1024) : Prop where
  w0 : w0 pr = BitVec.ofNat 32 h0.val
  w1 : w1 pr = BitVec.ofNat 32 h1.val
  off : off = BitVec.ofNat 32 o.val
  q : ∀ t l, q (ix2 t l) = (B.Q t l : EReal)
  d : ∀ t l, d (ix2 t l) = (B.D t l : EReal)
  k : ∀ s l, k (ix2 s l) = (B.K s l : EReal)
  v : ∀ s l, v (ix2 s l) = (B.V s l : EReal)
  ls : ∀ t hh, ls (ix3 0 t (Blk.lane2 hh)) = (B.L t (Blk.lane2 hh) : EReal)
  de : ∀ t h, de (ix2 t (Blk.lane h)) = (B.R t (Blk.lane h) : EReal)
  cr : ∀ h, cr (ix2 0 (Blk.lane h)) = (B.b (Blk.lane h) : EReal)
  ct : ∀ h s, ct (ix2 h s) = (B.c h s : EReal)
  m : ∀ t s, B.M t s ↔ s.val ≤ t.val + o.val

attribute [local simp] real_lane ereal_lane real_head sum_lane sum_head sum_lane0 sum_lane1 sel_left sel_right sel_lane sel_head eighth coe_ite exp_masked coe_sum Ideal.exp_coe
attribute [local simp ←] EReal.coe_mul EReal.coe_add EReal.coe_sub EReal.coe_neg

/-- The mask's value at the ideal instance: no score at all. -/
theorem masked : Named.named Cert.KernelIdeal.κ "mask" 4048155338#32 = (⊥ : Ideal .f32) := by
  rfl

variable {pr off q d k v ls de cr ct} {B : Blk 1024} {h0 h1 : Fin 8} {o : Fin 1024} (H : Holds pr off q d k v ls de cr ct B h0 h1 o)

include H

theorem p0_at (t : Fin 512) (s : Fin 1024) : p0 pr off q k ls cr ct (ix2 t s) = (B.p h0 0 t s : EReal) := by
  pointwise [p0, lane1, k0_pay92, k0_pay84, k0_pay83, k0_pay88, k0_pay89, k0_pay91]
  rw [H.off, sel_causal _ _ _ (by omega) (by omega) o.isLt, masked]
  simp [H.w0, H.off, H.q, H.k, H.cr, H.ct, H.ls, Blk.p, Blk.sc, Blk.qm, H.m]

theorem ds0_at (t : Fin 512) (s : Fin 1024) :
    k0_pay94 (k0_pay85 v) (w0 pr) (k0_pay90 d) (p0 pr off q k ls cr ct) de (ix2 t s) = (B.ds h0 0 t s : EReal) := by
  have hp := p0_at H
  pointwise [k0_pay94, k0_pay85, k0_pay90, k0_pay88, hp]
  simp [H.w0, H.d, H.v, H.de, Blk.ds, Blk.dm]

theorem dv0_at (old : Vec Ideal S1024x128 .f32) (s : Fin 1024) (l : Fin 128) :
    k0_pay93 (k0_pay84 k) ct (w0 pr) (k0_pay89 q) (k0_pay90 d) off cr lane1 (k0_pay91 pr) ls old (ix2 s l)
      = old (ix2 s l) + ((∑ t, B.p h0 0 t s * B.dm 0 t l : ℝ) : EReal) := by
  have hp := p0_at H
  pointwise [k0_pay93, k0_pay90, k0_pay88, hp]
  simp [H.d, Blk.dm]

theorem dc0_at (old : Vec Ideal S8x1024 .f32) (h : Fin 8) (s : Fin 1024) :
    k0_pay95 (k0_pay85 v) rows (w0 pr) (k0_pay90 d) (p0 pr off q k ls cr ct) de old (ix2 h s)
      = old (ix2 h s) + ((if h.val = h0.val then -∑ t, B.ds h0 0 t s else 0 : ℝ) : EReal) := by
  have hp := ds0_at H
  pointwise [k0_pay95, rows, hp]
  simp [H.w0]

theorem dcq0_at (t : Fin 512) (l : Fin 128) :
    dcq0 pr off q d k v ls de cr ct (ix2 t l) = ((if l.val = h0.val then ∑ s, B.ds h0 0 t s else 0 : ℝ) : EReal) := by
  have hp := ds0_at H
  pointwise [dcq0, k0_pay96, k0_pay87, lanes, hp]
  simp [H.w0]

theorem dsb0_at (t : Fin 512) (s : Fin 1024) : dsb0 pr off q d k v ls de cr ct (ix2 t s) = (B.ds h0 0 t s : EReal) := by
  have hp := ds0_at H
  pointwise [dsb0, k0_pay97, hp]

theorem dk0_at (old : Vec Ideal S1024x128 .f32) (s : Fin 1024) (l : Fin 128) :
    k0_pay99 (k0_pay98 (k0_pay85 v) (w0 pr) (k0_pay89 q) (k0_pay90 d) (p0 pr off q k ls cr ct) de old) (ix2 s l)
      = old (ix2 s l) + ((∑ t, B.ds h0 0 t s * B.qm 0 t l : ℝ) : EReal) := by
  have hp := dsb0_at H
  pointwise [k0_pay99, k0_pay98, k0_pay89, k0_pay88, k0_pay83, hp]
  simp [H.q, Blk.qm]

theorem dq0_at (t : Fin 512) (l : Fin 128) :
    dq0 pr off q d k v ls de cr ct (ix2 t l)
      = ((if l.val / 64 = 0 then ∑ s, B.ds h0 0 t s * B.K s l else 0 : ℝ) : EReal) := by
  have hp := dsb0_at H
  pointwise [dq0, k0_pay100, k0_pay86, k0_pay88, k0_pay84, hp]
  simp [H.k]

theorem p1_at (t : Fin 512) (s : Fin 1024) : p1 pr off q k ls cr ct (ix2 t s) = (B.p h1 1 t s : EReal) := by
  pointwise [p1, k0_pay107, k0_pay104, k0_pay105, k0_pay106, k0_pay102, k0_pay101, k0_pay84, k0_pay83]
  rw [H.off, sel_causal _ _ _ (by omega) (by omega) o.isLt, masked]
  simp [H.w1, H.off, H.q, H.k, H.cr, H.ct, H.ls, Blk.p, Blk.sc, Blk.qm, H.m]

theorem ds1_at (t : Fin 512) (s : Fin 1024) :
    k0_pay111 (p1 pr off q k ls cr ct) (dp1 d v) (dl1 pr de) (ix2 t s) = (B.ds h1 1 t s : EReal) := by
  have hp := p1_at H
  pointwise [k0_pay111, dp1, dl1, k0_pay109, k0_pay110, k0_pay85, k0_pay103, k0_pay101, hp]
  simp [H.w1, H.d, H.v, H.de, Blk.ds, Blk.dm]

theorem dv1_at (old : Vec Ideal S1024x128 .f32) (s : Fin 1024) (l : Fin 128) :
    k0_pay108 ct (k0_pay103 d) off (k0_pay104 pr cr) (k0_pay105 (k0_pay83 q) (k0_pay84 k)) (k0_pay106 pr) (Scalar.ofBits .f32 0x00000000#32) ls old (ix2 s l)
      = old (ix2 s l) + ((∑ t, B.p h1 1 t s * B.dm 1 t l : ℝ) : EReal) := by
  have hp := p1_at H
  unfold p1 at hp
  unfold k0_pay108
  generalize k0_pay107 ct off (k0_pay104 pr cr) (k0_pay105 (k0_pay83 q) (k0_pay84 k)) (k0_pay106 pr) (Scalar.ofBits .f32 0x00000000#32) ls = y at hp ⊢
  pointwise [k0_pay103, k0_pay101, hp]
  simp [H.d, Blk.dm]

theorem dc1_at (old : Vec Ideal S8x1024 .f32) (h : Fin 8) (s : Fin 1024) :
    k0_pay112 rows (w1 pr) (p1 pr off q k ls cr ct) (dp1 d v) (dl1 pr de) old (ix2 h s)
      = old (ix2 h s) + ((if h.val = h1.val then -∑ t, B.ds h1 1 t s else 0 : ℝ) : EReal) := by
  have hp := ds1_at H
  pointwise [k0_pay112, rows, hp]
  simp [H.w1]

theorem dk1_at (old : Vec Ideal S1024x128 .f32) (s : Fin 1024) (l : Fin 128) :
    k0_pay115 (k0_pay102 (k0_pay83 q)) (p1 pr off q k ls cr ct) (dp1 d v) (dl1 pr de) old (ix2 s l)
      = old (ix2 s l) + ((∑ t, B.ds h1 1 t s * B.qm 1 t l : ℝ) : EReal) := by
  have hp := ds1_at H
  pointwise [k0_pay115, k0_pay114, k0_pay102, k0_pay101, k0_pay83, hp]
  simp [H.q, Blk.qm]

theorem dq1_at (t : Fin 512) (l : Fin 128) :
    k0_pay116 (k0_pay84 k) (dq0 pr off q d k v ls de cr ct) k0_pay101 (p1 pr off q k ls cr ct) (dp1 d v) (dl1 pr de) (ix2 t l)
      = (((if l.val / 64 = 0 then ∑ s, B.ds h0 0 t s * B.K s l else 0)
          + (if l.val / 64 = 1 then ∑ s, B.ds h1 1 t s * B.K s l else 0) : ℝ) : EReal) := by
  have hp := ds1_at H
  have hq := dq0_at H
  generalize dq0 pr off q d k v ls de cr ct = y at hq ⊢
  pointwise [k0_pay116, k0_pay114, k0_pay101, k0_pay84, hp, hq]
  simp [H.k]

theorem dcq1_at (t : Fin 512) (l : Fin 128) :
    k0_pay113 lanes (dcq0 pr off q d k v ls de cr ct) (w1 pr) (p1 pr off q k ls cr ct) (dp1 d v) (dl1 pr de) (ix2 t l)
      = (((if l.val = h0.val then ∑ s, B.ds h0 0 t s else 0)
          + (if l.val = h1.val then ∑ s, B.ds h1 1 t s else 0) : ℝ) : EReal) := by
  have hp := ds1_at H
  have hq := dcq0_at H
  generalize dcq0 pr off q d k v ls de cr ct = y at hq ⊢
  pointwise [k0_pay113, lanes, hp, hq]
  simp [H.w1]

end Cert.KernelIdeal.PayDiag

end
-- ==== Proof.StepDiag.lean ====
/-
  A step whose block the diagonal crosses at its upper 512 keys: what the five scratch arrays hold after it, with the key
  block going on (path B) and at the last of all blocks (path F).
-/
module

public import proofs.«01_k».proof.Proof.Gen.KernelIdeal.Flash.Runs
public import proofs.«01_k».proof.Proof.StepLib
public import proofs.«01_k».proof.Proof.PayDiag
public import proofs.«01_k».proof.Proof.PayStore

@[expose] public section

set_option maxRecDepth 16384

noncomputable section

open Idealize.ShloMosaic Idealize.ShloMosaic.TcCoe Idealize.SL.Sem

namespace Cert.KernelIdeal.StepDiag

open Cert.KernelIdeal Cert.KernelIdeal.Gen Cert.Fox Cert.KernelIdeal.Step

variable {c : Dev nD} {i : grid0.Coords} {arg5 : Memref sig .tc .vmem S512x128 .f32} {arg6 arg7 : Memref sig .tc .vmem S1024x128 .f32}
  {arg8 : Memref sig .tc .vmem S512x128 .f32} {arg9 : Memref sig .tc .vmem S1x512x128 .f32} {arg10 arg11 : Memref sig .tc .vmem S512x128 .f32}
  {arg12 : Memref sig .tc .vmem S8x1024 .f32}
  {x0 : Vec Ideal S512x128 .f32} {x1 x2 : Vec Ideal S1024x128 .f32} {x3 : Vec Ideal S512x128 .f32} {x4 : Vec Ideal S1x512x128 .f32}
  {x5 x6 : Vec Ideal S512x128 .f32} {x7 : Vec Ideal S8x1024 .f32}
variable {B : Blk 1024} {h0 h1 : Fin 8} (H : Args (BitVec.ofNat 32 (i 0).val) x0 x1 x2 x3 x4 x5 x6 x7 B h0 h1)
  (hM : ∀ t s, B.M t s ↔ s.val ≤ t.val + 512) {off : BitVec 32}
  (hoff : off = BitVec.ofNat 32 512)

variable (arg5 arg6 arg7 arg8 arg9 arg10 arg11 arg12) in
include H hM hoff in
/-- The values the step loads. -/
theorem loads : PayDiag.Holds (BitVec.ofNat 32 (i 0).val) off
    (View.readAt (Elt Ideal) arg5.view (Rect.unit (s := S512x128) ![0, 0] S512x128.size inb_S512x128_S512x128_0_0).toLoadRect (arg5.view.rep x0))
    (View.readAt (Elt Ideal) arg8.view (Rect.unit (s := S512x128) ![0, 0] S512x128.size inb_S512x128_S512x128_0_0).toLoadRect (arg8.view.rep x3))
    (View.readAt (Elt Ideal) arg6.view (Rect.unit (s := S1024x128) ![0, 0] S1024x128.size inb_S1024x128_S1024x128_0_0).toLoadRect (arg6.view.rep x1))
    (View.readAt (Elt Ideal) arg7.view (Rect.unit (s := S1024x128) ![0, 0] S1024x128.size inb_S1024x128_S1024x128_0_0).toLoadRect (arg7.view.rep x2))
    (View.readAt (Elt Ideal) arg9.view (Rect.unit (s := S1x512x128) ![0, 0, 0] S1x512x128.size inb_S1x512x128_S1x512x128_0_0_0).toLoadRect (arg9.view.rep x4))
    (View.readAt (Elt Ideal) arg10.view (Rect.unit (s := S512x128) ![0, 0] S512x128.size inb_S512x128_S512x128_0_0).toLoadRect (arg10.view.rep x5))
    (View.readAt (Elt Ideal) arg11.view (Rect.unit (s := S512x128) ![0, 0] S1x128.size inb_S512x128_S1x128_0_0).toLoadRect (arg11.view.rep x6))
    (View.readAt (Elt Ideal) arg12.view (Rect.unit (s := S8x1024) ![0, 0] S8x1024.size inb_S8x1024_S8x1024_0_0).toLoadRect (arg12.view.rep x7)) B h0 h1 512 where
  w0 := H.w0
  w1 := H.w1
  off := hoff
  q := by rw [load_whole]; exact H.q
  d := by rw [load_whole]; exact H.d
  k := by rw [load_whole]; exact H.k
  v := by rw [load_whole]; exact H.v
  ls := by rw [load_whole]; exact H.ls
  de := by rw [load_whole]; exact H.de
  cr l := by rw [load_at, View.read_rep]; erw [idx_origin (m := 1) (n := 128) rfl _ (by decide) (by decide)]; exact H.cr l
  ct := by rw [load_whole]; exact H.ct
  m t s := hM t s

variable {T0 T1 T2 : S72.Idx → Elt Ideal .i32}
  {xa0 : Buf (Elt Ideal) ((c : Thread nD τ).loc cc0_scratch0)} {xa1 : Buf (Elt Ideal) ((c : Thread nD τ).loc cc0_scratch1)}
  {xa2 : Buf (Elt Ideal) ((c : Thread nD τ).loc cc0_scratch2)} {xa3 : Buf (Elt Ideal) ((c : Thread nD τ).loc cc0_scratch3)}
  {xa4 : Buf (Elt Ideal) ((c : Thread nD τ).loc cc0_scratch4)} {A : Acc} (R : Reads c xa0 xa1 xa2 xa3 xa4 A) {o : ℕ}

include H hM R in
theorem step_B (hv : kernelRun0_B.sl.v61 i T0 T1 = BitVec.ofNat 32 512) (hw : k0_chk1 (kernelRun0_B.sl.r i T0) (kernelRun0_B.sl.r_2 i T2)) (h5 : k0_cond5 (kernelRun0_B.sl.r_2 i T2) = 1#1)
    (ho : k0_off4 (kernelRun0_B.sl.r i T0) = ![o, 0]) :
    Reads c (scM0_0.view.writes (Elt Ideal) xa0 [⟨Rect.unit (s := S8192x128) (k0_off4 (kernelRun0_B.sl.r i T0)) S512x128.size (hw.2.2.2.2.2 h5),
        k0_pay8 (kernelRun0_B.sl.v272 i arg5 arg6 arg7 arg8 arg9 arg10 arg11 arg12 T0 T1 x0 x1 x2 x3 x4 x5 x6 x7)
          (View.readAt (Elt Ideal) scM0_0.view (Rect.unit (s := S8192x128) (k0_off4 (kernelRun0_B.sl.r i T0)) S512x128.size (hw.2.2.2.2.2 h5)).toLoadRect xa0)⟩])
      (scM0_1.view.writes (Elt Ideal) scM0_1.view.junk (kernelRun0_B.sl.HS1_2 c i arg5 arg6 arg7 arg8 arg9 arg10 arg11 arg12 T0 T1 x0 x1 x2 x3 x4 x5 x6 x7 xa1))
      (scM0_2.view.writes (Elt Ideal) scM0_2.view.junk (kernelRun0_B.sl.HS2_2 c i arg5 arg6 arg8 arg9 arg11 arg12 T0 T1 x0 x1 x3 x4 x6 x7 xa2))
      (scM0_3.view.writes (Elt Ideal) scM0_3.view.junk (kernelRun0_B.sl.HS3_2 c i arg5 arg6 arg7 arg8 arg9 arg10 arg11 arg12 T0 T1 x0 x1 x2 x3 x4 x5 x6 x7 xa3))
      (scM0_4.view.writes (Elt Ideal) xa4 [⟨Rect.unit (s := S8192x128) (k0_off4 (kernelRun0_B.sl.r i T0)) S512x128.size (hw.2.2.2.2.2 h5),
        k0_pay9 (kernelRun0_B.sl.v259 i arg5 arg6 arg7 arg8 arg9 arg10 arg11 arg12 T0 T1 x0 x1 x2 x3 x4 x5 x6 x7)
          (View.readAt (Elt Ideal) scM0_4.view (Rect.unit (s := S8192x128) (k0_off4 (kernelRun0_B.sl.r i T0)) S512x128.size (hw.2.2.2.2.2 h5)).toLoadRect xa4)⟩]) (A.add B h0 h1 o) where
  dq := add_rows scM0_0.view xa0 [] ho (hw.2.2.2.2.2 h5) _ A.dq (B.dq h0 h1) R.dq fun t l => PayStore.row6 (PayDiag.dq1_at (loads arg5 arg6 arg7 arg8 arg9 arg10 arg11 arg12 H hM hv) t l)
  dk := add_twice scM0_1.view xa1 _ inb_S1024x128_S1024x128_0_0 R.dk (fun s l => PayDiag.dk0_at (loads arg5 arg6 arg7 arg8 arg9 arg10 arg11 arg12 H hM hv) _ s l) fun s l => PayDiag.dk1_at (loads arg5 arg6 arg7 arg8 arg9 arg10 arg11 arg12 H hM hv) _ s l
  dv := add_twice scM0_2.view xa2 _ inb_S1024x128_S1024x128_0_0 R.dv (fun s l => PayDiag.dv0_at (loads arg5 arg6 arg7 arg8 arg9 arg10 arg11 arg12 H hM hv) _ s l) fun s l => PayDiag.dv1_at (loads arg5 arg6 arg7 arg8 arg9 arg10 arg11 arg12 H hM hv) _ s l
  dc := add_twice scM0_3.view xa3 _ inb_S8x1024_S8x1024_0_0 R.dc (fun h s => PayDiag.dc0_at (loads arg5 arg6 arg7 arg8 arg9 arg10 arg11 arg12 H hM hv) _ h s) fun h s => PayDiag.dc1_at (loads arg5 arg6 arg7 arg8 arg9 arg10 arg11 arg12 H hM hv) _ h s
  dcq := add_rows scM0_4.view xa4 [] ho (hw.2.2.2.2.2 h5) _ A.dcq (B.dcq h0 h1) R.dcq fun t l => PayStore.row7 (PayDiag.dcq1_at (loads arg5 arg6 arg7 arg8 arg9 arg10 arg11 arg12 H hM hv) t l)

include H hM R in
theorem step_F (hv : kernelRun0_F.sl.v61 i T0 T1 = BitVec.ofNat 32 512) (hw : k0_chk1 (kernelRun0_F.sl.r i T0) (kernelRun0_F.sl.r_2 i T2)) (h5 : k0_cond5 (kernelRun0_F.sl.r_2 i T2) = 1#1)
    (ho : k0_off4 (kernelRun0_F.sl.r i T0) = ![o, 0]) :
    Reads c (scM0_0.view.writes (Elt Ideal) xa0 [⟨Rect.unit (s := S8192x128) (k0_off4 (kernelRun0_F.sl.r i T0)) S512x128.size (hw.2.2.2.2.2 h5),
        k0_pay8 (kernelRun0_F.sl.v272 i arg5 arg6 arg7 arg8 arg9 arg10 arg11 arg12 T0 T1 x0 x1 x2 x3 x4 x5 x6 x7)
          (View.readAt (Elt Ideal) scM0_0.view (Rect.unit (s := S8192x128) (k0_off4 (kernelRun0_F.sl.r i T0)) S512x128.size (hw.2.2.2.2.2 h5)).toLoadRect xa0)⟩])
      (scM0_1.view.writes (Elt Ideal) scM0_1.view.junk (kernelRun0_F.sl.HS1_2 c i arg5 arg6 arg7 arg8 arg9 arg10 arg11 arg12 T0 T1 x0 x1 x2 x3 x4 x5 x6 x7 xa1))
      (scM0_2.view.writes (Elt Ideal) scM0_2.view.junk (kernelRun0_F.sl.HS2_2 c i arg5 arg6 arg8 arg9 arg11 arg12 T0 T1 x0 x1 x3 x4 x6 x7 xa2))
      (scM0_3.view.writes (Elt Ideal) scM0_3.view.junk (kernelRun0_F.sl.HS3_2 c i arg5 arg6 arg7 arg8 arg9 arg10 arg11 arg12 T0 T1 x0 x1 x2 x3 x4 x5 x6 x7 xa3))
      (scM0_4.view.writes (Elt Ideal) xa4 [⟨Rect.unit (s := S8192x128) (k0_off4 (kernelRun0_F.sl.r i T0)) S512x128.size (hw.2.2.2.2.2 h5),
        k0_pay9 (kernelRun0_F.sl.v259 i arg5 arg6 arg7 arg8 arg9 arg10 arg11 arg12 T0 T1 x0 x1 x2 x3 x4 x5 x6 x7)
          (View.readAt (Elt Ideal) scM0_4.view (Rect.unit (s := S8192x128) (k0_off4 (kernelRun0_F.sl.r i T0)) S512x128.size (hw.2.2.2.2.2 h5)).toLoadRect xa4)⟩]) (A.add B h0 h1 o) where
  dq := add_rows scM0_0.view xa0 [] ho (hw.2.2.2.2.2 h5) _ A.dq (B.dq h0 h1) R.dq fun t l => PayStore.row6 (PayDiag.dq1_at (loads arg5 arg6 arg7 arg8 arg9 arg10 arg11 arg12 H hM hv) t l)
  dk := add_twice scM0_1.view xa1 _ inb_S1024x128_S1024x128_0_0 R.dk (fun s l => PayDiag.dk0_at (loads arg5 arg6 arg7 arg8 arg9 arg10 arg11 arg12 H hM hv) _ s l) fun s l => PayDiag.dk1_at (loads arg5 arg6 arg7 arg8 arg9 arg10 arg11 arg12 H hM hv) _ s l
  dv := add_twice scM0_2.view xa2 _ inb_S1024x128_S1024x128_0_0 R.dv (fun s l => PayDiag.dv0_at (loads arg5 arg6 arg7 arg8 arg9 arg10 arg11 arg12 H hM hv) _ s l) fun s l => PayDiag.dv1_at (loads arg5 arg6 arg7 arg8 arg9 arg10 arg11 arg12 H hM hv) _ s l
  dc := add_twice scM0_3.view xa3 _ inb_S8x1024_S8x1024_0_0 R.dc (fun h s => PayDiag.dc0_at (loads arg5 arg6 arg7 arg8 arg9 arg10 arg11 arg12 H hM hv) _ h s) fun h s => PayDiag.dc1_at (loads arg5 arg6 arg7 arg8 arg9 arg10 arg11 arg12 H hM hv) _ h s
  dcq := add_rows scM0_4.view xa4 [] ho (hw.2.2.2.2.2 h5) _ A.dcq (B.dcq h0 h1) R.dcq fun t l => PayStore.row7 (PayDiag.dcq1_at (loads arg5 arg6 arg7 arg8 arg9 arg10 arg11 arg12 H hM hv) t l)

end Cert.KernelIdeal.StepDiag

end
-- ==== Proof.PayHalf.lean ====
/-
  The first step of a key block: its first 512 keys against the first queries that see them, under the causal mask.
-/
module

public import proofs.«01_k».proof.Proof.Gen.KernelIdeal.Skeleton
public import proofs.«01_k».proof.Proof.Words
public import Idealize.ShloMosaic.Lib.Pointwise

@[expose] public section

set_option maxRecDepth 16384

noncomputable section

open Idealize.ShloMosaic Idealize.ShloMosaic.TcCoe Idealize.SL.Sem

namespace Cert.KernelIdeal.PayHalf

open Cert.KernelIdeal Cert.KernelIdeal.Gen Cert.Fox

variable (pr off : BitVec 32) (q d : Vec Ideal S512x128 .f32) (k v : Vec Ideal S512x128 .f32) (ls : Vec Ideal S1x512x128 .f32)
  (de : Vec Ideal S512x128 .f32) (cr : Vec Ideal S1x128 .f32) (ct : Vec Ideal S8x512 .f32)

abbrev rows : IVec S8x512 32 := iota .tc S8x512 32 [0] iota_S8x512_d0_w32
abbrev lanes : IVec S512x128 32 := iota .tc S512x128 32 [1] iota_S512x128_d1_w32
abbrev lane1 : IVec S1x128 32 := iota .tc S1x128 32 [1] iota_S1x128_d1_w32
abbrev p0 : FVec Ideal S512x512 .f32 := k0_pay58 (k0_pay50 k) ct (w0 pr) (k0_pay55 q) off cr lane1 (k0_pay57 pr) ls
abbrev p1 : FVec Ideal S512x512 .f32 :=
  k0_pay73 ct off (k0_pay70 pr cr) (k0_pay71 (k0_pay49 q) (k0_pay50 k)) (k0_pay72 pr) (Scalar.ofBits .f32 0x00000000#32) ls
abbrev dp1 : FVec Ideal S512x512 .f32 := k0_pay75 (k0_pay51 v) (k0_pay69 d)
abbrev dl1 : Vec Ideal S512x128 .f32 := k0_pay76 (w1 pr) de
abbrev dsb0 : FVec Ideal S512x512 .bf16 := k0_pay63 (k0_pay51 v) (w0 pr) (k0_pay56 d) (p0 pr off q k ls cr ct) de
abbrev dcq0 : FVec Ideal S512x128 .f32 := k0_pay62 (k0_pay51 v) k0_pay53 lanes (w0 pr) (k0_pay56 d) (p0 pr off q k ls cr ct) de
abbrev dq0 : FVec Ideal S512x128 .f32 := k0_pay66 (k0_pay50 k) k0_pay52 k0_pay54 (dsb0 pr off q d k v ls de cr ct)

/-- The step's blocks hold the real numbers of `B`, and query `t` sees key `s` when `s ≤ t + o`. -/
structure Holds (B : Blk 512) (h0 h1 : Fin 8) (o : Fin 1024) : Prop where
  w0 : w0 pr = BitVec.ofNat 32 h0.val
  w1 : w1 pr = BitVec.ofNat 32 h1.val
  off : off = BitVec.ofNat 32 o.val
  q : ∀ t l, q (ix2 t l) = (B.Q t l : EReal)
  d : ∀ t l, d (ix2 t l) = (B.D t l : EReal)
  k : ∀ s l, k (ix2 s l) = (B.K s l : EReal)
  v : ∀ s l, v (ix2 s l) = (B.V s l : EReal)
  ls : ∀ t hh, ls (ix3 0 t (Blk.lane2 hh)) = (B.L t (Blk.lane2 hh) : EReal)
  de : ∀ t h, de (ix2 t (Blk.lane h)) = (B.R t (Blk.lane h) : EReal)
  cr : ∀ h, cr (ix2 0 (Blk.lane h)) = (B.b (Blk.lane h) : EReal)
  ct : ∀ h s, ct (ix2 h s) = (B.c h s : EReal)
  m : ∀ t s, B.M t s ↔ s.val ≤ t.val + o.val

attribute [local simp] real_lane ereal_lane real_head sum_lane sum_head sum_lane0 sum_lane1 sel_left sel_right sel_lane sel_head eighth coe_ite exp_masked coe_sum Ideal.exp_coe
attribute [local simp ←] EReal.coe_mul EReal.coe_add EReal.coe_sub EReal.coe_neg

/-- The mask's value at the ideal instance: no score at all. -/
theorem masked : Named.named Cert.KernelIdeal.κ "mask" 4048155338#32 = (⊥ : Ideal .f32) := by
  rfl

variable {pr off q d k v ls de cr ct} {B : Blk 512} {h0 h1 : Fin 8} {o : Fin 1024} (H : Holds pr off q d k v ls de cr ct B h0 h1 o)

include H

theorem p0_at (t : Fin 512) (s : Fin 512) : p0 pr off q k ls cr ct (ix2 t s) = (B.p h0 0 t s : EReal) := by
  pointwise [p0, lane1, k0_pay58, k0_pay50, k0_pay49, k0_pay54, k0_pay55, k0_pay57]
  rw [H.off, sel_causal _ _ _ (by omega) (by omega) o.isLt, masked]
  simp [H.w0, H.off, H.q, H.k, H.cr, H.ct, H.ls, Blk.p, Blk.sc, Blk.qm, H.m]

theorem ds0_at (t : Fin 512) (s : Fin 512) :
    k0_pay60 (k0_pay51 v) (w0 pr) (k0_pay56 d) (p0 pr off q k ls cr ct) de (ix2 t s) = (B.ds h0 0 t s : EReal) := by
  have hp := p0_at H
  pointwise [k0_pay60, k0_pay51, k0_pay56, k0_pay54, hp]
  simp [H.w0, H.d, H.v, H.de, Blk.ds, Blk.dm]

theorem dv0_at (old : Vec Ideal S512x128 .f32) (s : Fin 512) (l : Fin 128) :
    k0_pay59 (k0_pay50 k) ct (w0 pr) (k0_pay55 q) (k0_pay56 d) off cr lane1 (k0_pay57 pr) ls old (ix2 s l)
      = old (ix2 s l) + ((∑ t, B.p h0 0 t s * B.dm 0 t l : ℝ) : EReal) := by
  have hp := p0_at H
  pointwise [k0_pay59, k0_pay56, k0_pay54, hp]
  simp [H.d, Blk.dm]

theorem dc0_at (old : Vec Ideal S8x512 .f32) (h : Fin 8) (s : Fin 512) :
    k0_pay61 (k0_pay51 v) rows (w0 pr) (k0_pay56 d) (p0 pr off q k ls cr ct) de old (ix2 h s)
      = old (ix2 h s) + ((if h.val = h0.val then -∑ t, B.ds h0 0 t s else 0 : ℝ) : EReal) := by
  have hp := ds0_at H
  pointwise [k0_pay61, rows, hp]
  simp [H.w0]

theorem dcq0_at (t : Fin 512) (l : Fin 128) :
    dcq0 pr off q d k v ls de cr ct (ix2 t l) = ((if l.val = h0.val then ∑ s, B.ds h0 0 t s else 0 : ℝ) : EReal) := by
  have hp := ds0_at H
  pointwise [dcq0, k0_pay62, k0_pay53, lanes, hp]
  simp [H.w0]

theorem dsb0_at (t : Fin 512) (s : Fin 512) : dsb0 pr off q d k v ls de cr ct (ix2 t s) = (B.ds h0 0 t s : EReal) := by
  have hp := ds0_at H
  pointwise [dsb0, k0_pay63, hp]

theorem dk0_at (old : Vec Ideal S512x128 .f32) (s : Fin 512) (l : Fin 128) :
    k0_pay65 (k0_pay64 (k0_pay51 v) (w0 pr) (k0_pay55 q) (k0_pay56 d) (p0 pr off q k ls cr ct) de old) (ix2 s l)
      = old (ix2 s l) + ((∑ t, B.ds h0 0 t s * B.qm 0 t l : ℝ) : EReal) := by
  have hp := dsb0_at H
  pointwise [k0_pay65, k0_pay64, k0_pay55, k0_pay54, k0_pay49, hp]
  simp [H.q, Blk.qm]

theorem dq0_at (t : Fin 512) (l : Fin 128) :
    dq0 pr off q d k v ls de cr ct (ix2 t l)
      = ((if l.val / 64 = 0 then ∑ s, B.ds h0 0 t s * B.K s l else 0 : ℝ) : EReal) := by
  have hp := dsb0_at H
  pointwise [dq0, k0_pay66, k0_pay52, k0_pay54, k0_pay50, hp]
  simp [H.k]

theorem p1_at (t : Fin 512) (s : Fin 512) : p1 pr off q k ls cr ct (ix2 t s) = (B.p h1 1 t s : EReal) := by
  pointwise [p1, k0_pay73, k0_pay70, k0_pay71, k0_pay72, k0_pay68, k0_pay67, k0_pay50, k0_pay49]
  rw [H.off, sel_causal _ _ _ (by omega) (by omega) o.isLt, masked]
  simp [H.w1, H.off, H.q, H.k, H.cr, H.ct, H.ls, Blk.p, Blk.sc, Blk.qm, H.m]

theorem ds1_at (t : Fin 512) (s : Fin 512) :
    k0_pay77 (p1 pr off q k ls cr ct) (dp1 d v) (dl1 pr de) (ix2 t s) = (B.ds h1 1 t s : EReal) := by
  have hp := p1_at H
  pointwise [k0_pay77, dp1, dl1, k0_pay75, k0_pay76, k0_pay51, k0_pay69, k0_pay67, hp]
  simp [H.w1, H.d, H.v, H.de, Blk.ds, Blk.dm]

theorem dv1_at (old : Vec Ideal S512x128 .f32) (s : Fin 512) (l : Fin 128) :
    k0_pay74 ct (k0_pay69 d) off (k0_pay70 pr cr) (k0_pay71 (k0_pay49 q) (k0_pay50 k)) (k0_pay72 pr) (Scalar.ofBits .f32 0x00000000#32) ls old (ix2 s l)
      = old (ix2 s l) + ((∑ t, B.p h1 1 t s * B.dm 1 t l : ℝ) : EReal) := by
  have hp := p1_at H
  unfold p1 at hp
  unfold k0_pay74
  generalize k0_pay73 ct off (k0_pay70 pr cr) (k0_pay71 (k0_pay49 q) (k0_pay50 k)) (k0_pay72 pr) (Scalar.ofBits .f32 0x00000000#32) ls = y at hp ⊢
  pointwise [k0_pay69, k0_pay67, hp]
  simp [H.d, Blk.dm]

theorem dc1_at (old : Vec Ideal S8x512 .f32) (h : Fin 8) (s : Fin 512) :
    k0_pay78 rows (w1 pr) (p1 pr off q k ls cr ct) (dp1 d v) (dl1 pr de) old (ix2 h s)
      = old (ix2 h s) + ((if h.val = h1.val then -∑ t, B.ds h1 1 t s else 0 : ℝ) : EReal) := by
  have hp := ds1_at H
  pointwise [k0_pay78, rows, hp]
  simp [H.w1]

theorem dk1_at (old : Vec Ideal S512x128 .f32) (s : Fin 512) (l : Fin 128) :
    k0_pay81 (k0_pay68 (k0_pay49 q)) (p1 pr off q k ls cr ct) (dp1 d v) (dl1 pr de) old (ix2 s l)
      = old (ix2 s l) + ((∑ t, B.ds h1 1 t s * B.qm 1 t l : ℝ) : EReal) := by
  have hp := ds1_at H
  pointwise [k0_pay81, k0_pay80, k0_pay68, k0_pay67, k0_pay49, hp]
  simp [H.q, Blk.qm]

theorem dq1_at (t : Fin 512) (l : Fin 128) :
    k0_pay82 (k0_pay50 k) (dq0 pr off q d k v ls de cr ct) k0_pay67 (p1 pr off q k ls cr ct) (dp1 d v) (dl1 pr de) (ix2 t l)
      = (((if l.val / 64 = 0 then ∑ s, B.ds h0 0 t s * B.K s l else 0)
          + (if l.val / 64 = 1 then ∑ s, B.ds h1 1 t s * B.K s l else 0) : ℝ) : EReal) := by
  have hp := ds1_at H
  have hq := dq0_at H
  generalize dq0 pr off q d k v ls de cr ct = y at hq ⊢
  pointwise [k0_pay82, k0_pay80, k0_pay67, k0_pay50, hp, hq]
  simp [H.k]

theorem dcq1_at (t : Fin 512) (l : Fin 128) :
    k0_pay79 lanes (dcq0 pr off q d k v ls de cr ct) (w1 pr) (p1 pr off q k ls cr ct) (dp1 d v) (dl1 pr de) (ix2 t l)
      = (((if l.val = h0.val then ∑ s, B.ds h0 0 t s else 0)
          + (if l.val = h1.val then ∑ s, B.ds h1 1 t s else 0) : ℝ) : EReal) := by
  have hp := ds1_at H
  have hq := dcq0_at H
  generalize dcq0 pr off q d k v ls de cr ct = y at hq ⊢
  pointwise [k0_pay79, lanes, hp, hq]
  simp [H.w1]

end Cert.KernelIdeal.PayHalf

end
-- ==== Proof.StepHalf.lean ====
/-
  The first step of a key block, whose lower 512 keys alone are causal: what the five scratch arrays hold after it, at the first
  key block (path A) and at a later one (path E).
-/
module

public import proofs.«01_k».proof.Proof.Gen.KernelIdeal.Flash.Runs
public import proofs.«01_k».proof.Proof.StepLib
public import proofs.«01_k».proof.Proof.PayHalf
public import proofs.«01_k».proof.Proof.PayStore

@[expose] public section

set_option maxRecDepth 16384

noncomputable section

open Idealize.ShloMosaic Idealize.ShloMosaic.TcCoe Idealize.SL.Sem

namespace Cert.KernelIdeal.StepHalf

open Cert.KernelIdeal Cert.KernelIdeal.Gen Cert.Fox Cert.KernelIdeal.Step

variable {c : Dev nD} {i : grid0.Coords} {arg5 : Memref sig .tc .vmem S512x128 .f32} {arg6 arg7 : Memref sig .tc .vmem S1024x128 .f32}
  {arg8 : Memref sig .tc .vmem S512x128 .f32} {arg9 : Memref sig .tc .vmem S1x512x128 .f32} {arg10 arg11 : Memref sig .tc .vmem S512x128 .f32}
  {arg12 : Memref sig .tc .vmem S8x1024 .f32}
  {x0 : Vec Ideal S512x128 .f32} {x1 x2 : Vec Ideal S1024x128 .f32} {x3 : Vec Ideal S512x128 .f32} {x4 : Vec Ideal S1x512x128 .f32}
  {x5 x6 : Vec Ideal S512x128 .f32} {x7 : Vec Ideal S8x1024 .f32}
variable {B : Blk 1024} {h0 h1 : Fin 8} (H : Args (BitVec.ofNat 32 (i 0).val) x0 x1 x2 x3 x4 x5 x6 x7 B h0 h1)
  (hM : ∀ t s, B.M t s ↔ s.val ≤ t.val) {off : BitVec 32}
  (hoff : off = BitVec.ofNat 32 0)

variable (arg5 arg6 arg7 arg8 arg9 arg10 arg11 arg12) in
include H hM hoff in
/-- The values the step loads. -/
theorem loads : PayHalf.Holds (BitVec.ofNat 32 (i 0).val) off
    (View.readAt (Elt Ideal) arg5.view (Rect.unit (s := S512x128) ![0, 0] S512x128.size inb_S512x128_S512x128_0_0).toLoadRect (arg5.view.rep x0))
    (View.readAt (Elt Ideal) arg8.view (Rect.unit (s := S512x128) ![0, 0] S512x128.size inb_S512x128_S512x128_0_0).toLoadRect (arg8.view.rep x3))
    (View.readAt (Elt Ideal) arg6.view (Rect.unit (s := S1024x128) ![0, 0] S512x128.size inb_S1024x128_S512x128_0_0).toLoadRect (arg6.view.rep x1))
    (View.readAt (Elt Ideal) arg7.view (Rect.unit (s := S1024x128) ![0, 0] S512x128.size inb_S1024x128_S512x128_0_0).toLoadRect (arg7.view.rep x2))
    (View.readAt (Elt Ideal) arg9.view (Rect.unit (s := S1x512x128) ![0, 0, 0] S1x512x128.size inb_S1x512x128_S1x512x128_0_0_0).toLoadRect (arg9.view.rep x4))
    (View.readAt (Elt Ideal) arg10.view (Rect.unit (s := S512x128) ![0, 0] S512x128.size inb_S512x128_S512x128_0_0).toLoadRect (arg10.view.rep x5))
    (View.readAt (Elt Ideal) arg11.view (Rect.unit (s := S512x128) ![0, 0] S1x128.size inb_S512x128_S1x128_0_0).toLoadRect (arg11.view.rep x6))
    (View.readAt (Elt Ideal) arg12.view (Rect.unit (s := S8x1024) ![0, 0] S8x512.size inb_S8x1024_S8x512_0_0).toLoadRect (arg12.view.rep x7)) B.half h0 h1 0 where
  w0 := H.w0
  w1 := H.w1
  off := hoff
  q := by rw [load_whole]; exact H.q
  d := by rw [load_whole]; exact H.d
  k s l := by rw [load_at, View.read_rep]; erw [idx_origin (m := 512) (n := 128) rfl _ (by decide) (by decide)]; exact H.k _ l
  v s l := by rw [load_at, View.read_rep]; erw [idx_origin (m := 512) (n := 128) rfl _ (by decide) (by decide)]; exact H.v _ l
  ls := by rw [load_whole]; exact H.ls
  de := by rw [load_whole]; exact H.de
  cr l := by rw [load_at, View.read_rep]; erw [idx_origin (m := 1) (n := 128) rfl _ (by decide) (by decide)]; exact H.cr l
  ct h s := by rw [load_at, View.read_rep]; erw [idx_origin (m := 8) (n := 512) rfl _ (by decide) (by decide)]; exact H.ct h _
  m t s := hM t _

/-- Only the lower half of the keys is seen. -/
theorem lower {B : Blk 1024} (hM : ∀ t s, B.M t s ↔ s.val ≤ t.val) (t : Fin 512) (s : Fin 1024) (h : B.M t s) : s.val < 512 := by
  have := (hM t s).mp h
  omega

variable {T0 T1 T2 : S72.Idx → Elt Ideal .i32}
  {xa0 : Buf (Elt Ideal) ((c : Thread nD τ).loc cc0_scratch0)} {xa1 : Buf (Elt Ideal) ((c : Thread nD τ).loc cc0_scratch1)}
  {xa2 : Buf (Elt Ideal) ((c : Thread nD τ).loc cc0_scratch2)} {xa3 : Buf (Elt Ideal) ((c : Thread nD τ).loc cc0_scratch3)}
  {xa4 : Buf (Elt Ideal) ((c : Thread nD τ).loc cc0_scratch4)} {A : Acc} (R : Reads c xa0 xa1 xa2 xa3 xa4 A) {o : ℕ}

include H hM in
theorem step_A (hv : kernelRun0_A.sl.v61 i T0 T1 = BitVec.ofNat 32 0) (hw : k0_chk1 (kernelRun0_A.sl.r i T0) (kernelRun0_A.sl.r_2 i T2)) (h4 : k0_cond4 (kernelRun0_A.sl.r_2 i T2) = 1#1)
    (ho : k0_off3 (kernelRun0_A.sl.r i T0) = ![o, 0]) :
    Reads c (scM0_0.view.writes (Elt Ideal) scM0_0.view.junk (⟨Rect.unit (s := S8192x128) (k0_off3 (kernelRun0_A.sl.r i T0)) S512x128.size (hw.2.2.2.1 h4),
        k0_pay6 (kernelRun0_A.sl.v272 i arg5 arg6 arg7 arg8 arg9 arg10 arg11 arg12 T0 T1 x0 x1 x2 x3 x4 x5 x6 x7)
          (View.readAt (Elt Ideal) scM0_0.view (Rect.unit (s := S8192x128) (k0_off3 (kernelRun0_A.sl.r i T0)) S512x128.size (hw.2.2.2.1 h4)).toLoadRect (scM0_0.view.writes (Elt Ideal) scM0_0.view.junk kernelRun0_A.sl.HS0_1))⟩ :: kernelRun0_A.sl.HS0_1))
      (scM0_1.view.writes (Elt Ideal) scM0_1.view.junk (kernelRun0_A.sl.HS1_3 i arg5 arg6 arg7 arg8 arg9 arg10 arg11 arg12 T0 T1 x0 x1 x2 x3 x4 x5 x6 x7))
      (scM0_2.view.writes (Elt Ideal) scM0_2.view.junk (kernelRun0_A.sl.HS2_3 i arg5 arg6 arg8 arg9 arg11 arg12 T0 T1 x0 x1 x3 x4 x6 x7))
      (scM0_3.view.writes (Elt Ideal) scM0_3.view.junk (kernelRun0_A.sl.HS3_3 i arg5 arg6 arg7 arg8 arg9 arg10 arg11 arg12 T0 T1 x0 x1 x2 x3 x4 x5 x6 x7))
      (scM0_4.view.writes (Elt Ideal) scM0_4.view.junk (⟨Rect.unit (s := S8192x128) (k0_off3 (kernelRun0_A.sl.r i T0)) S512x128.size (hw.2.2.2.1 h4),
        k0_pay7 (kernelRun0_A.sl.v259 i arg5 arg6 arg7 arg8 arg9 arg10 arg11 arg12 T0 T1 x0 x1 x2 x3 x4 x5 x6 x7)
          (View.readAt (Elt Ideal) scM0_4.view (Rect.unit (s := S8192x128) (k0_off3 (kernelRun0_A.sl.r i T0)) S512x128.size (hw.2.2.2.1 h4)).toLoadRect (scM0_4.view.writes (Elt Ideal) scM0_4.view.junk kernelRun0_A.sl.HS4_1))⟩ :: kernelRun0_A.sl.HS4_1)) (Acc.zero.add B h0 h1 o) where
  dq := add_rows scM0_0.view scM0_0.view.junk kernelRun0_A.sl.HS0_1 ho (hw.2.2.2.1 h4) _ Acc.zero.dq (B.dq h0 h1) (fun r l => (congrFun (View.read_writes_full _ _ _ _ _) _).trans (PayStore.zero1 r l)) fun t l =>
    (PayStore.row6 (PayHalf.dq1_at (loads arg5 arg6 arg7 arg8 arg9 arg10 arg11 arg12 H hM hv) t l)).trans (congrArg (fun z : ℝ => _ + (z : EReal)) (B.half_dq h0 h1 (lower hM) t l))
  dk := put_twice scM0_1.view kernelRun0_A.sl.HS1_1 rfl inb_S1024x128_S512x128_0_0 (by decide) (by decide)
    (fun a b => (congrFun (View.read_writes_full _ _ _ _ _) _).trans (PayStore.zero3 a b))
    (fun s l => PayHalf.dk0_at (loads arg5 arg6 arg7 arg8 arg9 arg10 arg11 arg12 H hM hv) _ s l) (fun s l => PayHalf.dk1_at (loads arg5 arg6 arg7 arg8 arg9 arg10 arg11 arg12 H hM hv) _ s l) (fun _ _ => rfl)
    (fun s l h' => B.dk_zero h0 h1 (lower hM) s (by omega) l)
  dv := put_twice scM0_2.view kernelRun0_A.sl.HS2_1 rfl inb_S1024x128_S512x128_0_0 (by decide) (by decide)
    (fun a b => (congrFun (View.read_writes_full _ _ _ _ _) _).trans (PayStore.zero4 a b))
    (fun s l => PayHalf.dv0_at (loads arg5 arg6 arg7 arg8 arg9 arg10 arg11 arg12 H hM hv) _ s l) (fun s l => PayHalf.dv1_at (loads arg5 arg6 arg7 arg8 arg9 arg10 arg11 arg12 H hM hv) _ s l) (fun _ _ => rfl)
    (fun s l h' => B.dv_zero h0 h1 (lower hM) s (by omega) l)
  dc := put_twice scM0_3.view kernelRun0_A.sl.HS3_1 rfl inb_S8x1024_S8x512_0_0 (by decide) (by decide)
    (fun a b => (congrFun (View.read_writes_full _ _ _ _ _) _).trans (PayStore.zero5 a b))
    (fun h s => PayHalf.dc0_at (loads arg5 arg6 arg7 arg8 arg9 arg10 arg11 arg12 H hM hv) _ h s) (fun h s => PayHalf.dc1_at (loads arg5 arg6 arg7 arg8 arg9 arg10 arg11 arg12 H hM hv) _ h s) (fun _ _ => rfl)
    (fun h s h' => B.dc_zero h0 h1 (lower hM) h s (by omega))
  dcq := add_rows scM0_4.view scM0_4.view.junk kernelRun0_A.sl.HS4_1 ho (hw.2.2.2.1 h4) _ Acc.zero.dcq (B.dcq h0 h1) (fun r l => (congrFun (View.read_writes_full _ _ _ _ _) _).trans (PayStore.zero2 r l)) fun t l =>
    (PayStore.row7 (PayHalf.dcq1_at (loads arg5 arg6 arg7 arg8 arg9 arg10 arg11 arg12 H hM hv) t l)).trans (congrArg (fun z : ℝ => _ + (z : EReal)) (B.half_dcq h0 h1 (lower hM) t l))

include H hM R in
theorem step_E (hv : kernelRun0_E.sl.v61 i T0 T1 = BitVec.ofNat 32 0) (hw : k0_chk1 (kernelRun0_E.sl.r i T0) (kernelRun0_E.sl.r_2 i T2)) (h4 : k0_cond4 (kernelRun0_E.sl.r_2 i T2) = 1#1)
    (ho : k0_off3 (kernelRun0_E.sl.r i T0) = ![o, 0]) :
    Reads c (scM0_0.view.writes (Elt Ideal) xa0 (⟨Rect.unit (s := S8192x128) (k0_off3 (kernelRun0_E.sl.r i T0)) S512x128.size (hw.2.2.2.1 h4),
        k0_pay6 (kernelRun0_E.sl.v272 i arg5 arg6 arg7 arg8 arg9 arg10 arg11 arg12 T0 T1 x0 x1 x2 x3 x4 x5 x6 x7)
          (View.readAt (Elt Ideal) scM0_0.view (Rect.unit (s := S8192x128) (k0_off3 (kernelRun0_E.sl.r i T0)) S512x128.size (hw.2.2.2.1 h4)).toLoadRect xa0)⟩ :: []))
      (scM0_1.view.writes (Elt Ideal) scM0_1.view.junk (kernelRun0_E.sl.HS1_3 i arg5 arg6 arg7 arg8 arg9 arg10 arg11 arg12 T0 T1 x0 x1 x2 x3 x4 x5 x6 x7))
      (scM0_2.view.writes (Elt Ideal) scM0_2.view.junk (kernelRun0_E.sl.HS2_3 i arg5 arg6 arg8 arg9 arg11 arg12 T0 T1 x0 x1 x3 x4 x6 x7))
      (scM0_3.view.writes (Elt Ideal) scM0_3.view.junk (kernelRun0_E.sl.HS3_3 i arg5 arg6 arg7 arg8 arg9 arg10 arg11 arg12 T0 T1 x0 x1 x2 x3 x4 x5 x6 x7))
      (scM0_4.view.writes (Elt Ideal) xa4 (⟨Rect.unit (s := S8192x128) (k0_off3 (kernelRun0_E.sl.r i T0)) S512x128.size (hw.2.2.2.1 h4),
        k0_pay7 (kernelRun0_E.sl.v259 i arg5 arg6 arg7 arg8 arg9 arg10 arg11 arg12 T0 T1 x0 x1 x2 x3 x4 x5 x6 x7)
          (View.readAt (Elt Ideal) scM0_4.view (Rect.unit (s := S8192x128) (k0_off3 (kernelRun0_E.sl.r i T0)) S512x128.size (hw.2.2.2.1 h4)).toLoadRect xa4)⟩ :: [])) (A.clear.add B h0 h1 o) where
  dq := add_rows scM0_0.view xa0 [] ho (hw.2.2.2.1 h4) _ A.dq (B.dq h0 h1) R.dq fun t l =>
    (PayStore.row6 (PayHalf.dq1_at (loads arg5 arg6 arg7 arg8 arg9 arg10 arg11 arg12 H hM hv) t l)).trans (congrArg (fun z : ℝ => _ + (z : EReal)) (B.half_dq h0 h1 (lower hM) t l))
  dk := put_twice scM0_1.view kernelRun0_E.sl.HS1_1 rfl inb_S1024x128_S512x128_0_0 (by decide) (by decide)
    (fun a b => (congrFun (View.read_writes_full _ _ _ _ _) _).trans (PayStore.zero3 a b))
    (fun s l => PayHalf.dk0_at (loads arg5 arg6 arg7 arg8 arg9 arg10 arg11 arg12 H hM hv) _ s l) (fun s l => PayHalf.dk1_at (loads arg5 arg6 arg7 arg8 arg9 arg10 arg11 arg12 H hM hv) _ s l) (fun _ _ => rfl)
    (fun s l h' => B.dk_zero h0 h1 (lower hM) s (by omega) l)
  dv := put_twice scM0_2.view kernelRun0_E.sl.HS2_1 rfl inb_S1024x128_S512x128_0_0 (by decide) (by decide)
    (fun a b => (congrFun (View.read_writes_full _ _ _ _ _) _).trans (PayStore.zero4 a b))
    (fun s l => PayHalf.dv0_at (loads arg5 arg6 arg7 arg8 arg9 arg10 arg11 arg12 H hM hv) _ s l) (fun s l => PayHalf.dv1_at (loads arg5 arg6 arg7 arg8 arg9 arg10 arg11 arg12 H hM hv) _ s l) (fun _ _ => rfl)
    (fun s l h' => B.dv_zero h0 h1 (lower hM) s (by omega) l)
  dc := put_twice scM0_3.view kernelRun0_E.sl.HS3_1 rfl inb_S8x1024_S8x512_0_0 (by decide) (by decide)
    (fun a b => (congrFun (View.read_writes_full _ _ _ _ _) _).trans (PayStore.zero5 a b))
    (fun h s => PayHalf.dc0_at (loads arg5 arg6 arg7 arg8 arg9 arg10 arg11 arg12 H hM hv) _ h s) (fun h s => PayHalf.dc1_at (loads arg5 arg6 arg7 arg8 arg9 arg10 arg11 arg12 H hM hv) _ h s) (fun _ _ => rfl)
    (fun h s h' => B.dc_zero h0 h1 (lower hM) h s (by omega))
  dcq := add_rows scM0_4.view xa4 [] ho (hw.2.2.2.1 h4) _ A.dcq (B.dcq h0 h1) R.dcq fun t l =>
    (PayStore.row7 (PayHalf.dcq1_at (loads arg5 arg6 arg7 arg8 arg9 arg10 arg11 arg12 H hM hv) t l)).trans (congrArg (fun z : ℝ => _ + (z : EReal)) (B.half_dcq h0 h1 (lower hM) t l))

end Cert.KernelIdeal.StepHalf

end
-- ==== Proof.Data.lean ====
/-
  The whole call over the real numbers: the probabilities and score gradients of every head, the block one step reads, and
  what the five accumulators hold after a step, as sums over the queries or keys met so far.
-/
module

public import proofs.«01_k».proof.Proof.Acc

@[expose] public section

noncomputable section

namespace Cert.Fox

open Finset (range)

/-- The operands as real numbers, by row and column (`Q`, `K`, `V`, `D`: head `h` is at the columns from `64 * h`) or by head and
    row: the log-sums `L`, the row dots `R`, the running sum of the log-gates at the queries `cq` and at the keys `ck`. -/
structure Data where
  Q : ℕ → ℕ → ℝ
  K : ℕ → ℕ → ℝ
  V : ℕ → ℕ → ℝ
  D : ℕ → ℕ → ℝ
  L : ℕ → ℕ → ℝ
  R : ℕ → ℕ → ℝ
  cq : ℕ → ℕ → ℝ
  ck : ℕ → ℕ → ℝ

namespace Data

variable (G : Data)

/-- The scaled product of query `i` and key `j` of head `h`. -/
def qk (h i j : ℕ) : ℝ := ∑ d ∈ range 64, G.Q i (64 * h + d) * (1 / 8) * G.K j (64 * h + d)
/-- The score, relative to the running sum at the first query of the block of 512. -/
def score (h i j : ℕ) : ℝ := G.qk h i j + (G.cq h (512 * (i / 512)) - G.ck h j)
/-- The probability, rebuilt from the log-sum. -/
def P (h i j : ℕ) : ℝ := if j ≤ i then Real.exp (G.score h i j - G.L h i) else 0
/-- The gradient of the probability. -/
def DP (h i j : ℕ) : ℝ := ∑ d ∈ range 64, G.D i (64 * h + d) * G.V j (64 * h + d)
/-- The gradient of the score. -/
def DS (h i j : ℕ) : ℝ := G.P h i j * (G.DP h i j - G.R h i)

theorem P_zero {h i j : ℕ} (hij : i < j) : G.P h i j = 0 := if_neg (by omega)
theorem DS_zero {h i j : ℕ} (hij : i < j) : G.DS h i j = 0 := by rw [DS, G.P_zero hij, zero_mul]

/-- What pair `p` reads at query block `q` and key block `k`. -/
def blk (p q k : ℕ) : Blk 1024 where
  Q t l := G.Q (512 * q + t) (128 * p + l)
  K s l := G.K (1024 * k + s) (128 * p + l)
  V s l := G.V (1024 * k + s) (128 * p + l)
  D t l := G.D (512 * q + t) (128 * p + l)
  L t l := G.L (2 * p + l) (512 * q + t)
  R t l := G.R l (512 * q + t)
  b l := G.cq l (512 * q)
  c h s := G.ck h (1024 * k + s)
  M t s := 1024 * k + s ≤ 512 * q + t

/-- A sum over the lanes of one head of a pair. -/
theorem sum_head64 (hh : Fin 2) (f : ℕ → ℝ) :
    (∑ l : Fin 128, if l.val / 64 = hh.val then f l.val else 0) = ∑ d ∈ range 64, f (64 * hh.val + d) := by
  rw [Fin.sum_univ_eq_sum_range (fun l => if l / 64 = hh.val then f l else 0) 128, show 128 = 64 + 64 from rfl, Finset.sum_range_add]
  match hh with
  | 0 =>
    rw [Finset.sum_congr rfl fun d hd => if_pos (by have := Finset.mem_range.mp hd; show d / 64 = 0; omega),
      Finset.sum_eq_zero fun d hd => if_neg (by have := Finset.mem_range.mp hd; show ¬(64 + d) / 64 = 0; omega), add_zero]
    simp
  | 1 =>
    rw [Finset.sum_eq_zero fun d hd => if_neg (by have := Finset.mem_range.mp hd; show ¬d / 64 = 1; omega), zero_add,
      Finset.sum_congr rfl fun d hd => if_pos (by have := Finset.mem_range.mp hd; show (64 + d) / 64 = 1; omega)]
    rfl

variable (p q k : ℕ)

/-- The pair's two heads. -/
theorem blk_p (h : Fin 8) (hh : Fin 2) (hp : h.val = 2 * p + hh.val) (t : Fin 512) (s : Fin 1024) :
    (G.blk p q k).p h hh t s = G.P h (512 * q + t) (1024 * k + s) := by
  unfold Blk.p P Blk.sc Blk.qm
  have e : (∑ l : Fin 128, (if l.val / 64 = hh.val then (G.blk p q k).Q t l * (1 / 8) else 0) * (G.blk p q k).K s l)
      = G.qk h (512 * q + t) (1024 * k + s) := by
    rw [qk, show 64 * h.val = 128 * p + 64 * hh.val by omega]
    simp only [ite_mul, zero_mul]
    refine (sum_head64 hh fun l => G.Q (512 * q + t) (128 * p + l) * (1 / 8) * G.K (1024 * k + s) (128 * p + l)).trans ?_
    exact Finset.sum_congr rfl fun d _ => by rw [Nat.add_assoc]
  rw [e, score, show 512 * ((512 * q + t.val) / 512) = 512 * q by omega]
  by_cases hm : 1024 * k + s.val ≤ 512 * q + t.val
  · rw [if_pos (show (G.blk p q k).M t s from hm), if_pos hm]
    show Real.exp (_ + (G.cq h (512 * q) - G.ck h (1024 * k + s)) - G.L (2 * p + hh) (512 * q + t)) = _
    rw [hp]
  · rw [if_neg (show ¬(G.blk p q k).M t s from hm), if_neg hm]

theorem blk_ds (h : Fin 8) (hh : Fin 2) (hp : h.val = 2 * p + hh.val) (t : Fin 512) (s : Fin 1024) :
    (G.blk p q k).ds h hh t s = G.DS h (512 * q + t) (1024 * k + s) := by
  unfold Blk.ds DS
  rw [blk_p G p q k h hh hp]
  refine congrArg (G.P h _ _ * ·) (congrArg (· - _) ?_)
  unfold Blk.dm DP
  rw [show 64 * h.val = 128 * p + 64 * hh.val by omega]
  simp only [ite_mul, zero_mul]
  refine (sum_head64 hh fun l => G.D (512 * q + t) (128 * p + l) * G.V (1024 * k + s) (128 * p + l)).trans ?_
  exact Finset.sum_congr rfl fun d _ => by rw [Nat.add_assoc]

variable (h0 h1 : Fin 8) (e0 : h0.val = 2 * p) (e1 : h1.val = 2 * p + 1)

include e0 e1

/-- The head of a lane: the first of the pair or the second. -/
theorem of_lane (l : Fin 128) (a b : ℝ) (c : ℕ → ℝ) (ha : l.val / 64 = 0 → a = c h0 ∧ b = 0) (hb : l.val / 64 = 1 → a = 0 ∧ b = c h1) :
    a + b = c ((128 * p + l) / 64) := by
  rcases (show l.val / 64 = 0 ∨ l.val / 64 = 1 by omega) with h | h
  · rw [(ha h).1, (ha h).2, add_zero, show (128 * p + l.val) / 64 = h0.val by omega]
  · rw [(hb h).1, (hb h).2, zero_add, show (128 * p + l.val) / 64 = h1.val by omega]

theorem blk_dk (s : Fin 1024) (l : Fin 128) : (G.blk p q k).dk h0 h1 s l
    = ∑ t ∈ range 512, G.DS ((128 * p + l) / 64) (512 * q + t) (1024 * k + s) * (G.Q (512 * q + t) (128 * p + l) * (1 / 8)) := by
  unfold Blk.dk Blk.qm
  simp only [blk_ds G p q k h0 0 (by omega), blk_ds G p q k h1 1 (by omega)]
  refine of_lane p h0 h1 e0 e1 l _ _ (fun h => ∑ t ∈ range 512, G.DS h (512 * q + t) (1024 * k + s) * (G.Q (512 * q + t) (128 * p + l) * (1 / 8)))
    (fun h => ⟨?_, ?_⟩) fun h => ⟨?_, ?_⟩
  · simp only [Fin.val_zero, if_pos h]
    exact Fin.sum_univ_eq_sum_range (fun t => G.DS h0 (512 * q + t) (1024 * k + s) * (G.Q (512 * q + t) (128 * p + l) * (1 / 8))) 512
  · simp [h]
  · simp [h]
  · simp only [Fin.val_one, if_pos h]
    exact Fin.sum_univ_eq_sum_range (fun t => G.DS h1 (512 * q + t) (1024 * k + s) * (G.Q (512 * q + t) (128 * p + l) * (1 / 8))) 512

theorem blk_dv (s : Fin 1024) (l : Fin 128) : (G.blk p q k).dv h0 h1 s l
    = ∑ t ∈ range 512, G.P ((128 * p + l) / 64) (512 * q + t) (1024 * k + s) * G.D (512 * q + t) (128 * p + l) := by
  unfold Blk.dv Blk.dm
  simp only [blk_p G p q k h0 0 (by omega), blk_p G p q k h1 1 (by omega)]
  refine of_lane p h0 h1 e0 e1 l _ _ (fun h => ∑ t ∈ range 512, G.P h (512 * q + t) (1024 * k + s) * G.D (512 * q + t) (128 * p + l))
    (fun h => ⟨?_, ?_⟩) fun h => ⟨?_, ?_⟩
  · simp only [Fin.val_zero, if_pos h]
    exact Fin.sum_univ_eq_sum_range (fun t => G.P h0 (512 * q + t) (1024 * k + s) * G.D (512 * q + t) (128 * p + l)) 512
  · simp [h]
  · simp [h]
  · simp only [Fin.val_one, if_pos h]
    exact Fin.sum_univ_eq_sum_range (fun t => G.P h1 (512 * q + t) (1024 * k + s) * G.D (512 * q + t) (128 * p + l)) 512

theorem blk_dq (t : Fin 512) (l : Fin 128) : (G.blk p q k).dq h0 h1 t l
    = (∑ s ∈ range 1024, G.DS ((128 * p + l) / 64) (512 * q + t) (1024 * k + s) * G.K (1024 * k + s) (128 * p + l)) * (1 / 8) := by
  unfold Blk.dq
  simp only [blk_ds G p q k h0 0 (by omega), blk_ds G p q k h1 1 (by omega)]
  refine congrArg (· * (1 / 8 : ℝ)) ?_
  refine of_lane p h0 h1 e0 e1 l _ _ (fun h => ∑ s ∈ range 1024, G.DS h (512 * q + t) (1024 * k + s) * G.K (1024 * k + s) (128 * p + l))
    (fun h => ⟨?_, ?_⟩) fun h => ⟨?_, ?_⟩
  · rw [if_pos h]
    exact Fin.sum_univ_eq_sum_range (fun s => G.DS h0 (512 * q + t) (1024 * k + s) * G.K (1024 * k + s) (128 * p + l)) 1024
  · rw [if_neg (by omega)]
  · rw [if_neg (by omega)]
  · rw [if_pos h]
    exact Fin.sum_univ_eq_sum_range (fun s => G.DS h1 (512 * q + t) (1024 * k + s) * G.K (1024 * k + s) (128 * p + l)) 1024

/-- Of the pair's heads, the one numbered `n`. -/
theorem of_head (n : ℕ) (a b : ℝ) (c : ℕ → ℝ) (ha : a = c h0) (hb : b = c h1) :
    ((if n = h0.val then a else 0) + if n = h1.val then b else 0) = if n / 2 = p then c n else 0 := by
  by_cases h : n = h0.val
  · rw [if_pos h, if_neg (by omega), if_pos (by omega), add_zero, ha, h]
  · by_cases h' : n = h1.val
    · rw [if_neg h, if_pos h', if_pos (by omega), zero_add, hb, h']
    · rw [if_neg h, if_neg h', if_neg (by omega), add_zero]

theorem blk_dc (h : Fin 8) (s : Fin 1024) : (G.blk p q k).dc h0 h1 h s
    = if h.val / 2 = p then -∑ t ∈ range 512, G.DS h (512 * q + t) (1024 * k + s) else 0 := by
  unfold Blk.dc
  simp only [blk_ds G p q k h0 0 (by omega), blk_ds G p q k h1 1 (by omega)]
  exact of_head p h0 h1 e0 e1 h _ _ (fun h => -∑ t ∈ range 512, G.DS h (512 * q + t) (1024 * k + s))
    (congrArg Neg.neg (Fin.sum_univ_eq_sum_range (fun t => G.DS h0 (512 * q + t) (1024 * k + s)) 512))
    (congrArg Neg.neg (Fin.sum_univ_eq_sum_range (fun t => G.DS h1 (512 * q + t) (1024 * k + s)) 512))

theorem blk_dcq (t : Fin 512) (l : Fin 128) : (G.blk p q k).dcq h0 h1 t l
    = if l.val / 2 = p then ∑ s ∈ range 1024, G.DS l (512 * q + t) (1024 * k + s) else 0 := by
  unfold Blk.dcq
  simp only [blk_ds G p q k h0 0 (by omega), blk_ds G p q k h1 1 (by omega)]
  exact of_head p h0 h1 e0 e1 l _ _ (fun h => ∑ s ∈ range 1024, G.DS h (512 * q + t) (1024 * k + s))
    (Fin.sum_univ_eq_sum_range (fun s => G.DS h0 (512 * q + t) (1024 * k + s)) 1024)
    (Fin.sum_univ_eq_sum_range (fun s => G.DS h1 (512 * q + t) (1024 * k + s)) 1024)

omit e0 e1

/-- How many keys row `r` has met after the step of query block `q` and key block `k`. -/
def met (q k r : ℕ) : ℕ := if r < 512 * (q + 1) then 1024 * (k + 1) else 1024 * k

/-- What the accumulators of pair `p` hold after the step of query block `q` and key block `k`. -/
def acc (p q k : ℕ) : Acc where
  dq r l := (∑ j ∈ range (met q k r), G.DS ((128 * p + l) / 64) r j * G.K j (128 * p + l)) * (1 / 8)
  dk s l := ∑ i ∈ range (512 * (q + 1)), G.DS ((128 * p + l) / 64) i (1024 * k + s) * (G.Q i (128 * p + l) * (1 / 8))
  dv s l := ∑ i ∈ range (512 * (q + 1)), G.P ((128 * p + l) / 64) i (1024 * k + s) * G.D i (128 * p + l)
  dc h s := if h.val / 2 = p then -∑ i ∈ range (512 * (q + 1)), G.DS h i (1024 * k + s) else 0
  dcq r l := if l.val / 2 = p then ∑ j ∈ range (met q k r), G.DS l r j else 0

/-- Keys past the query add nothing. -/
theorem sum_past (f : ℕ → ℝ) {a b : ℕ} (hab : a ≤ b) (h : ∀ j, a ≤ j → j < b → f j = 0) : ∑ j ∈ range b, f j = ∑ j ∈ range a, f j := by
  refine (Finset.sum_subset (Finset.range_subset_range.mpr hab) fun j hj hj' => h j ?_ (Finset.mem_range.mp hj)).symm
  exact Nat.le_of_not_lt fun hlt => hj' (Finset.mem_range.mpr hlt)

theorem sum_next (f : ℕ → ℝ) (a n : ℕ) : ∑ j ∈ range (a + n), f j = ∑ j ∈ range a, f j + ∑ s ∈ range n, f (a + s) := Finset.sum_range_add f a n

/-- The rows a step adds to, those of its query block, gain the keys of its key block. -/
theorem rows_met (f : ℕ → ℝ) (a : ℝ) (Y : Fin 512 → Fin 128 → ℝ) (r : Fin 8192) (l : Fin 128)
    (hY : ∀ t : Fin 512, 512 * q + t.val = r.val → Y t l = ∑ s ∈ range 1024, f (1024 * k + s))
    (hlo : r.val < 512 * q → a = ∑ j ∈ range (1024 * (k + 1)), f j) (hhi : 512 * q ≤ r.val → a = ∑ j ∈ range (1024 * k), f j) :
    a + Acc.rows (512 * q) Y r l = ∑ j ∈ range (met q k r), f j := by
  unfold Acc.rows met
  by_cases h1 : r.val < 512 * q
  · rw [dif_neg (by omega), add_zero, if_pos (by omega), hlo h1]
  · by_cases h2 : r.val < 512 * (q + 1)
    · rw [dif_pos ⟨by omega, by omega⟩, if_pos h2, hhi (by omega), Nat.mul_succ, sum_next]
      exact congrArg _ (hY _ (by show 512 * q + (r.val - 512 * q) = r.val; omega))
    · rw [dif_neg (by omega), add_zero, if_neg h2, hhi (by omega)]

/-- Every row has met the same keys once the last query block is done. -/
theorem met_last (r : Fin 8192) : met 15 k r = 1024 * (k + 1) := if_pos (by omega)

theorem dq_step (a : ℕ → ℕ) (A : ℝ) (r : Fin 8192) (l : Fin 128) (h0 h1 : Fin 8) (e0 : h0.val = 2 * p) (e1 : h1.val = 2 * p + 1)
    (hA : A = (∑ j ∈ range (a r), G.DS ((128 * p + l) / 64) r j * G.K j (128 * p + l)) * (1 / 8))
    (hlo : r.val < 512 * q → a r = 1024 * (k + 1) ∨ (a r = 1024 * k ∧ r.val < 1024 * k)) (hhi : 512 * q ≤ r.val → a r = 1024 * k) :
    A + Acc.rows (512 * q) ((G.blk p q k).dq h0 h1) r l = (G.acc p q k).dq r l := by
  have e := rows_met q k (fun j => G.DS ((128 * p + l) / 64) r j * G.K j (128 * p + l) * (1 / 8)) A ((G.blk p q k).dq h0 h1) r l
    (fun t ht => by rw [G.blk_dq p q k h0 h1 e0 e1, Finset.sum_mul, ht])
    (fun h => by
      rw [hA, Finset.sum_mul]
      rcases hlo h with h' | ⟨h', hr⟩
      · rw [h']
      · rw [h']
        exact (sum_past _ (by omega) fun j hj _ => by rw [G.DS_zero (by omega), zero_mul, zero_mul]).symm)
    fun h => by rw [hA, Finset.sum_mul, hhi h]
  rw [e]
  exact (Finset.sum_mul _ _ _).symm

theorem dcq_step (a : ℕ → ℕ) (A : ℝ) (r : Fin 8192) (l : Fin 128) (h0 h1 : Fin 8) (e0 : h0.val = 2 * p) (e1 : h1.val = 2 * p + 1)
    (hA : A = if l.val / 2 = p then ∑ j ∈ range (a r), G.DS l r j else 0)
    (hlo : r.val < 512 * q → a r = 1024 * (k + 1) ∨ (a r = 1024 * k ∧ r.val < 1024 * k)) (hhi : 512 * q ≤ r.val → a r = 1024 * k) :
    A + Acc.rows (512 * q) ((G.blk p q k).dcq h0 h1) r l = (G.acc p q k).dcq r l := by
  by_cases hl : l.val / 2 = p
  · rw [if_pos hl] at hA
    refine (rows_met q k (fun j => G.DS l r j) A ((G.blk p q k).dcq h0 h1) r l
      (fun t ht => by rw [G.blk_dcq p q k h0 h1 e0 e1, ht, if_pos hl]) (fun h => ?_) fun h => by rw [hA, hhi h]).trans (if_pos hl).symm
    rw [hA]
    rcases hlo h with h' | ⟨h', hr⟩
    · rw [h']
    · rw [h']
      exact (sum_past _ (by omega) fun j hj _ => G.DS_zero (by omega)).symm
  · rw [if_neg hl] at hA
    refine Eq.trans ?_ (if_neg hl).symm
    rw [hA, zero_add]
    unfold Acc.rows
    split
    · rw [G.blk_dcq p q k h0 h1 e0 e1, if_neg hl]
    · rfl

/-- A prefix over the query blocks grows by one block. -/
theorem sum_block (f : ℕ → ℝ) : ∑ i ∈ range (512 * (q + 1)), f i = ∑ i ∈ range (512 * q), f i + ∑ t ∈ range 512, f (512 * q + t) := by
  rw [Nat.mul_succ, sum_next]

theorem sum_block_only (f : ℕ → ℝ) (hf : ∀ i, i < 512 * q → f i = 0) : ∑ i ∈ range (512 * (q + 1)), f i = ∑ t ∈ range 512, f (512 * q + t) := by
  rw [sum_block, Finset.sum_eq_zero fun i hi => hf i (Finset.mem_range.mp hi), zero_add]

/-- The next query block of the same key block. -/
theorem acc_next (h0 h1 : Fin 8) (e0 : h0.val = 2 * p) (e1 : h1.val = 2 * p + 1) :
    (G.acc p q k).add (G.blk p (q + 1) k) h0 h1 (512 * (q + 1)) = G.acc p (q + 1) k := by
  refine Acc.ext (funext fun r => funext fun l => ?_) (funext fun s => funext fun l => ?_) (funext fun s => funext fun l => ?_)
    (funext fun h => funext fun s => ?_) (funext fun r => funext fun l => ?_)
  · exact G.dq_step p (q + 1) k (met q k) _ r l h0 h1 e0 e1 rfl (fun h => Or.inl (if_pos h)) fun h => if_neg (by omega)
  · exact (congrArg (_ + ·) (G.blk_dk p (q + 1) k h0 h1 e0 e1 s l)).trans (sum_block (q + 1) _).symm
  · exact (congrArg (_ + ·) (G.blk_dv p (q + 1) k h0 h1 e0 e1 s l)).trans (sum_block (q + 1) _).symm
  · refine (congrArg (_ + ·) (G.blk_dc p (q + 1) k h0 h1 e0 e1 h s)).trans ?_
    show (if _ then _ else _) + _ = if _ then _ else _
    by_cases hp : h.val / 2 = p
    · rw [if_pos hp, if_pos hp, if_pos hp, sum_block (q + 1), neg_add]
    · rw [if_neg hp, if_neg hp, if_neg hp, add_zero]
  · exact G.dcq_step p (q + 1) k (met q k) _ r l h0 h1 e0 e1 rfl (fun h => Or.inl (if_pos h)) fun h => if_neg (by omega)

/-- The first step of a key block: the three accumulators of the key block start from zero, and the queries before the block
    see none of its keys. -/
theorem acc_first (A : Acc) (h0 h1 : Fin 8) (e0 : h0.val = 2 * p) (e1 : h1.val = 2 * p + 1) (hk : A.dk = 0) (hv : A.dv = 0) (hc : A.dc = 0)
    (hq : ∀ r l, A.dq r l = (∑ j ∈ range (1024 * k), G.DS ((128 * p + l) / 64) r j * G.K j (128 * p + l)) * (1 / 8))
    (hcq : ∀ r l, A.dcq r l = if l.val / 2 = p then ∑ j ∈ range (1024 * k), G.DS l r j else 0) :
    A.add (G.blk p (2 * k) k) h0 h1 (512 * (2 * k)) = G.acc p (2 * k) k := by
  refine Acc.ext (funext fun r => funext fun l => ?_) (funext fun s => funext fun l => ?_) (funext fun s => funext fun l => ?_)
    (funext fun h => funext fun s => ?_) (funext fun r => funext fun l => ?_)
  · exact G.dq_step p (2 * k) k (fun _ => 1024 * k) _ r l h0 h1 e0 e1 (hq r l) (fun h => Or.inr ⟨rfl, by omega⟩) fun _ => rfl
  · show A.dk s l + _ = _
    rw [hk, G.blk_dk p (2 * k) k h0 h1 e0 e1 s l]
    refine (zero_add _).trans (sum_block_only (2 * k) (fun i => G.DS ((128 * p + l) / 64) i (1024 * k + s) * (G.Q i (128 * p + l) * (1 / 8)))
      fun i hi => ?_).symm
    rw [G.DS_zero (by omega), zero_mul]
  · show A.dv s l + _ = _
    rw [hv, G.blk_dv p (2 * k) k h0 h1 e0 e1 s l]
    refine (zero_add _).trans (sum_block_only (2 * k) (fun i => G.P ((128 * p + l) / 64) i (1024 * k + s) * G.D i (128 * p + l))
      fun i hi => ?_).symm
    rw [G.P_zero (by omega), zero_mul]
  · show A.dc h s + _ = if _ then _ else _
    rw [hc, G.blk_dc p (2 * k) k h0 h1 e0 e1 h s]
    by_cases hp : h.val / 2 = p
    · rw [if_pos hp, if_pos hp, sum_block_only (2 * k) _ fun i hi => G.DS_zero (by omega)]
      exact zero_add _
    · rw [if_neg hp, if_neg hp]
      exact zero_add _
  · exact G.dcq_step p (2 * k) k (fun _ => 1024 * k) _ r l h0 h1 e0 e1 (hcq r l) (fun h => Or.inr ⟨rfl, by omega⟩) fun _ => rfl

theorem acc_start (h0 h1 : Fin 8) (e0 : h0.val = 2 * p) (e1 : h1.val = 2 * p + 1) :
    Acc.zero.add (G.blk p 0 0) h0 h1 0 = G.acc p 0 0 :=
  G.acc_first p 0 Acc.zero h0 h1 e0 e1 rfl rfl rfl (fun r l => by simp [Acc.zero]) fun r l => by simp [Acc.zero]

theorem acc_turn (h0 h1 : Fin 8) (e0 : h0.val = 2 * p) (e1 : h1.val = 2 * p + 1) :
    (G.acc p 15 k).clear.add (G.blk p (2 * (k + 1)) (k + 1)) h0 h1 (512 * (2 * (k + 1))) = G.acc p (2 * (k + 1)) (k + 1) :=
  G.acc_first p (k + 1) _ h0 h1 e0 e1 rfl rfl rfl (fun r l => by show (∑ j ∈ range (met 15 k r), _) * _ = _; rw [met_last])
    fun r l => by show (if _ then ∑ j ∈ range (met 15 k r), _ else _) = _; rw [met_last]

/-- The five results. -/
def gq (i x : ℕ) : ℝ := (∑ j ∈ range 8192, G.DS (x / 64) i j * G.K j x) * (1 / 8)
def gk (j x : ℕ) : ℝ := ∑ i ∈ range 8192, G.DS (x / 64) i j * (G.Q i x * (1 / 8))
def gv (j x : ℕ) : ℝ := ∑ i ∈ range 8192, G.P (x / 64) i j * G.D i x
def gc (p h j : ℕ) : ℝ := if h / 2 = p then -∑ i ∈ range 8192, G.DS h i j else 0
def gcq (p i l : ℕ) : ℝ := if l / 2 = p then ∑ j ∈ range 8192, G.DS l i j else 0

theorem acc_dq (r : Fin 8192) (l : Fin 128) : (G.acc p 15 7).dq r l = G.gq r (128 * p + l) := by
  show (∑ j ∈ range (met 15 7 r), _) * _ = _
  rw [met_last]
  rfl
theorem acc_dcq (r : Fin 8192) (l : Fin 128) : (G.acc p 15 7).dcq r l = G.gcq p r l := by
  show (if _ then ∑ j ∈ range (met 15 7 r), _ else _) = _
  rw [met_last]
  rfl
theorem acc_dk (s : Fin 1024) (l : Fin 128) : (G.acc p 15 k).dk s l = G.gk (1024 * k + s) (128 * p + l) := by
  simp only [acc, gk, Nat.reduceAdd, Nat.reduceMul]
theorem acc_dv (s : Fin 1024) (l : Fin 128) : (G.acc p 15 k).dv s l = G.gv (1024 * k + s) (128 * p + l) := by
  simp only [acc, gv, Nat.reduceAdd, Nat.reduceMul]
theorem acc_dc (h : Fin 8) (s : Fin 1024) : (G.acc p 15 k).dc h s = G.gc p h (1024 * k + s) := by
  simp only [acc, gc, Nat.reduceAdd, Nat.reduceMul]

end Data

end Cert.Fox

end
-- ==== Proof.Points.lean ====
/-
  One grid point: what the five scratch arrays hold after it, given what they held before.
-/
module

public import proofs.«01_k».proof.Proof.Schedule
public import proofs.«01_k».proof.Proof.StepFull
public import proofs.«01_k».proof.Proof.StepDiag
public import proofs.«01_k».proof.Proof.StepHalf
public import proofs.«01_k».proof.Proof.Data

@[expose] public section

set_option maxRecDepth 16384

noncomputable section

open Idealize.ShloMosaic Idealize.ShloMosaic.TcCoe

namespace Cert.KernelIdeal.Step

open Cert.KernelIdeal Cert.KernelIdeal.Gen Cert.Fox

variable (m : (ℓ : Loc nD τ sig) → Buf (Elt Ideal) ℓ) (ρ : Dev nD → PrngReg) (c : Dev nD)

/-- Everything a point leaves: five output blocks and five scratch arrays. -/
abbrev State (c : Dev nD) : Type :=
  (S8192x128.Idx → Elt Ideal .bf16) × (S1024x128.Idx → Elt Ideal .bf16) × (S1024x128.Idx → Elt Ideal .bf16) × (S1x8x1024.Idx → Elt Ideal .f32)
    × (S1x8192x128.Idx → Elt Ideal .f32) × Buf (Elt Ideal) ((c : Thread nD τ).loc cc0_scratch0) × Buf (Elt Ideal) ((c : Thread nD τ).loc cc0_scratch1)
    × Buf (Elt Ideal) ((c : Thread nD τ).loc cc0_scratch2) × Buf (Elt Ideal) ((c : Thread nD τ).loc cc0_scratch3) × Buf (Elt Ideal) ((c : Thread nD τ).loc cc0_scratch4)

/-- Its scratch arrays hold `A`. -/
def Has (S : State c) (A : Acc) : Prop :=
  Reads c S.2.2.2.2.2.1 S.2.2.2.2.2.2.1 S.2.2.2.2.2.2.2.1 S.2.2.2.2.2.2.2.2.1 S.2.2.2.2.2.2.2.2.2 A

/-- The pair's heads at point `t`. -/
def hd0 (t : Fin (cfgA 0).N) : Fin 8 := ⟨2 * pn t, by have := (bounds t).1; omega⟩
def hd1 (t : Fin (cfgA 0).N) : Fin 8 := ⟨2 * pn t + 1, by have := (bounds t).1; omega⟩

/-- The real numbers point `t` reads. -/
def blkAt (G : Data) (t : Fin (cfgA 0).N) : Blk 1024 := G.blk (pn t) (qn t) (kn t)

/-- The windows' blocks at point `t` hold the real numbers of `G`. -/
def Feeds (G : Data) (t : Fin (cfgA 0).N) : Prop :=
  Args (BitVec.ofNat 32 (crd 0 t 0).val) (iblk 0 m ρ c (0 : Fin 13) t) (iblk 0 m ρ c (1 : Fin 13) t) (iblk 0 m ρ c (2 : Fin 13) t)
    (iblk 0 m ρ c (3 : Fin 13) t) (iblk 0 m ρ c (4 : Fin 13) t) (iblk 0 m ρ c (5 : Fin 13) t) (iblk 0 m ρ c (6 : Fin 13) t)
    (iblk 0 m ρ c (7 : Fin 13) t) (blkAt G t) (hd0 t) (hd1 t)

theorem off_A : ∀ t : Fin (cfgA 0).N, k0_off3 (kernelRun0_A.sl.r (crd 0 t) (pinT_0 0)) = ![512 * qn t, 0] := by decide +kernel
theorem off_B : ∀ t : Fin (cfgA 0).N, k0_off4 (kernelRun0_B.sl.r (crd 0 t) (pinT_0 0)) = ![512 * qn t, 0] := by decide +kernel
theorem off_C : ∀ t : Fin (cfgA 0).N, k0_off2 (kernelRun0_C.sl.r (crd 0 t) (pinT_0 0)) = ![512 * qn t, 0] := by decide +kernel
theorem gap_A : ∀ t : Fin (cfgA 0).N, P0_0 0 t → kernelRun0_A.sl.v61 (crd 0 t) (pinT_0 0) (pinT_1 0) = BitVec.ofNat 32 0 := by decide +kernel
theorem gap_E : ∀ t : Fin (cfgA 0).N, ¬P0_0 0 t → P0_1 0 t → kernelRun0_E.sl.v61 (crd 0 t) (pinT_0 0) (pinT_1 0) = BitVec.ofNat 32 0 := by decide +kernel
theorem gap_B : ∀ t : Fin (cfgA 0).N, ¬P0_0 0 t → ¬P0_1 0 t → ¬P0_2 0 t →
    kernelRun0_B.sl.v61 (crd 0 t) (pinT_0 0) (pinT_1 0) = BitVec.ofNat 32 512 := by decide +kernel

theorem low_A : ∀ t : Fin (cfgA 0).N, P0_0 0 t → k0_cond4 (kernelRun0_A.sl.r_2 (crd 0 t) (pinT_2 0)) = 1#1 := by decide +kernel
theorem low_E : ∀ t : Fin (cfgA 0).N, ¬P0_0 0 t → P0_1 0 t → k0_cond4 (kernelRun0_E.sl.r_2 (crd 0 t) (pinT_2 0)) = 1#1 := by decide +kernel
theorem up_B : ∀ t : Fin (cfgA 0).N, ¬P0_0 0 t → ¬P0_1 0 t → ¬P0_2 0 t → k0_cond5 (kernelRun0_B.sl.r_2 (crd 0 t) (pinT_2 0)) = 1#1 := by
  decide +kernel

theorem mask_full (G : Data) (t : Fin (cfgA 0).N) (h : 2 * kn t + 2 ≤ qn t) (a : Fin 512) (b : Fin 1024) : (blkAt G t).M a b := by
  show 1024 * kn t + b.val ≤ 512 * qn t + a.val
  omega
theorem mask_half (G : Data) (t : Fin (cfgA 0).N) (h : qn t = 2 * kn t) (a : Fin 512) (b : Fin 1024) : (blkAt G t).M a b ↔ b.val ≤ a.val := by
  show 1024 * kn t + b.val ≤ 512 * qn t + a.val ↔ _
  omega
theorem mask_diag (G : Data) (t : Fin (cfgA 0).N) (h : qn t = 2 * kn t + 1) (a : Fin 512) (b : Fin 1024) :
    (blkAt G t).M a b ↔ b.val ≤ a.val + 512 := by
  show 1024 * kn t + b.val ≤ 512 * qn t + a.val ↔ _
  omega

variable {m ρ c} {G : Data} {t : Fin (cfgA 0).N} {prev : State c} {A : Acc}

theorem point_A (H : Feeds m ρ c G t) (q0 : P0_0 0 t) : Has c (step0 0 m ρ c t prev) (Acc.zero.add (blkAt G t) (hd0 t) (hd1 t) (512 * qn t)) := by
  rw [step0_A 0 m ρ c t prev q0]
  have e := at_A t q0
  unfold kernelRun0_A Has
  dsimp only
  exact StepHalf.step_A (arg5 := ms0_0 0 t) (arg6 := ms0_1 0 t) (arg7 := ms0_2 0 t) (arg8 := ms0_3 0 t) (arg9 := ms0_4 0 t) (arg10 := ms0_5 0 t) (arg11 := ms0_6 0 t) (arg12 := ms0_7 0 t)
    (T0 := pinT_0 0) (T1 := pinT_1 0) (T2 := pinT_2 0) H (mask_half G t (by omega)) (gap_A t q0) (hyp0_A_0 0 t q0) (low_A t q0) (off_A t)

theorem point_E (H : Feeds m ρ c G t) (R : Has c prev A) (q0 : ¬P0_0 0 t) (q1 : P0_1 0 t) :
    Has c (step0 0 m ρ c t prev) (A.clear.add (blkAt G t) (hd0 t) (hd1 t) (512 * qn t)) := by
  rw [step0_E 0 m ρ c t prev q0 q1]
  unfold kernelRun0_E Has
  dsimp only
  exact StepHalf.step_E (arg5 := ms0_0 0 t) (arg6 := ms0_1 0 t) (arg7 := ms0_2 0 t) (arg8 := ms0_3 0 t) (arg9 := ms0_4 0 t) (arg10 := ms0_5 0 t) (arg11 := ms0_6 0 t) (arg12 := ms0_7 0 t)
    (T0 := pinT_0 0) (T1 := pinT_1 0) (T2 := pinT_2 0) H (mask_half G t (at_E t q0 q1).2.2.1) R (gap_E t q0 q1) (hyp0_E_0 0 t q0 q1) (low_E t q0 q1) (off_A t)

theorem point_C (H : Feeds m ρ c G t) (R : Has c prev A) (q0 : ¬P0_0 0 t) (q1 : ¬P0_1 0 t) (q2 : P0_2 0 t) (q3 : ¬P0_3 0 t) :
    Has c (step0 0 m ρ c t prev) (A.add (blkAt G t) (hd0 t) (hd1 t) (512 * qn t)) := by
  rw [step0_C 0 m ρ c t prev q0 q1 q2 q3]
  unfold kernelRun0_C Has
  dsimp only
  exact StepFull.step_C (arg5 := ms0_0 0 t) (arg6 := ms0_1 0 t) (arg7 := ms0_2 0 t) (arg8 := ms0_3 0 t) (arg9 := ms0_4 0 t) (arg10 := ms0_5 0 t) (arg11 := ms0_6 0 t) (arg12 := ms0_7 0 t)
    (T0 := pinT_0 0) (T2 := pinT_2 0) H (mask_full G t (at_full t q0 q1 q2)) R _ _ (off_C t)

theorem point_D (H : Feeds m ρ c G t) (R : Has c prev A) (q0 : ¬P0_0 0 t) (q1 : ¬P0_1 0 t) (q2 : P0_2 0 t) (q3 : P0_3 0 t) :
    Has c (step0 0 m ρ c t prev) (A.add (blkAt G t) (hd0 t) (hd1 t) (512 * qn t)) := by
  rw [step0_D 0 m ρ c t prev q0 q1 q2 q3]
  unfold kernelRun0_D Has
  dsimp only
  exact StepFull.step_D (arg5 := ms0_0 0 t) (arg6 := ms0_1 0 t) (arg7 := ms0_2 0 t) (arg8 := ms0_3 0 t) (arg9 := ms0_4 0 t) (arg10 := ms0_5 0 t) (arg11 := ms0_6 0 t) (arg12 := ms0_7 0 t)
    (T0 := pinT_0 0) (T2 := pinT_2 0) H (mask_full G t (at_full t q0 q1 q2)) R _ _ (off_C t)

theorem point_B (H : Feeds m ρ c G t) (R : Has c prev A) (q0 : ¬P0_0 0 t) (q1 : ¬P0_1 0 t) (q2 : ¬P0_2 0 t) (q3 : ¬P0_3 0 t) :
    Has c (step0 0 m ρ c t prev) (A.add (blkAt G t) (hd0 t) (hd1 t) (512 * qn t)) := by
  rw [step0_B 0 m ρ c t prev q0 q1 q2 q3]
  unfold kernelRun0_B Has
  dsimp only
  exact StepDiag.step_B (arg5 := ms0_0 0 t) (arg6 := ms0_1 0 t) (arg7 := ms0_2 0 t) (arg8 := ms0_3 0 t) (arg9 := ms0_4 0 t) (arg10 := ms0_5 0 t) (arg11 := ms0_6 0 t) (arg12 := ms0_7 0 t)
    (T0 := pinT_0 0) (T1 := pinT_1 0) (T2 := pinT_2 0) H (mask_diag G t (at_diag t q0 q1 q2)) R (gap_B t q0 q1 q2) (hyp0_B_0 0 t q0 q1 q2 q3) (up_B t q0 q1 q2) (off_B t)

theorem point_F (H : Feeds m ρ c G t) (R : Has c prev A) (q0 : ¬P0_0 0 t) (q1 : ¬P0_1 0 t) (q2 : ¬P0_2 0 t) (q3 : P0_3 0 t) :
    Has c (step0 0 m ρ c t prev) (A.add (blkAt G t) (hd0 t) (hd1 t) (512 * qn t)) := by
  rw [step0_F 0 m ρ c t prev q0 q1 q2 q3]
  unfold kernelRun0_F Has
  dsimp only
  exact StepDiag.step_F (arg5 := ms0_0 0 t) (arg6 := ms0_1 0 t) (arg7 := ms0_2 0 t) (arg8 := ms0_3 0 t) (arg9 := ms0_4 0 t) (arg10 := ms0_5 0 t) (arg11 := ms0_6 0 t) (arg12 := ms0_7 0 t)
    (T0 := pinT_0 0) (T1 := pinT_1 0) (T2 := pinT_2 0) H (mask_diag G t (at_diag t q0 q1 q2)) R (gap_B t q0 q1 q2) (hyp0_F_0 0 t q0 q1 q2 q3) (up_B t q0 q1 q2) (off_B t)

end Cert.KernelIdeal.Step

end
-- ==== Proof.Outs.lean ====
/-
  What the last step of a key block stores in the output blocks.
-/
module

public import proofs.«01_k».proof.Proof.Points
public import proofs.«01_k».proof.Proof.PayStore

@[expose] public section

set_option maxRecDepth 16384

noncomputable section

open Idealize.ShloMosaic Idealize.ShloMosaic.TcCoe

namespace Cert.KernelIdeal.Step

open Cert.KernelIdeal Cert.KernelIdeal.Gen Cert.Fox

variable {m : (ℓ : Loc nD τ sig) → Buf (Elt Ideal) ℓ} {ρ : Dev nD → PrngReg} {c : Dev nD} {t : Fin (cfgA 0).N} {prev : State c} {A : Acc}

theorem out_D_dk (R : Has c (step0 0 m ρ c t prev) A) (q0 : ¬P0_0 0 t) (q1 : ¬P0_1 0 t) (q2 : P0_2 0 t) (q3 : P0_3 0 t) :
    ∀ s l, (step0 0 m ρ c t prev).2.1 (ix2 s l) = (A.dk s l : EReal) := by
  intro s l
  have e := R.dk s l
  rw [step0_D 0 m ρ c t prev q0 q1 q2 q3] at e ⊢
  unfold out0_D_9
  unfold kernelRun0_D at e ⊢
  dsimp only at e ⊢
  unfold kernelRun0_D.sl.HO9_1
  refine (congrFun (View.read_writes_full _ _ _ _ _) _).trans ?_
  refine (PayStore.pay10_at _ s l).trans ?_
  unfold kernelRun0_D.sl.v28 View.readCov
  exact (congrFun (View.readAt_full _ _ _) _).trans e

theorem out_D_dv (R : Has c (step0 0 m ρ c t prev) A) (q0 : ¬P0_0 0 t) (q1 : ¬P0_1 0 t) (q2 : P0_2 0 t) (q3 : P0_3 0 t) :
    ∀ s l, (step0 0 m ρ c t prev).2.2.1 (ix2 s l) = (A.dv s l : EReal) := by
  intro s l
  have e := R.dv s l
  rw [step0_D 0 m ρ c t prev q0 q1 q2 q3] at e ⊢
  unfold out0_D_10
  unfold kernelRun0_D at e ⊢
  dsimp only at e ⊢
  unfold kernelRun0_D.sl.HO10_1
  refine (congrFun (View.read_writes_full _ _ _ _ _) _).trans ?_
  refine (PayStore.pay11_at _ s l).trans ?_
  unfold kernelRun0_D.sl.v31 View.readCov
  exact (congrFun (View.readAt_full _ _ _) _).trans e

theorem out_D_dc (R : Has c (step0 0 m ρ c t prev) A) (q0 : ¬P0_0 0 t) (q1 : ¬P0_1 0 t) (q2 : P0_2 0 t) (q3 : P0_3 0 t) :
    ∀ h s, (step0 0 m ρ c t prev).2.2.2.1 (ix3 0 h s) = (A.dc h s : EReal) := by
  intro h s
  have e := R.dc h s
  rw [step0_D 0 m ρ c t prev q0 q1 q2 q3] at e ⊢
  unfold out0_D_11
  unfold kernelRun0_D at e ⊢
  dsimp only at e ⊢
  unfold kernelRun0_D.sl.HO11_1
  refine (congrFun (View.read_writes_full _ _ _ _ _) _).trans ?_
  refine (PayStore.pay12_at _ h s).trans ?_
  unfold kernelRun0_D.sl.v34 View.readCov
  exact (congrFun (View.readAt_full _ _ _) _).trans e

theorem out_F_dq (R : Has c (step0 0 m ρ c t prev) A) (q0 : ¬P0_0 0 t) (q1 : ¬P0_1 0 t) (q2 : ¬P0_2 0 t) (q3 : P0_3 0 t) :
    ∀ r l, (step0 0 m ρ c t prev).1 (ix2 r l) = (A.dq r l : EReal) := by
  intro r l
  have e := R.dq r l
  rw [step0_F 0 m ρ c t prev q0 q1 q2 q3] at e ⊢
  unfold out0_F_8
  unfold kernelRun0_F at e ⊢
  dsimp only at e ⊢
  unfold kernelRun0_F.sl.HO8_1
  refine (congrFun (View.read_writes_full _ _ _ _ _) _).trans ?_
  refine (PayStore.pay13_at _ r l).trans ?_
  exact (congrFun (View.readAt_full _ _ _) _).trans e

theorem out_F_dk (R : Has c (step0 0 m ρ c t prev) A) (q0 : ¬P0_0 0 t) (q1 : ¬P0_1 0 t) (q2 : ¬P0_2 0 t) (q3 : P0_3 0 t) :
    ∀ s l, (step0 0 m ρ c t prev).2.1 (ix2 s l) = (A.dk s l : EReal) := by
  intro s l
  have e := R.dk s l
  rw [step0_F 0 m ρ c t prev q0 q1 q2 q3] at e ⊢
  unfold out0_F_9
  unfold kernelRun0_F at e ⊢
  dsimp only at e ⊢
  unfold kernelRun0_F.sl.HO9_1
  refine (congrFun (View.read_writes_full _ _ _ _ _) _).trans ?_
  refine (PayStore.pay10_at _ s l).trans ?_
  unfold kernelRun0_F.sl.v28 View.readCov
  exact (congrFun (View.readAt_full _ _ _) _).trans e

theorem out_F_dv (R : Has c (step0 0 m ρ c t prev) A) (q0 : ¬P0_0 0 t) (q1 : ¬P0_1 0 t) (q2 : ¬P0_2 0 t) (q3 : P0_3 0 t) :
    ∀ s l, (step0 0 m ρ c t prev).2.2.1 (ix2 s l) = (A.dv s l : EReal) := by
  intro s l
  have e := R.dv s l
  rw [step0_F 0 m ρ c t prev q0 q1 q2 q3] at e ⊢
  unfold out0_F_10
  unfold kernelRun0_F at e ⊢
  dsimp only at e ⊢
  unfold kernelRun0_F.sl.HO10_1
  refine (congrFun (View.read_writes_full _ _ _ _ _) _).trans ?_
  refine (PayStore.pay11_at _ s l).trans ?_
  unfold kernelRun0_F.sl.v31 View.readCov
  exact (congrFun (View.readAt_full _ _ _) _).trans e

theorem out_F_dc (R : Has c (step0 0 m ρ c t prev) A) (q0 : ¬P0_0 0 t) (q1 : ¬P0_1 0 t) (q2 : ¬P0_2 0 t) (q3 : P0_3 0 t) :
    ∀ h s, (step0 0 m ρ c t prev).2.2.2.1 (ix3 0 h s) = (A.dc h s : EReal) := by
  intro h s
  have e := R.dc h s
  rw [step0_F 0 m ρ c t prev q0 q1 q2 q3] at e ⊢
  unfold out0_F_11
  unfold kernelRun0_F at e ⊢
  dsimp only at e ⊢
  unfold kernelRun0_F.sl.HO11_1
  refine (congrFun (View.read_writes_full _ _ _ _ _) _).trans ?_
  refine (PayStore.pay12_at _ h s).trans ?_
  unfold kernelRun0_F.sl.v34 View.readCov
  exact (congrFun (View.readAt_full _ _ _) _).trans e

theorem out_F_dcq (R : Has c (step0 0 m ρ c t prev) A) (q0 : ¬P0_0 0 t) (q1 : ¬P0_1 0 t) (q2 : ¬P0_2 0 t) (q3 : P0_3 0 t) :
    ∀ r l, (step0 0 m ρ c t prev).2.2.2.2.1 (ix3 0 r l) = (A.dcq r l : EReal) := by
  intro r l
  have e := R.dcq r l
  rw [step0_F 0 m ρ c t prev q0 q1 q2 q3] at e ⊢
  unfold out0_F_12
  unfold kernelRun0_F at e ⊢
  dsimp only at e ⊢
  unfold kernelRun0_F.sl.HO12_1
  refine (congrFun (View.read_writes_full _ _ _ _ _) _).trans ?_
  refine (PayStore.pay14_at _ r l).trans ?_
  exact (congrFun (View.readAt_full _ _ _) _).trans e

end Cert.KernelIdeal.Step

end
-- ==== Proof.Traj.lean ====
/-
  The whole grid: what the scratch arrays hold after every point, and what the output blocks hold when they are written back.
-/
module

public import proofs.«01_k».proof.Proof.Outs

@[expose] public section

set_option maxRecDepth 16384

noncomputable section

open Idealize.ShloMosaic Idealize.ShloMosaic.TcCoe

namespace Cert.KernelIdeal.Step

open Cert.KernelIdeal Cert.KernelIdeal.Gen Cert.Fox

variable {m : (ℓ : Loc nD τ sig) → Buf (Elt Ideal) ℓ} {ρ : Dev nD → PrngReg} {c : Dev nD} {G : Data} (HF : ∀ t, Feeds m ρ c G t)

theorem prev_eq (t : Fin (cfgA 0).N) (h : 0 < t.val) : prev0 0 m ρ c t = traj0 0 m ρ c (t.val - 1) (by omega) := by
  unfold prev0
  rw [dif_neg (by omega)]

include HF in
theorem traj_has (n : ℕ) (hn : n < (cfgA 0).N) : Has c (traj0 0 m ρ c n hn) (G.acc (pn n) (qn n) (kn n)) := by
  induction n using Nat.strong_induction_on with
  | _ n ih =>
    obtain ⟨t, rfl⟩ : ∃ t : Fin (cfgA 0).N, t.val = n := ⟨⟨n, hn⟩, rfl⟩
    rw [traj0_eq]
    by_cases q0 : P0_0 0 t
    · obtain ⟨e1, e2⟩ := at_A t q0
      have e := point_A (prev := prev0 0 m ρ c t) (HF t) q0
      unfold blkAt at e
      rw [e1, e2] at e ⊢
      rw [G.acc_start (pn t) (hd0 t) (hd1 t) rfl rfl] at e
      exact e
    by_cases q1 : P0_1 0 t
    · obtain ⟨e0, e1, e2, e3, e4⟩ := at_E t q0 q1
      have R := ih (t.val - 1) (by omega) (by omega)
      rw [← prev_eq t e0, ← e1, e4] at R
      have e := point_E (HF t) R q0 q1
      unfold blkAt at e
      rw [e2, e3] at e ⊢
      rw [G.acc_turn (pn t) (kn (t.val - 1)) (hd0 t) (hd1 t) rfl rfl] at e
      exact e
    · obtain ⟨e0, e1, e2, e3⟩ := at_rest t q0 q1
      have R := ih (t.val - 1) (by omega) (by omega)
      rw [← prev_eq t e0, ← e1, ← e2] at R
      have e : Has c (step0 0 m ρ c t (prev0 0 m ρ c t)) ((G.acc (pn t) (qn (t.val - 1)) (kn t)).add (blkAt G t) (hd0 t) (hd1 t) (512 * qn t)) := by
        by_cases q2 : P0_2 0 t
        · by_cases q3 : P0_3 0 t
          · exact point_D (HF t) R q0 q1 q2 q3
          · exact point_C (HF t) R q0 q1 q2 q3
        · by_cases q3 : P0_3 0 t
          · exact point_F (HF t) R q0 q1 q2 q3
          · exact point_B (HF t) R q0 q1 q2 q3
      unfold blkAt at e
      rw [e3] at e ⊢
      rw [G.acc_next (pn t) (qn (t.val - 1)) (kn t) (hd0 t) (hd1 t) rfl rfl] at e
      exact e

theorem of_last : ∀ t : Fin (cfgA 0).N, qn t = 15 → ¬P0_0 0 t ∧ ¬P0_1 0 t ∧ P0_3 0 t := by decide +kernel
theorem of_end : ∀ t : Fin (cfgA 0).N, t.val % 72 = 71 → qn t = 15 ∧ kn t = 7 ∧ ¬P0_2 0 t := by decide +kernel

include HF

theorem last_dk (t : Fin (cfgA 0).N) (h : qn t = 15) (s : Fin 1024) (l : Fin 128) :
    (traj0 0 m ρ c t.val t.isLt).2.1 (ix2 s l) = ((G.acc (pn t) 15 (kn t)).dk s l : EReal) := by
  have R := traj_has HF t.val t.isLt
  obtain ⟨q0, q1, q3⟩ := of_last t h
  rw [traj0_eq, h] at R
  rw [traj0_eq]
  by_cases q2 : P0_2 0 t
  · exact out_D_dk R q0 q1 q2 q3 s l
  · exact out_F_dk R q0 q1 q2 q3 s l

theorem last_dv (t : Fin (cfgA 0).N) (h : qn t = 15) (s : Fin 1024) (l : Fin 128) :
    (traj0 0 m ρ c t.val t.isLt).2.2.1 (ix2 s l) = ((G.acc (pn t) 15 (kn t)).dv s l : EReal) := by
  have R := traj_has HF t.val t.isLt
  obtain ⟨q0, q1, q3⟩ := of_last t h
  rw [traj0_eq, h] at R
  rw [traj0_eq]
  by_cases q2 : P0_2 0 t
  · exact out_D_dv R q0 q1 q2 q3 s l
  · exact out_F_dv R q0 q1 q2 q3 s l

theorem last_dc (t : Fin (cfgA 0).N) (h : qn t = 15) (a : Fin 8) (s : Fin 1024) :
    (traj0 0 m ρ c t.val t.isLt).2.2.2.1 (ix3 0 a s) = ((G.acc (pn t) 15 (kn t)).dc a s : EReal) := by
  have R := traj_has HF t.val t.isLt
  obtain ⟨q0, q1, q3⟩ := of_last t h
  rw [traj0_eq, h] at R
  rw [traj0_eq]
  by_cases q2 : P0_2 0 t
  · exact out_D_dc R q0 q1 q2 q3 a s
  · exact out_F_dc R q0 q1 q2 q3 a s

theorem end_dq (t : Fin (cfgA 0).N) (h : t.val % 72 = 71) (r : Fin 8192) (l : Fin 128) :
    (traj0 0 m ρ c t.val t.isLt).1 (ix2 r l) = ((G.acc (pn t) 15 7).dq r l : EReal) := by
  obtain ⟨e1, e2, q2⟩ := of_end t h
  have R := traj_has HF t.val t.isLt
  obtain ⟨q0, q1, q3⟩ := of_last t e1
  rw [traj0_eq, e1, e2] at R
  rw [traj0_eq]
  exact out_F_dq R q0 q1 q2 q3 r l

theorem end_dcq (t : Fin (cfgA 0).N) (h : t.val % 72 = 71) (r : Fin 8192) (l : Fin 128) :
    (traj0 0 m ρ c t.val t.isLt).2.2.2.2.1 (ix3 0 r l) = ((G.acc (pn t) 15 7).dcq r l : EReal) := by
  obtain ⟨e1, e2, q2⟩ := of_end t h
  have R := traj_has HF t.val t.isLt
  obtain ⟨q0, q1, q3⟩ := of_last t e1
  rw [traj0_eq, e1, e2] at R
  rw [traj0_eq]
  exact out_F_dcq R q0 q1 q2 q3 r l

end Cert.KernelIdeal.Step

end
-- ==== Proof.Inputs.lean ====
/-
  The arrays of the call as real numbers, and the blocks that the windows cut from them.
-/
module

public import proofs.«01_k».proof.Proof.Points
public import Idealize.ShloMosaic.Lib.Pipeline.ValueKit

@[expose] public section

set_option maxRecDepth 16384

noncomputable section

open Idealize.ShloMosaic Idealize.ShloMosaic.TcCoe

namespace Cert.Fox

open Cert.KernelIdeal

/-- The columns of the projections that hold the queries, keys and values. -/
def colQ (x : Fin 512) : Fin 10368 := ⟨3584 + x.val, by omega⟩
def colK (x : Fin 512) : Fin 10368 := ⟨4096 + x.val, by omega⟩
def colV (x : Fin 512) : Fin 10368 := ⟨4608 + x.val, by omega⟩

theorem colQ_val (x : Fin 512) : (colQ x).val = 3584 + x.val := rfl
theorem colK_val (x : Fin 512) : (colK x).val = 4096 + x.val := rfl
theorem colV_val (x : Fin 512) : (colV x).val = 4608 + x.val := rfl

/-- The eight arrays hold the real numbers of `G`: of the log-sums two lanes in each pair, of the row dots and the running
    sum eight lanes. -/
structure Inputs (a3 a4 a5 : Vec Ideal S8192x10368 .f32) (a6 : Vec Ideal S8192x512 .f32) (a7 : Vec Ideal S4x8192x128 .f32)
    (a8 a9 : Vec Ideal S8192x128 .f32) (a10 : Vec Ideal S8x8192 .f32) (G : Data) : Prop where
  q : ∀ (i : Fin 8192) (x : Fin 512), a3 (ix2 i (colQ x)) = (G.Q i x : EReal)
  k : ∀ (i : Fin 8192) (x : Fin 512), a4 (ix2 i (colK x)) = (G.K i x : EReal)
  v : ∀ (i : Fin 8192) (x : Fin 512), a5 (ix2 i (colV x)) = (G.V i x : EReal)
  d : ∀ (i : Fin 8192) (x : Fin 512), a6 (ix2 i x) = (G.D i x : EReal)
  ls : ∀ (p : Fin 4) (i : Fin 8192) (hh : Fin 2), a7 (ix3 p i (Blk.lane2 hh)) = (G.L (2 * p + hh) i : EReal)
  de : ∀ (i : Fin 8192) (h : Fin 8), a8 (ix2 i (Blk.lane h)) = (G.R h i : EReal)
  cq : ∀ (i : Fin 8192) (h : Fin 8), a9 (ix2 i (Blk.lane h)) = (G.cq h i : EReal)
  ck : ∀ (h : Fin 8) (j : Fin 8192), a10 (ix2 h j) = (G.ck h j : EReal)

end Cert.Fox

namespace Cert.KernelIdeal.Step

open Cert.KernelIdeal Cert.KernelIdeal.Gen Cert.Fox

theorem win_0 : ∀ t : Fin (cfgA 0).N, ((cfgA 0).win 0).index t = ![qn t, 28 + pn t] := by decide +kernel
theorem win_1 : ∀ t : Fin (cfgA 0).N, ((cfgA 0).win 1).index t = ![kn t, 32 + pn t] := by decide +kernel
theorem win_2 : ∀ t : Fin (cfgA 0).N, ((cfgA 0).win 2).index t = ![kn t, 36 + pn t] := by decide +kernel
theorem win_3 : ∀ t : Fin (cfgA 0).N, ((cfgA 0).win 3).index t = ![qn t, pn t] := by decide +kernel
theorem win_4 : ∀ t : Fin (cfgA 0).N, ((cfgA 0).win 4).index t = ![pn t, qn t, 0] := by decide +kernel
theorem win_5 : ∀ t : Fin (cfgA 0).N, ((cfgA 0).win 5).index t = ![qn t, 0] := by decide +kernel
theorem win_6 : ∀ t : Fin (cfgA 0).N, ((cfgA 0).win 6).index t = ![qn t, 0] := by decide +kernel
theorem win_7 : ∀ t : Fin (cfgA 0).N, ((cfgA 0).win 7).index t = ![0, kn t] := by decide +kernel

variable (m : (ℓ : Loc nD τ sig) → Buf (Elt Ideal) ℓ) (ρ : Dev nD → PrngReg) (c : Dev nD) (t : Fin (cfgA 0).N)

theorem blk_0 (a : Fin 512) (l : Fin 128) (i : Fin 8192) (x : Fin 512) (hi : i.val = 512 * qn t + a) (hx : x.val = 128 * pn t + l) :
    iblk 0 m ρ c (0 : Fin 13) t (ix2 a l) = m ((c : Thread nD τ).loc main_arg3) (ix2 i (colQ x)) := by
  have e := colQ_val x
  blk_ext [iblk, win_0 t]

theorem blk_1 (a : Fin 1024) (l : Fin 128) (i : Fin 8192) (x : Fin 512) (hi : i.val = 1024 * kn t + a) (hx : x.val = 128 * pn t + l) :
    iblk 0 m ρ c (1 : Fin 13) t (ix2 a l) = m ((c : Thread nD τ).loc main_arg4) (ix2 i (colK x)) := by
  have e := colK_val x
  blk_ext [iblk, win_1 t]

theorem blk_2 (a : Fin 1024) (l : Fin 128) (i : Fin 8192) (x : Fin 512) (hi : i.val = 1024 * kn t + a) (hx : x.val = 128 * pn t + l) :
    iblk 0 m ρ c (2 : Fin 13) t (ix2 a l) = m ((c : Thread nD τ).loc main_arg5) (ix2 i (colV x)) := by
  have e := colV_val x
  blk_ext [iblk, win_2 t]

theorem blk_3 (a : Fin 512) (l : Fin 128) (i : Fin 8192) (x : Fin 512) (hi : i.val = 512 * qn t + a) (hx : x.val = 128 * pn t + l) :
    iblk 0 m ρ c (3 : Fin 13) t (ix2 a l) = m ((c : Thread nD τ).loc main_arg6) (ix2 i x) := by
  blk_ext [iblk, win_3 t]

theorem blk_4 (a : Fin 512) (l : Fin 128) (p : Fin 4) (i : Fin 8192) (hp : p.val = pn t) (hi : i.val = 512 * qn t + a) :
    iblk 0 m ρ c (4 : Fin 13) t (ix3 0 a l) = m ((c : Thread nD τ).loc main_arg7) (ix3 p i l) := by
  blk_ext [iblk, win_4 t]

theorem blk_5 (a : Fin 512) (l : Fin 128) (i : Fin 8192) (hi : i.val = 512 * qn t + a) :
    iblk 0 m ρ c (5 : Fin 13) t (ix2 a l) = m ((c : Thread nD τ).loc main_arg8) (ix2 i l) := by
  blk_ext [iblk, win_5 t]

theorem blk_6 (a : Fin 512) (l : Fin 128) (i : Fin 8192) (hi : i.val = 512 * qn t + a) :
    iblk 0 m ρ c (6 : Fin 13) t (ix2 a l) = m ((c : Thread nD τ).loc main_arg9) (ix2 i l) := by
  blk_ext [iblk, win_6 t]

theorem blk_7 (h : Fin 8) (s : Fin 1024) (j : Fin 8192) (hj : j.val = 1024 * kn t + s) :
    iblk 0 m ρ c (7 : Fin 13) t (ix2 h s) = m ((c : Thread nD τ).loc main_arg10) (ix2 h j) := by
  blk_ext [iblk, win_7 t]

variable {m c} {G : Data}
  (I : Inputs (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) G)

/-- Row `a` of query block `qn t`, row `s` of key block `kn t`, lane `l` of pair `pn t`. -/
def rowQ (a : Fin 512) : Fin 8192 := ⟨512 * qn t + a, by have := bounds t; omega⟩
def rowK (s : Fin 1024) : Fin 8192 := ⟨1024 * kn t + s, by have := bounds t; omega⟩
def colP (l : Fin 128) : Fin 512 := ⟨128 * pn t + l, by have := bounds t; omega⟩
def pairP : Fin 4 := ⟨pn t, (bounds t).1⟩

theorem words : ∀ t : Fin (cfgA 0).N, w0 (BitVec.ofNat 32 (crd 0 t 0).val) = BitVec.ofNat 32 (hd0 t).val
    ∧ w1 (BitVec.ofNat 32 (crd 0 t 0).val) = BitVec.ofNat 32 (hd1 t).val := by decide +kernel

include I in
theorem feeds : Feeds m ρ c G t where
  w0 := (words t).1
  w1 := (words t).2
  q a l := (blk_0 m ρ c t a l (rowQ t a) (colP t l) rfl rfl).trans (I.q _ _)
  d a l := (blk_3 m ρ c t a l (rowQ t a) (colP t l) rfl rfl).trans (I.d _ _)
  k s l := (blk_1 m ρ c t s l (rowK t s) (colP t l) rfl rfl).trans (I.k _ _)
  v s l := (blk_2 m ρ c t s l (rowK t s) (colP t l) rfl rfl).trans (I.v _ _)
  ls a hh := (blk_4 m ρ c t a (Blk.lane2 hh) (pairP t) (rowQ t a) rfl rfl).trans (I.ls _ _ _)
  de a h := (blk_5 m ρ c t a (Blk.lane h) (rowQ t a) rfl).trans (I.de _ _)
  cr h := (blk_6 m ρ c t 0 (Blk.lane h) (rowQ t 0) rfl).trans (I.cq _ _)
  ct h s := (blk_7 m ρ c t h s (rowK t s) rfl).trans (I.ck _ _)

end Cert.KernelIdeal.Step

end
-- ==== Proof.Arrays.lean ====
/-
  The five result arrays after the run.
-/
module

public import proofs.«01_k».proof.Proof.Traj
public import proofs.«01_k».proof.Proof.Inputs

@[expose] public section

set_option maxRecDepth 16384

noncomputable section

open Idealize.ShloMosaic Idealize.ShloMosaic.TcCoe

namespace Cert.KernelIdeal.Step

open Cert.KernelIdeal Cert.KernelIdeal.Gen Cert.Fox

variable {m : (ℓ : Loc nD τ sig) → Buf (Elt Ideal) ℓ} {ρ : Dev nD → PrngReg} {c : Dev nD} {G : Data} (HF : ∀ t, Feeds m ρ c G t)

theorem win_8 : ∀ t : Fin (cfgA 0).N, ((cfgA 0).win 8).index t = ![0, pn t] := by decide +kernel
theorem win_9 : ∀ t : Fin (cfgA 0).N, ((cfgA 0).win 9).index t = ![kn t, pn t] := by decide +kernel
theorem win_10 : ∀ t : Fin (cfgA 0).N, ((cfgA 0).win 10).index t = ![kn t, pn t] := by decide +kernel
theorem win_11 : ∀ t : Fin (cfgA 0).N, ((cfgA 0).win 11).index t = ![pn t, 0, kn t] := by decide +kernel
theorem win_12 : ∀ t : Fin (cfgA 0).N, ((cfgA 0).win 12).index t = ![pn t, 0, 0] := by decide +kernel
theorem flush_8 : ∀ t : Fin (cfgA 0).N, ((cfgA 0).win 8).flush t = true → t.val % 72 = 71 := by decide +kernel
theorem flush_9 : ∀ t : Fin (cfgA 0).N, ((cfgA 0).win 9).flush t = true → qn t = 15 := by decide +kernel
theorem flush_10 : ∀ t : Fin (cfgA 0).N, ((cfgA 0).win 10).flush t = true → qn t = 15 := by decide +kernel
theorem flush_11 : ∀ t : Fin (cfgA 0).N, ((cfgA 0).win 11).flush t = true → qn t = 15 := by decide +kernel
theorem flush_12 : ∀ t : Fin (cfgA 0).N, ((cfgA 0).win 12).flush t = true → t.val % 72 = 71 := by decide +kernel

include HF

theorem arr_q : (dats 0 m ρ 0 c).arrAt (8 : Fin 13) (cfgA 0).N = fun y : S8192x512.Idx => (G.gq (y 0).val (y 1).val : EReal) := by
  refine (dats 0 m ρ 0 c).arrAt_eq_of_covers (8 : Fin 13) _ (by decide +kernel) fun t hf y => ?_
  blk_simp [win_8 t]
  have e := (end_dq HF t (flush_8 t hf) (y 0) (y 1)).trans (congrArg Real.toEReal (G.acc_dq _ (y 0) (y 1)))
  rw [Nat.mul_comm (pn t.val) 128]
  exact (congrArg (traj0 0 m ρ c t.val t.isLt).1 (eq_ix2 y)).trans e

theorem arr_k : (dats 0 m ρ 0 c).arrAt (9 : Fin 13) (cfgA 0).N = fun y : S8192x512.Idx => (G.gk (y 0).val (y 1).val : EReal) := by
  refine (dats 0 m ρ 0 c).arrAt_eq_of_covers (9 : Fin 13) _ (by decide +kernel) fun t hf y => ?_
  blk_simp [win_9 t]
  have e := (last_dk HF t (flush_9 t hf) (y 0) (y 1)).trans (congrArg Real.toEReal (G.acc_dk _ _ (y 0) (y 1)))
  rw [Nat.mul_comm (kn t.val) 1024, Nat.mul_comm (pn t.val) 128]
  exact (congrArg (traj0 0 m ρ c t.val t.isLt).2.1 (eq_ix2 y)).trans e

theorem arr_v : (dats 0 m ρ 0 c).arrAt (10 : Fin 13) (cfgA 0).N = fun y : S8192x512.Idx => (G.gv (y 0).val (y 1).val : EReal) := by
  refine (dats 0 m ρ 0 c).arrAt_eq_of_covers (10 : Fin 13) _ (by decide +kernel) fun t hf y => ?_
  blk_simp [win_10 t]
  have e := (last_dv HF t (flush_10 t hf) (y 0) (y 1)).trans (congrArg Real.toEReal (G.acc_dv _ _ (y 0) (y 1)))
  rw [Nat.mul_comm (kn t.val) 1024, Nat.mul_comm (pn t.val) 128]
  exact (congrArg (traj0 0 m ρ c t.val t.isLt).2.2.1 (eq_ix2 y)).trans e

theorem arr_c : (dats 0 m ρ 0 c).arrAt (11 : Fin 13) (cfgA 0).N
    = fun y : S4x8x8192.Idx => (G.gc (y 0).val (y 1).val (y 2).val : EReal) := by
  refine (dats 0 m ρ 0 c).arrAt_eq_of_covers (11 : Fin 13) _ (by decide +kernel) fun t hf y => ?_
  blk_simp [win_11 t]
  have e := (last_dc HF t (flush_11 t hf) (y 1) (y 2)).trans (congrArg Real.toEReal (G.acc_dc _ _ (y 1) (y 2)))
  rw [Nat.mul_comm (kn t.val) 1024]
  exact (congrArg (traj0 0 m ρ c t.val t.isLt).2.2.2.1 ((eq_ix3 y).trans (congrArg (fun z => ix3 z (y 1) (y 2)) (Subsingleton.elim (α := Fin 1) _ _)))).trans e

theorem arr_cq : (dats 0 m ρ 0 c).arrAt (12 : Fin 13) (cfgA 0).N
    = fun y : S4x8192x128.Idx => (G.gcq (y 0).val (y 1).val (y 2).val : EReal) := by
  refine (dats 0 m ρ 0 c).arrAt_eq_of_covers (12 : Fin 13) _ (by decide +kernel) fun t hf y => ?_
  blk_simp [win_12 t]
  have e := (end_dcq HF t (flush_12 t hf) (y 1) (y 2)).trans (congrArg Real.toEReal (G.acc_dcq _ (y 1) (y 2)))
  exact (congrArg (traj0 0 m ρ c t.val t.isLt).2.2.2.2.1 ((eq_ix3 y).trans (congrArg (fun z => ix3 z (y 1) (y 2)) (Subsingleton.elim (α := Fin 1) _ _)))).trans e

end Cert.KernelIdeal.Step

end
-- ==== Proof.Ref.lean ====
/-
  The reference's stages as functions of its arguments: the scores, the row maxima, the exponentials and their row sums, the
  gradient of the probabilities, the gradient of the scores; and its five results from these.
-/
module

public import proofs.«01_k».proof.Proof.Gen.ReferenceIdeal.Run
public import proofs.«01_k».proof.Proof.Inputs
public import Idealize.ShloMosaic.Lib.Pointwise
public import Idealize.ShloMosaic.Lib.Tactic.CleanTypes

@[expose] public section

set_option maxRecDepth 16384

noncomputable section

open Idealize.ShloMosaic Idealize.ShloMosaic.TcCoe Idealize.ShloMosaic.StableHlo

namespace Cert.Fox.Ref

open Cert.ReferenceIdeal Cert.ReferenceIdeal.Gen Cert.ReferenceIdeal.Value

variable (a3 a4 a5 : FVec Ideal S8192x10368 .f32) (a6 : FVec Ideal S8192x512 .f32) (a9 : FVec Ideal S8192x128 .f32)
  (a10 : FVec Ideal S8x8192 .f32)

/-- The queries, keys and values by row, head and lane. -/
def qh : FVec Ideal S8192x8x64 .f32 :=
  shapeCast S8192x8x64 (extractStridedSlice S8192x512 ![0, 3584] a3 slices_S8192x10368_S8192x512_0_3584) shapeCasts_S8192x512_S8192x8x64
def kh : FVec Ideal S8192x8x64 .f32 :=
  shapeCast S8192x8x64 (extractStridedSlice S8192x512 ![0, 4096] a4 slices_S8192x10368_S8192x512_0_4096) shapeCasts_S8192x512_S8192x8x64
def vh : FVec Ideal S8192x8x64 .f32 :=
  shapeCast S8192x8x64 (extractStridedSlice S8192x512 ![0, 4608] a5 slices_S8192x10368_S8192x512_0_4608) shapeCasts_S8192x512_S8192x8x64

/-- The causal mask. -/
def mask : IVec S8x8192x8192 1 :=
  broadcastInDim S8x8192x8192 ![1, 2] bcast_S8192x8192_S8x8192x8192_1_2
    (cmpi .sge (broadcastInDim S8192x8192 ![0, 1] bcast_S8192x1_S8192x8192_0_1 (broadcastInDim S8192x1 ![0] bcast_S8192_S8192x1_0 (iotaInDim S8192 32 0)))
      (broadcastInDim S8192x8192 ![0, 1] bcast_S1x8192_S8192x8192_0_1 (broadcastInDim S1x8192 ![1] bcast_S8192_S1x8192_1 (iotaInDim S8192 32 0))))

/-- A column of row values along the keys. -/
def along (x : FVec Ideal S8x8192 .f32) : FVec Ideal S8x8192x8192 .f32 :=
  broadcastInDim S8x8192x8192 ![0, 1, 2] bcast_S8x8192x1_S8x8192x8192_0_1_2 (broadcastInDim S8x8192x1 ![0, 1] bcast_S8x8192_S8x8192x1_0_1 x)

/-- The scores: the scaled products, plus the running sum at the query (`cq`) less the running sum at the key. -/
def scores (cq : FVec Ideal S8x8192 .f32) : FVec Ideal S8x8192x8192 .f32 :=
  addf (mulf (Host.dotGeneral dot_S8192x8x64_S8192x8x64_S8x8192x8192_2_2_0_0_1_1 none (qh a3) (kh a4))
      (broadcastInDim S8x8192x8192 ![] bcast_S_S8x8192x8192 (constant S_ .f32 0x3E000000#32)))
    (subf (along cq)
      (broadcastInDim S8x8192x8192 ![0, 1, 2] bcast_S8x1x8192_S8x8192x8192_0_1_2 (broadcastInDim S8x1x8192 ![0, 2] bcast_S8x8192_S8x1x8192_0_2 a10)))

/-- The running sum at the queries, by head. -/
def cqh : FVec Ideal S8x8192 .f32 :=
  transpose S8x8192 [1, 0] (extractStridedSlice S8192x8 ![0, 0] a9 slices_S8192x128_S8192x8_0_0) transposes_S8192x8_S8x8192_1_0

/-- Scores under the mask: −∞ past the query. -/
def masked (s : FVec Ideal S8x8192x8192 .f32) : FVec Ideal S8x8192x8192 .f32 :=
  select mask s (broadcastInDim S8x8192x8192 ![] bcast_S_S8x8192x8192 (id (constant S_ .f32 0xFF800000#32)))

/-- The row maxima. -/
def rowMax (x : FVec Ideal S8x8192x8192 .f32) : FVec Ideal S8x8192 .f32 :=
  maximumf (broadcastInDim S8x8192 ![] bcast_S_S8x8192 (constant S_ .f32 0xFF800000#32))
    (Host.reduce FloatOps.maximumf x (constant S_ .f32 0xFF800000#32) reducesTo_S8x8192x8192_S8x8192_d2 h_S_)

/-- The exponentials of the scores less the row maximum. -/
def exps (x : FVec Ideal S8x8192x8192 .f32) : FVec Ideal S8x8192x8192 .f32 := Host.exp (subf x (along (rowMax x)))

/-- Sums along the keys. -/
def sumK (x : FVec Ideal S8x8192x8192 .f32) : FVec Ideal S8x8192 .f32 :=
  Host.reduceAdd x (constant S_ .f32 0x00000000#32) reducesTo_S8x8192x8192_S8x8192_d2 h_S_

/-- The probabilities. -/
def probs (e : FVec Ideal S8x8192x8192 .f32) : FVec Ideal S8x8192x8192 .f32 := Host.divf e (along (sumK e))

/-- The cotangent by head, lane and row; the gradient of the probabilities. -/
def doT : FVec Ideal S8x64x8192 .f32 :=
  transpose S8x64x8192 [1, 2, 0] (shapeCast S8192x8x64 a6 shapeCasts_S8192x512_S8192x8x64) transposes_S8192x8x64_S8x64x8192_1_2_0
def dprob : FVec Ideal S8x8192x8192 .f32 :=
  Host.dotGeneral dot_S8x64x8192_S8192x8x64_S8x8192x8192_1_2_2_0_0_1 none (doT a6) (vh a5)

/-- The row sums as a column, the inverse of their squares, and the rows' products of exponentials and gradients over it. -/
def colSum (e : FVec Ideal S8x8192x8192 .f32) : FVec Ideal S8x8192x1 .f32 := broadcastInDim S8x8192x1 ![0, 1] bcast_S8x8192_S8x8192x1_0_1 (sumK e)
def invSq (e : FVec Ideal S8x8192x8192 .f32) : FVec Ideal S8x8192x1 .f32 :=
  Host.divf (broadcastInDim S8x8192x1 ![] bcast_S_S8x8192x1 (constant S_ .f32 0x3F800000#32)) (mulf (colSum e) (colSum e))
def terms (e g : FVec Ideal S8x8192x8192 .f32) : FVec Ideal S8x8192x8192 .f32 :=
  mulf (mulf g (broadcastInDim S8x8192x8192 ![0, 1, 2] bcast_S8x8192x1_S8x8192x8192_0_1_2 (invSq e))) e
def rowDot (e g : FVec Ideal S8x8192x8192 .f32) : FVec Ideal S8x8192 .f32 :=
  Host.reduceAdd (Host.negf (shapeCast S8x8192x1 (sumK (terms e g)) shapeCasts_S8x8192_S8x8192x1))
    (constant S_ .f32 0x00000000#32) reducesTo_S8x8192x1_S8x8192_d2 h_S_

/-- The gradient of the scores, from the exponentials `e` and the gradient `g` of the probabilities. -/
def dscore (e g : FVec Ideal S8x8192x8192 .f32) : FVec Ideal S8x8192x8192 .f32 :=
  select mask
    (mulf (addf (Host.divf g (broadcastInDim S8x8192x8192 ![0, 1, 2] bcast_S8x8192x1_S8x8192x8192_0_1_2 (colSum e)))
        (broadcastInDim S8x8192x8192 ![0, 1] bcast_S8x8192_S8x8192x8192_0_1 (rowDot e g)))
      e)
    (broadcastInDim S8x8192x8192 ![] bcast_S_S8x8192x8192 (constant S_ .f32 0x00000000#32))

/-- The exponentials and the gradient of the scores, of the arguments. -/
def E : FVec Ideal S8x8192x8192 .f32 := exps (masked (scores a3 a4 a10 (cqh a9)))
def dS : FVec Ideal S8x8192x8192 .f32 := dscore (E a3 a4 a9 a10) (dprob a5 a6)

/-- The score gradients scaled. -/
def dSs : FVec Ideal S8x8192x8192 .f32 :=
  mulf (dS a3 a4 a5 a6 a9 a10) (broadcastInDim S8x8192x8192 ![] bcast_S_S8x8192x8192 (constant S_ .f32 0x3E000000#32))

/-- The gradients of the queries, keys and values. -/
def outQ : FVec Ideal S8192x512 .bf16 :=
  truncf .bf16 (shapeCast S8192x512 (transpose S8192x8x64 [1, 0, 2]
    (Host.dotGeneral dot_S8x8192x8192_S8192x8x64_S8x8192x64_2_0_1_2_0_1 none (dSs a3 a4 a5 a6 a9 a10) (kh a4)) transposes_S8x8192x64_S8192x8x64_1_0_2)
    shapeCasts_S8192x8x64_S8192x512) bitsLt_bf16_f32
def outK : FVec Ideal S8192x512 .bf16 :=
  truncf .bf16 (shapeCast S8192x512 (transpose S8192x8x64 [1, 0, 2]
    (Host.dotGeneral dot_S8x8192x8192_S8192x8x64_S8x8192x64_1_0_2_2_0_1 none (dSs a3 a4 a5 a6 a9 a10) (qh a3)) transposes_S8x8192x64_S8192x8x64_1_0_2)
    shapeCasts_S8192x8x64_S8192x512) bitsLt_bf16_f32
def outV : FVec Ideal S8192x512 .bf16 :=
  truncf .bf16 (shapeCast S8192x512 (transpose S8192x8x64 [2, 0, 1]
    (Host.dotGeneral dot_S8x64x8192_S8x8192x8192_S8x64x8192_2_1_1_2_0_0 none (doT a6) (probs (E a3 a4 a9 a10))) transposes_S8x64x8192_S8192x8x64_2_0_1)
    shapeCasts_S8192x8x64_S8192x512) bitsLt_bf16_f32

/-- The pair of each head, and of each lane, one entry per pair. -/
def ofHead : IVec S4x8x1 1 :=
  let a := iotaInDim S4x8x1 32 1
  let b := muli (broadcastInDim S4x8x1 ![] bcast_S_S4x8x1 (constantI S_ 32 2#32)) (iotaInDim S4x8x1 32 0)
  andi (cmpi .sge a b) (cmpi .slt a (addi b (broadcastInDim S4x8x1 ![] bcast_S_S4x8x1 (constantI S_ 32 2#32))))
def ofLane : IVec S4x1x128 1 :=
  let a := iotaInDim S4x1x128 32 2
  let b := muli (broadcastInDim S4x1x128 ![] bcast_S_S4x1x128 (constantI S_ 32 2#32)) (iotaInDim S4x1x128 32 0)
  andi (cmpi .sge a b) (cmpi .slt a (addi b (broadcastInDim S4x1x128 ![] bcast_S_S4x1x128 (constantI S_ 32 2#32))))

/-- The gradients of the running sum: at the keys and at the queries. -/
def outC : FVec Ideal S4x8x8192 .f32 :=
  select (broadcastInDim S4x8x8192 ![0, 1, 2] bcast_S4x8x1_S4x8x8192_0_1_2 ofHead)
    (broadcastInDim S4x8x8192 ![0, 1, 2] bcast_S1x8x8192_S4x8x8192_0_1_2 (broadcastInDim S1x8x8192 ![1, 2] bcast_S8x8192_S1x8x8192_1_2
      (Host.reduceAdd (shapeCast S8x1x8192 (Host.reduceAdd (Host.negf (dS a3 a4 a5 a6 a9 a10)) (constant S_ .f32 0x00000000#32)
        reducesTo_S8x8192x8192_S8x8192_d1 h_S_) shapeCasts_S8x8192_S8x1x8192) (constant S_ .f32 0x00000000#32) reducesTo_S8x1x8192_S8x8192_d1 h_S_)))
    (broadcastInDim S4x8x8192 ![] bcast_S_S4x8x8192 (id (constant S_ .f32 0x00000000#32)))
def outCq : FVec Ideal S4x8192x128 .f32 :=
  select (broadcastInDim S4x8192x128 ![0, 1, 2] bcast_S4x1x128_S4x8192x128_0_1_2 ofLane)
    (broadcastInDim S4x8192x128 ![0, 1, 2] bcast_S1x8192x128_S4x8192x128_0_1_2 (broadcastInDim S1x8192x128 ![1, 2] bcast_S8192x128_S1x8192x128_1_2
      (pad S8192x128 ![0, 0] ![0, 120] ![0, 0] (transpose S8192x8 [1, 0] (Host.reduceAdd (shapeCast S8x8192x1 (sumK (dS a3 a4 a5 a6 a9 a10))
        shapeCasts_S8x8192_S8x8192x1) (constant S_ .f32 0x00000000#32) reducesTo_S8x8192x1_S8x8192_d2 h_S_) transposes_S8x8192_S8192x8_1_0)
        (sitofp .f32 (constantI S_ 32 0#32)) pads_S8192x8_S8192x128_000_01200 h_S_)))
    (broadcastInDim S4x8192x128 ![] bcast_S_S4x8192x128 (id (constant S_ .f32 0x00000000#32)))

variable (m : (ℓ : Loc nD τ sig) → Buf (Elt Ideal) ℓ) (c : Dev nD)

theorem run_q : res_out0 m c = outQ (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg9)) (m ((c.tc : Thread nD τ).loc main_arg10)) := rfl
theorem run_k : res_out1 m c = outK (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg9)) (m ((c.tc : Thread nD τ).loc main_arg10)) := rfl
theorem run_v : res_out2 m c = outV (m ((c.tc : Thread nD τ).loc main_arg3)) (m ((c.tc : Thread nD τ).loc main_arg4))
    (m ((c.tc : Thread nD τ).loc main_arg6)) (m ((c.tc : Thread nD τ).loc main_arg9)) (m ((c.tc : Thread nD τ).loc main_arg10)) := rfl
theorem run_c : res_out3 m c = outC (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg9)) (m ((c.tc : Thread nD τ).loc main_arg10)) := rfl
theorem run_cq : res_out4 m c = outCq (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg9)) (m ((c.tc : Thread nD τ).loc main_arg10)) := rfl

end Cert.Fox.Ref

end
-- ==== Proof.Decode.lean ====
/-
  The precondition `saved`, opened: the operands are finite, the log-sums are those of the causal scores, and the row dots
  those of the cotangent with the forward output.
-/
module

public import proofs.«01_k».proof.Proof.Ref
public import proofs.«01_k».proof.Proof.Saved

@[expose] public section

set_option maxRecDepth 16384

noncomputable section

open Idealize.ShloMosaic Idealize.ShloMosaic.TcCoe

namespace Cert.Fox

open Cert.Pre_saved

/-- The running sum at the first query of each block of 512. -/
def base (x : FVec Ideal S8x8192 .f32) : FVec Ideal S8x8192 .f32 :=
  shapeCast S8x8192 (broadcastInDim S8x16x512 ![0, 1, 2] Facts.bcast_S8x16x1_S8x16x512_0_1_2
    (extractStridedSlice S8x16x1 ![0, 0, 0] (shapeCast S8x16x512 x Facts.shapeCasts_S8x8192_S8x16x512) Facts.slices_S8x16x512_S8x16x1_0_0_0))
    Facts.shapeCasts_S8x16x512_S8x8192

variable (a3 a4 a5 : FVec Ideal S8192x10368 .f32) (a6 : FVec Ideal S8192x512 .f32) (a7 : FVec Ideal S4x8192x128 .f32)
  (a8 a9 : FVec Ideal S8192x128 .f32) (a10 : FVec Ideal S8x8192 .f32)

/-- The log-sums of the causal scores, by head and row and as the array holds them. -/
def logs : FVec Ideal S8x8192 .f32 := Host.log (Ref.sumK (Host.exp (Ref.masked (Ref.scores a3 a4 a10 (base (Ref.cqh a9))))))
def lse : FVec Ideal S4x8192x2 .f32 :=
  transpose S4x8192x2 [0, 2, 1] (shapeCast S4x2x8192 (logs a3 a4 a9 a10) Facts.shapeCasts_S8x8192_S4x2x8192) Facts.transposes_S4x2x8192_S4x8192x2_0_2_1

/-- The forward output, and the cotangent's dots with it. -/
def outT : FVec Ideal S8x64x8192 .f32 :=
  Host.dotGeneral dot_S8192x8x64_S8x8192x8192_S8x64x8192_0_2_2_1_1_0 none (Ref.vh a5) (Ref.probs (Ref.E a3 a4 a9 a10))
def dots : FVec Ideal S8192x8 .f32 :=
  Host.reduceAdd (mulf (shapeCast S8192x8x64 a6 Facts.shapeCasts_S8192x512_S8192x8x64)
    (transpose S8192x8x64 [2, 0, 1] (outT a3 a4 a5 a9 a10) Facts.transposes_S8x64x8192_S8192x8x64_2_0_1))
    (constant S_ .f32 0x00000000#32) Facts.reducesTo_S8192x8x64_S8192x8_d2 Facts.h_S_

/-- Below +∞ in absolute value. -/
def below {s : Shape} (h : S_.BroadcastsInDim s ![]) (x : FVec Ideal s .f32) : IVec s 1 :=
  cmpf .olt (Host.absf x) (broadcastInDim s ![] h (constant S_ .f32 0x7F800000#32))

theorem conditions {a0 a1 a2 : IVec S72 32} (h : fn (F := Ideal) a0 a1 a2 a3 a4 a5 a6 a7 a8 a9 a10 = fun _ => 1#1) :
    (∀ i, below Facts.bcast_S_S8192x8x64 (Ref.qh a3) i = 1#1) ∧ (∀ i, below Facts.bcast_S_S8192x8x64 (Ref.kh a4) i = 1#1)
    ∧ (∀ i, below Facts.bcast_S_S8192x8x64 (Ref.vh a5) i = 1#1) ∧ (∀ i, below Facts.bcast_S_S8x8192 (Ref.cqh a9) i = 1#1)
    ∧ (∀ i, below Facts.bcast_S_S8x8192 a10 i = 1#1) ∧ (∀ i, below Facts.bcast_S_S8192x512 a6 i = 1#1)
    ∧ (∀ i, cmpf .oeq (extractStridedSlice S4x8192x2 ![0, 0, 0] a7 Facts.slices_S4x8192x128_S4x8192x2_0_0_0) (lse a3 a4 a9 a10) i = 1#1)
    ∧ ∀ i, cmpf .oeq (extractStridedSlice S8192x8 ![0, 0] a8 Facts.slices_S8192x128_S8192x8_0_0) (dots a3 a4 a5 a6 a9 a10) i = 1#1 := by
  have e := congrFun h (fun k => k.elim0)
  unfold fn at e
  unfold fn_part1 at e
  unfold fn_part2 at e
  unfold fn_part3 at e
  unfold fn_part4 at e
  unfold fn_part5 at e
  dsimp only at e
  obtain ⟨e, -⟩ := and_one e
  obtain ⟨e, ed⟩ := and_one e
  obtain ⟨e, el⟩ := and_one e
  obtain ⟨e, e6⟩ := and_one e
  obtain ⟨e, e10⟩ := and_one e
  obtain ⟨e, e9⟩ := and_one e
  obtain ⟨e, e5⟩ := and_one e
  obtain ⟨e3, e4⟩ := and_one e
  exact ⟨Host.reduce_andi_all _ _ _ _ _ e3, Host.reduce_andi_all _ _ _ _ _ e4, Host.reduce_andi_all _ _ _ _ _ e5, Host.reduce_andi_all _ _ _ _ _ e9,
    Host.reduce_andi_all _ _ _ _ _ e10, Host.reduce_andi_all _ _ _ _ _ e6, Host.reduce_andi_all _ _ _ _ _ el, Host.reduce_andi_all _ _ _ _ _ ed⟩

end Cert.Fox

end
-- ==== Proof.RefRow.lean ====
/-
  The reference's scores and exponentials at an index, over real arguments.
-/
module

public import proofs.«01_k».proof.Proof.Ref

@[expose] public section

set_option maxRecDepth 16384

noncomputable section

open Idealize.ShloMosaic Idealize.ShloMosaic.TcCoe Idealize.ShloMosaic.WordCmp
open Finset (range)

namespace Cert.Fox.Ref

open Cert.ReferenceIdeal Cert.ReferenceIdeal.Gen

/-- The arguments that the reference reads hold the real numbers of `G`. -/
structure Args (a3 a4 a5 : FVec Ideal S8192x10368 .f32) (a6 : FVec Ideal S8192x512 .f32) (a9 : FVec Ideal S8192x128 .f32)
    (a10 : FVec Ideal S8x8192 .f32) (G : Data) : Prop where
  q : ∀ (i : Fin 8192) (x : Fin 512), a3 (ix2 i (colQ x)) = (G.Q i x : EReal)
  k : ∀ (i : Fin 8192) (x : Fin 512), a4 (ix2 i (colK x)) = (G.K i x : EReal)
  v : ∀ (i : Fin 8192) (x : Fin 512), a5 (ix2 i (colV x)) = (G.V i x : EReal)
  d : ∀ (i : Fin 8192) (x : Fin 512), a6 (ix2 i x) = (G.D i x : EReal)
  cq : ∀ (i : Fin 8192) (h : Fin 8), a9 (ix2 i (Blk.lane h)) = (G.cq h i : EReal)
  ck : ∀ (h : Fin 8) (j : Fin 8192), a10 (ix2 h j) = (G.ck h j : EReal)

/-- The column of lane `d` of head `h`. -/
def col (h : Fin 8) (d : Fin 64) : Fin 512 := ⟨64 * h.val + d.val, by omega⟩

theorem col_val (h : Fin 8) (d : Fin 64) : (col h d).val = 64 * h.val + d.val := rfl

theorem minus_inf : Ideal.ofBits .f32 0xFF800000#32 = ⊥ := by simp [Ideal.ofBits, Ideal.ieee]

/-- The causal mask at an index. -/
theorem select_mask (s z : FVec Ideal S8x8192x8192 .f32) (h : Fin 8) (i j : Fin 8192) :
    select mask s z (ix3 h i j) = if j.val ≤ i.val then s (ix3 h i j) else z (ix3 h i j) := by
  unfold mask
  pointwise
  rw [cmpi_sge_ofNat (by omega) (by omega), select_ofBool]

/-- A largest element that is a real number. -/
theorem fold_real {ι : Type} (S : Finset ι) (x : ι → EReal) (b : EReal) (hb : b = ⊥) (k : ι) (hk : k ∈ S) (h0 : x k ≠ ⊥) (ht : ∀ j, x j ≠ ⊤) :
    ∃ M : ℝ, max b (S.fold (FloatOps.maximumf (F := Ideal) (φ := .f32)) b x) = (M : EReal) := by
  subst hb
  refine ⟨(max ⊥ (S.fold max ⊥ x)).toReal, (EReal.coe_toReal ?_ ?_).symm⟩
  · rw [max_eq_right bot_le]
    exact (Finset.fold_max_lt _ |>.mpr ⟨bot_lt_top, fun j _ => lt_top_iff_ne_top.mpr (ht j)⟩).ne
  · rw [max_eq_right bot_le]
    exact ne_of_gt (lt_of_lt_of_le (bot_lt_iff_ne_bot.mpr h0) (Finset.le_fold_max _ |>.mpr (Or.inr ⟨k, hk, le_rfl⟩)))

theorem max_at (a b : FVec Ideal S8x8192 .f32) (j : S8x8192.Idx) : maximumf a b j = max (a j) (b j) := rfl
theorem least_at (j : S8x8192.Idx) :
    broadcastInDim S8x8192 ![] bcast_S_S8x8192 (constant (F := Ideal) S_ .f32 0xFF800000#32) j = (⊥ : EReal) := minus_inf
theorem least (j : S_.Idx) : constant (F := Ideal) S_ .f32 0xFF800000#32 j = (⊥ : EReal) := minus_inf

/-- The row maximum is a real number when no score is +∞ and that at key 0 is not −∞. -/
theorem rowMax_real (x : FVec Ideal S8x8192x8192 .f32) (h : Fin 8) (i : Fin 8192) (h0 : x (ix3 h i 0) ≠ ⊥)
    (ht : ∀ j, x j ≠ ⊤) : ∃ M : ℝ, rowMax x (ix2 h i) = (M : EReal) := by
  obtain ⟨M, hM⟩ := fold_real (Finset.univ.filter fun k => reducesTo_S8x8192x8192_S8x8192_d2.drop k = ix2 h i) x _ rfl (ix3 h i 0)
    (Finset.mem_filter.mpr ⟨Finset.mem_univ _, (Shape.ReducesTo.fiber_r3_a2 _ _ _).mpr ⟨0, rfl⟩⟩) h0 ht
  refine ⟨M, Eq.trans ?_ hM⟩
  rw [rowMax, max_at, Host.reduce_eq_fold, least_at, least]

theorem along_at (x : FVec Ideal S8x8192 .f32) (h : Fin 8) (i j : Fin 8192) : along x (ix3 h i j) = x (ix2 h i) := by
  unfold along
  pointwise

theorem sumK_at {x : FVec Ideal S8x8192x8192 .f32} {f : ℕ → ℝ} (h : Fin 8) (i : Fin 8192) (hx : ∀ j : Fin 8192, x (ix3 h i j) = (f j : EReal)) :
    sumK x (ix2 h i) = ((∑ j ∈ range 8192, f j : ℝ) : EReal) := by
  unfold sumK
  pointwise [hx]
  rw [coe_sum, Fin.sum_univ_eq_sum_range f 8192]

section

variable {a3 a4 a5 : FVec Ideal S8192x10368 .f32} {a6 : FVec Ideal S8192x512 .f32} {a9 : FVec Ideal S8192x128 .f32}
  {a10 : FVec Ideal S8x8192 .f32} {G : Data} (A : Args a3 a4 a5 a6 a9 a10 G)

include A

theorem qh_at (i : Fin 8192) (h : Fin 8) (d : Fin 64) : qh a3 (ix3 i h d) = (G.Q i (64 * h + d) : EReal) := by
  unfold qh
  pointwise
  exact (congrArg a3 (congrArg (ix2 i) (Fin.ext (by show _ = 3584 + (64 * h.val + d.val); simp only []; omega)))).trans (A.q i (col h d))

theorem kh_at (i : Fin 8192) (h : Fin 8) (d : Fin 64) : kh a4 (ix3 i h d) = (G.K i (64 * h + d) : EReal) := by
  unfold kh
  pointwise
  exact (congrArg a4 (congrArg (ix2 i) (Fin.ext (by show _ = 4096 + (64 * h.val + d.val); simp only []; omega)))).trans (A.k i (col h d))

theorem vh_at (i : Fin 8192) (h : Fin 8) (d : Fin 64) : vh a5 (ix3 i h d) = (G.V i (64 * h + d) : EReal) := by
  unfold vh
  pointwise
  exact (congrArg a5 (congrArg (ix2 i) (Fin.ext (by show _ = 4608 + (64 * h.val + d.val); simp only []; omega)))).trans (A.v i (col h d))

theorem doT_at (i : Fin 8192) (h : Fin 8) (d : Fin 64) : doT a6 (ix3 h d i) = (G.D i (64 * h + d) : EReal) := by
  unfold doT
  pointwise
  exact (congrArg a6 (congrArg (ix2 i) (Fin.ext (by show _ = 64 * h.val + d.val; simp only []; omega)))).trans (A.d i (col h d))

theorem cqh_at (h : Fin 8) (i : Fin 8192) : cqh a9 (ix2 h i) = (G.cq h i : EReal) := by
  unfold cqh
  pointwise
  exact A.cq i h

/-- The scores with any numbers at the queries. -/
theorem scores_at {cq : FVec Ideal S8x8192 .f32} {c : ℝ} (h : Fin 8) (i j : Fin 8192) (hc : cq (ix2 h i) = (c : EReal)) :
    scores a3 a4 a10 cq (ix3 h i j) = ((G.qk h i j + (c - G.ck h j) : ℝ) : EReal) := by
  unfold scores
  pointwise [along_at, hc, qh_at A, kh_at A, A.ck, eighth]
  simp only [← EReal.coe_mul, coe_sum]
  rw [← EReal.coe_sub, ← EReal.coe_add, Data.qk, ← Fin.sum_univ_eq_sum_range (fun d => G.Q i (64 * h + d) * (1 / 8) * G.K j (64 * h + d)) 64, Finset.sum_mul]
  exact congrArg Real.toEReal (congrArg (· + (c - G.ck h j)) (Finset.sum_congr rfl fun d _ => by ring))

theorem dprob_at (h : Fin 8) (i j : Fin 8192) : dprob a5 a6 (ix3 h i j) = (G.DP h i j : EReal) := by
  unfold dprob
  pointwise [doT_at A, vh_at A]
  simp only [← EReal.coe_mul, coe_sum]
  rw [Data.DP, ← Fin.sum_univ_eq_sum_range (fun d => G.D i (64 * h + d) * G.V j (64 * h + d)) 64]

end

section

variable {s : FVec Ideal S8x8192x8192 .f32} {f : ℕ → ℝ} (h : Fin 8) (i : Fin 8192) (hs : ∀ j : Fin 8192, s (ix3 h i j) = (f j : EReal))

include hs

theorem masked_at (j : Fin 8192) : masked s (ix3 h i j) = if j.val ≤ i.val then (f j : EReal) else ⊥ := by
  unfold masked
  rw [select_mask, hs]
  exact if_congr Iff.rfl rfl minus_inf

/-- The exponentials of a masked row, less its maximum. -/
theorem exps_at (hall : ∀ k, masked s k ≠ ⊤) :
    ∃ M : ℝ, ∀ j : Fin 8192, exps (masked s) (ix3 h i j) = ((if j.val ≤ i.val then Real.exp (f j - M) else 0 : ℝ) : EReal) := by
  obtain ⟨M, hM⟩ := rowMax_real (masked s) h i (by rw [masked_at h i hs, if_pos (show (0 : Fin 8192).val ≤ i.val from Nat.zero_le _)]; exact EReal.coe_ne_bot _) hall
  refine ⟨M, fun j => ?_⟩
  unfold exps
  pointwise [along_at]
  rw [masked_at h i hs, hM, exp_masked]

omit hs

theorem masked_ne_top (hall : ∀ (h : Fin 8) (i j : Fin 8192), s (ix3 h i j) ≠ ⊤) (k : S8x8192x8192.Idx) : masked s k ≠ ⊤ := by
  obtain ⟨a, b, c, rfl⟩ : ∃ (a : Fin 8) (b c : Fin 8192), k = ix3 a b c := ⟨k 0, k 1, k 2, eq_ix3 k⟩
  rw [masked, select_mask]
  split
  · exact hall _ _ _
  · exact fun e => bot_ne_top (minus_inf.symm.trans e)

end

theorem div_real {x y : ℝ} (hy : y ≠ 0) : Ideal.div (x : EReal) (y : EReal) = ((x / y : ℝ) : EReal) := by
  rw [Ideal.div_coe hy, ← EReal.coe_mul, mul_one_div]

section

variable {e g : FVec Ideal S8x8192x8192 .f32} {e' g' : ℕ → ℝ} (h : Fin 8) (i : Fin 8192)
  (he : ∀ j : Fin 8192, e (ix3 h i j) = (e' j : EReal))

include he

theorem colSum_at : colSum e (ix3 h i 0) = ((∑ j ∈ range 8192, e' j : ℝ) : EReal) := by
  unfold colSum
  pointwise
  exact sumK_at h i he

variable (hS : (∑ j ∈ range 8192, e' j) ≠ 0)

include hS

theorem probs_at (j : Fin 8192) : probs e (ix3 h i j) = ((e' j / ∑ j ∈ range 8192, e' j : ℝ) : EReal) := by
  unfold probs
  pointwise [along_at]
  rw [he, sumK_at h i he, div_real hS]

theorem invSq_at : invSq e (ix3 h i 0) = ((1 / ((∑ j ∈ range 8192, e' j) * ∑ j ∈ range 8192, e' j) : ℝ) : EReal) := by
  unfold invSq
  pointwise
  rw [colSum_at h i he, ← EReal.coe_mul, ← EReal.coe_one, div_real (mul_ne_zero hS hS)]

variable (hg : ∀ j : Fin 8192, g (ix3 h i j) = (g' j : EReal))

include hg

theorem rowDot_at : rowDot e g (ix2 h i)
    = ((-∑ j ∈ range 8192, g' j * (1 / ((∑ j ∈ range 8192, e' j) * ∑ j ∈ range 8192, e' j)) * e' j : ℝ) : EReal) := by
  have ht : ∀ j : Fin 8192, terms e g (ix3 h i j)
      = ((g' j * (1 / ((∑ j ∈ range 8192, e' j) * ∑ j ∈ range 8192, e' j)) * e' j : ℝ) : EReal) := fun j => by
    unfold terms
    pointwise [hg, he]
    rw [invSq_at h i he hS, ← EReal.coe_mul, ← EReal.coe_mul]
  unfold rowDot
  pointwise
  rw [sumK_at (f := fun j => g' j * (1 / ((∑ j ∈ range 8192, e' j) * ∑ j ∈ range 8192, e' j)) * e' j) h i ht, EReal.coe_neg, Fin.sum_univ_one]

theorem dscore_at (j : Fin 8192) : dscore e g (ix3 h i j) = ((if j.val ≤ i.val then (g' j / (∑ j ∈ range 8192, e' j)
    + -∑ j ∈ range 8192, g' j * (1 / ((∑ j ∈ range 8192, e' j) * ∑ j ∈ range 8192, e' j)) * e' j) * e' j else 0 : ℝ) : EReal) := by
  unfold dscore
  rw [select_mask, ← coe_ite]
  refine if_congr Iff.rfl ?_ (by pointwise)
  pointwise [hg, he]
  rw [colSum_at h i he, rowDot_at h i he hS hg, div_real hS, ← EReal.coe_add, ← EReal.coe_mul]

end

end Cert.Fox.Ref

end
-- ==== Proof.Softmax.lean ====
/-
  The probabilities rebuilt from the log-sums are a softmax of the scores, and the score gradients its derivative.
-/
module

public import proofs.«01_k».proof.Proof.Data
public import Mathlib.Analysis.SpecialFunctions.Log.Basic
public import Mathlib.Algebra.BigOperators.Field

@[expose] public section

noncomputable section

namespace Cert.Fox.Data

open Finset (range)

variable (G : Data)

/-- The exponential of a score, nothing past the query; the row's sum. -/
def W (h i j : ℕ) : ℝ := if j ≤ i then Real.exp (G.score h i j) else 0
def Z (h i : ℕ) : ℝ := ∑ j ∈ range 8192, G.W h i j

/-- The log-sums are those of the scores, and the row dots those of the probabilities with their gradients. -/
structure Saved : Prop where
  lse : ∀ h i, h < 8 → i < 8192 → G.L h i = Real.log (G.Z h i)
  dot : ∀ h i, h < 8 → i < 8192 → G.R h i = ∑ j ∈ range 8192, G.P h i j * G.DP h i j

/-- The score with the running sum taken at the query itself; its exponential less `M`. -/
def full (h i j : ℕ) : ℝ := G.qk h i j + (G.cq h i - G.ck h j)
def ex (M : ℝ) (h i j : ℕ) : ℝ := if j ≤ i then Real.exp (G.full h i j - M) else 0

theorem W_nonneg (h i j : ℕ) : 0 ≤ G.W h i j := by
  unfold W
  split
  · exact (Real.exp_pos _).le
  · exact le_rfl

theorem Z_pos (h i : ℕ) : 0 < G.Z h i :=
  Finset.sum_pos' (fun j _ => G.W_nonneg h i j) ⟨0, Finset.mem_range.mpr (by norm_num), by rw [W, if_pos (Nat.zero_le _)]; exact Real.exp_pos _⟩

theorem ex_eq (M : ℝ) (h i j : ℕ) : G.ex M h i j = G.W h i j * Real.exp (G.cq h i - G.cq h (512 * (i / 512)) - M) := by
  unfold ex W
  split
  · rw [← Real.exp_add, full, score]
    exact congrArg Real.exp (by ring)
  · rw [zero_mul]

theorem sum_ex (M : ℝ) (h i : ℕ) : (∑ j ∈ range 8192, G.ex M h i j) = G.Z h i * Real.exp (G.cq h i - G.cq h (512 * (i / 512)) - M) := by
  rw [Z, Finset.sum_mul]
  exact Finset.sum_congr rfl fun j _ => G.ex_eq M h i j

theorem sum_ex_ne (M : ℝ) (h i : ℕ) : (∑ j ∈ range 8192, G.ex M h i j) ≠ 0 := by
  rw [sum_ex]
  exact (mul_pos (G.Z_pos h i) (Real.exp_pos _)).ne'

variable {G} (S : G.Saved) {h i : ℕ} (hh : h < 8) (hi : i < 8192)

include S hh hi

theorem P_eq (j : ℕ) : G.P h i j = G.W h i j / G.Z h i := by
  unfold P W
  split
  · rw [S.lse h i hh hi, Real.exp_sub, Real.exp_log (G.Z_pos h i)]
  · rw [zero_div]

/-- A softmax is free of the number taken from its scores. -/
theorem P_softmax (M : ℝ) (j : ℕ) : G.ex M h i j / (∑ j ∈ range 8192, G.ex M h i j) = G.P h i j := by
  rw [P_eq S hh hi, ex_eq, sum_ex, mul_div_mul_right _ _ (Real.exp_pos _).ne']

/-- The derivative through the quotient, as it is differentiated. -/
theorem DS_softmax (M : ℝ) (j : ℕ) : (if j ≤ i then (G.DP h i j / (∑ j ∈ range 8192, G.ex M h i j)
      + -∑ j ∈ range 8192, G.DP h i j * (1 / ((∑ j ∈ range 8192, G.ex M h i j) * ∑ j ∈ range 8192, G.ex M h i j)) * G.ex M h i j) * G.ex M h i j
    else 0) = G.DS h i j := by
  have hs := G.sum_ex_ne M h i
  have hp := fun j => (eq_div_iff hs).mp (P_softmax S hh hi M j).symm
  by_cases hij : j ≤ i
  · rw [if_pos hij, DS, S.dot h i hh hi]
    generalize (∑ j ∈ range 8192, G.ex M h i j) = T at hs hp ⊢
    have e : (∑ j ∈ range 8192, G.DP h i j * (1 / (T * T)) * G.ex M h i j) = (∑ j ∈ range 8192, G.P h i j * G.DP h i j) / T := by
      rw [Finset.sum_div]
      refine Finset.sum_congr rfl fun k _ => ?_
      rw [← hp k]
      field_simp
    rw [e, ← hp j]
    field_simp
    ring
  · rw [if_neg hij, G.DS_zero (by omega)]

end Cert.Fox.Data

end
-- ==== Proof.RefOut.lean ====
/-
  The reference's five results at an index, over real arguments whose saved values are those of the forward pass.
-/
module

public import proofs.«01_k».proof.Proof.RefRow
public import proofs.«01_k».proof.Proof.Softmax

@[expose] public section

set_option maxRecDepth 16384

noncomputable section

open Idealize.ShloMosaic Idealize.ShloMosaic.TcCoe Idealize.ShloMosaic.WordCmp
open Finset (range)

namespace Cert.Fox.Ref

open Cert.ReferenceIdeal Cert.ReferenceIdeal.Gen

variable {a3 a4 a5 : FVec Ideal S8192x10368 .f32} {a6 : FVec Ideal S8192x512 .f32} {a9 : FVec Ideal S8192x128 .f32}
  {a10 : FVec Ideal S8x8192 .f32} {G : Data} (A : Args a3 a4 a5 a6 a9 a10 G)

include A

/-- The reference's scores. -/
theorem full_at (h : Fin 8) (i j : Fin 8192) : scores a3 a4 a10 (cqh a9) (ix3 h i j) = (G.full h i j : EReal) :=
  scores_at A h i j (cqh_at A h i)

/-- Its exponentials. -/
theorem E_at (h : Fin 8) (i : Fin 8192) : ∃ M : ℝ, ∀ j : Fin 8192, E a3 a4 a9 a10 (ix3 h i j) = (G.ex M h i j : EReal) :=
  exps_at (f := fun j => G.full h i j) h i (full_at A h i) fun k =>
    masked_ne_top (fun h i j => by rw [full_at A]; exact EReal.coe_ne_top _) k

variable (S : G.Saved)

include S

/-- The probabilities and the gradients of the scores. -/
theorem P_at (h : Fin 8) (i j : Fin 8192) : probs (E a3 a4 a9 a10) (ix3 h i j) = (G.P h i j : EReal) := by
  obtain ⟨M, hM⟩ := E_at A h i
  rw [probs_at (e' := fun j => G.ex M h i j) h i hM (G.sum_ex_ne M h i) j]
  exact congrArg Real.toEReal (Data.P_softmax S h.isLt i.isLt M j)

theorem dS_at (h : Fin 8) (i j : Fin 8192) : dS a3 a4 a5 a6 a9 a10 (ix3 h i j) = (G.DS h i j : EReal) := by
  obtain ⟨M, hM⟩ := E_at A h i
  rw [dS, dscore_at (e' := fun j => G.ex M h i j) (g' := fun j => G.DP h i j) h i hM (G.sum_ex_ne M h i) (dprob_at A h i) j]
  exact congrArg Real.toEReal (Data.DS_softmax S h.isLt i.isLt M j)

theorem dSs_at (h : Fin 8) (i j : Fin 8192) : dSs a3 a4 a5 a6 a9 a10 (ix3 h i j) = ((G.DS h i j * (1 / 8) : ℝ) : EReal) := by
  unfold dSs
  pointwise [dS_at A S, eighth]
  rw [← EReal.coe_mul]

/-- The head and lane of a column. -/
def head (x : Fin 512) : Fin 8 := ⟨x.val / 64, by omega⟩
def lane (x : Fin 512) : Fin 64 := ⟨x.val % 64, by omega⟩

omit A S in
theorem head_lane (x : Fin 512) : 64 * (head x).val + (lane x).val = x.val := by
  show 64 * (x.val / 64) + x.val % 64 = x.val
  omega

theorem outQ_at (i : Fin 8192) (x : Fin 512) : outQ a3 a4 a5 a6 a9 a10 (ix2 i x) = (G.gq i x : EReal) := by
  have e : outQ a3 a4 a5 a6 a9 a10 (ix2 i x) = ∑ j : Fin 8192, dSs a3 a4 a5 a6 a9 a10 (ix3 (head x) i j) * kh a4 (ix3 j (head x) (lane x)) := by
    unfold outQ
    pointwise
    rfl
  rw [e]
  simp only [dSs_at A S, kh_at A, head_lane, ← EReal.coe_mul]
  rw [coe_sum, Data.gq, Finset.sum_mul, Fin.sum_univ_eq_sum_range (fun j => G.DS (head x) i j * (1 / 8) * G.K j x) 8192]
  exact congrArg Real.toEReal (Finset.sum_congr rfl fun j _ => by rw [show (head x).val = x.val / 64 from rfl]; ring)

theorem outK_at (j : Fin 8192) (x : Fin 512) : outK a3 a4 a5 a6 a9 a10 (ix2 j x) = (G.gk j x : EReal) := by
  have e : outK a3 a4 a5 a6 a9 a10 (ix2 j x) = ∑ i : Fin 8192, dSs a3 a4 a5 a6 a9 a10 (ix3 (head x) i j) * qh a3 (ix3 i (head x) (lane x)) := by
    unfold outK
    pointwise
    rfl
  rw [e]
  simp only [dSs_at A S, qh_at A, head_lane, ← EReal.coe_mul]
  rw [coe_sum, Data.gk, Fin.sum_univ_eq_sum_range (fun i => G.DS (head x) i j * (1 / 8) * G.Q i x) 8192]
  exact congrArg Real.toEReal (Finset.sum_congr rfl fun i _ => by rw [show (head x).val = x.val / 64 from rfl]; ring)

theorem outV_at (j : Fin 8192) (x : Fin 512) : outV a3 a4 a6 a9 a10 (ix2 j x) = (G.gv j x : EReal) := by
  have e : outV a3 a4 a6 a9 a10 (ix2 j x) = ∑ i : Fin 8192, doT a6 (ix3 (head x) (lane x) i) * probs (E a3 a4 a9 a10) (ix3 (head x) i j) := by
    unfold outV
    pointwise
    rfl
  rw [e]
  simp only [doT_at A, P_at A S, head_lane, ← EReal.coe_mul]
  rw [coe_sum, Data.gv, Fin.sum_univ_eq_sum_range (fun i => G.D i x * G.P (head x) i j) 8192]
  exact congrArg Real.toEReal (Finset.sum_congr rfl fun i _ => by rw [show (head x).val = x.val / 64 from rfl]; ring)

omit A S in
/-- A head, or a lane, belongs to the pair it falls in. -/
theorem of_pair (p : Fin 4) (l : ℕ) (hl : l < 128) (a b : EReal) :
    Scalar.select (IntOp.andi (IntOp.cmpi .sge (BitVec.ofNat 32 l) (IntOp.muli 2#32 (BitVec.ofNat 32 p.val)))
      (IntOp.cmpi .slt (BitVec.ofNat 32 l) (IntOp.addi (IntOp.muli 2#32 (BitVec.ofNat 32 p.val)) 2#32))) a b
      = if l / 2 = p.val then a else b := by
  rw [show IntOp.muli 2#32 (BitVec.ofNat 32 p.val) = BitVec.ofNat 32 (2 * p.val) from (BitVec.ofNat_mul 2 p.val).symm,
    show IntOp.addi (BitVec.ofNat 32 (2 * p.val)) 2#32 = BitVec.ofNat 32 (2 * p.val + 2) from (BitVec.ofNat_add (2 * p.val) 2).symm,
    cmpi_sge_ofNat (by omega) (by omega), cmpi_slt_ofNat (by omega) (by omega), andi_ofBool, ← Bool.decide_and, select_ofBool]
  exact if_congr (by omega) rfl rfl

theorem outC_at (p : Fin 4) (h : Fin 8) (j : Fin 8192) : outC a3 a4 a5 a6 a9 a10 (ix3 p h j) = (G.gc p h j : EReal) := by
  unfold outC ofHead
  pointwise [dS_at A S]
  rw [of_pair p h.val (by omega), Data.gc, ← coe_ite]
  refine if_congr Iff.rfl ?_ Ideal.ofBits_zero_f32
  rw [Fin.sum_univ_one, ← Finset.sum_neg_distrib, ← Fin.sum_univ_eq_sum_range (fun i => -G.DS h i j) 8192, ← coe_sum]
  exact Finset.sum_congr rfl fun i _ => (EReal.coe_neg _).symm

theorem outCq_at (p : Fin 4) (i : Fin 8192) (l : Fin 128) : outCq a3 a4 a5 a6 a9 a10 (ix3 p i l) = (G.gcq p i l : EReal) := by
  unfold outCq ofLane
  pointwise
  rw [of_pair p l.val (by omega), Data.gcq, ← coe_ite]
  by_cases hl : l.val / 2 = p.val
  · rw [if_pos hl, if_pos hl, dif_pos (show l.val < 8 by omega), Fin.sum_univ_one]
    exact sumK_at (f := fun j => G.DS l i j) ⟨l.val, by omega⟩ i fun j => dS_at A S ⟨l.val, by omega⟩ i j
  · rw [if_neg hl, if_neg hl]
    exact Ideal.ofBits_zero_f32

end Cert.Fox.Ref

end
-- ==== Proof.Reals.lean ====
/-
  The real numbers of a call that satisfies `saved`: every operand is one, and the saved arrays hold the forward pass's values.
-/
module

public import proofs.«01_k».proof.Proof.Decode
public import proofs.«01_k».proof.Proof.RefOut

@[expose] public section

set_option maxRecDepth 16384

noncomputable section

open Idealize.ShloMosaic Idealize.ShloMosaic.TcCoe Idealize.ShloMosaic.WordCmp
open Finset (range)

namespace Cert.Fox

open Cert.Pre_saved

/-- An array of extended reals as one of reals, by number. -/
def at2 {a b : ℕ} (f : Fin a → Fin b → EReal) (i x : ℕ) : ℝ := if h : i < a ∧ x < b then (f ⟨i, h.1⟩ ⟨x, h.2⟩).toReal else 0

theorem at2_coe {a b : ℕ} (f : Fin a → Fin b → EReal) (i : Fin a) (x : Fin b) (h : f i x ≠ ⊤ ∧ f i x ≠ ⊥) : f i x = (at2 f i x : EReal) := by
  rw [at2, dif_pos ⟨i.isLt, x.isLt⟩, EReal.coe_toReal h.1 h.2]

/-- A number below +∞ in absolute value is neither infinity. -/
theorem of_below {s : Shape} {h : S_.BroadcastsInDim s ![]} {x : FVec Ideal s .f32} {i : s.Idx} (e : below h x i = 1#1) : x i ≠ ⊤ ∧ x i ≠ ⊥ := by
  have e' : Ideal.cmp .olt (max (x i) (-x i)) (Ideal.ofBits .f32 0x7F800000#32) = 1#1 := e
  rw [show Ideal.ofBits .f32 0x7F800000#32 = (⊤ : EReal) by simp [Ideal.ofBits, Ideal.ieee]] at e'
  have hlt : max (x i) (-x i) < ⊤ := by simpa [Ideal.cmp, ofBool_eq_one_iff] using e'
  rw [max_lt_iff] at hlt
  refine ⟨hlt.1.ne, fun hb => ?_⟩
  rw [hb] at hlt
  simp at hlt

/-- Numbers that compare equal are equal. -/
theorem of_oeq {s : Shape} {x y : FVec Ideal s .f32} {i : s.Idx} (e : cmpf .oeq x y i = 1#1) : x i = y i := by
  have e' : Ideal.cmp .oeq (x i) (y i) = 1#1 := e
  simpa [Ideal.cmp, ofBool_eq_one_iff] using e'

variable (a3 a4 a5 : FVec Ideal S8192x10368 .f32) (a6 : FVec Ideal S8192x512 .f32) (a9 : FVec Ideal S8192x128 .f32) (a10 : FVec Ideal S8x8192 .f32)

/-- The operands as real numbers, then the forward pass's log-sums, then its row dots. -/
def data0 : Data where
  Q := at2 fun (i : Fin 8192) (x : Fin 512) => a3 (ix2 i (colQ x))
  K := at2 fun (i : Fin 8192) (x : Fin 512) => a4 (ix2 i (colK x))
  V := at2 fun (i : Fin 8192) (x : Fin 512) => a5 (ix2 i (colV x))
  D := at2 fun (i : Fin 8192) (x : Fin 512) => a6 (ix2 i x)
  L _ _ := 0
  R _ _ := 0
  cq := at2 fun (h : Fin 8) (i : Fin 8192) => a9 (ix2 i (Blk.lane h))
  ck := at2 fun (h : Fin 8) (j : Fin 8192) => a10 (ix2 h j)
def data1 : Data := { data0 a3 a4 a5 a6 a9 a10 with L := (fun h i => Real.log ((data0 a3 a4 a5 a6 a9 a10).Z h i)) }
def data : Data := { data1 a3 a4 a5 a6 a9 a10 with
  R := fun h i => ∑ j ∈ range 8192, (data1 a3 a4 a5 a6 a9 a10).P h i j * (data1 a3 a4 a5 a6 a9 a10).DP h i j }

theorem data_saved : (data a3 a4 a5 a6 a9 a10).Saved where
  lse _ _ _ _ := congrArg Real.log (Finset.sum_congr rfl fun _ _ => rfl)
  dot h i _ _ := Eq.trans (b := ∑ j ∈ range 8192, (data1 a3 a4 a5 a6 a9 a10).P h i j * (data1 a3 a4 a5 a6 a9 a10).DP h i j) rfl
    (Finset.sum_congr rfl fun _ _ => rfl)

variable {a3 a4 a5 a6 a9 a10} {a7 : FVec Ideal S4x8192x128 .f32} {a8 : FVec Ideal S8192x128 .f32} {a0 a1 a2 : IVec S72 32}
  (H : fn (F := Ideal) a0 a1 a2 a3 a4 a5 a6 a7 a8 a9 a10 = fun _ => 1#1)

/-- The row, head and lane at which a column of the heads lies. -/
theorem qh_col (a3 : FVec Ideal S8192x10368 .f32) (i : Fin 8192) (x : Fin 512) : Ref.qh a3 (ix3 i (Ref.head x) (Ref.lane x)) = a3 (ix2 i (colQ x)) := by
  unfold Ref.qh
  pointwise
  exact congrArg a3 (congrArg (ix2 i) (Fin.ext (by show _ = 3584 + x.val; simp only [Ref.head, Ref.lane]; omega)))
theorem kh_col (a4 : FVec Ideal S8192x10368 .f32) (i : Fin 8192) (x : Fin 512) : Ref.kh a4 (ix3 i (Ref.head x) (Ref.lane x)) = a4 (ix2 i (colK x)) := by
  unfold Ref.kh
  pointwise
  exact congrArg a4 (congrArg (ix2 i) (Fin.ext (by show _ = 4096 + x.val; simp only [Ref.head, Ref.lane]; omega)))
theorem vh_col (a5 : FVec Ideal S8192x10368 .f32) (i : Fin 8192) (x : Fin 512) : Ref.vh a5 (ix3 i (Ref.head x) (Ref.lane x)) = a5 (ix2 i (colV x)) := by
  unfold Ref.vh
  pointwise
  exact congrArg a5 (congrArg (ix2 i) (Fin.ext (by show _ = 4608 + x.val; simp only [Ref.head, Ref.lane]; omega)))
theorem cqh_col (a9 : FVec Ideal S8192x128 .f32) (h : Fin 8) (i : Fin 8192) : Ref.cqh a9 (ix2 h i) = a9 (ix2 i (Blk.lane h)) := by
  unfold Ref.cqh
  pointwise
  rfl

include H

theorem args : Ref.Args a3 a4 a5 a6 a9 a10 (data a3 a4 a5 a6 a9 a10) := by
  obtain ⟨c3, c4, c5, c9, c10, c6, -, -⟩ := conditions a3 a4 a5 a6 a7 a8 a9 a10 H
  exact
    { q := fun i x => at2_coe (fun i x => a3 (ix2 i (colQ x))) i x (qh_col a3 i x ▸ of_below (c3 _))
      k := fun i x => at2_coe (fun i x => a4 (ix2 i (colK x))) i x (kh_col a4 i x ▸ of_below (c4 _))
      v := fun i x => at2_coe (fun i x => a5 (ix2 i (colV x))) i x (vh_col a5 i x ▸ of_below (c5 _))
      d := fun i x => at2_coe (fun i x => a6 (ix2 i x)) i x (of_below (c6 _))
      cq := fun i h => at2_coe (fun h i => a9 (ix2 i (Blk.lane h))) h i (cqh_col a9 h i ▸ of_below (c9 _))
      ck := fun h j => at2_coe (fun h j => a10 (ix2 h j)) h j (of_below (c10 _)) }

omit H

section

variable {G : Data} (A : Ref.Args a3 a4 a5 a6 a9 a10 G)

include A

/-- The first query of a row's block. -/
def first512 (i : Fin 8192) : Fin 8192 := ⟨512 * (i.val / 512), by omega⟩

theorem base_at (h : Fin 8) (i : Fin 8192) : base (Ref.cqh a9) (ix2 h i) = (G.cq h (512 * (i / 512)) : EReal) := by
  have e : base (Ref.cqh a9) (ix2 h i) = Ref.cqh a9 (ix2 h (first512 i)) := by
    unfold base
    pointwise
    refine congrArg (Ref.cqh a9) (congrArg (ix2 h) (Fin.ext ?_))
    show _ = 512 * (i.val / 512)
    simp only []
    omega
  rw [e]
  exact Ref.cqh_at A h (first512 i)

theorem exp_at (h : Fin 8) (i j : Fin 8192) :
    Host.exp (Ref.masked (Ref.scores a3 a4 a10 (base (Ref.cqh a9)))) (ix3 h i j) = (G.W h i j : EReal) := by
  have e := Ref.masked_at (s := Ref.scores a3 a4 a10 (base (Ref.cqh a9))) (f := fun j => G.score h i j) h i
    (fun j => Ref.scores_at A h i j (base_at A h i)) j
  pointwise
  rw [e, Data.W]
  split
  · exact Ideal.exp_coe _
  · rfl

theorem logs_at (h : Fin 8) (i : Fin 8192) : logs a3 a4 a9 a10 (ix2 h i) = ((Real.log (G.Z h i) : ℝ) : EReal) := by
  unfold logs
  pointwise
  rw [Ref.sumK_at (f := fun j => G.W h i j) h i (exp_at A h i)]
  exact if_neg (not_le.mpr (G.Z_pos h i))

theorem lse_at (p : Fin 4) (i : Fin 8192) (hh : Fin 2) : lse a3 a4 a9 a10 (ix3 p i hh) = ((Real.log (G.Z (2 * p + hh) i) : ℝ) : EReal) := by
  have e : lse a3 a4 a9 a10 (ix3 p i hh) = logs a3 a4 a9 a10 (ix2 ⟨2 * p.val + hh.val, by omega⟩ i) := by
    unfold lse
    pointwise
    exact congrArg (logs a3 a4 a9 a10) (congrArg (ix2 · i) (Fin.ext (by simp only []; omega)))
  rw [e, logs_at A]

theorem outT_at (S : G.Saved) (h : Fin 8) (d : Fin 64) (i : Fin 8192) :
    outT a3 a4 a5 a9 a10 (ix3 h d i) = ((∑ j ∈ range 8192, G.V j (64 * h + d) * G.P h i j : ℝ) : EReal) := by
  unfold outT
  pointwise [Ref.vh_at A, Ref.P_at A S]
  simp only [← EReal.coe_mul]
  rw [coe_sum, Fin.sum_univ_eq_sum_range (fun j => G.V j (64 * h + d) * G.P h i j) 8192]

theorem dots_at (S : G.Saved) (i : Fin 8192) (h : Fin 8) : dots a3 a4 a5 a6 a9 a10 (ix2 i h) = (G.R h i : EReal) := by
  have e : ∀ (d : Fin 64) (w : h.val * 64 + d.val < 512), a6 (ix2 i ⟨h.val * 64 + d.val, w⟩) = (G.D i (64 * h + d) : EReal) := fun d w =>
    (congrArg a6 (congrArg (ix2 i) (Fin.ext (by show h.val * 64 + d.val = 64 * h.val + d.val; omega)))).trans (A.d i (Ref.col h d))
  unfold dots
  pointwise [outT_at A S]
  simp only [e, ← EReal.coe_mul]
  rw [coe_sum, S.dot h i h.isLt i.isLt, Fin.sum_univ_eq_sum_range (fun d => G.D i (64 * h + d) * ∑ j ∈ range 8192, G.V j (64 * h + d) * G.P h i j) 64]
  simp only [Data.DP, Finset.mul_sum]
  rw [Finset.sum_comm]
  exact congrArg Real.toEReal (Finset.sum_congr rfl fun j _ => Finset.sum_congr rfl fun d _ => by ring)

end

include H

/-- The kernel's arrays hold the same numbers, the saved ones among them. -/
theorem inputs : Inputs a3 a4 a5 a6 a7 a8 a9 a10 (data a3 a4 a5 a6 a9 a10) := by
  have A := args H
  have S := data_saved a3 a4 a5 a6 a9 a10
  obtain ⟨-, -, -, -, -, -, c7, c8⟩ := conditions a3 a4 a5 a6 a7 a8 a9 a10 H
  refine { q := A.q, k := A.k, v := A.v, d := A.d, cq := A.cq, ck := A.ck, ls := fun p i hh => ?_, de := fun i h => ?_ }
  · have e := (of_oeq (c7 (ix3 p i hh))).trans (lse_at A p i hh)
    rw [S.lse (2 * p + hh) i (by omega) i.isLt, ← e]
    pointwise
    rfl
  · have e := (of_oeq (c8 (ix2 i h))).trans (dots_at A S i h)
    rw [← e]
    pointwise
    rfl

end Cert.Fox

end
-- ==== Proof.Equal.lean ====
/-
  The kernel and the reference leave the same five results: from every call that satisfies `saved`, each run ends with the
  reference's stages of the arguments in its result arrays.
-/
module

public import proofs.«01_k».proof.Defs
public import proofs.«01_k».proof.Proof.Saved
public import proofs.«01_k».proof.Proof.Arrays
public import proofs.«01_k».proof.Proof.Reals

@[expose] public section

set_option maxRecDepth 16384

noncomputable section

namespace Cert.Fox

open Idealize.ShloMosaic Idealize.ShloMosaic.TcCoe Idealize.SL.Sem

section Kernel

open Cert.KernelIdeal Cert.KernelIdeal.Gen

variable (m : (ℓ : Loc nD τ sig) → Buf (Elt Ideal) ℓ) (g : Dev nD → PrngReg)

/-- The real numbers of device `c`'s call. -/
abbrev G (c : Dev nD) : Data :=
  data (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg9)) (m ((c.tc : Thread nD τ).loc main_arg10))

variable (h : Cert.Pre_KernelIdeal_saved m)

include h

theorem fed (c : Dev nD) (t) : Step.Feeds m g c (G m c) t := Step.feeds g t (inputs (h c))

/-- The kernel's five results. -/
theorem run_kernel : θ_run (defs (F := Ideal)) (onTc (τ := τ) (main (F := Ideal))) ⟨m, fun _ => 0, g⟩ (fun r => ∀ c : Dev nD,
    r.2.mem ((c.tc : Thread nD τ).loc main_v0_0) = (fun y : S8192x512.Idx => ((G m c).gq (y 0).val (y 1).val : EReal))
    ∧ r.2.mem ((c.tc : Thread nD τ).loc main_v0_1) = (fun y : S8192x512.Idx => ((G m c).gk (y 0).val (y 1).val : EReal))
    ∧ r.2.mem ((c.tc : Thread nD τ).loc main_v0_2) = (fun y : S8192x512.Idx => ((G m c).gv (y 0).val (y 1).val : EReal))
    ∧ r.2.mem ((c.tc : Thread nD τ).loc main_v0_3) = (fun y : S4x8x8192.Idx => ((G m c).gc (y 0).val (y 1).val (y 2).val : EReal))
    ∧ r.2.mem ((c.tc : Thread nD τ).loc main_v0_4) = (fun y : S4x8192x128.Idx => ((G m c).gcq (y 0).val (y 1).val (y 2).val : EReal))) :=
  (θ_run defs _ _).mono (fun _ e c =>
    ⟨((e c).1 (8 : Fin 13)).trans (Step.arr_q (fed m g h c)), ((e c).1 (9 : Fin 13)).trans (Step.arr_k (fed m g h c)),
      ((e c).1 (10 : Fin 13)).trans (Step.arr_v (fed m g h c)), ((e c).1 (11 : Fin 13)).trans (Step.arr_c (fed m g h c)),
      ((e c).1 (12 : Fin 13)).trans (Step.arr_cq (fed m g h c))⟩)
    (run_main 0 m g (pinned_of_saved m h))

end Kernel

section Reference

variable {a3 a4 a5 : FVec Ideal Cert.ReferenceIdeal.S8192x10368 .f32} {a6 : FVec Ideal Cert.ReferenceIdeal.S8192x512 .f32}
  {a9 : FVec Ideal Cert.ReferenceIdeal.S8192x128 .f32} {a10 : FVec Ideal Cert.ReferenceIdeal.S8x8192 .f32} {D : Data}
  (A : Ref.Args a3 a4 a5 a6 a9 a10 D) (S : D.Saved)

include A S

theorem ref_q : Ref.outQ a3 a4 a5 a6 a9 a10 = fun y => (D.gq (y 0).val (y 1).val : EReal) :=
  funext fun y => (congrArg _ (eq_ix2 y)).trans (Ref.outQ_at A S (y 0) (y 1))
theorem ref_k : Ref.outK a3 a4 a5 a6 a9 a10 = fun y => (D.gk (y 0).val (y 1).val : EReal) :=
  funext fun y => (congrArg _ (eq_ix2 y)).trans (Ref.outK_at A S (y 0) (y 1))
theorem ref_v : Ref.outV a3 a4 a6 a9 a10 = fun y => (D.gv (y 0).val (y 1).val : EReal) :=
  funext fun y => (congrArg _ (eq_ix2 y)).trans (Ref.outV_at A S (y 0) (y 1))
theorem ref_c : Ref.outC a3 a4 a5 a6 a9 a10 = fun y => (D.gc (y 0).val (y 1).val (y 2).val : EReal) :=
  funext fun y => (congrArg _ (eq_ix3 y)).trans (Ref.outC_at A S (y 0) (y 1) (y 2))
theorem ref_cq : Ref.outCq a3 a4 a5 a6 a9 a10 = fun y => (D.gcq (y 0).val (y 1).val (y 2).val : EReal) :=
  funext fun y => (congrArg _ (eq_ix3 y)).trans (Ref.outCq_at A S (y 0) (y 1) (y 2))

end Reference

theorem algebraic : Cert.algebraic_KernelIdeal_ReferenceIdeal_pre_saved := by
  intro m g m' g' h e
  refine ⟨fun c y => ((G m c).gq (y 0).val (y 1).val : EReal), fun c y => ((G m c).gk (y 0).val (y 1).val : EReal),
    fun c y => ((G m c).gv (y 0).val (y 1).val : EReal), fun c y => ((G m c).gc (y 0).val (y 1).val (y 2).val : EReal),
    fun c y => ((G m c).gcq (y 0).val (y 1).val (y 2).val : EReal), (θ_run Cert.KernelIdeal.defs _ _).mono (fun r k c => ?_)
    (θ_run_and (run_kernel m g h) (Cert.KernelIdeal.Gen.unchanged 0 m g (Cert.KernelIdeal.pinned_of_saved m h))),
    (θ_run Cert.ReferenceIdeal.defs _ _).mono (fun r k c => ?_) (Cert.ReferenceIdeal.Value.run (F := Ideal) m' g')⟩
  · obtain ⟨k0, k1, k2, k3, k4⟩ := k.1 c
    exact ⟨k0, k1, k2, k3, k4, k.2 c⟩
  · obtain ⟨-, -, -, e3, e4, e5, e6, -, -, e9, e10⟩ := e c
    obtain ⟨k0, k1, k2, k3, k4, k⟩ := k c
    have A := args (h c)
    have S : (G m c).Saved := data_saved _ _ _ _ _ _
    have f0 := Ref.run_q m' c
    have f1 := Ref.run_k m' c
    have f2 := Ref.run_v m' c
    have f3 := Ref.run_c m' c
    have f4 := Ref.run_cq m' c
    rw [e3, e4, e5, e6, e9, e10] at f0 f1 f3 f4
    rw [e3, e4, e6, e9, e10] at f2
    exact ⟨k0.trans (f0.trans (ref_q A S)), k1.trans (f1.trans (ref_k A S)), k2.trans (f2.trans (ref_v A S)),
      k3.trans (f3.trans (ref_c A S)), k4.trans (f4.trans (ref_cq A S)), k⟩

theorem frame_ideal_saved : Cert.quiescent_KernelIdeal_pre_saved :=
  fun m g h => Cert.KernelIdeal.Gen.frame 0 m g (Cert.KernelIdeal.pinned_of_saved m h)

theorem frame_reference_saved : Cert.quiescent_ReferenceIdeal_pre_saved := fun m g _ =>
  (θ_run Cert.ReferenceIdeal.defs _ _).mono
    (fun r h => ⟨fun c => (h c).2.2.2.2.2, sem_eq_zero_of_no_sems (by decide) r.2⟩)
    (Cert.ReferenceIdeal.Value.run (F := Ideal) m g)

end Cert.Fox

end
-- ==== Proof.WeightGrad.lean ====
/-
  The gradient of the projection's weights: the product of the transposed stream with the gradient of the
  projections, summed over the rows by blocks of 2048 in a scratch kept between grid points.
-/
module

public import proofs.«01_k».proof.Defs
public import proofs.«01_k».proof.Proof.Gen.Kernel2Ideal.Value
public import proofs.«01_k».proof.Proof.Gen.Kernel2.Frame
public import proofs.«01_k».proof.Proof.Gen.Reference2Ideal.Run
public import Idealize.ShloMosaic.Lib.Pointwise
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel2Ideal.WeightGrad

open Cert.Kernel2Ideal Cert.Kernel2Ideal.Gen Cert.Kernel2Ideal.Value

theorem zero : (![0, 0] : Fin 2 → Nat) = fun _ => 0 := funext fun a => by fin_cases a <;> rfl

section Points

variable (c : Dev nD) (i : grid0.Coords) (a3 : Memref sig .tc .vmem S1024x2048 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole)
  (x : Vec Ideal S1024x2048 .bf16) (w : Vec Ideal S2048x1024 .bf16) (s : Vec Ideal S1024x1024 .f32)

/-- The first point of a run leaves the product of its blocks in the scratch. -/
theorem first (c0 : cond0_0 i) (c1 : ¬cond0_1 i) (c2 : ¬cond0_2 i) :
    sout0_A_0 c i a3 h3 a4 h4 a5 h5 a6 h6 c0 c1 c2 x w = k0_pay1 x w := by
  unfold sout0_A_0
  rw [View.read_writes_eq_canon _ _ _ (scover0_A_0 c i a3 h3 a4 h4 a5 h5 a6 h6 c0 c1 c2 x w)]
  unfold kernelRun0_A
  dsimp only
  sl_unfold_words
  rw [View.canon_unit_zero zero]
  unfold k0_pay2
  simp only [View.readAt_eq_ld, h3.read_unread, h4.read_unread, View.ld_unit_zero (S := S1024x2048) zero,
    View.ld_unit_zero (S := S2048x1024) zero, shapeCast_self]

/-- A later point adds the product of its blocks to the scratch. -/
theorem mid (c0 : ¬cond0_0 i) (c1 : cond0_1 i) (c2 : ¬cond0_2 i) :
    sout0_B_0 c i a3 h3 a4 h4 a5 h5 a6 h6 c0 c1 c2 x w s = addf s (k0_pay1 x w) := by
  unfold sout0_B_0
  rw [View.read_writes_eq_canon _ _ _ (scover0_B_0 c i a3 h3 a4 h4 a5 h5 a6 h6 c0 c1 c2 x w s)]
  unfold kernelRun0_B
  dsimp only
  sl_unfold_words
  rw [View.canon_unit_zero zero]
  unfold k0_pay3
  simp only [View.readAt_eq_ld, h3.read_unread, h4.read_unread, h6.read_unread, View.ld_unit_zero (S := S1024x2048) zero,
    View.ld_unit_zero (S := S2048x1024) zero, View.ld_unit_zero (S := S1024x1024) zero, shapeCast_self]

/-- The last point of a run does the same and hands the sum to the output. -/
theorem last (c0 : ¬cond0_0 i) (c1 : cond0_1 i) (c2 : cond0_2 i) :
    out0_C_2 c i a3 h3 a4 h4 a5 h5 a6 h6 c0 c1 c2 x w s = addf s (k0_pay1 x w) := by
  unfold out0_C_2
  rw [View.read_writes_eq_canon _ _ _ (cover0_C_2 c i a3 h3 a4 h4 a5 h5 a6 h6 c0 c1 c2 x w s)]
  unfold kernelRun0_C
  dsimp only
  sl_unfold_words
  rw [View.canon_unit_zero zero, View.readCov_unit_zero (S := S1024x1024) _ zero]
  unfold k0_pay3
  simp only [View.readAt_eq_ld, h3.read_unread, h4.read_unread, h6.read_unread, View.ld_unit_zero (S := S1024x2048) zero,
    View.ld_unit_zero (S := S2048x1024) zero, View.ld_unit_zero (S := S1024x1024) zero, shapeCast_self]

theorem pay (a : Fin 1024) (b : Fin 1024) : k0_pay1 x w (ix2 a b) = ∑ k : Fin 2048, x (ix2 a k) * w (ix2 k b) := by
  pointwise [k0_pay1]

end Points

theorem win_0 : ∀ t : Fin cfg0.N, (cfg0.win 0).index t = ![0, t.val % 4] := by decide +kernel
theorem win_1 : ∀ t : Fin cfg0.N, (cfg0.win 1).index t = ![t.val % 4, t.val / 4] := by decide +kernel
theorem win_2 : ∀ t : Fin cfg0.N, (cfg0.win 2).index t = ![0, t.val / 4] := by decide +kernel
theorem flush_2 : ∀ t : Fin cfg0.N, (cfg0.win 2).flush t = true → t.val % 4 = 3 := by decide +kernel

/-- Row `k`'s part of entry `a`, `b` of the product. -/
def term (x : Vec Ideal S1024x8192 .bf16) (d : Vec Ideal S8192x4096 .bf16) (a b k : ℕ) : EReal :=
  if h : a < 1024 ∧ b < 4096 ∧ k < 8192 then x (ix2 ⟨a, h.1⟩ ⟨k, h.2.2⟩) * d (ix2 ⟨k, h.2.2⟩ ⟨b, h.2.1⟩) else 0

theorem term_at (x : Vec Ideal S1024x8192 .bf16) (d : Vec Ideal S8192x4096 .bf16) (a : Fin 1024) (b : Fin 4096) (k : Fin 8192) :
    term x d a b k = x (ix2 a k) * d (ix2 k b) := dif_pos ⟨a.isLt, b.isLt, k.isLt⟩

/-- Entry `a`, `b` of the product. -/
def total (x : Vec Ideal S1024x8192 .bf16) (d : Vec Ideal S8192x4096 .bf16) (a b : ℕ) : EReal :=
  ∑ k ∈ Finset.range 8192, term x d a b k

/-- The product of the two arguments. -/
def prod (x : Vec Ideal S1024x8192 .bf16) (d : Vec Ideal S8192x4096 .bf16) : Vec Ideal S1024x4096 .f32 := fun y =>
  total x d (y 0).val (y 1).val

variable (m : (ℓ : Loc nD τ sig) → Buf (Elt Ideal) ℓ) (c : Dev nD)

theorem blk_0 (t : Fin cfg0.N) (a : Fin 1024) (k : Fin 2048) (i : Fin 8192) (hi : i.val = 2048 * (t.val % 4) + k) :
    iblk m c (0 : Fin 3) t (ix2 a k) = m ((c : Thread nD τ).loc main_arg0) (ix2 a i) := by
  blk_ext [iblk, win_0 t]

theorem blk_1 (t : Fin cfg0.N) (k : Fin 2048) (b : Fin 1024) (i : Fin 8192) (j : Fin 4096) (hi : i.val = 2048 * (t.val % 4) + k)
    (hj : j.val = 1024 * (t.val / 4) + b) :
    iblk m c (1 : Fin 3) t (ix2 k b) = m ((c : Thread nD τ).loc main_arg1) (ix2 i j) := by
  blk_ext [iblk, win_1 t]

/-- The terms of the two arguments. -/
abbrev part (a b k : ℕ) : EReal :=
  term (m ((c : Thread nD τ).loc main_arg0)) (m ((c : Thread nD τ).loc main_arg1)) a b k

theorem pay_at (t : Fin cfg0.N) (a b : Fin 1024) : k0_pay1 (iblk m c (0 : Fin 3) t) (iblk m c (1 : Fin 3) t) (ix2 a b)
    = ∑ k ∈ Finset.range 2048, part m c a (1024 * (t.val / 4) + b) (2048 * (t.val % 4) + k) := by
  rw [pay, Finset.sum_range]
  refine Finset.sum_congr rfl fun k _ => ?_
  have ht : t.val < 16 := t.isLt
  have hk : 2048 * (t.val % 4) + k.val < 8192 := by omega
  have hb : 1024 * (t.val / 4) + b.val < 4096 := by omega
  exact (congrArg₂ (fun p q : EReal => p * q) (blk_0 m c t a k ⟨_, hk⟩ rfl) (blk_1 m c t k b ⟨_, hk⟩ ⟨_, hb⟩ rfl rfl)).trans
    (term_at _ _ a ⟨_, hb⟩ ⟨_, hk⟩).symm

/-- What the scratch holds after point `n`: the sum over the rows of its run so far. -/
theorem scratch (n : ℕ) (h : n < cfg0.N) (a b : Fin 1024) (hn : n % 4 ≠ 3) : (outsAt0 m c n h).2 (ix2 a b)
    = ∑ k ∈ Finset.range (2048 * (n % 4) + 2048), part m c a (1024 * (n / 4) + b) k := by
  induction n with
  | zero =>
    have e := outsAt0_A m c ⟨0, h⟩ rfl (by simp) (by simp)
    rw [first] at e
    refine (congrFun (congrArg Prod.snd e) _).trans ((pay_at m c ⟨0, h⟩ a b).trans ?_)
    simp
  | succ n ih =>
    by_cases hz : (n + 1) % 4 = 0
    · have e := outsAt0_A m c ⟨n + 1, h⟩ hz (by dsimp only; omega) (by dsimp only; omega)
      rw [first] at e
      refine (congrFun (congrArg Prod.snd e) _).trans ((pay_at m c ⟨n + 1, h⟩ a b).trans ?_)
      simp [hz]
    · have e := outsAt0_B m c ⟨n + 1, h⟩ hz (by dsimp only; omega) hn
      rw [mid] at e
      refine (congrFun (congrArg Prod.snd e) _).trans ((congrArg₂ (· + ·) (ih (Nat.lt_of_succ_lt h) (by omega)) (pay_at m c ⟨n + 1, h⟩ a b)).trans ?_)
      have h1 : (n + 1) / 4 = n / 4 := by omega
      have h2 : 2048 * ((n + 1) % 4) = 2048 * (n % 4) + 2048 := by omega
      dsimp only
      rw [h1, h2]
      exact (Finset.sum_range_add _ _ 2048).symm

theorem arr : (dats m 0 c).arrAt (2 : Fin 3) cfg0.N
    = prod (m ((c : Thread nD τ).loc main_arg0)) (m ((c : Thread nD τ).loc main_arg1)) := by
  refine (dats m 0 c).arrAt_eq_of_covers (2 : Fin 3) _ (by decide +kernel) fun t hf y => ?_
  have ht := flush_2 t hf
  have e : ((dats m 0 c).after (2 : Fin 3) t (ix2 (y 0) (y 1)) : EReal)
      = total (m ((c : Thread nD τ).loc main_arg0)) (m ((c : Thread nD τ).loc main_arg1)) (y 0).val (1024 * (t.val / 4) + (y 1).val) := by
    obtain ⟨t, hlt⟩ := t
    cases t with
    | zero => simp at ht
    | succ n =>
      dsimp only at ht
      have o := outsAt0_C m c ⟨n + 1, hlt⟩ (by dsimp only; omega) (by dsimp only; omega) ht
      rw [last] at o
      refine (congrFun ((after0_2 m c ⟨n + 1, hlt⟩).trans (congrArg Prod.fst o)) _).trans
        ((congrArg₂ (· + ·) (scratch m c n (Nat.lt_of_succ_lt hlt) (y 0) (y 1) (by omega)) (pay_at m c ⟨n + 1, hlt⟩ (y 0) (y 1))).trans ?_)
      have h1 : (n + 1) / 4 = n / 4 := by omega
      have h2 : n % 4 = 2 := by omega
      dsimp only
      rw [h1, h2, ht]
      exact (Finset.sum_range_add (part m c (y 0) (1024 * (n / 4) + (y 1).val)) 6144 2048).symm
  have i : win0_2.index t = ![0, t.val / 4] := win_2 t
  unfold prod
  blk_simp [win_2 t]
  refine (congrArg _ (eq_ix2 y)).trans (e.trans (congrArg₂ (total _ _) ?_ ?_))
  all_goals simp [i, Nat.mul_comm]

theorem ref (x : FVec Ideal Cert.Reference2Ideal.S1024x8192 .bf16) (d : FVec Ideal Cert.Reference2Ideal.S8192x4096 .bf16) :
    transpose Cert.Reference2Ideal.S1024x4096 [1, 0]
      (Host.dotGeneral Cert.Reference2Ideal.dot_S8192x4096_S8192x1024_S4096x1024_0_0_1_1_n_n none
        (extf .f32 d Cert.Reference2Ideal.Gen.bitsLt_bf16_f32)
        (transpose Cert.Reference2Ideal.S8192x1024 [1, 0] (extf .f32 x Cert.Reference2Ideal.Gen.bitsLt_bf16_f32)
          Cert.Reference2Ideal.Gen.transposes_S1024x8192_S8192x1024_1_0))
      Cert.Reference2Ideal.Gen.transposes_S4096x1024_S1024x4096_1_0 = prod x d := by
  funext y
  rw [eq_ix2 y]
  refine Eq.trans (b := ∑ k : Fin 8192, d (ix2 k (y 1)) * x (ix2 (y 0) k)) (by pointwise []) ?_
  unfold prod total
  rw [Finset.sum_range]
  exact Finset.sum_congr rfl fun k _ => (mul_comm _ _).trans (term_at x d (y 0) (y 1) k).symm

end Cert.Kernel2Ideal.WeightGrad

namespace Cert.WeightGrad

theorem frame_kernel : Cert.quiescent_Kernel2 := fun m g _ => Cert.Kernel2.Gen.frame m g
theorem frame_ideal : Cert.quiescent_Kernel2Ideal := fun m g _ => Cert.Kernel2Ideal.Gen.frame m g
theorem frame_reference : Cert.quiescent_Reference2Ideal := fun m g _ =>
  (θ_run Cert.Reference2Ideal.defs _ _).mono
    (fun r h => ⟨fun c => (h c).2, sem_eq_zero_of_no_sems (by decide) r.2⟩) (Cert.Reference2Ideal.Value.run (F := Ideal) m g)
theorem preserves : Cert.preserves_Kernel2_Kernel2Ideal := trivial

theorem algebraic : Cert.algebraic_Kernel2Ideal_Reference2Ideal := by
  intro m g m' g' _ e
  refine ⟨fun c => Cert.Kernel2Ideal.WeightGrad.prod (m ((c.tc : Thread _ _).loc Cert.Kernel2Ideal.main_arg0))
      (m ((c.tc : Thread _ _).loc Cert.Kernel2Ideal.main_arg1)),
    (θ_run Cert.Kernel2Ideal.defs _ _).mono
      (fun r k c => ⟨(k c).1.trans (Cert.Kernel2Ideal.WeightGrad.arr m c), (k c).2⟩) (Cert.Kernel2Ideal.Value.run_blocks m g),
    (θ_run Cert.Reference2Ideal.defs _ _).mono (fun r k c => ⟨?_, (k c).2⟩) (Cert.Reference2Ideal.Value.run (F := Ideal) m' g')⟩
  have f := Cert.Kernel2Ideal.WeightGrad.ref (m' ((c.tc : Thread _ _).loc Cert.Reference2Ideal.main_arg0))
    (m' ((c.tc : Thread _ _).loc Cert.Reference2Ideal.main_arg1))
  exact (k c).1.trans (f.trans (congrArg₂ Cert.Kernel2Ideal.WeightGrad.prod (e c).1 (e c).2))

end Cert.WeightGrad

end
-- ==== Proof.RunSum.lean ====
/-
  A product of a transposed stream with the gradient of projections, whose rows are added up by blocks of 2048 in runs of four:
  whatever the number of columns, the sums of a run are an entry of the product.
-/
module

public import Idealize.ShloMosaic.Lib.Pointwise

@[expose] public section

noncomputable section

open Idealize.ShloMosaic

namespace Cert.RunSum

theorem zero : (![0, 0] : Fin 2 → Nat) = fun _ => 0 := funext fun a => by fin_cases a <;> rfl

variable {w : ℕ} (x : Vec Ideal ⟨2, ![1024, 8192]⟩ .bf16) (d : Vec Ideal ⟨2, ![8192, w]⟩ .bf16)

/-- What row `k` adds to the entry at `a`, `b`; zero outside the arrays. -/
def row (a b k : ℕ) : EReal :=
  if h : a < 1024 ∧ b < w ∧ k < 8192 then x (ix2 ⟨a, h.1⟩ ⟨k, h.2.2⟩) * d (ix2 ⟨k, h.2.2⟩ ⟨b, h.2.1⟩) else 0

theorem row_at (a : Fin 1024) (b : Fin w) (k : Fin 8192) : row x d a b k = x (ix2 a k) * d (ix2 k b) :=
  dif_pos ⟨a.isLt, b.isLt, k.isLt⟩

/-- The entry at `a`, `b`. -/
def entry (a b : ℕ) : EReal := ∑ k ∈ Finset.range 8192, row x d a b k

/-- The product. -/
def prod : Vec Ideal ⟨2, ![1024, w]⟩ .f32 := fun y => entry x d (y 0).val (y 1).val

/-- Entry by entry, an array of sums over the rows, with the factors in either order, is the product. -/
theorem eq_prod (r : Vec Ideal ⟨2, ![1024, w]⟩ .f32)
    (h : ∀ (a : Fin 1024) (b : Fin w), r (ix2 a b) = ∑ k : Fin 8192, d (ix2 k b) * x (ix2 a k)) : r = prod x d := by
  funext y
  obtain ⟨a, b, rfl⟩ : ∃ a b, y = ix2 a b := ⟨y 0, y 1, eq_ix2 y⟩
  refine (h a b).trans ?_
  unfold prod entry
  rw [Finset.sum_range]
  exact Finset.sum_congr rfl fun k _ => (mul_comm _ _).trans (row_at x d a b k).symm

/-- Block `q` of the rows: a sum over blocks of the two arrays. -/
theorem block (q : ℕ) (hq : q < 4) (a : Fin 1024) (b : ℕ) (hb : b < w) (f g : Fin 2048 → EReal)
    (hf : ∀ (k : Fin 2048) (i : Fin 8192), i.val = 2048 * q + k → f k = x (ix2 a i))
    (hg : ∀ (k : Fin 2048) (i : Fin 8192), i.val = 2048 * q + k → g k = d (ix2 i ⟨b, hb⟩)) :
    ∑ k : Fin 2048, f k * g k = ∑ k ∈ Finset.range 2048, row x d a b (2048 * q + k) := by
  rw [Finset.sum_range]
  refine Finset.sum_congr rfl fun k _ => ?_
  have hk : 2048 * q + k.val < 8192 := by omega
  rw [hf k ⟨_, hk⟩ rfl, hg k ⟨_, hk⟩ rfl]
  exact (row_at x d a ⟨b, hb⟩ ⟨_, hk⟩).symm

/-- Runs of four points. Each point has a part `P`; the first of a run puts it into `S`, the later ones add to it, and the last
    leaves the sum in `O`. Then `O` has all 8192 rows. -/
theorem of_runs {N : ℕ} (f : ℕ → ℕ → EReal) (S O P : (n : ℕ) → n < N → EReal)
    (hP : ∀ n h, P n h = ∑ k ∈ Finset.range 2048, f (n / 4) (2048 * (n % 4) + k))
    (hA : ∀ n h, n % 4 = 0 → S n h = P n h)
    (hB : ∀ n (h : n + 1 < N), ¬(n + 1) % 4 = 0 → ¬(n + 1) % 4 = 3 → S (n + 1) h = S n (Nat.lt_of_succ_lt h) + P (n + 1) h)
    (hC : ∀ n (h : n + 1 < N), (n + 1) % 4 = 3 → O (n + 1) h = S n (Nat.lt_of_succ_lt h) + P (n + 1) h)
    (n : ℕ) (h : n < N) (hn : n % 4 = 3) : O n h = ∑ k ∈ Finset.range 8192, f (n / 4) k := by
  have sums : ∀ n h, n % 4 ≠ 3 → S n h = ∑ k ∈ Finset.range (2048 * (n % 4) + 2048), f (n / 4) k := by
    intro n h hn
    induction n with
    | zero => rw [hA 0 h rfl, hP]; simp
    | succ n ih =>
      by_cases hz : (n + 1) % 4 = 0
      · rw [hA _ h hz, hP, hz]; simp
      · have h1 : (n + 1) / 4 = n / 4 := by omega
        have h2 : 2048 * ((n + 1) % 4) = 2048 * (n % 4) + 2048 := by omega
        rw [hB n h hz hn, ih _ (by omega), hP, h1, h2]
        exact (Finset.sum_range_add _ _ 2048).symm
  obtain _ | n := n
  · simp at hn
  · have h1 : (n + 1) / 4 = n / 4 := by omega
    have h2 : n % 4 = 2 := by omega
    rw [hC n h hn, sums n _ (by omega), hP, h1, h2, hn]
    exact (Finset.sum_range_add _ 6144 2048).symm

/-- The same for arrays: point `n` has block `n % 4` of the rows and block `n / 4` of the columns, `t` wide. What the last point of
    a run leaves is that block of the product. -/
theorem out {t N r : ℕ} (hN : N = 4 * r) (hw : w = t * r) (u : (n : ℕ) → n < N → Vec Ideal ⟨2, ![1024, 2048]⟩ .bf16)
    (v : (n : ℕ) → n < N → Vec Ideal ⟨2, ![2048, t]⟩ .bf16) (S O P : (n : ℕ) → n < N → FVec Ideal ⟨2, ![1024, t]⟩ .f32)
    (hu : ∀ n h (a : Fin 1024) (k : Fin 2048) (i : Fin 8192), i.val = 2048 * (n % 4) + k → u n h (ix2 a k) = x (ix2 a i))
    (hv : ∀ n h (k : Fin 2048) (b : Fin t) (i : Fin 8192) (j : Fin w), i.val = 2048 * (n % 4) + k → j.val = t * (n / 4) + b →
      v n h (ix2 k b) = d (ix2 i j))
    (hP : ∀ n h (a : Fin 1024) (b : Fin t), P n h (ix2 a b) = ∑ k : Fin 2048, u n h (ix2 a k) * v n h (ix2 k b))
    (hA : ∀ n h, n % 4 = 0 → S n h = P n h)
    (hB : ∀ n (h : n + 1 < N), ¬(n + 1) % 4 = 0 → ¬(n + 1) % 4 = 3 → S (n + 1) h = addf (S n (Nat.lt_of_succ_lt h)) (P (n + 1) h))
    (hC : ∀ n (h : n + 1 < N), (n + 1) % 4 = 3 → O (n + 1) h = addf (S n (Nat.lt_of_succ_lt h)) (P (n + 1) h))
    (n : ℕ) (h : n < N) (hn : n % 4 = 3) (a : Fin 1024) (b : Fin t) : O n h (ix2 a b) = entry x d a (t * (n / 4) + b) := by
  refine of_runs (fun j k => row x d a (t * j + b) k) (fun n h => S n h (ix2 a b)) (fun n h => O n h (ix2 a b))
    (fun n h => P n h (ix2 a b)) (fun n h => ?_) (fun n h h0 => congrFun (hA n h h0) _)
    (fun n h h0 h3 => congrFun (hB n h h0 h3) _) (fun n h h3 => congrFun (hC n h h3) _) n h hn
  have hb : t * (n / 4) + b.val < w := by
    have h1 : t * (n / 4 + 1) ≤ w := hw ▸ Nat.mul_le_mul_left t (by omega)
    have := b.isLt
    rw [Nat.mul_add] at h1
    omega
  exact (hP n h a b).trans (block x d (n % 4) (by omega) a _ hb _ _ (fun k i hi => hu n h a k i hi) fun k i hi => hv n h k b i ⟨_, hb⟩ hi rfl)

end Cert.RunSum

end
-- ==== Proof.WeightGrad1536.lean ====
/-
  The gradient of the projection's weights for a part of 1536 columns, in blocks of 768.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.RunSum
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel7Ideal.Part

open Cert.Kernel7Ideal Cert.Kernel7Ideal.Gen Cert.Kernel7Ideal.Value

section Points

variable (c : Dev nD) (i : grid0.Coords) (a3 : Memref sig .tc .vmem S1024x2048 .bf16) (h3 : a3.IsWhole)
  (a4 : Memref sig .tc .vmem S2048x768 .bf16) (h4 : a4.IsWhole) (a5 : Memref sig .tc .vmem S1024x768 .f32) (h5 : a5.IsWhole)
  (a6 : Memref sig .tc .vmem S1024x768 .f32) (h6 : a6.IsWhole)
  (x : Vec Ideal S1024x2048 .bf16) (w : Vec Ideal S2048x768 .bf16) (s : Vec Ideal S1024x768 .f32)

/-- The scratch after the first point of a run. -/
theorem first (c0 : cond0_0 i) (c1 : ¬cond0_1 i) (c2 : ¬cond0_2 i) :
    sout0_A_0 c i a3 h3 a4 h4 a5 h5 a6 h6 c0 c1 c2 x w = k0_pay1 x w := by
  refine (View.read_writes_eq_canon _ _ _ (scover0_A_0 c i a3 h3 a4 h4 a5 h5 a6 h6 c0 c1 c2 x w)).trans ?_
  simp only [kernelRun0_A]
  sl_unfold_words
  rw [View.canon_unit_zero RunSum.zero]
  simp only [k0_pay2, View.readAt_eq_ld, h3.read_unread, h4.read_unread, View.ld_unit_zero (S := S1024x2048) RunSum.zero,
    View.ld_unit_zero (S := S2048x768) RunSum.zero, shapeCast_self]

/-- The scratch after a later one. -/
theorem mid (c0 : ¬cond0_0 i) (c1 : cond0_1 i) (c2 : ¬cond0_2 i) :
    sout0_B_0 c i a3 h3 a4 h4 a5 h5 a6 h6 c0 c1 c2 x w s = addf s (k0_pay1 x w) := by
  refine (View.read_writes_eq_canon _ _ _ (scover0_B_0 c i a3 h3 a4 h4 a5 h5 a6 h6 c0 c1 c2 x w s)).trans ?_
  simp only [kernelRun0_B]
  sl_unfold_words
  rw [View.canon_unit_zero RunSum.zero]
  simp only [k0_pay3, View.readAt_eq_ld, h3.read_unread, h4.read_unread, h6.read_unread, View.ld_unit_zero (S := S1024x2048) RunSum.zero,
    View.ld_unit_zero (S := S2048x768) RunSum.zero, View.ld_unit_zero (S := S1024x768) RunSum.zero, shapeCast_self]

/-- What the last point of a run leaves in the output's block. -/
theorem last (c0 : ¬cond0_0 i) (c1 : cond0_1 i) (c2 : cond0_2 i) :
    out0_C_2 c i a3 h3 a4 h4 a5 h5 a6 h6 c0 c1 c2 x w s = addf s (k0_pay1 x w) := by
  refine (View.read_writes_eq_canon _ _ _ (cover0_C_2 c i a3 h3 a4 h4 a5 h5 a6 h6 c0 c1 c2 x w s)).trans ?_
  simp only [kernelRun0_C]
  sl_unfold_words
  rw [View.canon_unit_zero RunSum.zero, View.readCov_unit_zero (S := S1024x768) _ RunSum.zero]
  simp only [k0_pay3, View.readAt_eq_ld, h3.read_unread, h4.read_unread, h6.read_unread, View.ld_unit_zero (S := S1024x2048) RunSum.zero,
    View.ld_unit_zero (S := S2048x768) RunSum.zero, View.ld_unit_zero (S := S1024x768) RunSum.zero, shapeCast_self]

theorem pay (a : Fin 1024) (b : Fin 768) : k0_pay1 x w (ix2 a b) = ∑ k : Fin 2048, x (ix2 a k) * w (ix2 k b) := by
  pointwise [k0_pay1]

end Points

theorem win_0 : ∀ t : Fin cfg0.N, (cfg0.win 0).index t = ![0, t.val % 4] := by decide +kernel
theorem win_1 : ∀ t : Fin cfg0.N, (cfg0.win 1).index t = ![t.val % 4, t.val / 4] := by decide +kernel
theorem win_2 : ∀ t : Fin cfg0.N, (cfg0.win 2).index t = ![0, t.val / 4] := by decide +kernel
theorem flush_2 : ∀ t : Fin cfg0.N, (cfg0.win 2).flush t = true → t.val % 4 = 3 := by decide +kernel

variable (m : (ℓ : Loc nD τ sig) → Buf (Elt Ideal) ℓ) (c : Dev nD)

/-- The product of the two arguments. -/
abbrev result : Vec Ideal S1024x1536 .f32 :=
  RunSum.prod (m ((c : Thread nD τ).loc main_arg0)) (m ((c : Thread nD τ).loc main_arg1))

/-- The output's block after the last point of a run. -/
theorem out_at (n : ℕ) (h : n < cfg0.N) (hn : n % 4 = 3) (a : Fin 1024) (b : Fin 768) : (outsAt0 m c n h).1 (ix2 a b)
    = RunSum.entry (m ((c : Thread nD τ).loc main_arg0)) (m ((c : Thread nD τ).loc main_arg1)) a (768 * (n / 4) + b) := by
  have hN : cfg0.N = 8 := N_0
  refine RunSum.out _ _ (r := 2) hN rfl (fun n h => iblk m c (0 : Fin 3) ⟨n, h⟩) (fun n h => iblk m c (1 : Fin 3) ⟨n, h⟩)
    (fun n h => (outsAt0 m c n h).2) (fun n h => (outsAt0 m c n h).1)
    (fun n h => k0_pay1 (iblk m c (0 : Fin 3) ⟨n, h⟩) (iblk m c (1 : Fin 3) ⟨n, h⟩))
    (fun n h a k i hi => ?_) (fun n h k b i j hi hj => ?_) (fun n h a b => pay _ _ a b) (fun n h h0 => ?_) (fun n h h0 h3 => ?_)
    (fun n h h3 => ?_) n h hn a b
  · blk_ext [iblk, win_0 ⟨n, h⟩]
  · blk_ext [iblk, win_1 ⟨n, h⟩]
  · have e := outsAt0_A m c ⟨n, h⟩ h0 (by dsimp only; omega) (by dsimp only; omega)
    rw [first] at e
    exact congrArg Prod.snd e
  · have e := outsAt0_B m c ⟨n + 1, h⟩ h0 (by dsimp only; omega) h3
    rw [mid] at e
    exact congrArg Prod.snd e
  · have e := outsAt0_C m c ⟨n + 1, h⟩ (by dsimp only; omega) (by dsimp only; omega) h3
    rw [last] at e
    exact congrArg Prod.fst e

theorem arr : (dats m 0 c).arrAt (2 : Fin 3) cfg0.N = result m c := by
  refine (dats m 0 c).arrAt_eq_of_covers (2 : Fin 3) _ (by decide +kernel) fun t hf y => ?_
  have e := (congrFun (after0_2 m c t) (ix2 (y 0) (y 1))).trans (out_at m c t.val t.isLt (flush_2 t hf) (y 0) (y 1))
  have i : win0_2.index t = ![0, t.val / 4] := win_2 t
  unfold result RunSum.prod
  blk_simp [win_2 t]
  refine (congrArg _ (eq_ix2 y)).trans (e.trans (congrArg₂ (RunSum.entry _ _) ?_ ?_))
  all_goals simp [i, Nat.mul_comm]

end Cert.Kernel7Ideal.Part

namespace Cert.WeightGrad1536

theorem frame_kernel : Cert.quiescent_Kernel7 := fun m g _ => Cert.Kernel7.Gen.frame m g
theorem frame_ideal : Cert.quiescent_Kernel7Ideal := fun m g _ => Cert.Kernel7Ideal.Gen.frame m g
theorem frame_reference : Cert.quiescent_Reference7Ideal := fun m g _ =>
  (θ_run Cert.Reference7Ideal.defs _ _).mono
    (fun r h => ⟨fun c => (h c).2, sem_eq_zero_of_no_sems (by decide) r.2⟩) (Cert.Reference7Ideal.Value.run (F := Ideal) m g)
theorem preserves : Cert.preserves_Kernel7_Kernel7Ideal := trivial

theorem algebraic : Cert.algebraic_Kernel7Ideal_Reference7Ideal := fun m g m' g' _ e =>
  ⟨fun c => Cert.Kernel7Ideal.Part.result m c,
    (θ_run Cert.Kernel7Ideal.defs _ _).mono
      (fun r k c => ⟨(k c).1.trans (Cert.Kernel7Ideal.Part.arr m c), (k c).2⟩) (Cert.Kernel7Ideal.Value.run_blocks m g),
    (θ_run Cert.Reference7Ideal.defs _ _).mono
      (fun r k c => ⟨(k c).1.trans ((RunSum.eq_prod (m' ((c.tc : Thread _ _).loc Cert.Reference7Ideal.main_arg0))
        (m' ((c.tc : Thread _ _).loc Cert.Reference7Ideal.main_arg1)) _ fun a b => by pointwise []).trans
          (congrArg₂ RunSum.prod (e c).1 (e c).2)), (k c).2⟩) (Cert.Reference7Ideal.Value.run (F := Ideal) m' g')⟩

end Cert.WeightGrad1536

end
-- ==== Proof.WeightGrad2048.lean ====
/-
  The gradient of the projection's weights for a part of 2048 columns, in blocks of 1024.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.RunSum
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel8Ideal.Part

open Cert.Kernel8Ideal Cert.Kernel8Ideal.Gen Cert.Kernel8Ideal.Value

section Points

variable (c : Dev nD) (i : grid0.Coords) (a3 : Memref sig .tc .vmem S1024x2048 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole)
  (x : Vec Ideal S1024x2048 .bf16) (w : Vec Ideal S2048x1024 .bf16) (s : Vec Ideal S1024x1024 .f32)

/-- The scratch after the first point of a run. -/
theorem first (c0 : cond0_0 i) (c1 : ¬cond0_1 i) (c2 : ¬cond0_2 i) :
    sout0_A_0 c i a3 h3 a4 h4 a5 h5 a6 h6 c0 c1 c2 x w = k0_pay1 x w := by
  refine (View.read_writes_eq_canon _ _ _ (scover0_A_0 c i a3 h3 a4 h4 a5 h5 a6 h6 c0 c1 c2 x w)).trans ?_
  simp only [kernelRun0_A]
  sl_unfold_words
  rw [View.canon_unit_zero RunSum.zero]
  simp only [k0_pay2, View.readAt_eq_ld, h3.read_unread, h4.read_unread, View.ld_unit_zero (S := S1024x2048) RunSum.zero,
    View.ld_unit_zero (S := S2048x1024) RunSum.zero, shapeCast_self]

/-- The scratch after a later one. -/
theorem mid (c0 : ¬cond0_0 i) (c1 : cond0_1 i) (c2 : ¬cond0_2 i) :
    sout0_B_0 c i a3 h3 a4 h4 a5 h5 a6 h6 c0 c1 c2 x w s = addf s (k0_pay1 x w) := by
  refine (View.read_writes_eq_canon _ _ _ (scover0_B_0 c i a3 h3 a4 h4 a5 h5 a6 h6 c0 c1 c2 x w s)).trans ?_
  simp only [kernelRun0_B]
  sl_unfold_words
  rw [View.canon_unit_zero RunSum.zero]
  simp only [k0_pay3, View.readAt_eq_ld, h3.read_unread, h4.read_unread, h6.read_unread, View.ld_unit_zero (S := S1024x2048) RunSum.zero,
    View.ld_unit_zero (S := S2048x1024) RunSum.zero, View.ld_unit_zero (S := S1024x1024) RunSum.zero, shapeCast_self]

/-- What the last point of a run leaves in the output's block. -/
theorem last (c0 : ¬cond0_0 i) (c1 : cond0_1 i) (c2 : cond0_2 i) :
    out0_C_2 c i a3 h3 a4 h4 a5 h5 a6 h6 c0 c1 c2 x w s = addf s (k0_pay1 x w) := by
  refine (View.read_writes_eq_canon _ _ _ (cover0_C_2 c i a3 h3 a4 h4 a5 h5 a6 h6 c0 c1 c2 x w s)).trans ?_
  simp only [kernelRun0_C]
  sl_unfold_words
  rw [View.canon_unit_zero RunSum.zero, View.readCov_unit_zero (S := S1024x1024) _ RunSum.zero]
  simp only [k0_pay3, View.readAt_eq_ld, h3.read_unread, h4.read_unread, h6.read_unread, View.ld_unit_zero (S := S1024x2048) RunSum.zero,
    View.ld_unit_zero (S := S2048x1024) RunSum.zero, View.ld_unit_zero (S := S1024x1024) RunSum.zero, shapeCast_self]

theorem pay (a : Fin 1024) (b : Fin 1024) : k0_pay1 x w (ix2 a b) = ∑ k : Fin 2048, x (ix2 a k) * w (ix2 k b) := by
  pointwise [k0_pay1]

end Points

theorem win_0 : ∀ t : Fin cfg0.N, (cfg0.win 0).index t = ![0, t.val % 4] := by decide +kernel
theorem win_1 : ∀ t : Fin cfg0.N, (cfg0.win 1).index t = ![t.val % 4, t.val / 4] := by decide +kernel
theorem win_2 : ∀ t : Fin cfg0.N, (cfg0.win 2).index t = ![0, t.val / 4] := by decide +kernel
theorem flush_2 : ∀ t : Fin cfg0.N, (cfg0.win 2).flush t = true → t.val % 4 = 3 := by decide +kernel

variable (m : (ℓ : Loc nD τ sig) → Buf (Elt Ideal) ℓ) (c : Dev nD)

/-- The product of the two arguments. -/
abbrev result : Vec Ideal S1024x2048 .f32 :=
  RunSum.prod (m ((c : Thread nD τ).loc main_arg0)) (m ((c : Thread nD τ).loc main_arg1))

/-- The output's block after the last point of a run. -/
theorem out_at (n : ℕ) (h : n < cfg0.N) (hn : n % 4 = 3) (a : Fin 1024) (b : Fin 1024) : (outsAt0 m c n h).1 (ix2 a b)
    = RunSum.entry (m ((c : Thread nD τ).loc main_arg0)) (m ((c : Thread nD τ).loc main_arg1)) a (1024 * (n / 4) + b) := by
  have hN : cfg0.N = 8 := N_0
  refine RunSum.out _ _ (r := 2) hN rfl (fun n h => iblk m c (0 : Fin 3) ⟨n, h⟩) (fun n h => iblk m c (1 : Fin 3) ⟨n, h⟩)
    (fun n h => (outsAt0 m c n h).2) (fun n h => (outsAt0 m c n h).1)
    (fun n h => k0_pay1 (iblk m c (0 : Fin 3) ⟨n, h⟩) (iblk m c (1 : Fin 3) ⟨n, h⟩))
    (fun n h a k i hi => ?_) (fun n h k b i j hi hj => ?_) (fun n h a b => pay _ _ a b) (fun n h h0 => ?_) (fun n h h0 h3 => ?_)
    (fun n h h3 => ?_) n h hn a b
  · blk_ext [iblk, win_0 ⟨n, h⟩]
  · blk_ext [iblk, win_1 ⟨n, h⟩]
  · have e := outsAt0_A m c ⟨n, h⟩ h0 (by dsimp only; omega) (by dsimp only; omega)
    rw [first] at e
    exact congrArg Prod.snd e
  · have e := outsAt0_B m c ⟨n + 1, h⟩ h0 (by dsimp only; omega) h3
    rw [mid] at e
    exact congrArg Prod.snd e
  · have e := outsAt0_C m c ⟨n + 1, h⟩ (by dsimp only; omega) (by dsimp only; omega) h3
    rw [last] at e
    exact congrArg Prod.fst e

theorem arr : (dats m 0 c).arrAt (2 : Fin 3) cfg0.N = result m c := by
  refine (dats m 0 c).arrAt_eq_of_covers (2 : Fin 3) _ (by decide +kernel) fun t hf y => ?_
  have e := (congrFun (after0_2 m c t) (ix2 (y 0) (y 1))).trans (out_at m c t.val t.isLt (flush_2 t hf) (y 0) (y 1))
  have i : win0_2.index t = ![0, t.val / 4] := win_2 t
  unfold result RunSum.prod
  blk_simp [win_2 t]
  refine (congrArg _ (eq_ix2 y)).trans (e.trans (congrArg₂ (RunSum.entry _ _) ?_ ?_))
  all_goals simp [i, Nat.mul_comm]

end Cert.Kernel8Ideal.Part

namespace Cert.WeightGrad2048

theorem frame_kernel : Cert.quiescent_Kernel8 := fun m g _ => Cert.Kernel8.Gen.frame m g
theorem frame_ideal : Cert.quiescent_Kernel8Ideal := fun m g _ => Cert.Kernel8Ideal.Gen.frame m g
theorem frame_reference : Cert.quiescent_Reference8Ideal := fun m g _ =>
  (θ_run Cert.Reference8Ideal.defs _ _).mono
    (fun r h => ⟨fun c => (h c).2, sem_eq_zero_of_no_sems (by decide) r.2⟩) (Cert.Reference8Ideal.Value.run (F := Ideal) m g)
theorem preserves : Cert.preserves_Kernel8_Kernel8Ideal := trivial

theorem algebraic : Cert.algebraic_Kernel8Ideal_Reference8Ideal := fun m g m' g' _ e =>
  ⟨fun c => Cert.Kernel8Ideal.Part.result m c,
    (θ_run Cert.Kernel8Ideal.defs _ _).mono
      (fun r k c => ⟨(k c).1.trans (Cert.Kernel8Ideal.Part.arr m c), (k c).2⟩) (Cert.Kernel8Ideal.Value.run_blocks m g),
    (θ_run Cert.Reference8Ideal.defs _ _).mono
      (fun r k c => ⟨(k c).1.trans ((RunSum.eq_prod (m' ((c.tc : Thread _ _).loc Cert.Reference8Ideal.main_arg0))
        (m' ((c.tc : Thread _ _).loc Cert.Reference8Ideal.main_arg1)) _ fun a b => by pointwise []).trans
          (congrArg₂ RunSum.prod (e c).1 (e c).2)), (k c).2⟩) (Cert.Reference8Ideal.Value.run (F := Ideal) m' g')⟩

end Cert.WeightGrad2048

end
-- ==== Proof.WeightGrad512.lean ====
/-
  The gradient of the projection's weights for a part of 512 columns: one run of four points, over all the columns.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.RunSum
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel9Ideal.Part

open Cert.Kernel9Ideal Cert.Kernel9Ideal.Gen Cert.Kernel9Ideal.Value

section Points

variable (c : Dev nD) (i : grid0.Coords) (a3 : Memref sig .tc .vmem S1024x2048 .bf16) (h3 : a3.IsWhole)
  (a4 : Memref sig .tc .vmem S2048x512 .bf16) (h4 : a4.IsWhole) (a5 : Memref sig .tc .vmem S1024x512 .f32) (h5 : a5.IsWhole)
  (a6 : Memref sig .tc .vmem S1024x512 .f32) (h6 : a6.IsWhole)
  (x : Vec Ideal S1024x2048 .bf16) (w : Vec Ideal S2048x512 .bf16) (s : Vec Ideal S1024x512 .f32)

/-- The scratch after the first point. -/
theorem first (c0 : cond0_0 i) (c1 : ¬cond0_1 i) (c2 : ¬cond0_2 i) :
    sout0_A_0 c i a3 h3 a4 h4 a5 h5 a6 h6 c0 c1 c2 x w = k0_pay1 x w := by
  refine (View.read_writes_eq_canon _ _ _ (scover0_A_0 c i a3 h3 a4 h4 a5 h5 a6 h6 c0 c1 c2 x w)).trans ?_
  simp only [kernelRun0_A]
  sl_unfold_words
  rw [View.canon_unit_zero RunSum.zero]
  simp only [k0_pay2, View.readAt_eq_ld, h3.read_unread, h4.read_unread, View.ld_unit_zero (S := S1024x2048) RunSum.zero,
    View.ld_unit_zero (S := S2048x512) RunSum.zero, shapeCast_self]

/-- The scratch after the second and the third. -/
theorem mid (c0 : ¬cond0_0 i) (c1 : cond0_1 i) (c2 : ¬cond0_2 i) :
    sout0_B_0 c i a3 h3 a4 h4 a5 h5 a6 h6 c0 c1 c2 x w s = addf s (k0_pay1 x w) := by
  refine (View.read_writes_eq_canon _ _ _ (scover0_B_0 c i a3 h3 a4 h4 a5 h5 a6 h6 c0 c1 c2 x w s)).trans ?_
  simp only [kernelRun0_B]
  sl_unfold_words
  rw [View.canon_unit_zero RunSum.zero]
  simp only [k0_pay3, View.readAt_eq_ld, h3.read_unread, h4.read_unread, h6.read_unread, View.ld_unit_zero (S := S1024x2048) RunSum.zero,
    View.ld_unit_zero (S := S2048x512) RunSum.zero, View.ld_unit_zero (S := S1024x512) RunSum.zero, shapeCast_self]

/-- What the last leaves in the output. -/
theorem last (c0 : ¬cond0_0 i) (c1 : cond0_1 i) (c2 : cond0_2 i) :
    out0_C_2 c i a3 h3 a4 h4 a5 h5 a6 h6 c0 c1 c2 x w s = addf s (k0_pay1 x w) := by
  refine (View.read_writes_eq_canon _ _ _ (cover0_C_2 c i a3 h3 a4 h4 a5 h5 a6 h6 c0 c1 c2 x w s)).trans ?_
  simp only [kernelRun0_C]
  sl_unfold_words
  rw [View.canon_unit_zero RunSum.zero, View.readCov_unit_zero (S := S1024x512) _ RunSum.zero]
  simp only [k0_pay3, View.readAt_eq_ld, h3.read_unread, h4.read_unread, h6.read_unread, View.ld_unit_zero (S := S1024x2048) RunSum.zero,
    View.ld_unit_zero (S := S2048x512) RunSum.zero, View.ld_unit_zero (S := S1024x512) RunSum.zero, shapeCast_self]

theorem pay (a : Fin 1024) (b : Fin 512) : k0_pay1 x w (ix2 a b) = ∑ k : Fin 2048, x (ix2 a k) * w (ix2 k b) := by
  pointwise [k0_pay1]

end Points

theorem win_0 : ∀ t : Fin cfg0.N, (cfg0.win 0).index t = ![0, t.val % 4] := by decide +kernel
theorem win_1 : ∀ t : Fin cfg0.N, (cfg0.win 1).index t = ![t.val % 4, t.val / 4] := by decide +kernel
theorem win_2 : ∀ t : Fin cfg0.N, (cfg0.win 2).index t = ![0, t.val / 4] := by decide +kernel
theorem flush_2 : ∀ t : Fin cfg0.N, (cfg0.win 2).flush t = true → t.val % 4 = 3 := by decide +kernel

variable (m : (ℓ : Loc nD τ sig) → Buf (Elt Ideal) ℓ) (c : Dev nD)

/-- The product of the two arguments. -/
abbrev result : Vec Ideal S1024x512 .f32 :=
  RunSum.prod (m ((c : Thread nD τ).loc main_arg0)) (m ((c : Thread nD τ).loc main_arg1))

/-- The output after the last point. -/
theorem out_at (n : ℕ) (h : n < cfg0.N) (hn : n % 4 = 3) (a : Fin 1024) (b : Fin 512) : (outsAt0 m c n h).1 (ix2 a b)
    = RunSum.entry (m ((c : Thread nD τ).loc main_arg0)) (m ((c : Thread nD τ).loc main_arg1)) a (512 * (n / 4) + b) := by
  have hN : cfg0.N = 4 := N_0
  refine RunSum.out _ _ (r := 1) hN rfl (fun n h => iblk m c (0 : Fin 3) ⟨n, h⟩) (fun n h => iblk m c (1 : Fin 3) ⟨n, h⟩)
    (fun n h => (outsAt0 m c n h).2) (fun n h => (outsAt0 m c n h).1)
    (fun n h => k0_pay1 (iblk m c (0 : Fin 3) ⟨n, h⟩) (iblk m c (1 : Fin 3) ⟨n, h⟩))
    (fun n h a k i hi => ?_) (fun n h k b i j hi hj => ?_) (fun n h a b => pay _ _ a b) (fun n h h0 => ?_) (fun n h h0 h3 => ?_)
    (fun n h h3 => ?_) n h hn a b
  · blk_ext [iblk, win_0 ⟨n, h⟩]
  · blk_ext [iblk, win_1 ⟨n, h⟩]
  · have e := outsAt0_A m c ⟨n, h⟩ h0 (by dsimp only; omega) (by dsimp only; omega)
    rw [first] at e
    exact congrArg Prod.snd e
  · have e := outsAt0_B m c ⟨n + 1, h⟩ h0 (by dsimp only; omega) h3
    rw [mid] at e
    exact congrArg Prod.snd e
  · have e := outsAt0_C m c ⟨n + 1, h⟩ (by dsimp only; omega) (by dsimp only; omega) h3
    rw [last] at e
    exact congrArg Prod.fst e

theorem arr : (dats m 0 c).arrAt (2 : Fin 3) cfg0.N = result m c := by
  refine (dats m 0 c).arrAt_eq_of_covers (2 : Fin 3) _ (by decide +kernel) fun t hf y => ?_
  have e := (congrFun (after0_2 m c t) (ix2 (y 0) (y 1))).trans (out_at m c t.val t.isLt (flush_2 t hf) (y 0) (y 1))
  have i : win0_2.index t = ![0, t.val / 4] := win_2 t
  unfold result RunSum.prod
  blk_simp [win_2 t]
  refine (congrArg _ (eq_ix2 y)).trans (e.trans (congrArg₂ (RunSum.entry _ _) ?_ ?_))
  all_goals simp [i, Nat.mul_comm]

end Cert.Kernel9Ideal.Part

namespace Cert.WeightGrad512

theorem frame_kernel : Cert.quiescent_Kernel9 := fun m g _ => Cert.Kernel9.Gen.frame m g
theorem frame_ideal : Cert.quiescent_Kernel9Ideal := fun m g _ => Cert.Kernel9Ideal.Gen.frame m g
theorem frame_reference : Cert.quiescent_Reference9Ideal := fun m g _ =>
  (θ_run Cert.Reference9Ideal.defs _ _).mono
    (fun r h => ⟨fun c => (h c).2, sem_eq_zero_of_no_sems (by decide) r.2⟩) (Cert.Reference9Ideal.Value.run (F := Ideal) m g)
theorem preserves : Cert.preserves_Kernel9_Kernel9Ideal := trivial

theorem algebraic : Cert.algebraic_Kernel9Ideal_Reference9Ideal := fun m g m' g' _ e =>
  ⟨fun c => Cert.Kernel9Ideal.Part.result m c,
    (θ_run Cert.Kernel9Ideal.defs _ _).mono
      (fun r k c => ⟨(k c).1.trans (Cert.Kernel9Ideal.Part.arr m c), (k c).2⟩) (Cert.Kernel9Ideal.Value.run_blocks m g),
    (θ_run Cert.Reference9Ideal.defs _ _).mono
      (fun r k c => ⟨(k c).1.trans ((RunSum.eq_prod (m' ((c.tc : Thread _ _).loc Cert.Reference9Ideal.main_arg0))
        (m' ((c.tc : Thread _ _).loc Cert.Reference9Ideal.main_arg1)) _ fun a b => by pointwise []).trans
          (congrArg₂ RunSum.prod (e c).1 (e c).2)), (k c).2⟩) (Cert.Reference9Ideal.Value.run (F := Ideal) m' g')⟩

end Cert.WeightGrad512

end
-- ==== Proof.InputPoints.lean ====
/-
  The gradient of the projection's input, one grid point at a time: what a point leaves in its output block and in
  the copies of the weights kept between points.
-/
module

public import proofs.«01_k».proof.Proof.Gen.Kernel3Ideal.Frame
public import Idealize.ShloMosaic.Lib.Pointwise
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel3Ideal.InputGrad

open Cert.Kernel3Ideal Cert.Kernel3Ideal.Gen

theorem zero : (![0, 0] : Fin 2 → Nat) = fun _ => 0 := funext fun a => by fin_cases a <;> rfl

section Whole

variable {S : Shape} {e : EltTy}

/-- A buffer filled by one copy of its own shape holds the copy. -/
theorem canon_whole (w : S.Idx → Elt Ideal e) : View.canon [(⟨Rect.whole S, w⟩ : View.Piece (Elt Ideal) S e)] = w :=
  View.canon_unit_zero rfl _ w

theorem readCov_whole {sp : Space} (v : View sig .tc sp S e) {off : Fin S.rank → Nat} (h : off = fun _ => 0)
    (inb : ∀ a, off a + S.size a ≤ S.size a) (w : S.Idx → Elt Ideal e) :
    v.readCov [(⟨Rect.whole S, w⟩ : View.Piece (Elt Ideal) S e)] (Rect.unit off S.size inb).toLoadRect = w := by
  subst h
  exact View.readCov_unit_zero v rfl inb w

end Whole

/-- What a point computes from its blocks and the weights. -/
def body (d1 : Vec Ideal S256x1536 .bf16) (d2 : Vec Ideal S256x2048 .bf16) (d3 : Vec Ideal S256x1536 .bf16)
    (d4 d5 : Vec Ideal S256x512 .bf16) (d6 : Vec Ideal S256x4096 .bf16) (d7 : Vec Ideal S256x128 .bf16) (x : Vec Ideal S256x1024 .f32)
    (w1 : Vec Ideal S1024x1536 .bf16) (w2 : Vec Ideal S1024x2048 .bf16) (w3 : Vec Ideal S1024x1536 .bf16)
    (w4 w5 : Vec Ideal S1024x512 .bf16) (w6 : Vec Ideal S1024x4096 .bf16) (w7 : Vec Ideal S1024x128 .bf16) : Vec Ideal S256x1024 .f32 :=
  k0_pay1 (k0_pay2 x d1 w1 d2 w2 d3 w3 d4 w4 d5 w5) d6 w6 d7 w7

section Points

variable (c : Dev nD) (i : grid0.Coords) (b1 : Memref sig .tc .vmem S256x1536 .bf16) (g1 : b1.IsWhole)
  (b2 : Memref sig .tc .vmem S256x2048 .bf16) (g2 : b2.IsWhole) (b3 : Memref sig .tc .vmem S256x1536 .bf16) (g3 : b3.IsWhole)
  (b4 : Memref sig .tc .vmem S256x512 .bf16) (g4 : b4.IsWhole) (b5 : Memref sig .tc .vmem S256x512 .bf16) (g5 : b5.IsWhole)
  (b6 : Memref sig .tc .vmem S256x4096 .bf16) (g6 : b6.IsWhole) (b7 : Memref sig .tc .vmem S256x128 .bf16) (g7 : b7.IsWhole)
  (b8 : Memref sig .tc .vmem S256x1024 .f32) (g8 : b8.IsWhole) (b9 : Memref sig .tc .vmem S256x1024 .f32) (g9 : b9.IsWhole)
  (e1 : Memref sig .tc .vmem S1024x1536 .bf16) (l1 : e1.IsWhole) (e2 : Memref sig .tc .vmem S1024x2048 .bf16) (l2 : e2.IsWhole)
  (e3 : Memref sig .tc .vmem S1024x1536 .bf16) (l3 : e3.IsWhole) (e4 : Memref sig .tc .vmem S1024x512 .bf16) (l4 : e4.IsWhole)
  (e5 : Memref sig .tc .vmem S1024x512 .bf16) (l5 : e5.IsWhole) (e6 : Memref sig .tc .vmem S1024x4096 .bf16) (l6 : e6.IsWhole)
  (e7 : Memref sig .tc .vmem S1024x128 .bf16) (l7 : e7.IsWhole)
  (d1 : Vec Ideal S256x1536 .bf16) (d2 : Vec Ideal S256x2048 .bf16) (d3 : Vec Ideal S256x1536 .bf16) (d4 d5 : Vec Ideal S256x512 .bf16)
  (d6 : Vec Ideal S256x4096 .bf16) (d7 : Vec Ideal S256x128 .bf16) (x : Vec Ideal S256x1024 .f32)
  (w1 : Vec Ideal S1024x1536 .bf16) (w2 : Vec Ideal S1024x2048 .bf16) (w3 : Vec Ideal S1024x1536 .bf16) (w4 w5 : Vec Ideal S1024x512 .bf16)
  (w6 : Vec Ideal S1024x4096 .bf16) (w7 : Vec Ideal S1024x128 .bf16)
  (f1 : HbBuf0 (F := Ideal) c hbM0_0) (f2 : HbBuf0 (F := Ideal) c hbM0_1) (f3 : HbBuf0 (F := Ideal) c hbM0_2)
  (f4 : HbBuf0 (F := Ideal) c hbM0_3) (f5 : HbBuf0 (F := Ideal) c hbM0_4) (f6 : HbBuf0 (F := Ideal) c hbM0_5) (f7 : HbBuf0 (F := Ideal) c hbM0_6)

/-- The first point uses the weights it has just copied. -/
theorem first (h : cond0_0 i) :
    out0_A_8 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7
      = body d1 d2 d3 d4 d5 d6 d7 x f1 f2 f3 f4 f5 f6 f7 := by
  unfold out0_A_8
  rw [View.read_writes_eq_canon _ _ _ (cover0_A_8 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7)]
  unfold kernelRun0_A
  dsimp only
  sl_unfold_words
  rw [View.canon_unit_zero zero]
  simp only [View.readAt_eq_ld, g1.read_unread, g2.read_unread, g3.read_unread, g4.read_unread, g5.read_unread, g6.read_unread,
    g7.read_unread, g8.read_unread, View.ld_unit_zero (S := S256x1536) zero, View.ld_unit_zero (S := S256x2048) zero,
    View.ld_unit_zero (S := S256x512) zero, View.ld_unit_zero (S := S256x4096) zero, View.ld_unit_zero (S := S256x128) zero,
    View.ld_unit_zero (S := S256x1024) zero, readCov_whole (S := S1024x1536) _ zero, readCov_whole (S := S1024x2048) _ zero, readCov_whole (S := S1024x512) _ zero,
    readCov_whole (S := S1024x4096) _ zero, readCov_whole (S := S1024x128) _ zero]
  rfl

/-- A later point uses the copies the first point left. -/
theorem later (h : ¬cond0_0 i) :
    out0_B_8 c i b1 g1 b2 g2 b3 g3 b4 g4 b5 g5 b6 g6 b7 g7 b8 g8 b9 g9 e1 l1 e2 l2 e3 l3 e4 l4 e5 l5 e6 l6 e7 l7 h
      d1 d2 d3 d4 d5 d6 d7 x w1 w2 w3 w4 w5 w6 w7 f1 f2 f3 f4 f5 f6 f7
      = body d1 d2 d3 d4 d5 d6 d7 x w1 w2 w3 w4 w5 w6 w7 := by
  unfold out0_B_8
  rw [View.read_writes_eq_canon _ _ _ (cover0_B_8 c i b1 g1 b2 g2 b3 g3 b4 g4 b5 g5 b6 g6 b7 g7 b8 g8 b9 g9 e1 l1 e2 l2 e3 l3 e4 l4 e5 l5 e6 l6 e7 l7 h
      d1 d2 d3 d4 d5 d6 d7 x w1 w2 w3 w4 w5 w6 w7 f1 f2 f3 f4 f5 f6 f7)]
  unfold kernelRun0_B
  dsimp only
  sl_unfold_words
  rw [View.canon_unit_zero zero]
  simp only [View.readAt_eq_ld, g1.read_unread, g2.read_unread, g3.read_unread, g4.read_unread, g5.read_unread, g6.read_unread,
    g7.read_unread, g8.read_unread, l1.read_unread, l2.read_unread, l3.read_unread, l4.read_unread, l5.read_unread,
    l6.read_unread, l7.read_unread, View.ld_unit_zero (S := S256x1536) zero, View.ld_unit_zero (S := S256x2048) zero,
    View.ld_unit_zero (S := S256x512) zero, View.ld_unit_zero (S := S256x4096) zero, View.ld_unit_zero (S := S256x128) zero,
    View.ld_unit_zero (S := S256x1024) zero, View.ld_unit_zero (S := S1024x1536) zero, View.ld_unit_zero (S := S1024x2048) zero,
    View.ld_unit_zero (S := S1024x512) zero, View.ld_unit_zero (S := S1024x4096) zero, View.ld_unit_zero (S := S1024x128) zero]
  rfl

/-- The first point leaves the weights in the copies. -/
theorem copies (h : cond0_0 i) :
    (sout0_A_0 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7,
      sout0_A_1 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7,
      sout0_A_2 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7,
      sout0_A_3 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7,
      sout0_A_4 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7,
      sout0_A_5 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7,
      sout0_A_6 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7)
      = (f1, f2, f3, f4, f5, f6, f7) := by
  simp only [sout0_A_0, sout0_A_1, sout0_A_2, sout0_A_3, sout0_A_4, sout0_A_5, sout0_A_6]
  refine congrArg₂ Prod.mk ?_ (congrArg₂ Prod.mk ?_ (congrArg₂ Prod.mk ?_ (congrArg₂ Prod.mk ?_ (congrArg₂ Prod.mk ?_
    (congrArg₂ Prod.mk ?_ ?_)))))
  · exact (View.read_writes_eq_canon _ _ _ (scover0_A_0 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7)).trans
      (canon_whole _)
  · exact (View.read_writes_eq_canon _ _ _ (scover0_A_1 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7)).trans
      (canon_whole _)
  · exact (View.read_writes_eq_canon _ _ _ (scover0_A_2 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7)).trans
      (canon_whole _)
  · exact (View.read_writes_eq_canon _ _ _ (scover0_A_3 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7)).trans
      (canon_whole _)
  · exact (View.read_writes_eq_canon _ _ _ (scover0_A_4 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7)).trans
      (canon_whole _)
  · exact (View.read_writes_eq_canon _ _ _ (scover0_A_5 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7)).trans
      (canon_whole _)
  · exact (View.read_writes_eq_canon _ _ _ (scover0_A_6 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7)).trans
      (canon_whole _)

/-- All the first point leaves. -/
theorem first_point (h : cond0_0 i) :
    (out0_A_8 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7,
      sout0_A_0 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7,
      sout0_A_1 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7,
      sout0_A_2 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7,
      sout0_A_3 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7,
      sout0_A_4 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7,
      sout0_A_5 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7,
      sout0_A_6 c i b1 g1 b2 g2 b3 g3 b4 g4 b5 g5 b6 g6 b7 g7 b8 g8 b9 g9 e1 l1 e2 l2 e3 l3 e4 l4 e5 l5 e6 l6 e7 l7 h
      d1 d2 d3 d4 d5 d6 d7 x f1 f2 f3 f4 f5 f6 f7)
      = (body d1 d2 d3 d4 d5 d6 d7 x f1 f2 f3 f4 f5 f6 f7, f1, f2, f3, f4, f5, f6, f7) :=
  congrArg₂ Prod.mk (first (h := h) ..) (copies (h := h) ..)

/-- All a later point leaves. -/
theorem later_point (h : ¬cond0_0 i) :
    (out0_B_8 c i b1 g1 b2 g2 b3 g3 b4 g4 b5 g5 b6 g6 b7 g7 b8 g8 b9 g9 e1 l1 e2 l2 e3 l3 e4 l4 e5 l5 e6 l6 e7 l7 h
      d1 d2 d3 d4 d5 d6 d7 x w1 w2 w3 w4 w5 w6 w7 f1 f2 f3 f4 f5 f6 f7,
      sout0_B_0 c i b1 g1 b2 g2 b3 g3 b4 g4 b5 g5 b6 g6 b7 g7 b8 g8 b9 g9 e1 l1 e2 l2 e3 l3 e4 l4 e5 l5 e6 l6 e7 l7 h
      d1 d2 d3 d4 d5 d6 d7 x w1 w2 w3 w4 w5 w6 w7 f1 f2 f3 f4 f5 f6 f7,
      sout0_B_1 c i b1 g1 b2 g2 b3 g3 b4 g4 b5 g5 b6 g6 b7 g7 b8 g8 b9 g9 e1 l1 e2 l2 e3 l3 e4 l4 e5 l5 e6 l6 e7 l7 h
      d1 d2 d3 d4 d5 d6 d7 x w1 w2 w3 w4 w5 w6 w7 f1 f2 f3 f4 f5 f6 f7,
      sout0_B_2 c i b1 g1 b2 g2 b3 g3 b4 g4 b5 g5 b6 g6 b7 g7 b8 g8 b9 g9 e1 l1 e2 l2 e3 l3 e4 l4 e5 l5 e6 l6 e7 l7 h
      d1 d2 d3 d4 d5 d6 d7 x w1 w2 w3 w4 w5 w6 w7 f1 f2 f3 f4 f5 f6 f7,
      sout0_B_3 c i b1 g1 b2 g2 b3 g3 b4 g4 b5 g5 b6 g6 b7 g7 b8 g8 b9 g9 e1 l1 e2 l2 e3 l3 e4 l4 e5 l5 e6 l6 e7 l7 h
      d1 d2 d3 d4 d5 d6 d7 x w1 w2 w3 w4 w5 w6 w7 f1 f2 f3 f4 f5 f6 f7,
      sout0_B_4 c i b1 g1 b2 g2 b3 g3 b4 g4 b5 g5 b6 g6 b7 g7 b8 g8 b9 g9 e1 l1 e2 l2 e3 l3 e4 l4 e5 l5 e6 l6 e7 l7 h
      d1 d2 d3 d4 d5 d6 d7 x w1 w2 w3 w4 w5 w6 w7 f1 f2 f3 f4 f5 f6 f7,
      sout0_B_5 c i b1 g1 b2 g2 b3 g3 b4 g4 b5 g5 b6 g6 b7 g7 b8 g8 b9 g9 e1 l1 e2 l2 e3 l3 e4 l4 e5 l5 e6 l6 e7 l7 h
      d1 d2 d3 d4 d5 d6 d7 x w1 w2 w3 w4 w5 w6 w7 f1 f2 f3 f4 f5 f6 f7,
      sout0_B_6 c i b1 g1 b2 g2 b3 g3 b4 g4 b5 g5 b6 g6 b7 g7 b8 g8 b9 g9 e1 l1 e2 l2 e3 l3 e4 l4 e5 l5 e6 l6 e7 l7 h
      d1 d2 d3 d4 d5 d6 d7 x w1 w2 w3 w4 w5 w6 w7 f1 f2 f3 f4 f5 f6 f7)
      = (body d1 d2 d3 d4 d5 d6 d7 x w1 w2 w3 w4 w5 w6 w7, w1, w2, w3, w4, w5, w6, w7) :=
  congrArg₂ Prod.mk (later (h := h) ..) rfl

end Points

end Cert.Kernel3Ideal.InputGrad

end
-- ==== Proof.InputGrad.lean ====
/-
  The gradient of the projection's input: the run's array and the vector-Jacobian product of the projection are the
  same sum of products over all the columns.
-/
module

public import proofs.«01_k».proof.Defs
public import proofs.«01_k».proof.Proof.InputPoints
public import proofs.«01_k».proof.Proof.Gen.Kernel3.Frame
public import proofs.«01_k».proof.Proof.Gen.Reference3Ideal.Run

@[expose] public section

set_option maxRecDepth 16384

noncomputable section

open Idealize.ShloMosaic Idealize.ShloMosaic.TcCoe Idealize.SL.Sem

namespace Cert.Kernel3Ideal.InputGrad

open Cert.Kernel3Ideal Cert.Kernel3Ideal.Gen

/-- An entry of the product of an array with the transpose of another. -/
def dot {M N n : ℕ} {e e' : FTy} (d : FVec Ideal ⟨2, ![M, n]⟩ e) (w : FVec Ideal ⟨2, ![N, n]⟩ e') (a : Fin M) (b : Fin N) : EReal :=
  ∑ k : Fin n, d (ix2 a k) * w (ix2 b k)

/-- An entry of the whole gradient, for any number of rows. -/
def entry {M : ℕ} (d1 : FVec Ideal ⟨2, ![M, 1536]⟩ .bf16) (d2 : FVec Ideal ⟨2, ![M, 2048]⟩ .bf16) (d3 : FVec Ideal ⟨2, ![M, 1536]⟩ .bf16)
    (d4 d5 : FVec Ideal ⟨2, ![M, 512]⟩ .bf16) (d6 : FVec Ideal ⟨2, ![M, 4096]⟩ .bf16) (d7 : FVec Ideal ⟨2, ![M, 128]⟩ .bf16)
    (w1 : FVec Ideal S1024x1536 .bf16) (w2 : FVec Ideal S1024x2048 .bf16) (w3 : FVec Ideal S1024x1536 .bf16)
    (w4 w5 : FVec Ideal S1024x512 .bf16) (w6 : FVec Ideal S1024x4096 .bf16) (w7 : FVec Ideal S1024x128 .bf16)
    (x : FVec Ideal ⟨2, ![M, 1024]⟩ .f32) (a : Fin M) (b : Fin 1024) : EReal :=
  x (ix2 a b) + dot d1 w1 a b + dot d2 w2 a b + dot d3 w3 a b + dot d4 w4 a b + dot d5 w5 a b + dot d6 w6 a b + dot d7 w7 a b

theorem body_at (d1 : Vec Ideal S256x1536 .bf16) (d2 : Vec Ideal S256x2048 .bf16) (d3 : Vec Ideal S256x1536 .bf16)
    (d4 d5 : Vec Ideal S256x512 .bf16) (d6 : Vec Ideal S256x4096 .bf16) (d7 : Vec Ideal S256x128 .bf16) (x : Vec Ideal S256x1024 .f32)
    (w1 : Vec Ideal S1024x1536 .bf16) (w2 : Vec Ideal S1024x2048 .bf16) (w3 : Vec Ideal S1024x1536 .bf16)
    (w4 w5 : Vec Ideal S1024x512 .bf16) (w6 : Vec Ideal S1024x4096 .bf16) (w7 : Vec Ideal S1024x128 .bf16) (a : Fin 256) (b : Fin 1024) :
    body d1 d2 d3 d4 d5 d6 d7 x w1 w2 w3 w4 w5 w6 w7 (ix2 a b) = entry d1 d2 d3 d4 d5 d6 d7 w1 w2 w3 w4 w5 w6 w7 x a b := by
  pointwise [body, k0_pay1, k0_pay2, entry, dot]

theorem win_row : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] := by decide +kernel

variable (m : (ℓ : Loc nD τ sig) → Buf (Elt Ideal) ℓ) (c : Dev nD)

section Blocks

variable (t : Fin cfg0.N) (a : Fin 256) (i : Fin 8192) (hi : i.val = 256 * t.val + a)

include hi

theorem blk_0 (k : Fin 1536) : iblk m c (0 : Fin 9) t (ix2 a k) = m ((c : Thread nD τ).loc main_arg0) (ix2 i k) := by
  have e : (cfg0.win 0).index t = ![t.val, 0] := (win_row t).1
  blk_ext [iblk, e]
theorem blk_1 (k : Fin 2048) : iblk m c (1 : Fin 9) t (ix2 a k) = m ((c : Thread nD τ).loc main_arg1) (ix2 i k) := by
  have e : (cfg0.win 1).index t = ![t.val, 0] := (win_row t).2.1
  blk_ext [iblk, e]
theorem blk_2 (k : Fin 1536) : iblk m c (2 : Fin 9) t (ix2 a k) = m ((c : Thread nD τ).loc main_arg2) (ix2 i k) := by
  have e : (cfg0.win 2).index t = ![t.val, 0] := (win_row t).2.2.1
  blk_ext [iblk, e]
theorem blk_3 (k : Fin 512) : iblk m c (3 : Fin 9) t (ix2 a k) = m ((c : Thread nD τ).loc main_arg3) (ix2 i k) := by
  have e : (cfg0.win 3).index t = ![t.val, 0] := (win_row t).2.2.2.1
  blk_ext [iblk, e]
theorem blk_4 (k : Fin 512) : iblk m c (4 : Fin 9) t (ix2 a k) = m ((c : Thread nD τ).loc main_arg4) (ix2 i k) := by
  have e : (cfg0.win 4).index t = ![t.val, 0] := (win_row t).2.2.2.2.1
  blk_ext [iblk, e]
theorem blk_5 (k : Fin 4096) : iblk m c (5 : Fin 9) t (ix2 a k) = m ((c : Thread nD τ).loc main_arg5) (ix2 i k) := by
  have e : (cfg0.win 5).index t = ![t.val, 0] := (win_row t).2.2.2.2.2.1
  blk_ext [iblk, e]
theorem blk_6 (k : Fin 128) : iblk m c (6 : Fin 9) t (ix2 a k) = m ((c : Thread nD τ).loc main_arg6) (ix2 i k) := by
  have e : (cfg0.win 6).index t = ![t.val, 0] := (win_row t).2.2.2.2.2.2.1
  blk_ext [iblk, e]
theorem blk_7 (k : Fin 1024) : iblk m c (7 : Fin 9) t (ix2 a k) = m ((c : Thread nD τ).loc main_arg14) (ix2 i k) := by
  have e : (cfg0.win 7).index t = ![t.val, 0] := (win_row t).2.2.2.2.2.2.2.1
  blk_ext [iblk, e]

end Blocks

/-- The weights as the run was given them. -/
def weights : Vec Ideal S1024x1536 .bf16 × Vec Ideal S1024x2048 .bf16 × Vec Ideal S1024x1536 .bf16 × Vec Ideal S1024x512 .bf16
    × Vec Ideal S1024x512 .bf16 × Vec Ideal S1024x4096 .bf16 × Vec Ideal S1024x128 .bf16 :=
  (m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13))

/-- Every point leaves the weights in the copies. -/
theorem kept (n : ℕ) (h : n < cfg0.N) : (outsAt0 m c n h).2 = weights m c := by
  induction n with
  | zero => exact congrArg Prod.snd ((outsAt0_A m c ⟨0, h⟩ rfl).trans (first_point ..))
  | succ n ih =>
    have hn : n + 1 < 32 := h
    exact (congrArg Prod.snd ((outsAt0_B m c ⟨n + 1, h⟩ (by dsimp only; omega)).trans (later_point ..))).trans (ih (Nat.lt_of_succ_lt h))

/-- What a point leaves in its output block. -/
theorem out_at (t : Fin cfg0.N) : (outsAt0 m c t.val t.isLt).1
    = body (iblk m c (0 : Fin 9) t) (iblk m c (1 : Fin 9) t) (iblk m c (2 : Fin 9) t) (iblk m c (3 : Fin 9) t) (iblk m c (4 : Fin 9) t)
        (iblk m c (5 : Fin 9) t) (iblk m c (6 : Fin 9) t) (iblk m c (7 : Fin 9) t) (weights m c).1 (weights m c).2.1 (weights m c).2.2.1
        (weights m c).2.2.2.1 (weights m c).2.2.2.2.1 (weights m c).2.2.2.2.2.1 (weights m c).2.2.2.2.2.2 := by
  by_cases h : t.val % 32 = 0
  · exact congrArg Prod.fst ((outsAt0_A m c t h).trans (first_point ..))
  · have k := kept m c (t.val - 1) (Nat.lt_of_le_of_lt (Nat.sub_le _ _) t.isLt)
    refine (congrArg Prod.fst ((outsAt0_B m c t h).trans (later_point ..))).trans ?_
    dsimp only
    rw [k]

theorem after_at (t : Fin cfg0.N) (a : Fin 256) (i : Fin 8192) (hi : i.val = 256 * t.val + a) (b : Fin 1024) :
    (dats m 0 c).after (8 : Fin 9) t (ix2 a b) = entry
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) i b := by
  refine (congrFun ((after0_8 m c t).trans (out_at m c t)) _).trans ((body_at ..).trans ?_)
  unfold entry dot
  simp only [blk_0 m c t a i hi, blk_1 m c t a i hi, blk_2 m c t a i hi, blk_3 m c t a i hi, blk_4 m c t a i hi, blk_5 m c t a i hi, blk_6 m c t a i hi, blk_7 m c t a i hi]
  rfl

theorem arr : (dats m 0 c).arrAt (8 : Fin 9) cfg0.N = fun y : S8192x1024.Idx => entry
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) (y 0) (y 1) := by
  refine (dats m 0 c).arrAt_eq_of_covers (8 : Fin 9) _ (by decide +kernel) fun t hf y => ?_
  have i : (cfg0.win 8).index t = ![t.val, 0] := (win_row t).2.2.2.2.2.2.2.2
  have i' : win0_8.index t = ![t.val, 0] := i
  have ht : t.val < 32 := t.isLt
  blk_simp [i]
  refine (congrArg ((dats m 0 c).after (8 : Fin 9) t) (eq_ix2 y)).trans ((after_at m c t (y 0) _ ?_ (y 1)).trans
    (congrArg (entry
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) _) ?_))
  · simp [i', Nat.mul_comm]
  · exact Fin.ext (by simp [i'])

/-- A sum over all the columns, split where the parts end. -/
theorem split (f : Fin 10368 → EReal) (g1 : Fin 1536 → EReal) (g2 : Fin 2048 → EReal) (g3 : Fin 1536 → EReal) (g4 g5 : Fin 512 → EReal)
    (g6 : Fin 4096 → EReal) (g7 : Fin 128 → EReal)
    (h1 : ∀ (k : Fin 1536) (h : 0 + k.val < 10368), f ⟨0 + k.val, h⟩ = g1 k)
    (h2 : ∀ (k : Fin 2048) (h : 1536 + k.val < 10368), f ⟨1536 + k.val, h⟩ = g2 k)
    (h3 : ∀ (k : Fin 1536) (h : 3584 + k.val < 10368), f ⟨3584 + k.val, h⟩ = g3 k)
    (h4 : ∀ (k : Fin 512) (h : 5120 + k.val < 10368), f ⟨5120 + k.val, h⟩ = g4 k)
    (h5 : ∀ (k : Fin 512) (h : 5632 + k.val < 10368), f ⟨5632 + k.val, h⟩ = g5 k)
    (h6 : ∀ (k : Fin 4096) (h : 6144 + k.val < 10368), f ⟨6144 + k.val, h⟩ = g6 k)
    (h7 : ∀ (k : Fin 128) (h : 10240 + k.val < 10368), f ⟨10240 + k.val, h⟩ = g7 k) :
    ∑ k, f k = ∑ k, g1 k + ∑ k, g2 k + ∑ k, g3 k + ∑ k, g4 k + ∑ k, g5 k + ∑ k, g6 k + ∑ k, g7 k := by
  refine (Fin.sum_univ_add (a := 10240) (b := 128) f).trans (congrArg₂ (fun p q : EReal => p + q) ?_
    (Finset.sum_congr rfl fun k _ => h7 k _))
  refine (Fin.sum_univ_add (a := 6144) (b := 4096) _).trans (congrArg₂ (fun p q : EReal => p + q) ?_
    (Finset.sum_congr rfl fun k _ => h6 k (by omega)))
  refine (Fin.sum_univ_add (a := 5632) (b := 512) _).trans (congrArg₂ (fun p q : EReal => p + q) ?_
    (Finset.sum_congr rfl fun k _ => h5 k (by omega)))
  refine (Fin.sum_univ_add (a := 5120) (b := 512) _).trans (congrArg₂ (fun p q : EReal => p + q) ?_
    (Finset.sum_congr rfl fun k _ => h4 k (by omega)))
  refine (Fin.sum_univ_add (a := 3584) (b := 1536) _).trans (congrArg₂ (fun p q : EReal => p + q) ?_
    (Finset.sum_congr rfl fun k _ => h3 k (by omega)))
  refine (Fin.sum_univ_add (a := 1536) (b := 2048) _).trans (congrArg₂ (fun p q : EReal => p + q) ?_
    (Finset.sum_congr rfl fun k _ => h2 k (by omega)))
  exact Finset.sum_congr rfl fun k _ => (congrArg f (Fin.ext (Nat.zero_add k.val).symm)).trans (h1 k (by omega))

/-- A column of arrays set side by side is the column of the array it falls in. -/
theorem piece {M n : ℕ} (xs : List ((s : Shape) × (s.Idx → EReal))) (h : Shape.Concatenates (xs.map (·.1)) ⟨2, ![M, 10368]⟩ 1)
    (p : ℕ) (hp : p < xs.length) (x : (⟨2, ![M, n]⟩ : Shape).Idx → EReal) (hx : xs[p] = ⟨⟨2, ![M, n]⟩, x⟩) (pre : ℕ)
    (hpre : (((xs.take p).map (·.1)).map fun s => if h : s.rank = 2 then s.size ((1 : Fin 2).cast h.symm) else 0).sum = pre)
    (a : Fin M) (k : Fin n) (hk : pre + k.val < 10368) :
    concatenate ⟨2, ![M, 10368]⟩ 1 xs h (ix2 a (⟨pre + k.val, hk⟩ : Fin 10368)) = x (ix2 a k) := by
  refine concatenate_apply_piece 1 xs h _ p hp _ x hx rfl pre hpre (ix2 a k) (fun b hb => ?_) rfl
  match b with
  | 0 => rfl
  | 1 => exact absurd rfl hb

/-- The arrays of the reference set side by side: the columns' gradients. -/
def rows (d1 : FVec Ideal Cert.Reference3Ideal.S8192x1536 .bf16) (d2 : FVec Ideal Cert.Reference3Ideal.S8192x2048 .bf16) (d3 : FVec
    Ideal Cert.Reference3Ideal.S8192x1536 .bf16) (d4 : FVec Ideal Cert.Reference3Ideal.S8192x512 .bf16) (d5 : FVec Ideal
    Cert.Reference3Ideal.S8192x512 .bf16) (d6 : FVec Ideal Cert.Reference3Ideal.S8192x4096 .bf16) (d7 : FVec Ideal
    Cert.Reference3Ideal.S8192x128 .bf16) : FVec Ideal Cert.Reference3Ideal.S8192x10368 .bf16 :=
  concatenate Cert.Reference3Ideal.S8192x10368 1 [⟨Cert.Reference3Ideal.S8192x1536, d1⟩, ⟨Cert.Reference3Ideal.S8192x2048, d2⟩,
  ⟨Cert.Reference3Ideal.S8192x1536, d3⟩, ⟨Cert.Reference3Ideal.S8192x512, d4⟩, ⟨Cert.Reference3Ideal.S8192x512, d5⟩,
  ⟨Cert.Reference3Ideal.S8192x4096, d6⟩, ⟨Cert.Reference3Ideal.S8192x128, d7⟩]
    Cert.Reference3Ideal.Gen.concatenates_S8192x1536_S8192x2048_S8192x1536_S8192x512_S8192x512_S8192x4096_S8192x128_S8192x10368_d1

/-- The arrays of the reference set side by side: the weights. -/
def cols (w1 : FVec Ideal Cert.Reference3Ideal.S1024x1536 .bf16) (w2 : FVec Ideal Cert.Reference3Ideal.S1024x2048 .bf16) (w3 : FVec
    Ideal Cert.Reference3Ideal.S1024x1536 .bf16) (w4 : FVec Ideal Cert.Reference3Ideal.S1024x512 .bf16) (w5 : FVec Ideal
    Cert.Reference3Ideal.S1024x512 .bf16) (w6 : FVec Ideal Cert.Reference3Ideal.S1024x4096 .bf16) (w7 : FVec Ideal
    Cert.Reference3Ideal.S1024x128 .bf16) : FVec Ideal Cert.Reference3Ideal.S1024x10368 .bf16 :=
  concatenate Cert.Reference3Ideal.S1024x10368 1 [⟨Cert.Reference3Ideal.S1024x1536, w1⟩, ⟨Cert.Reference3Ideal.S1024x2048, w2⟩,
  ⟨Cert.Reference3Ideal.S1024x1536, w3⟩, ⟨Cert.Reference3Ideal.S1024x512, w4⟩, ⟨Cert.Reference3Ideal.S1024x512, w5⟩,
  ⟨Cert.Reference3Ideal.S1024x4096, w6⟩, ⟨Cert.Reference3Ideal.S1024x128, w7⟩]
    Cert.Reference3Ideal.Gen.concatenates_S1024x1536_S1024x2048_S1024x1536_S1024x512_S1024x512_S1024x4096_S1024x128_S1024x10368_d1

theorem ref (d1 : FVec Ideal Cert.Reference3Ideal.S8192x1536 .bf16) (d2 : FVec Ideal Cert.Reference3Ideal.S8192x2048 .bf16) (d3 : FVec
    Ideal Cert.Reference3Ideal.S8192x1536 .bf16) (d4 : FVec Ideal Cert.Reference3Ideal.S8192x512 .bf16) (d5 : FVec Ideal
    Cert.Reference3Ideal.S8192x512 .bf16) (d6 : FVec Ideal Cert.Reference3Ideal.S8192x4096 .bf16) (d7 : FVec Ideal
    Cert.Reference3Ideal.S8192x128 .bf16)
    (w1 : FVec Ideal Cert.Reference3Ideal.S1024x1536 .bf16) (w2 : FVec Ideal Cert.Reference3Ideal.S1024x2048 .bf16) (w3 : FVec
    Ideal Cert.Reference3Ideal.S1024x1536 .bf16) (w4 : FVec Ideal Cert.Reference3Ideal.S1024x512 .bf16) (w5 : FVec Ideal
    Cert.Reference3Ideal.S1024x512 .bf16) (w6 : FVec Ideal Cert.Reference3Ideal.S1024x4096 .bf16) (w7 : FVec Ideal
    Cert.Reference3Ideal.S1024x128 .bf16)
    (x : FVec Ideal Cert.Reference3Ideal.S8192x1024 .f32) :
    addf x (Host.dotGeneral (F := Ideal) Cert.Reference3Ideal.dot_S8192x10368_S1024x10368_S8192x1024_1_1_0_0_n_n none
      (extf .f32 (rows d1 d2 d3 d4 d5 d6 d7) Cert.Reference3Ideal.Gen.bitsLt_bf16_f32)
      (extf .f32 (cols w1 w2 w3 w4 w5 w6 w7) Cert.Reference3Ideal.Gen.bitsLt_bf16_f32))
      = fun y : S8192x1024.Idx => entry d1 d2 d3 d4 d5 d6 d7 w1 w2 w3 w4 w5 w6 w7 x (y 0) (y 1) := by
  funext y
  have s := split (fun k => rows d1 d2 d3 d4 d5 d6 d7 (ix2 (y 0) k) * cols w1 w2 w3 w4 w5 w6 w7 (ix2 (y 1) k))
    (fun k => d1 (ix2 (y 0) k) * w1 (ix2 (y 1) k)) (fun k => d2 (ix2 (y 0) k) * w2 (ix2 (y 1) k))
    (fun k => d3 (ix2 (y 0) k) * w3 (ix2 (y 1) k)) (fun k => d4 (ix2 (y 0) k) * w4 (ix2 (y 1) k))
    (fun k => d5 (ix2 (y 0) k) * w5 (ix2 (y 1) k)) (fun k => d6 (ix2 (y 0) k) * w6 (ix2 (y 1) k))
    (fun k => d7 (ix2 (y 0) k) * w7 (ix2 (y 1) k))
    (fun k h => congrArg₂ (fun p q : EReal => p * q) (piece _ _ 0 (by simp) d1 rfl 0 (by rfl) (y 0) k h)
      (piece _ _ 0 (by simp) w1 rfl 0 (by rfl) (y 1) k h))
    (fun k h => congrArg₂ (fun p q : EReal => p * q) (piece _ _ 1 (by simp) d2 rfl 1536 (by rfl) (y 0) k h)
      (piece _ _ 1 (by simp) w2 rfl 1536 (by rfl) (y 1) k h))
    (fun k h => congrArg₂ (fun p q : EReal => p * q) (piece _ _ 2 (by simp) d3 rfl 3584 (by rfl) (y 0) k h)
      (piece _ _ 2 (by simp) w3 rfl 3584 (by rfl) (y 1) k h))
    (fun k h => congrArg₂ (fun p q : EReal => p * q) (piece _ _ 3 (by simp) d4 rfl 5120 (by rfl) (y 0) k h)
      (piece _ _ 3 (by simp) w4 rfl 5120 (by rfl) (y 1) k h))
    (fun k h => congrArg₂ (fun p q : EReal => p * q) (piece _ _ 4 (by simp) d5 rfl 5632 (by rfl) (y 0) k h)
      (piece _ _ 4 (by simp) w5 rfl 5632 (by rfl) (y 1) k h))
    (fun k h => congrArg₂ (fun p q : EReal => p * q) (piece _ _ 5 (by simp) d6 rfl 6144 (by rfl) (y 0) k h)
      (piece _ _ 5 (by simp) w6 rfl 6144 (by rfl) (y 1) k h))
    (fun k h => congrArg₂ (fun p q : EReal => p * q) (piece _ _ 6 (by simp) d7 rfl 10240 (by rfl) (y 0) k h)
      (piece _ _ 6 (by simp) w7 rfl 10240 (by rfl) (y 1) k h))
  have r : (addf x (Host.dotGeneral (F := Ideal) Cert.Reference3Ideal.dot_S8192x10368_S1024x10368_S8192x1024_1_1_0_0_n_n none
      (extf .f32 (rows d1 d2 d3 d4 d5 d6 d7) Cert.Reference3Ideal.Gen.bitsLt_bf16_f32)
      (extf .f32 (cols w1 w2 w3 w4 w5 w6 w7) Cert.Reference3Ideal.Gen.bitsLt_bf16_f32))) (ix2 (y 0) (y 1))
      = x (ix2 (y 0) (y 1)) + ∑ k : Fin 10368, rows d1 d2 d3 d4 d5 d6 d7 (ix2 (y 0) k) * cols w1 w2 w3 w4 w5 w6 w7 (ix2 (y 1) k) := by
    pointwise []
  refine (congrArg _ (eq_ix2 y)).trans (r.trans ((congrArg (fun p : EReal => x (ix2 (y 0) (y 1)) + p) s).trans ?_))
  unfold entry dot
  simp only [← add_assoc]

end Cert.Kernel3Ideal.InputGrad

namespace Cert.InputGrad

theorem frame_kernel : Cert.quiescent_Kernel3 := fun m g _ => Cert.Kernel3.Gen.frame m g
theorem frame_ideal : Cert.quiescent_Kernel3Ideal := fun m g _ => Cert.Kernel3Ideal.Gen.frame m g
theorem frame_reference : Cert.quiescent_Reference3Ideal := fun m g _ =>
  (θ_run Cert.Reference3Ideal.defs _ _).mono
    (fun r h => ⟨fun c => (h c).2, sem_eq_zero_of_no_sems (by decide) r.2⟩) (Cert.Reference3Ideal.Value.run (F := Ideal) m g)
theorem preserves : Cert.preserves_Kernel3_Kernel3Ideal := trivial

theorem algebraic : Cert.algebraic_Kernel3Ideal_Reference3Ideal := by
  intro m g m' g' _ e
  refine ⟨fun c => (Cert.Kernel3Ideal.Gen.dats m 0 c).arrAt (8 : Fin 9) Cert.Kernel3Ideal.cfg0.N,
    (θ_run Cert.Kernel3Ideal.defs _ _).mono (fun r k c => ⟨(k.1 c).1 8, k.2 c⟩)
      (θ_run_and (Cert.Kernel3Ideal.Gen.run_main m g) (Cert.Kernel3Ideal.Gen.unchanged m g)),
    (θ_run Cert.Reference3Ideal.defs _ _).mono (fun r k c => ⟨?_, (k c).2⟩) (Cert.Reference3Ideal.Value.run (F := Ideal) m' g')⟩
  obtain ⟨e0, e1, e2, e3, e4, e5, e6, e7, e8, e9, e10, e11, e12, e13, e14⟩ := e c
  refine (k c).1.trans ((Cert.Kernel3Ideal.InputGrad.ref ..).trans (Eq.trans ?_ (Cert.Kernel3Ideal.InputGrad.arr m c).symm))
  rw [e0, e1, e2, e3, e4, e5, e6, e7, e8, e9, e10, e11, e12, e13, e14]

end Cert.InputGrad

end
-- ==== Proof.Proj.lean ====
/-
  The input projection: the product of the stream with the weights, by blocks of 512 rows and 3456 columns.
-/
module

public import proofs.«01_k».proof.Defs
public import proofs.«01_k».proof.Proof.Gen.Kernel4Ideal.Value
public import proofs.«01_k».proof.Proof.Gen.Kernel4.Frame
public import proofs.«01_k».proof.Proof.Gen.Reference4Ideal.Run
public import Idealize.ShloMosaic.Lib.Pointwise
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel4Ideal.Proj

open Cert.Kernel4Ideal Cert.Kernel4Ideal.Gen Cert.Kernel4Ideal.Value

theorem zero : (![0, 0] : Fin 2 → Nat) = fun _ => 0 := funext fun a => by fin_cases a <;> rfl

/-- A grid point leaves the product of its two blocks. -/
theorem out (c : Dev nD) (i : grid0.Coords) (a3 : Memref sig .tc .vmem S512x1024 .bf16) (h3 : a3.IsWhole)
    (a4 : Memref sig .tc .vmem S1024x3456 .bf16) (h4 : a4.IsWhole) (a5 : Memref sig .tc .vmem S512x3456 .f32) (h5 : a5.IsWhole)
    (a6 : Memref sig .tc .vmem S512x3456 .f32) (h6 : a6.IsWhole) (c0 : cond0_0 i) (c1 : ¬cond0_1 i) (c2 : cond0_2 i)
    (x : Vec Ideal S512x1024 .bf16) (w : Vec Ideal S1024x3456 .bf16) :
    out0_A_2 c i a3 h3 a4 h4 a5 h5 a6 h6 c0 c1 c2 x w = k0_pay1 x w := by
  unfold out0_A_2
  rw [View.read_writes_eq_canon _ _ _ (cover0_A_2 c i a3 h3 a4 h4 a5 h5 a6 h6 c0 c1 c2 x w)]
  unfold kernelRun0_A
  dsimp only
  sl_unfold_words
  rw [View.canon_unit_zero zero, View.readCov_unit_zero (S := S512x3456) _ zero]
  unfold k0_pay2
  simp only [View.readAt_eq_ld, h3.read_unread, h4.read_unread, View.ld_unit_zero (S := S512x1024) zero,
    View.ld_unit_zero (S := S1024x3456) zero, shapeCast_self]

theorem pay (x : Vec Ideal S512x1024 .bf16) (w : Vec Ideal S1024x3456 .bf16) (a : Fin 512) (b : Fin 3456) :
    k0_pay1 x w (ix2 a b) = ∑ k : Fin 1024, x (ix2 a k) * w (ix2 k b) := by
  pointwise [k0_pay1]

theorem win_0 : ∀ t : Fin cfg0.N, (cfg0.win 0).index t = ![t.val % 16, 0] := by decide +kernel
theorem win_1 : ∀ t : Fin cfg0.N, (cfg0.win 1).index t = ![0, t.val / 16] := by decide +kernel
theorem win_2 : ∀ t : Fin cfg0.N, (cfg0.win 2).index t = ![t.val % 16, t.val / 16] := by decide +kernel

/-- The product of two arrays. -/
def prod (x : Vec Ideal S8192x1024 .bf16) (w : Vec Ideal S1024x10368 .bf16) : Vec Ideal S8192x10368 .f32 := fun y =>
  ∑ k : Fin 1024, x (ix2 (y 0) k) * w (ix2 k (y 1))

variable (m : (ℓ : Loc nD τ sig) → Buf (Elt Ideal) ℓ) (c : Dev nD)

theorem blk_0 (t : Fin cfg0.N) (a : Fin 512) (k : Fin 1024) (i : Fin 8192) (hi : i.val = 512 * (t.val % 16) + a) :
    iblk m c (0 : Fin 3) t (ix2 a k) = m ((c : Thread nD τ).loc main_arg0) (ix2 i k) := by
  blk_ext [iblk, win_0 t]

theorem blk_1 (t : Fin cfg0.N) (k : Fin 1024) (b : Fin 3456) (j : Fin 10368) (hj : j.val = 3456 * (t.val / 16) + b) :
    iblk m c (1 : Fin 3) t (ix2 k b) = m ((c : Thread nD τ).loc main_arg1) (ix2 k j) := by
  blk_ext [iblk, win_1 t]

theorem arr : (dats m 0 c).arrAt (2 : Fin 3) cfg0.N
    = prod (m ((c : Thread nD τ).loc main_arg0)) (m ((c : Thread nD τ).loc main_arg1)) := by
  refine (dats m 0 c).arrAt_eq_of_covers (2 : Fin 3) _ (by decide +kernel) fun t hf y => ?_
  have e : (dats m 0 c).after (2 : Fin 3) t = k0_pay1 (iblk m c 0 t) (iblk m c 1 t) :=
    (after0_2 m c t).trans (by simp only [outsAt0, out])
  have i : win0_2.index t = ![t.val % 16, t.val / 16] := win_2 t
  unfold prod
  blk_simp [win_2 t]
  refine (congrFun e y).trans ((congrArg (k0_pay1 _ _) (eq_ix2 y)).trans ((pay _ _ (y 0) (y 1)).trans
    (Finset.sum_congr rfl fun k _ => congrArg₂ (· * ·) (blk_0 m c t (y 0) k _ ?_) (blk_1 m c t k (y 1) _ ?_))))
  all_goals simp [i, Nat.mul_comm]

theorem ref (x : Vec Ideal Cert.Reference4Ideal.S8192x1024 .bf16) (w : Vec Ideal Cert.Reference4Ideal.S1024x10368 .bf16) :
    Host.dotGeneral (F := Ideal) Cert.Reference4Ideal.dot_S8192x1024_S1024x10368_S8192x10368_1_0_0_1_n_n none
      (extf .f32 x Cert.Reference4Ideal.Gen.bitsLt_bf16_f32) (extf .f32 w Cert.Reference4Ideal.Gen.bitsLt_bf16_f32) = prod x w := by
  funext y
  rw [eq_ix2 y]
  pointwise [prod]

end Cert.Kernel4Ideal.Proj

namespace Cert.Proj

theorem frame_kernel : Cert.quiescent_Kernel4 := fun m g _ => Cert.Kernel4.Gen.frame m g
theorem frame_ideal : Cert.quiescent_Kernel4Ideal := fun m g _ => Cert.Kernel4Ideal.Gen.frame m g
theorem frame_reference : Cert.quiescent_Reference4Ideal := fun m g _ =>
  (θ_run Cert.Reference4Ideal.defs _ _).mono
    (fun r h => ⟨fun c => (h c).2, sem_eq_zero_of_no_sems (by decide) r.2⟩) (Cert.Reference4Ideal.Value.run (F := Ideal) m g)
theorem preserves : Cert.preserves_Kernel4_Kernel4Ideal := trivial

theorem algebraic : Cert.algebraic_Kernel4Ideal_Reference4Ideal := by
  intro m g m' g' _ e
  refine ⟨fun c => Cert.Kernel4Ideal.Proj.prod (m ((c.tc : Thread _ _).loc Cert.Kernel4Ideal.main_arg0))
      (m ((c.tc : Thread _ _).loc Cert.Kernel4Ideal.main_arg1)),
    (θ_run Cert.Kernel4Ideal.defs _ _).mono
      (fun r k c => ⟨(k c).1.trans (Cert.Kernel4Ideal.Proj.arr m c), (k c).2⟩) (Cert.Kernel4Ideal.Value.run_blocks m g),
    (θ_run Cert.Reference4Ideal.defs _ _).mono (fun r k c => ⟨?_, (k c).2⟩) (Cert.Reference4Ideal.Value.run (F := Ideal) m' g')⟩
  have f := Cert.Kernel4Ideal.Proj.ref (m' ((c.tc : Thread _ _).loc Cert.Reference4Ideal.main_arg0))
    (m' ((c.tc : Thread _ _).loc Cert.Reference4Ideal.main_arg1))
  exact (k c).1.trans (f.trans (congrArg₂ Cert.Kernel4Ideal.Proj.prod (e c).1 (e c).2))

end Cert.Proj

end
-- ==== Proof.MergeRow.lean ====
/-
  The merge of the four branches, one row at a time: the row both programs compute, entry by entry.
-/
module

public import proofs.«01_k».proof.Proof.Gen.Kernel5Ideal.Skeleton
public import proofs.«01_k».proof.Proof.Gen.Reference5Ideal.Run
public import Idealize.ShloMosaic.Lib.Pointwise
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel5Ideal.Merge

open Cert.Kernel5Ideal Cert.Kernel5Ideal.Gen

section Row

/-- A branch at a column: the product of the branch's row with its rows of the weights, gated. -/
def branch {n : ℕ} (gate : Fin 1024 → EReal) (z : Fin n → EReal) (w : FVec Ideal S1792x1024 .bf16) (o : ℕ) (h : o + n ≤ 1792)
    (k : Fin 1024) : EReal :=
  Ideal.logistic (gate k) * ∑ j : Fin n, z j * w (ix2 (⟨o + j.val, by omega⟩ : Fin 1792) k)

variable (za zb zc : Fin 512 → EReal) (zm : Fin 256 → EReal) (ga gb gc gm : Fin 1024 → EReal)
  (w : FVec Ideal S1792x1024 .bf16) (o : FVec Ideal S1024x1024 .bf16) (x : Fin 1024 → EReal)

/-- The four branches summed. -/
def merged (k : Fin 1024) : EReal :=
  branch ga za w 0 (by omega) k + branch gb zb w 512 (by omega) k + branch gc zc w 1024 (by omega) k + branch gm zm w 1536 (by omega) k

/-- The layer's input, scaled, with the projection of the merged row added. -/
def added (k : Fin 1024) : EReal :=
  Ideal.ofBits .f32 0x3FD744FD#32 * x k + ∑ j : Fin 1024, merged za zb zc zm ga gb gc gm w j * o (ix2 j k)

/-- The mean of a row. -/
def mean (u : Fin 1024 → EReal) : EReal := Ideal.div (∑ j, u j) (Ideal.ofBits .f32 0x44800000#32)

/-- A row normalised, then scaled and shifted. -/
def norm (u : Fin 1024 → EReal) (g b : FVec Ideal S1x1024 .f32) (k : Fin 1024) : EReal :=
  (u k - mean u) * Ideal.rsqrt (mean (fun j => (u j - mean u) * (u j - mean u)) + Ideal.ofBits .f32 0x3727C5AC#32) * g (ix2 0 k)
    + b (ix2 0 k)

end Row

/-- An entry of the whole result, for any number of rows: the arrays' rows, and the gates' rows already cut out. -/
def entry {M : ℕ} (za zb zc : FVec Ideal ⟨2, ![M, 512]⟩ .bf16) (zm : FVec Ideal ⟨2, ![M, 256]⟩ .bf16)
    (ga gb gc gm : Fin M → Fin 1024 → EReal) (w : FVec Ideal S1792x1024 .bf16) (o : FVec Ideal S1024x1024 .bf16)
    (x : FVec Ideal ⟨2, ![M, 1024]⟩ .f32) (g b : FVec Ideal S1x1024 .f32) (a : Fin M) (k : Fin 1024) : EReal :=
  norm (added (fun j => za (ix2 a j)) (fun j => zb (ix2 a j)) (fun j => zc (ix2 a j)) (fun j => zm (ix2 a j)) (ga a) (gb a) (gc a) (gm a)
    w o fun j => x (ix2 a j)) g b k

section Kernel

/-- The rows of the weights from row `o` on, as the kernel loads them. -/
def rows0 (w : Vec Ideal S1792x1024 .bf16) : Vec Ideal S512x1024 .bf16 := View.ld w (Rect.unit ![0, 0] S512x1024.size inb_S1792x1024_S512x1024_0_0)
def rows512 (w : Vec Ideal S1792x1024 .bf16) : Vec Ideal S512x1024 .bf16 := View.ld w (Rect.unit ![512, 0] S512x1024.size inb_S1792x1024_S512x1024_512_0)
def rows1024 (w : Vec Ideal S1792x1024 .bf16) : Vec Ideal S512x1024 .bf16 := View.ld w (Rect.unit ![1024, 0] S512x1024.size inb_S1792x1024_S512x1024_1024_0)
def rows1536 (w : Vec Ideal S1792x1024 .bf16) : Vec Ideal S256x1024 .bf16 := View.ld w (Rect.unit ![1536, 0] S256x1024.size inb_S1792x1024_S256x1024_1536_0)

/-- A load of some rows reads those rows. -/
theorem ld_rows {n : ℕ} (w : Vec Ideal S1792x1024 .bf16) (o : ℕ) (inb : ∀ a, (![o, 0] : Fin 2 → ℕ) a + (![n, 1024] : Fin 2 → ℕ) a ≤ S1792x1024.size a)
    (h : o + n ≤ 1792) (j : Fin n) (k : Fin 1024) :
    View.ld w (Rect.unit (s := S1792x1024) ![o, 0] ![n, 1024] inb) (ix2 j k) = w (ix2 (⟨o + j.val, by omega⟩ : Fin 1792) k) :=
  View.ld_unit_apply_of w _ _ inb _ _ fun a => by
    match a with
    | 0 => rfl
    | 1 => exact (Nat.zero_add k.val).symm

/-- What a point computes from its blocks and the weights. -/
def body (za zb zc : Vec Ideal S256x512 .bf16) (zm : Vec Ideal S256x256 .bf16) (ga gb gc gm x : Vec Ideal S256x1024 .f32)
    (g b : Vec Ideal S1x1024 .f32) (w : Vec Ideal S1792x1024 .bf16) (o : Vec Ideal S1024x1024 .bf16) : Vec Ideal S256x1024 .f32 :=
  k0_pay4 (k0_pay1 za (rows0 w) ga zb (rows512 w) gb zc (rows1024 w) gc) (k0_pay2 zm (rows1536 w)) (k0_pay3 gm) x o g b

theorem body_at (za zb zc : Vec Ideal S256x512 .bf16) (zm : Vec Ideal S256x256 .bf16) (ga gb gc gm x : Vec Ideal S256x1024 .f32)
    (g b : Vec Ideal S1x1024 .f32) (w : Vec Ideal S1792x1024 .bf16) (o : Vec Ideal S1024x1024 .bf16) (a : Fin 256) (k : Fin 1024) :
    body za zb zc zm ga gb gc gm x g b w o (ix2 a k) = entry za zb zc zm (fun a j => ga (ix2 a j)) (fun a j => gb (ix2 a j))
      (fun a j => gc (ix2 a j)) (fun a j => gm (ix2 a j)) w o x g b a k := by
  have r0 : ∀ (j : Fin 512) (k : Fin 1024), rows0 w (ix2 j k) = w (ix2 (⟨0 + j.val, by omega⟩ : Fin 1792) k) := ld_rows w 0 _ (by omega)
  have r1 : ∀ (j : Fin 512) (k : Fin 1024), rows512 w (ix2 j k) = w (ix2 (⟨512 + j.val, by omega⟩ : Fin 1792) k) := ld_rows w 512 _ (by omega)
  have r2 : ∀ (j : Fin 512) (k : Fin 1024), rows1024 w (ix2 j k) = w (ix2 (⟨1024 + j.val, by omega⟩ : Fin 1792) k) := ld_rows w 1024 _ (by omega)
  have r3 : ∀ (j : Fin 256) (k : Fin 1024), rows1536 w (ix2 j k) = w (ix2 (⟨1536 + j.val, by omega⟩ : Fin 1792) k) := ld_rows w 1536 _ (by omega)
  have e : ∀ j : Fin 1024, addf (k0_pay1 za (rows0 w) ga zb (rows512 w) gb zc (rows1024 w) gc) (mulf (k0_pay3 gm) (k0_pay2 zm (rows1536 w))) (ix2 a j)
      = merged (fun j => za (ix2 a j)) (fun j => zb (ix2 a j)) (fun j => zc (ix2 a j)) (fun j => zm (ix2 a j)) (fun j => ga (ix2 a j))
        (fun j => gb (ix2 a j)) (fun j => gc (ix2 a j)) (fun j => gm (ix2 a j)) w j := by
    intro j
    unfold merged branch
    simp only [← r0, ← r1, ← r2, ← r3]
    pointwise [k0_pay1, k0_pay2, k0_pay3]
  unfold entry norm mean added
  simp only [← e]
  pointwise [body, k0_pay4]

end Kernel

end Cert.Kernel5Ideal.Merge

end
-- ==== Proof.MergePoints.lean ====
/-
  The merge of the four branches, one grid point at a time: what a point leaves in its three output blocks and in the
  copies of the weights kept between points.
-/
module

public import proofs.«01_k».proof.Proof.MergeRow
public import proofs.«01_k».proof.Proof.Gen.Kernel5Ideal.Frame

@[expose] public section

set_option maxRecDepth 16384

noncomputable section

open Idealize.ShloMosaic Idealize.ShloMosaic.TcCoe Idealize.SL.Sem

namespace Cert.Kernel5Ideal.Merge

open Cert.Kernel5Ideal Cert.Kernel5Ideal.Gen

theorem zero : (![0, 0] : Fin 2 → Nat) = fun _ => 0 := funext fun a => by fin_cases a <;> rfl

section Whole

variable {S : Shape} {e : EltTy}

/-- A buffer filled by one copy of its own shape holds the copy. -/
theorem canon_whole (w : S.Idx → Elt Ideal e) : View.canon [(⟨Rect.whole S, w⟩ : View.Piece (Elt Ideal) S e)] = w :=
  View.canon_unit_zero rfl _ w

/-- A load after one copy of the whole shape reads the copy. -/
theorem readCov_copy {sp : Space} (v : View sig .tc sp S e) (r : Rect S) (w : S.Idx → Elt Ideal e) :
    v.readCov [(⟨Rect.whole S, w⟩ : View.Piece (Elt Ideal) S e)] r.toLoadRect = View.ld w r := by
  refine (View.readCov_eq_canon' v _ _).trans ?_
  rw [canon_whole]

end Whole

/-- A block cast. -/
def narrowed (y : FVec Ideal S256x1024 .f32) : FVec Ideal S256x1024 .bf16 := truncf .bf16 y bitsLt_bf16_f32

/-- A block with its axes exchanged, cast. -/
def turned (y : FVec Ideal S256x1024 .f32) : FVec Ideal S1024x256 .bf16 :=
  truncf .bf16 (transpose S1024x256 [1, 0] y transposes_S256x1024_p1_0_S1024x256) bitsLt_bf16_f32

section Points

variable (c : Dev nD) (i : grid0.Coords)
  (b1 : Memref sig .tc .vmem S256x512 .bf16) (g1 : b1.IsWhole) (b2 : Memref sig .tc .vmem S256x512 .bf16) (g2 : b2.IsWhole)
  (b3 : Memref sig .tc .vmem S256x512 .bf16) (g3 : b3.IsWhole) (b4 : Memref sig .tc .vmem S256x256 .bf16) (g4 : b4.IsWhole)
  (b5 : Memref sig .tc .vmem S256x1024 .f32) (g5 : b5.IsWhole) (b6 : Memref sig .tc .vmem S256x1024 .f32) (g6 : b6.IsWhole)
  (b7 : Memref sig .tc .vmem S256x1024 .f32) (g7 : b7.IsWhole) (b8 : Memref sig .tc .vmem S256x1024 .f32) (g8 : b8.IsWhole)
  (b9 : Memref sig .tc .vmem S256x1024 .f32) (g9 : b9.IsWhole) (b10 : Memref sig .tc .vmem S1x1024 .f32) (g10 : b10.IsWhole)
  (b11 : Memref sig .tc .vmem S1x1024 .f32) (g11 : b11.IsWhole) (b12 : Memref sig .tc .vmem S256x1024 .f32) (g12 : b12.IsWhole)
  (b13 : Memref sig .tc .vmem S256x1024 .bf16) (g13 : b13.IsWhole) (b14 : Memref sig .tc .vmem S1024x256 .bf16) (g14 : b14.IsWhole)
  (e1 : Memref sig .tc .vmem S1792x1024 .bf16) (l1 : e1.IsWhole) (e2 : Memref sig .tc .vmem S1024x1024 .bf16) (l2 : e2.IsWhole)
  (za zb zc : Vec Ideal S256x512 .bf16) (zm : Vec Ideal S256x256 .bf16) (ga gb gc gm x : Vec Ideal S256x1024 .f32) (u v : Vec Ideal S1x1024 .f32)
  (w : Vec Ideal S1792x1024 .bf16) (o : Vec Ideal S1024x1024 .bf16)
  (f1 : HbBuf0 (F := Ideal) c hbM0_0) (f2 : HbBuf0 (F := Ideal) c hbM0_1)

/-! The first point uses the weights it has just copied. -/

theorem first_11 (h : cond0_0 i) :
    out0_A_11 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2
      = body za zb zc zm ga gb gc gm x u v f1 f2 := by
  unfold out0_A_11
  rw [View.read_writes_eq_canon _ _ _ (cover0_A_11 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2)]
  unfold kernelRun0_A
  dsimp only
  sl_unfold_words
  rw [View.canon_unit_zero zero]
  simp only [View.readAt_eq_ld, g1.read_unread, g2.read_unread, g3.read_unread, g4.read_unread, g5.read_unread, g6.read_unread, g7.read_unread, g8.read_unread, g9.read_unread, g10.read_unread, g11.read_unread,
    View.ld_unit_zero (S := S256x512) zero, View.ld_unit_zero (S := S256x256) zero, View.ld_unit_zero (S := S256x1024) zero, View.ld_unit_zero (S := S1x1024) zero,
    readCov_copy, View.ld_unit_zero (S := S1024x1024) zero]
  rfl

theorem first_12 (h : cond0_0 i) :
    out0_A_12 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2
      = narrowed (body za zb zc zm ga gb gc gm x u v f1 f2) := by
  unfold out0_A_12
  rw [View.read_writes_eq_canon _ _ _ (cover0_A_12 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2)]
  unfold kernelRun0_A
  dsimp only
  sl_unfold_words
  rw [View.canon_unit_zero zero]
  simp only [View.readAt_eq_ld, g1.read_unread, g2.read_unread, g3.read_unread, g4.read_unread, g5.read_unread, g6.read_unread, g7.read_unread, g8.read_unread, g9.read_unread, g10.read_unread, g11.read_unread,
    View.ld_unit_zero (S := S256x512) zero, View.ld_unit_zero (S := S256x256) zero, View.ld_unit_zero (S := S256x1024) zero, View.ld_unit_zero (S := S1x1024) zero,
    readCov_copy, View.ld_unit_zero (S := S1024x1024) zero]
  rfl

theorem first_13 (h : cond0_0 i) :
    out0_A_13 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2
      = turned (body za zb zc zm ga gb gc gm x u v f1 f2) := by
  unfold out0_A_13
  rw [View.read_writes_eq_canon _ _ _ (cover0_A_13 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2)]
  unfold kernelRun0_A
  dsimp only
  sl_unfold_words
  rw [View.canon_unit_zero zero]
  simp only [View.readAt_eq_ld, g1.read_unread, g2.read_unread, g3.read_unread, g4.read_unread, g5.read_unread, g6.read_unread, g7.read_unread, g8.read_unread, g9.read_unread, g10.read_unread, g11.read_unread,
    View.ld_unit_zero (S := S256x512) zero, View.ld_unit_zero (S := S256x256) zero, View.ld_unit_zero (S := S256x1024) zero, View.ld_unit_zero (S := S1x1024) zero,
    readCov_copy, View.ld_unit_zero (S := S1024x1024) zero]
  rfl

/-! A later point uses the copies the first point left. -/

theorem later_11 (h : ¬cond0_0 i) :
    out0_B_11 c i b1 g1 b2 g2 b3 g3 b4 g4 b5 g5 b6 g6 b7 g7 b8 g8 b9 g9 b10 g10 b11 g11 b12 g12 b13 g13 b14 g14 e1 l1 e2 l2 h
      za zb zc zm ga gb gc gm x u v w o f1 f2
      = body za zb zc zm ga gb gc gm x u v w o := by
  unfold out0_B_11
  rw [View.read_writes_eq_canon _ _ _ (cover0_B_11 c i b1 g1 b2 g2 b3 g3 b4 g4 b5 g5 b6 g6 b7 g7 b8 g8 b9 g9 b10 g10 b11 g11 b12 g12 b13 g13 b14 g14 e1 l1 e2 l2 h
      za zb zc zm ga gb gc gm x u v w o f1 f2)]
  unfold kernelRun0_B
  dsimp only
  sl_unfold_words
  rw [View.canon_unit_zero zero]
  simp only [View.readAt_eq_ld, g1.read_unread, g2.read_unread, g3.read_unread, g4.read_unread, g5.read_unread, g6.read_unread, g7.read_unread, g8.read_unread, g9.read_unread, g10.read_unread, g11.read_unread,
    View.ld_unit_zero (S := S256x512) zero, View.ld_unit_zero (S := S256x256) zero, View.ld_unit_zero (S := S256x1024) zero, View.ld_unit_zero (S := S1x1024) zero,
    l1.read_unread, l2.read_unread, View.ld_unit_zero (S := S1024x1024) zero]
  rfl

theorem later_12 (h : ¬cond0_0 i) :
    out0_B_12 c i b1 g1 b2 g2 b3 g3 b4 g4 b5 g5 b6 g6 b7 g7 b8 g8 b9 g9 b10 g10 b11 g11 b12 g12 b13 g13 b14 g14 e1 l1 e2 l2 h
      za zb zc zm ga gb gc gm x u v w o f1 f2
      = narrowed (body za zb zc zm ga gb gc gm x u v w o) := by
  unfold out0_B_12
  rw [View.read_writes_eq_canon _ _ _ (cover0_B_12 c i b1 g1 b2 g2 b3 g3 b4 g4 b5 g5 b6 g6 b7 g7 b8 g8 b9 g9 b10 g10 b11 g11 b12 g12 b13 g13 b14 g14 e1 l1 e2 l2 h
      za zb zc zm ga gb gc gm x u v w o f1 f2)]
  unfold kernelRun0_B
  dsimp only
  sl_unfold_words
  rw [View.canon_unit_zero zero]
  simp only [View.readAt_eq_ld, g1.read_unread, g2.read_unread, g3.read_unread, g4.read_unread, g5.read_unread, g6.read_unread, g7.read_unread, g8.read_unread, g9.read_unread, g10.read_unread, g11.read_unread,
    View.ld_unit_zero (S := S256x512) zero, View.ld_unit_zero (S := S256x256) zero, View.ld_unit_zero (S := S256x1024) zero, View.ld_unit_zero (S := S1x1024) zero,
    l1.read_unread, l2.read_unread, View.ld_unit_zero (S := S1024x1024) zero]
  rfl

theorem later_13 (h : ¬cond0_0 i) :
    out0_B_13 c i b1 g1 b2 g2 b3 g3 b4 g4 b5 g5 b6 g6 b7 g7 b8 g8 b9 g9 b10 g10 b11 g11 b12 g12 b13 g13 b14 g14 e1 l1 e2 l2 h
      za zb zc zm ga gb gc gm x u v w o f1 f2
      = turned (body za zb zc zm ga gb gc gm x u v w o) := by
  unfold out0_B_13
  rw [View.read_writes_eq_canon _ _ _ (cover0_B_13 c i b1 g1 b2 g2 b3 g3 b4 g4 b5 g5 b6 g6 b7 g7 b8 g8 b9 g9 b10 g10 b11 g11 b12 g12 b13 g13 b14 g14 e1 l1 e2 l2 h
      za zb zc zm ga gb gc gm x u v w o f1 f2)]
  unfold kernelRun0_B
  dsimp only
  sl_unfold_words
  rw [View.canon_unit_zero zero]
  simp only [View.readAt_eq_ld, g1.read_unread, g2.read_unread, g3.read_unread, g4.read_unread, g5.read_unread, g6.read_unread, g7.read_unread, g8.read_unread, g9.read_unread, g10.read_unread, g11.read_unread,
    View.ld_unit_zero (S := S256x512) zero, View.ld_unit_zero (S := S256x256) zero, View.ld_unit_zero (S := S256x1024) zero, View.ld_unit_zero (S := S1x1024) zero,
    l1.read_unread, l2.read_unread, View.ld_unit_zero (S := S1024x1024) zero]
  rfl

/-- The first point leaves the weights in the copies. -/
theorem copies (h : cond0_0 i) :
    (sout0_A_0 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2, sout0_A_1 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2)
      = (f1, f2) := by
  simp only [sout0_A_0, sout0_A_1]
  refine congrArg₂ Prod.mk ?_ ?_
  · exact (View.read_writes_eq_canon _ _ _ (scover0_A_0 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2)).trans (canon_whole _)
  · exact (View.read_writes_eq_canon _ _ _ (scover0_A_1 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2)).trans (canon_whole _)

/-- All the first point leaves. -/
theorem first_point (h : cond0_0 i) :
    (out0_A_11 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2, out0_A_12 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2, out0_A_13 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2,
      sout0_A_0 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2, sout0_A_1 c i b1 g1 b2 g2 b3 g3 b4 g4 b5 g5 b6 g6 b7 g7 b8 g8 b9 g9 b10 g10 b11 g11 b12 g12 b13 g13 b14 g14 e1 l1 e2 l2 h
      za zb zc zm ga gb gc gm x u v f1 f2)
      = (body za zb zc zm ga gb gc gm x u v f1 f2, narrowed (body za zb zc zm ga gb gc gm x u v f1 f2), turned (body za zb zc zm ga gb gc gm x u v f1 f2), f1, f2) :=
  congrArg₂ Prod.mk (first_11 (h := h) ..) (congrArg₂ Prod.mk (first_12 (h := h) ..) (congrArg₂ Prod.mk (first_13 (h := h) ..) (copies (h := h) ..)))

/-- All a later point leaves. -/
theorem later_point (h : ¬cond0_0 i) :
    (out0_B_11 c i b1 g1 b2 g2 b3 g3 b4 g4 b5 g5 b6 g6 b7 g7 b8 g8 b9 g9 b10 g10 b11 g11 b12 g12 b13 g13 b14 g14 e1 l1 e2 l2 h
      za zb zc zm ga gb gc gm x u v w o f1 f2, out0_B_12 c i b1 g1 b2 g2 b3 g3 b4 g4 b5 g5 b6 g6 b7 g7 b8 g8 b9 g9 b10 g10 b11 g11 b12 g12 b13 g13 b14 g14 e1 l1 e2 l2 h
      za zb zc zm ga gb gc gm x u v w o f1 f2, out0_B_13 c i b1 g1 b2 g2 b3 g3 b4 g4 b5 g5 b6 g6 b7 g7 b8 g8 b9 g9 b10 g10 b11 g11 b12 g12 b13 g13 b14 g14 e1 l1 e2 l2 h
      za zb zc zm ga gb gc gm x u v w o f1 f2,
      sout0_B_0 c i b1 g1 b2 g2 b3 g3 b4 g4 b5 g5 b6 g6 b7 g7 b8 g8 b9 g9 b10 g10 b11 g11 b12 g12 b13 g13 b14 g14 e1 l1 e2 l2 h
      za zb zc zm ga gb gc gm x u v w o f1 f2, sout0_B_1 c i b1 g1 b2 g2 b3 g3 b4 g4 b5 g5 b6 g6 b7 g7 b8 g8 b9 g9 b10 g10 b11 g11 b12 g12 b13 g13 b14 g14 e1 l1 e2 l2 h
      za zb zc zm ga gb gc gm x u v w o f1 f2)
      = (body za zb zc zm ga gb gc gm x u v w o, narrowed (body za zb zc zm ga gb gc gm x u v w o), turned (body za zb zc zm ga gb gc gm x u v w o), w, o) :=
  congrArg₂ Prod.mk (later_11 (h := h) ..) (congrArg₂ Prod.mk (later_12 (h := h) ..) (congrArg₂ Prod.mk (later_13 (h := h) ..) rfl))

end Points

end Cert.Kernel5Ideal.Merge

end
-- ==== Proof.MergeReference.lean ====
/-
  The merge of the four branches: the reference's arrays, entry by entry.
-/
module

public import proofs.«01_k».proof.Proof.MergeRow

@[expose] public section

set_option maxRecDepth 16384

noncomputable section

open Idealize.ShloMosaic Idealize.ShloMosaic.TcCoe Idealize.SL.Sem

namespace Cert.Reference5Ideal.Merge

open Cert.Reference5Ideal Cert.Reference5Ideal.Gen

/-- The columns from `o` on. -/
def cols (o : ℕ) (h : o + 1024 ≤ 10368) (p : FVec Ideal S8192x10368 .f32) (a : Fin 8192) (k : Fin 1024) : EReal :=
  p (ix2 a (⟨o + k.val, by omega⟩ : Fin 10368))

/-- A gate: the logistic function of some of the projection's columns. -/
def gate (s : FVec Ideal S8192x1024 .f32) : FVec Ideal S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf s)))

/-- A branch of 512 columns times its rows of the weights. -/
def product (z : FVec Ideal S8192x512 .bf16) (w : FVec Ideal S512x1024 .f32) : FVec Ideal S8192x1024 .f32 :=
  Host.dotGeneral dot_S8192x512_S512x1024_S8192x1024_1_0_0_1_n_n none (extf .f32 z bitsLt_bf16_f32) w

theorem gated_at (z : FVec Ideal S8192x512 .bf16) (p : FVec Ideal S8192x10368 .f32) (w : FVec Ideal S1792x1024 .bf16) (c o : ℕ)
    (hc : S8192x10368.Slices ![0, c] S8192x1024) (ho : S1792x1024.Slices ![o, 0] S512x1024) (lc : c + 1024 ≤ 10368) (lo : o + 512 ≤ 1792)
    (a : Fin 8192) (k : Fin 1024) :
    mulf (gate (extractStridedSlice S8192x1024 ![0, c] p hc))
      (product z (extractStridedSlice S512x1024 ![o, 0] (extf .f32 w bitsLt_bf16_f32) ho)) (ix2 a k)
      = Cert.Kernel5Ideal.Merge.branch (cols c lc p a) (fun j => z (ix2 a j)) w o lo k := by
  pointwise [gate, product, Cert.Kernel5Ideal.Merge.branch, cols, Ideal.logistic]

theorem gated_last (z : FVec Ideal S8192x256 .bf16) (p : FVec Ideal S8192x10368 .f32) (w : FVec Ideal S1792x1024 .bf16)
    (a : Fin 8192) (k : Fin 1024) :
    mulf (gate (extractStridedSlice S8192x1024 ![0, 9216] p slices_S8192x10368_S8192x1024_0_9216))
      (Host.dotGeneral dot_S8192x256_S256x1024_S8192x1024_1_0_0_1_n_n none (extf .f32 z bitsLt_bf16_f32)
        (extractStridedSlice S256x1024 ![1536, 0] (extf .f32 w bitsLt_bf16_f32) slices_S1792x1024_S256x1024_1536_0)) (ix2 a k)
      = Cert.Kernel5Ideal.Merge.branch (cols 9216 (by omega) p a) (fun j => z (ix2 a j)) w 1536 (by omega) k := by
  pointwise [gate, Cert.Kernel5Ideal.Merge.branch, cols, Ideal.logistic]

variable (za zb zc : FVec Ideal S8192x512 .bf16) (zm : FVec Ideal S8192x256 .bf16) (pa pb pc pm : FVec Ideal S8192x10368 .f32)
  (w : FVec Ideal S1792x1024 .bf16) (o : FVec Ideal S1024x1024 .bf16) (x : FVec Ideal S8192x1024 .f32) (g b : FVec Ideal S1x1024 .f32)

/-- The four gated branches summed. -/
def merged : FVec Ideal S8192x1024 .f32 :=
  addf (addf (addf
    (mulf (gate (extractStridedSlice S8192x1024 ![0, 6144] pa slices_S8192x10368_S8192x1024_0_6144))
      (product za (extractStridedSlice S512x1024 ![0, 0] (extf .f32 w bitsLt_bf16_f32) slices_S1792x1024_S512x1024_0_0)))
    (mulf (gate (extractStridedSlice S8192x1024 ![0, 7168] pb slices_S8192x10368_S8192x1024_0_7168))
      (product zb (extractStridedSlice S512x1024 ![512, 0] (extf .f32 w bitsLt_bf16_f32) slices_S1792x1024_S512x1024_512_0))))
    (mulf (gate (extractStridedSlice S8192x1024 ![0, 8192] pc slices_S8192x10368_S8192x1024_0_8192))
      (product zc (extractStridedSlice S512x1024 ![1024, 0] (extf .f32 w bitsLt_bf16_f32) slices_S1792x1024_S512x1024_1024_0))))
    (mulf (gate (extractStridedSlice S8192x1024 ![0, 9216] pm slices_S8192x10368_S8192x1024_0_9216))
      (Host.dotGeneral dot_S8192x256_S256x1024_S8192x1024_1_0_0_1_n_n none (extf .f32 zm bitsLt_bf16_f32)
        (extractStridedSlice S256x1024 ![1536, 0] (extf .f32 w bitsLt_bf16_f32) slices_S1792x1024_S256x1024_1536_0)))

/-- The layer's input, scaled, with the projection of the merged rows added. -/
def added (y : FVec Ideal S8192x1024 .f32) : FVec Ideal S8192x1024 .f32 :=
  addf (mulf (broadcastInDim S8192x1024 ![] bcast_S_S8192x1024 (constant S_ .f32 0x3FD744FD#32)) x)
    (Host.dotGeneral dot_S8192x1024_S1024x1024_S8192x1024_1_0_0_1_n_n none y (extf .f32 o bitsLt_bf16_f32))

/-- The mean of each row, as a column. -/
def mean (u : FVec Ideal S8192x1024 .f32) : FVec Ideal S8192x1 .f32 :=
  Host.divf (broadcastInDim S8192x1 ![0] bcast_S8192_S8192x1_0
    (Host.reduceAdd u (constant S_ .f32 0x00000000#32) reducesTo_S8192x1024_S8192_d1 h_S_))
    (broadcastInDim S8192x1 ![] bcast_S_S8192x1 (constant S_ .f32 0x44800000#32))

/-- The rows less their means. -/
def centred (u : FVec Ideal S8192x1024 .f32) : FVec Ideal S8192x1024 .f32 :=
  subf u (broadcastInDim S8192x1024 ![0, 1] bcast_S8192x1_S8192x1024_0_1 (mean u))

/-- The layer normalisation of each row. -/
def norm (u : FVec Ideal S8192x1024 .f32) : FVec Ideal S8192x1024 .f32 :=
  addf (mulf (mulf (centred u) (broadcastInDim S8192x1024 ![0, 1] bcast_S8192x1_S8192x1024_0_1
      (Host.rsqrt (addf (mean (mulf (centred u) (centred u))) (broadcastInDim S8192x1 ![] bcast_S_S8192x1 (constant S_ .f32 0x3727C5AC#32))))))
      (broadcastInDim S8192x1024 ![0, 1] bcast_S1x1024_S8192x1024_0_1 g))
    (broadcastInDim S8192x1024 ![0, 1] bcast_S1x1024_S8192x1024_0_1 b)

theorem merged_at (a : Fin 8192) (k : Fin 1024) : merged za zb zc zm pa pb pc pm w (ix2 a k)
    = Cert.Kernel5Ideal.Merge.merged (fun j => za (ix2 a j)) (fun j => zb (ix2 a j)) (fun j => zc (ix2 a j)) (fun j => zm (ix2 a j))
      (cols 6144 (by omega) pa a) (cols 7168 (by omega) pb a) (cols 8192 (by omega) pc a) (cols 9216 (by omega) pm a) w k := by
  unfold Cert.Kernel5Ideal.Merge.merged
  rw [← gated_at za pa w 6144 0 slices_S8192x10368_S8192x1024_0_6144 slices_S1792x1024_S512x1024_0_0 _ _ a k,
    ← gated_at zb pb w 7168 512 slices_S8192x10368_S8192x1024_0_7168 slices_S1792x1024_S512x1024_512_0 _ _ a k,
    ← gated_at zc pc w 8192 1024 slices_S8192x10368_S8192x1024_0_8192 slices_S1792x1024_S512x1024_1024_0 _ _ a k,
    ← gated_last zm pm w a k]
  rfl

theorem added_at (y : FVec Ideal S8192x1024 .f32) (a : Fin 8192) (k : Fin 1024) :
    added o x y (ix2 a k) = Ideal.ofBits .f32 0x3FD744FD#32 * x (ix2 a k) + ∑ j : Fin 1024, y (ix2 a j) * o (ix2 j k) := by
  pointwise [added]

theorem norm_at (u : FVec Ideal S8192x1024 .f32) (a : Fin 8192) (k : Fin 1024) :
    norm g b u (ix2 a k) = Cert.Kernel5Ideal.Merge.norm (fun j => u (ix2 a j)) g b k := by
  pointwise [norm, centred, mean, Cert.Kernel5Ideal.Merge.norm, Cert.Kernel5Ideal.Merge.mean]

/-- The reference's result. -/
theorem result_at (a : Fin 8192) (k : Fin 1024) :
    norm g b (added o x (merged za zb zc zm pa pb pc pm w)) (ix2 a k)
      = Cert.Kernel5Ideal.Merge.entry za zb zc zm (cols 6144 (by omega) pa) (cols 7168 (by omega) pb) (cols 8192 (by omega) pc)
        (cols 9216 (by omega) pm) w o x g b a k := by
  refine (norm_at g b _ a k).trans ?_
  unfold Cert.Kernel5Ideal.Merge.entry
  refine congrArg (fun u => Cert.Kernel5Ideal.Merge.norm u g b k) (funext fun j => ?_)
  refine (added_at o x _ a j).trans ?_
  unfold Cert.Kernel5Ideal.Merge.added
  simp only [merged_at]

section Run

variable (m : (ℓ : Loc nD τ sig) → Buf (Elt Ideal) ℓ) (c : Dev nD)

/-- The run's first result: the rows normalised. -/
theorem out0 : Value.res_out0 m c = norm (m ((c.tc : Thread nD τ).loc main_arg11)) (m ((c.tc : Thread nD τ).loc main_arg12))
    (added (m ((c.tc : Thread nD τ).loc main_arg9)) (m ((c.tc : Thread nD τ).loc main_arg10))
      (merged (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)))) := rfl

/-- An array cast. -/
def narrowed (y : FVec Ideal S8192x1024 .f32) : FVec Ideal S8192x1024 .bf16 := truncf .bf16 y bitsLt_bf16_f32

/-- An array with its axes exchanged, cast. -/
def turned (y : FVec Ideal S8192x1024 .f32) : FVec Ideal S1024x8192 .bf16 :=
  truncf .bf16 (transpose S1024x8192 [1, 0] y transposes_S8192x1024_S1024x8192_1_0) bitsLt_bf16_f32

theorem out1 : Value.res_out1 m c = narrowed (Value.res_out0 m c) := rfl
theorem out2 : Value.res_out2 m c = turned (Value.res_out0 m c) := rfl

end Run

end Cert.Reference5Ideal.Merge

end
-- ==== Proof.Merge.lean ====
/-
  The merge of the four branches: the run's three arrays are the layer normalisation of the scaled input with the gated
  branches' projection added, that array cast, and its transpose cast, as the reference's are.
-/
module

public import proofs.«01_k».proof.Defs
public import proofs.«01_k».proof.Proof.MergePoints
public import proofs.«01_k».proof.Proof.MergeReference
public import proofs.«01_k».proof.Proof.Gen.Kernel5.Frame

@[expose] public section

set_option maxRecDepth 16384

noncomputable section

open Idealize.ShloMosaic Idealize.ShloMosaic.TcCoe Idealize.SL.Sem

namespace Cert.Kernel5Ideal.Merge

open Cert.Kernel5Ideal Cert.Kernel5Ideal.Gen

/-- The columns from `o` on. -/
def gateCols (o : ℕ) (h : o + 1024 ≤ 10368) (p : FVec Ideal S8192x10368 .f32) (a : Fin 8192) (k : Fin 1024) : EReal :=
  p (ix2 a (⟨o + k.val, by omega⟩ : Fin 10368))

theorem win_row : ∀ t : Fin cfg0.N, win0_0.index t = ![t.val, 0] ∧ win0_1.index t = ![t.val, 0] ∧ win0_2.index t = ![t.val, 0] ∧ win0_3.index t = ![t.val, 0] ∧ win0_4.index t = ![t.val, 6] ∧ win0_5.index t = ![t.val, 7] ∧ win0_6.index t = ![t.val, 8] ∧ win0_7.index t = ![t.val, 9] ∧ win0_8.index t = ![t.val, 0] ∧ win0_9.index t = ![0, 0] ∧ win0_10.index t = ![0, 0] ∧ win0_11.index t = ![t.val, 0] ∧ win0_12.index t = ![t.val, 0] ∧ win0_13.index t = ![0, t.val] := by decide +kernel

variable (m : (ℓ : Loc nD τ sig) → Buf (Elt Ideal) ℓ) (c : Dev nD)

section Blocks

variable (t : Fin cfg0.N) (a : Fin 256) (i : Fin 8192) (hi : i.val = 256 * t.val + a)

include hi

theorem blk_0 (k : Fin 512) : iblk m c (0 : Fin 14) t (ix2 a k) = m ((c : Thread nD τ).loc main_arg0) (ix2 i k) := by
  have e : (cfg0.win 0).index t = ![t.val, 0] := (win_row t).1
  blk_ext [iblk, e]
theorem blk_1 (k : Fin 512) : iblk m c (1 : Fin 14) t (ix2 a k) = m ((c : Thread nD τ).loc main_arg1) (ix2 i k) := by
  have e : (cfg0.win 1).index t = ![t.val, 0] := (win_row t).2.1
  blk_ext [iblk, e]
theorem blk_2 (k : Fin 512) : iblk m c (2 : Fin 14) t (ix2 a k) = m ((c : Thread nD τ).loc main_arg2) (ix2 i k) := by
  have e : (cfg0.win 2).index t = ![t.val, 0] := (win_row t).2.2.1
  blk_ext [iblk, e]
theorem blk_3 (k : Fin 256) : iblk m c (3 : Fin 14) t (ix2 a k) = m ((c : Thread nD τ).loc main_arg3) (ix2 i k) := by
  have e : (cfg0.win 3).index t = ![t.val, 0] := (win_row t).2.2.2.1
  blk_ext [iblk, e]
theorem blk_4 (k : Fin 1024) : X0_4 m c t (ix2 a k) = m ((c : Thread nD τ).loc main_arg4) (ix2 i (⟨6144 + k.val, by omega⟩ : Fin 10368)) := by
  have e : (cfg0.win 4).index t = ![t.val, 6] := (win_row t).2.2.2.2.1
  unfold X0_4 Pipeline.Window.fill
  rw [dif_pos (moved0_4 t _)]
  blk_ext [iblk, e]
theorem blk_5 (k : Fin 1024) : X0_5 m c t (ix2 a k) = m ((c : Thread nD τ).loc main_arg5) (ix2 i (⟨7168 + k.val, by omega⟩ : Fin 10368)) := by
  have e : (cfg0.win 5).index t = ![t.val, 7] := (win_row t).2.2.2.2.2.1
  unfold X0_5 Pipeline.Window.fill
  rw [dif_pos (moved0_5 t _)]
  blk_ext [iblk, e]
theorem blk_6 (k : Fin 1024) : X0_6 m c t (ix2 a k) = m ((c : Thread nD τ).loc main_arg6) (ix2 i (⟨8192 + k.val, by omega⟩ : Fin 10368)) := by
  have e : (cfg0.win 6).index t = ![t.val, 8] := (win_row t).2.2.2.2.2.2.1
  unfold X0_6 Pipeline.Window.fill
  rw [dif_pos (moved0_6 t _)]
  blk_ext [iblk, e]
theorem blk_7 (k : Fin 1024) : X0_7 m c t (ix2 a k) = m ((c : Thread nD τ).loc main_arg7) (ix2 i (⟨9216 + k.val, by omega⟩ : Fin 10368)) := by
  have e : (cfg0.win 7).index t = ![t.val, 9] := (win_row t).2.2.2.2.2.2.2.1
  unfold X0_7 Pipeline.Window.fill
  rw [dif_pos (moved0_7 t _)]
  blk_ext [iblk, e]
theorem blk_8 (k : Fin 1024) : iblk m c (8 : Fin 14) t (ix2 a k) = m ((c : Thread nD τ).loc main_arg10) (ix2 i k) := by
  have e : (cfg0.win 8).index t = ![t.val, 0] := (win_row t).2.2.2.2.2.2.2.2.1
  blk_ext [iblk, e]

end Blocks

theorem blk_9 (t : Fin cfg0.N) (k : Fin 1024) : iblk m c (9 : Fin 14) t (ix2 0 k) = m ((c : Thread nD τ).loc main_arg11) (ix2 0 k) := by
  have e : (cfg0.win 9).index t = ![0, 0] := (win_row t).2.2.2.2.2.2.2.2.2.1
  blk_ext [iblk, e]
theorem blk_10 (t : Fin cfg0.N) (k : Fin 1024) : iblk m c (10 : Fin 14) t (ix2 0 k) = m ((c : Thread nD τ).loc main_arg12) (ix2 0 k) := by
  have e : (cfg0.win 10).index t = ![0, 0] := (win_row t).2.2.2.2.2.2.2.2.2.2.1
  blk_ext [iblk, e]

/-- The weights as the run was given them. -/
def weights : Vec Ideal S1792x1024 .bf16 × Vec Ideal S1024x1024 .bf16 :=
  (m ((c : Thread nD τ).loc main_arg8), m ((c : Thread nD τ).loc main_arg9))

/-- Every point leaves the weights in the copies. -/
theorem kept (n : ℕ) (h : n < cfg0.N) : (outsAt0 m c n h).2.2.2 = weights m c := by
  induction n with
  | zero => exact congrArg (fun p => p.2.2.2) ((outsAt0_A m c ⟨0, h⟩ rfl).trans (first_point ..))
  | succ n ih =>
    have hn : n + 1 < 32 := h
    exact (congrArg (fun p => p.2.2.2) ((outsAt0_B m c ⟨n + 1, h⟩ (by dsimp only; omega)).trans (later_point ..))).trans (ih (Nat.lt_of_succ_lt h))

/-- The block of the first result a point leaves. -/
def block (t : Fin cfg0.N) : Vec Ideal S256x1024 .f32 := body (iblk m c (0 : Fin 14) t) (iblk m c (1 : Fin 14) t) (iblk m c (2 : Fin 14) t) (iblk m c (3 : Fin 14) t)
    (X0_4 m c t) (X0_5 m c t) (X0_6 m c t) (X0_7 m c t) (iblk m c (8 : Fin 14) t) (iblk m c (9 : Fin 14) t) (iblk m c (10 : Fin 14) t)
    (weights m c).1 (weights m c).2

/-- What a point leaves in its output blocks. -/
theorem out_at (t : Fin cfg0.N) : ((outsAt0 m c t.val t.isLt).1, (outsAt0 m c t.val t.isLt).2.1, (outsAt0 m c t.val t.isLt).2.2.1)
    = (block m c t, narrowed (block m c t), turned (block m c t)) := by
  by_cases h : t.val % 32 = 0
  · exact congrArg (fun p => (p.1, p.2.1, p.2.2.1)) ((outsAt0_A m c t h).trans (first_point ..))
  · have k := kept m c (t.val - 1) (Nat.lt_of_le_of_lt (Nat.sub_le _ _) t.isLt)
    refine (congrArg (fun p => (p.1, p.2.1, p.2.2.1)) ((outsAt0_B m c t h).trans (later_point ..))).trans ?_
    dsimp only
    rw [k]
    rfl

/-- An entry of the first result. -/
def result (i : Fin 8192) (k : Fin 1024) : EReal :=
  entry (m ((c : Thread nD τ).loc main_arg0)) (m ((c : Thread nD τ).loc main_arg1)) (m ((c : Thread nD τ).loc main_arg2))
    (m ((c : Thread nD τ).loc main_arg3)) (gateCols 6144 (by omega) (m ((c : Thread nD τ).loc main_arg4))) (gateCols 7168 (by omega) (m ((c : Thread nD τ).loc main_arg5)))
    (gateCols 8192 (by omega) (m ((c : Thread nD τ).loc main_arg6))) (gateCols 9216 (by omega) (m ((c : Thread nD τ).loc main_arg7))) (m ((c : Thread nD τ).loc main_arg8))
    (m ((c : Thread nD τ).loc main_arg9)) (m ((c : Thread nD τ).loc main_arg10)) (m ((c : Thread nD τ).loc main_arg11)) (m ((c : Thread nD τ).loc main_arg12)) i k

theorem block_at (t : Fin cfg0.N) (a : Fin 256) (i : Fin 8192) (hi : i.val = 256 * t.val + a) (k : Fin 1024) :
    block m c t (ix2 a k) = result m c i k := by
  refine (body_at ..).trans ?_
  unfold result entry norm mean added merged branch gateCols
  simp only [blk_0 m c t a i hi, blk_1 m c t a i hi, blk_2 m c t a i hi, blk_3 m c t a i hi, blk_4 m c t a i hi, blk_5 m c t a i hi, blk_6 m c t a i hi, blk_7 m c t a i hi, blk_8 m c t a i hi, blk_9 m c t, blk_10 m c t]
  rfl

theorem after_11 (t : Fin cfg0.N) (a : Fin 256) (i : Fin 8192) (hi : i.val = 256 * t.val + a) (k : Fin 1024) :
    (dats m 0 c).after (11 : Fin 14) t (ix2 a k) = result m c i k := by
  have h := congrArg Prod.fst (out_at m c t)
  exact (congrFun ((after0_11 m c t).trans h) _).trans (block_at m c t a i hi k)

theorem after_12 (t : Fin cfg0.N) (a : Fin 256) (i : Fin 8192) (hi : i.val = 256 * t.val + a) (k : Fin 1024) :
    (dats m 0 c).after (12 : Fin 14) t (ix2 a k) = result m c i k :=
  (congrFun ((after0_12 m c t).trans (congrArg (fun p => p.2.1) (out_at m c t))) _).trans (block_at m c t a i hi k)

theorem turned_at (y : FVec Ideal S256x1024 .f32) (k : Fin 1024) (a : Fin 256) : turned y (ix2 k a) = y (ix2 a k) := by
  pointwise [turned]

theorem after_13 (t : Fin cfg0.N) (a : Fin 256) (i : Fin 8192) (hi : i.val = 256 * t.val + a) (k : Fin 1024) :
    (dats m 0 c).after (13 : Fin 14) t (ix2 k a) = result m c i k :=
  (congrFun ((after0_13 m c t).trans (congrArg (fun p => p.2.2) (out_at m c t))) _).trans ((turned_at ..).trans (block_at m c t a i hi k))

/-- The run's first array. -/
theorem arr_11 : (dats m 0 c).arrAt (11 : Fin 14) cfg0.N = fun y : S8192x1024.Idx => result m c (y 0) (y 1) := by
  refine (dats m 0 c).arrAt_eq_of_covers (11 : Fin 14) _ (by decide +kernel) fun t hf y => ?_
  have i : (cfg0.win 11).index t = ![t.val, 0] := (win_row t).2.2.2.2.2.2.2.2.2.2.2.1
  have i' : win0_11.index t = ![t.val, 0] := i
  have ht : t.val < 32 := t.isLt
  blk_simp [i]
  refine (congrArg ((dats m 0 c).after (11 : Fin 14) t) (eq_ix2 y)).trans ((after_11 m c t (y 0) _ ?_ (y 1)).trans
    (congrArg (result m c _) ?_))
  · simp [i', Nat.mul_comm]
  · exact Fin.ext (by simp [i'])

/-- The second. -/
theorem arr_12 : (dats m 0 c).arrAt (12 : Fin 14) cfg0.N = fun y : S8192x1024.Idx => result m c (y 0) (y 1) := by
  refine (dats m 0 c).arrAt_eq_of_covers (12 : Fin 14) _ (by decide +kernel) fun t hf y => ?_
  have i : (cfg0.win 12).index t = ![t.val, 0] := (win_row t).2.2.2.2.2.2.2.2.2.2.2.2.1
  have i' : win0_12.index t = ![t.val, 0] := i
  have ht : t.val < 32 := t.isLt
  blk_simp [i]
  refine (congrArg ((dats m 0 c).after (12 : Fin 14) t) (eq_ix2 y)).trans ((after_12 m c t (y 0) _ ?_ (y 1)).trans
    (congrArg (result m c _) ?_))
  · simp [i', Nat.mul_comm]
  · exact Fin.ext (by simp [i'])

/-- The third: the columns of a block are rows of the result. -/
theorem arr_13 : (dats m 0 c).arrAt (13 : Fin 14) cfg0.N = fun y : S1024x8192.Idx => result m c (y 1) (y 0) := by
  refine (dats m 0 c).arrAt_eq_of_covers (13 : Fin 14) _ (by decide +kernel) fun t hf y => ?_
  have i : (cfg0.win 13).index t = ![0, t.val] := (win_row t).2.2.2.2.2.2.2.2.2.2.2.2.2
  have i' : win0_13.index t = ![0, t.val] := i
  have ht : t.val < 32 := t.isLt
  blk_simp [i]
  refine (congrArg ((dats m 0 c).after (13 : Fin 14) t) (eq_ix2 y)).trans ((after_13 m c t (y 1) _ ?_ (y 0)).trans
    (congrArg (result m c _) ?_))
  · simp [i', Nat.mul_comm]
  · exact Fin.ext (by simp [i'])

end Cert.Kernel5Ideal.Merge

namespace Cert.Merge

open Cert.Reference5Ideal.Merge

theorem frame_kernel : Cert.quiescent_Kernel5 := fun m g _ => Cert.Kernel5.Gen.frame m g
theorem frame_ideal : Cert.quiescent_Kernel5Ideal := fun m g _ => Cert.Kernel5Ideal.Gen.frame m g
theorem frame_reference : Cert.quiescent_Reference5Ideal := fun m g _ =>
  (θ_run Cert.Reference5Ideal.defs _ _).mono
    (fun r h => ⟨fun c => (h c).2.2.2, sem_eq_zero_of_no_sems (by decide) r.2⟩) (Cert.Reference5Ideal.Value.run (F := Ideal) m g)
theorem preserves : Cert.preserves_Kernel5_Kernel5Ideal := trivial

theorem turned_at (y : FVec Ideal Cert.Reference5Ideal.S8192x1024 .f32) (k : Fin 1024) (a : Fin 8192) :
    turned y (ix2 k a) = y (ix2 a k) := by
  pointwise [turned]

theorem algebraic : Cert.algebraic_Kernel5Ideal_Reference5Ideal := by
  intro m g m' g' _ e
  refine ⟨fun c => (Cert.Kernel5Ideal.Gen.dats m 0 c).arrAt (11 : Fin 14) Cert.Kernel5Ideal.cfg0.N,
    fun c => (Cert.Kernel5Ideal.Gen.dats m 0 c).arrAt (12 : Fin 14) Cert.Kernel5Ideal.cfg0.N,
    fun c => (Cert.Kernel5Ideal.Gen.dats m 0 c).arrAt (13 : Fin 14) Cert.Kernel5Ideal.cfg0.N,
    (θ_run Cert.Kernel5Ideal.defs _ _).mono (fun r k c => ⟨(k.1 c).1 11, (k.1 c).1 12, (k.1 c).1 13, k.2 c⟩)
      (θ_run_and (Cert.Kernel5Ideal.Gen.run_main m g) (Cert.Kernel5Ideal.Gen.unchanged m g)),
    (θ_run Cert.Reference5Ideal.defs _ _).mono (fun r k c => ?_) (Cert.Reference5Ideal.Value.run (F := Ideal) m' g')⟩
  obtain ⟨k0, k1, k2, k3⟩ := k c
  obtain ⟨e0, e1, e2, e3, e4, e5, e6, e7, e8, e9, e10, e11, e12⟩ := e c
  have q : ∀ (a : Fin 8192) (k : Fin 1024), Cert.Reference5Ideal.Value.res_out0 m' c (ix2 a k) = Cert.Kernel5Ideal.Merge.result m c a k := by
    intro a k
    rw [out0]
    refine (result_at ..).trans ?_
    rw [e0, e1, e2, e3, e4, e5, e6, e7, e8, e9, e10, e11, e12]
    rfl
  refine ⟨k0.trans ?_, k1.trans ?_, k2.trans ?_, k3⟩
  · exact Eq.trans (funext fun y => (congrArg _ (eq_ix2 y)).trans (q (y 0) (y 1))) (Cert.Kernel5Ideal.Merge.arr_11 m c).symm
  · exact Eq.trans (funext fun y => (congrArg _ (eq_ix2 y)).trans (q (y 0) (y 1))) (Cert.Kernel5Ideal.Merge.arr_12 m c).symm
  · exact Eq.trans (funext fun y => (congrArg _ (eq_ix2 y)).trans ((turned_at ..).trans (q (y 1) (y 0)))) (Cert.Kernel5Ideal.Merge.arr_13 m c).symm

end Cert.Merge

end
-- ==== Proof.Optimiser.lean ====
/-
  The optimiser: one AdamW step of the input projection's weights, elementwise on both sides.
-/
module

public import proofs.«01_k».proof.Defs
public import proofs.«01_k».proof.Proof.Gen.Kernel6Ideal.Value
public import proofs.«01_k».proof.Proof.Gen.Kernel6.Frame
public import proofs.«01_k».proof.Proof.Gen.Reference6Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Optimiser

theorem frame_kernel : Cert.quiescent_Kernel6 := fun m g _ => Cert.Kernel6.Gen.frame m g
theorem frame_ideal : Cert.quiescent_Kernel6Ideal := fun m g _ => Cert.Kernel6Ideal.Gen.frame m g
theorem frame_reference : Cert.quiescent_Reference6Ideal := fun m g _ =>
  (θ_run Cert.Reference6Ideal.defs _ _).mono
    (fun r h => ⟨fun c => (h c).2.2.2, sem_eq_zero_of_no_sems (by decide) r.2⟩) (Cert.Reference6Ideal.Value.run (F := Ideal) m g)
theorem preserves : Cert.preserves_Kernel6_Kernel6Ideal := trivial

/-- The step's three results are the same operations of the same arrays, entry by entry. -/
theorem algebraic : Cert.algebraic_Kernel6Ideal_Reference6Ideal := by
  intro m g m' g' _ e
  refine ⟨_, _, _, Cert.Kernel6Ideal.Value.run (F := Ideal) m g,
    (θ_run Cert.Reference6Ideal.defs _ _).mono (fun r k c => ?_) (Cert.Reference6Ideal.Value.run (F := Ideal) m' g')⟩
  obtain ⟨k1, k2, k3, k4⟩ := k c
  obtain ⟨e0, e1, e2, e3⟩ := e c
  refine ⟨k1.trans ?_, k2.trans ?_, k3.trans ?_, k4⟩
  all_goals
    simp only [e0, e1, e2, e3]
    funext y
    rfl

end Cert.Optimiser

end
-- ==== Proof.Optimisers.lean ====
/-
  The optimiser at the shapes of other parameters. In each the step's three results are the same operations of the same arrays,
  entry by entry.
-/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Optimisers

/-- Three arrays that are three others, those being a third three, are those. -/
theorem three {A B C : Type} {x0 w0 v0 : A} {x1 w1 v1 : B} {x2 w2 v2 : C} {K : Prop} (h : x0 = w0 ∧ x1 = w1 ∧ x2 = w2 ∧ K)
    (e0 : w0 = v0) (e1 : w1 = v1) (e2 : w2 = v2) : x0 = v0 ∧ x1 = v1 ∧ x2 = v2 ∧ K :=
  ⟨h.1.trans e0, h.2.1.trans e1, h.2.2.1.trans e2, h.2.2.2⟩

/-! The update of `p_a`; `p_b` and `p_c` have the same shapes. -/

theorem frame_kernel10 : Cert.quiescent_Kernel10 := fun m g _ => Cert.Kernel10.Gen.frame m g
theorem frame_ideal10 : Cert.quiescent_Kernel10Ideal := fun m g _ => Cert.Kernel10Ideal.Gen.frame m g
theorem frame_reference10 : Cert.quiescent_Reference10Ideal := fun m g _ =>
  (θ_run Cert.Reference10Ideal.defs _ _).mono
    (fun r h => ⟨fun c => (h c).2.2.2, sem_eq_zero_of_no_sems (by decide) r.2⟩) (Cert.Reference10Ideal.Value.run (F := Ideal) m g)
theorem preserves10 : Cert.preserves_Kernel10_Kernel10Ideal := trivial
theorem algebraic10 : Cert.algebraic_Kernel10Ideal_Reference10Ideal := by
  intro m g m' g' _ e
  refine ⟨_, _, _, Cert.Kernel10Ideal.Value.run (F := Ideal) m g,
    (θ_run Cert.Reference10Ideal.defs _ _).mono (fun r k c => ?_) (Cert.Reference10Ideal.Value.run (F := Ideal) m' g')⟩
  obtain ⟨e0, e1, e2, e3⟩ := e c
  refine three (k c) ?_ ?_ ?_ <;> simp only [e0, e1, e2, e3] <;> rfl

/-! The update of `conv_a_b`; `ln_a_g` and `ln_a_b` have the same shapes. -/

theorem frame_kernel11 : Cert.quiescent_Kernel11 := fun m g _ => Cert.Kernel11.Gen.frame m g
theorem frame_ideal11 : Cert.quiescent_Kernel11Ideal := fun m g _ => Cert.Kernel11Ideal.Gen.frame m g
theorem frame_reference11 : Cert.quiescent_Reference11Ideal := fun m g _ =>
  (θ_run Cert.Reference11Ideal.defs _ _).mono
    (fun r h => ⟨fun c => (h c).2.2.2, sem_eq_zero_of_no_sems (by decide) r.2⟩) (Cert.Reference11Ideal.Value.run (F := Ideal) m g)
theorem preserves11 : Cert.preserves_Kernel11_Kernel11Ideal := trivial
theorem algebraic11 : Cert.algebraic_Kernel11Ideal_Reference11Ideal := by
  intro m g m' g' _ e
  refine ⟨_, _, _, Cert.Kernel11Ideal.Value.run (F := Ideal) m g,
    (θ_run Cert.Reference11Ideal.defs _ _).mono (fun r k c => ?_) (Cert.Reference11Ideal.Value.run (F := Ideal) m' g')⟩
  obtain ⟨e0, e1, e2, e3⟩ := e c
  refine three (k c) ?_ ?_ ?_ <;> simp only [e0, e1, e2, e3] <;> rfl

/-! The update of `ln_g`; `ln_b` has the same shapes. -/

theorem frame_kernel12 : Cert.quiescent_Kernel12 := fun m g _ => Cert.Kernel12.Gen.frame m g
theorem frame_ideal12 : Cert.quiescent_Kernel12Ideal := fun m g _ => Cert.Kernel12Ideal.Gen.frame m g
theorem frame_reference12 : Cert.quiescent_Reference12Ideal := fun m g _ =>
  (θ_run Cert.Reference12Ideal.defs _ _).mono
    (fun r h => ⟨fun c => (h c).2.2.2, sem_eq_zero_of_no_sems (by decide) r.2⟩) (Cert.Reference12Ideal.Value.run (F := Ideal) m g)
theorem preserves12 : Cert.preserves_Kernel12_Kernel12Ideal := trivial
theorem algebraic12 : Cert.algebraic_Kernel12Ideal_Reference12Ideal := by
  intro m g m' g' _ e
  refine ⟨_, _, _, Cert.Kernel12Ideal.Value.run (F := Ideal) m g,
    (θ_run Cert.Reference12Ideal.defs _ _).mono (fun r k c => ?_) (Cert.Reference12Ideal.Value.run (F := Ideal) m' g')⟩
  obtain ⟨e0, e1, e2, e3⟩ := e c
  refine three (k c) ?_ ?_ ?_ <;> simp only [e0, e1, e2, e3] <;> rfl

/-! The update of `mem_ln_g`; `mem_ln_b` has the same shapes. -/

theorem frame_kernel13 : Cert.quiescent_Kernel13 := fun m g _ => Cert.Kernel13.Gen.frame m g
theorem frame_ideal13 : Cert.quiescent_Kernel13Ideal := fun m g _ => Cert.Kernel13Ideal.Gen.frame m g
theorem frame_reference13 : Cert.quiescent_Reference13Ideal := fun m g _ =>
  (θ_run Cert.Reference13Ideal.defs _ _).mono
    (fun r h => ⟨fun c => (h c).2.2.2, sem_eq_zero_of_no_sems (by decide) r.2⟩) (Cert.Reference13Ideal.Value.run (F := Ideal) m g)
theorem preserves13 : Cert.preserves_Kernel13_Kernel13Ideal := trivial
theorem algebraic13 : Cert.algebraic_Kernel13Ideal_Reference13Ideal := by
  intro m g m' g' _ e
  refine ⟨_, _, _, Cert.Kernel13Ideal.Value.run (F := Ideal) m g,
    (θ_run Cert.Reference13Ideal.defs _ _).mono (fun r k c => ?_) (Cert.Reference13Ideal.Value.run (F := Ideal) m' g')⟩
  obtain ⟨e0, e1, e2, e3⟩ := e c
  refine three (k c) ?_ ?_ ?_ <;> simp only [e0, e1, e2, e3] <;> rfl

/-! The update of `w_out`. -/

theorem frame_kernel14 : Cert.quiescent_Kernel14 := fun m g _ => Cert.Kernel14.Gen.frame m g
theorem frame_ideal14 : Cert.quiescent_Kernel14Ideal := fun m g _ => Cert.Kernel14Ideal.Gen.frame m g
theorem frame_reference14 : Cert.quiescent_Reference14Ideal := fun m g _ =>
  (θ_run Cert.Reference14Ideal.defs _ _).mono
    (fun r h => ⟨fun c => (h c).2.2.2, sem_eq_zero_of_no_sems (by decide) r.2⟩) (Cert.Reference14Ideal.Value.run (F := Ideal) m g)
theorem preserves14 : Cert.preserves_Kernel14_Kernel14Ideal := trivial
theorem algebraic14 : Cert.algebraic_Kernel14Ideal_Reference14Ideal := by
  intro m g m' g' _ e
  refine ⟨_, _, _, Cert.Kernel14Ideal.Value.run (F := Ideal) m g,
    (θ_run Cert.Reference14Ideal.defs _ _).mono (fun r k c => ?_) (Cert.Reference14Ideal.Value.run (F := Ideal) m' g')⟩
  obtain ⟨e0, e1, e2, e3⟩ := e c
  refine three (k c) ?_ ?_ ?_ <;> simp only [e0, e1, e2, e3] <;> rfl

/-! The update of `b_forget`. -/

theorem frame_kernel16 : Cert.quiescent_Kernel16 := fun m g _ => Cert.Kernel16.Gen.frame m g
theorem frame_ideal16 : Cert.quiescent_Kernel16Ideal := fun m g _ => Cert.Kernel16Ideal.Gen.frame m g
theorem frame_reference16 : Cert.quiescent_Reference16Ideal := fun m g _ =>
  (θ_run Cert.Reference16Ideal.defs _ _).mono
    (fun r h => ⟨fun c => (h c).2.2.2, sem_eq_zero_of_no_sems (by decide) r.2⟩) (Cert.Reference16Ideal.Value.run (F := Ideal) m g)
theorem preserves16 : Cert.preserves_Kernel16_Kernel16Ideal := trivial
theorem algebraic16 : Cert.algebraic_Kernel16Ideal_Reference16Ideal := by
  intro m g m' g' _ e
  refine ⟨_, _, _, Cert.Kernel16Ideal.Value.run (F := Ideal) m g,
    (θ_run Cert.Reference16Ideal.defs _ _).mono (fun r k c => ?_) (Cert.Reference16Ideal.Value.run (F := Ideal) m' g')⟩
  obtain ⟨e0, e1, e2, e3⟩ := e c
  refine three (k c) ?_ ?_ ?_ <;> simp only [e0, e1, e2, e3] <;> rfl

/-! The update of `conv_a_w`. -/

theorem frame_kernel17 : Cert.quiescent_Kernel17 := fun m g _ => Cert.Kernel17.Gen.frame m g
theorem frame_ideal17 : Cert.quiescent_Kernel17Ideal := fun m g _ => Cert.Kernel17Ideal.Gen.frame m g
theorem frame_reference17 : Cert.quiescent_Reference17Ideal := fun m g _ =>
  (θ_run Cert.Reference17Ideal.defs _ _).mono
    (fun r h => ⟨fun c => (h c).2.2.2, sem_eq_zero_of_no_sems (by decide) r.2⟩) (Cert.Reference17Ideal.Value.run (F := Ideal) m g)
theorem preserves17 : Cert.preserves_Kernel17_Kernel17Ideal := trivial
theorem algebraic17 : Cert.algebraic_Kernel17Ideal_Reference17Ideal := by
  intro m g m' g' _ e
  refine ⟨_, _, _, Cert.Kernel17Ideal.Value.run (F := Ideal) m g,
    (θ_run Cert.Reference17Ideal.defs _ _).mono (fun r k c => ?_) (Cert.Reference17Ideal.Value.run (F := Ideal) m' g')⟩
  obtain ⟨e0, e1, e2, e3⟩ := e c
  refine three (k c) ?_ ?_ ?_ <;> simp only [e0, e1, e2, e3] <;> rfl

/-! The update of `conv_b_w`. -/

theorem frame_kernel18 : Cert.quiescent_Kernel18 := fun m g _ => Cert.Kernel18.Gen.frame m g
theorem frame_ideal18 : Cert.quiescent_Kernel18Ideal := fun m g _ => Cert.Kernel18Ideal.Gen.frame m g
theorem frame_reference18 : Cert.quiescent_Reference18Ideal := fun m g _ =>
  (θ_run Cert.Reference18Ideal.defs _ _).mono
    (fun r h => ⟨fun c => (h c).2.2.2, sem_eq_zero_of_no_sems (by decide) r.2⟩) (Cert.Reference18Ideal.Value.run (F := Ideal) m g)
theorem preserves18 : Cert.preserves_Kernel18_Kernel18Ideal := trivial
theorem algebraic18 : Cert.algebraic_Kernel18Ideal_Reference18Ideal := by
  intro m g m' g' _ e
  refine ⟨_, _, _, Cert.Kernel18Ideal.Value.run (F := Ideal) m g,
    (θ_run Cert.Reference18Ideal.defs _ _).mono (fun r k c => ?_) (Cert.Reference18Ideal.Value.run (F := Ideal) m' g')⟩
  obtain ⟨e0, e1, e2, e3⟩ := e c
  refine three (k c) ?_ ?_ ?_ <;> simp only [e0, e1, e2, e3] <;> rfl

/-! The update of `w_kv_mem`. -/

theorem frame_kernel19 : Cert.quiescent_Kernel19 := fun m g _ => Cert.Kernel19.Gen.frame m g
theorem frame_ideal19 : Cert.quiescent_Kernel19Ideal := fun m g _ => Cert.Kernel19Ideal.Gen.frame m g
theorem frame_reference19 : Cert.quiescent_Reference19Ideal := fun m g _ =>
  (θ_run Cert.Reference19Ideal.defs _ _).mono
    (fun r h => ⟨fun c => (h c).2.2.2, sem_eq_zero_of_no_sems (by decide) r.2⟩) (Cert.Reference19Ideal.Value.run (F := Ideal) m g)
theorem preserves19 : Cert.preserves_Kernel19_Kernel19Ideal := trivial
theorem algebraic19 : Cert.algebraic_Kernel19Ideal_Reference19Ideal := by
  intro m g m' g' _ e
  refine ⟨_, _, _, Cert.Kernel19Ideal.Value.run (F := Ideal) m g,
    (θ_run Cert.Reference19Ideal.defs _ _).mono (fun r k c => ?_) (Cert.Reference19Ideal.Value.run (F := Ideal) m' g')⟩
  obtain ⟨e0, e1, e2, e3⟩ := e c
  refine three (k c) ?_ ?_ ?_ <;> simp only [e0, e1, e2, e3] <;> rfl

/-! The update of `p_m`. -/

theorem frame_kernel20 : Cert.quiescent_Kernel20 := fun m g _ => Cert.Kernel20.Gen.frame m g
theorem frame_ideal20 : Cert.quiescent_Kernel20Ideal := fun m g _ => Cert.Kernel20Ideal.Gen.frame m g
theorem frame_reference20 : Cert.quiescent_Reference20Ideal := fun m g _ =>
  (θ_run Cert.Reference20Ideal.defs _ _).mono
    (fun r h => ⟨fun c => (h c).2.2.2, sem_eq_zero_of_no_sems (by decide) r.2⟩) (Cert.Reference20Ideal.Value.run (F := Ideal) m g)
theorem preserves20 : Cert.preserves_Kernel20_Kernel20Ideal := trivial
theorem algebraic20 : Cert.algebraic_Kernel20Ideal_Reference20Ideal := by
  intro m g m' g' _ e
  refine ⟨_, _, _, Cert.Kernel20Ideal.Value.run (F := Ideal) m g,
    (θ_run Cert.Reference20Ideal.defs _ _).mono (fun r k c => ?_) (Cert.Reference20Ideal.Value.run (F := Ideal) m' g')⟩
  obtain ⟨e0, e1, e2, e3⟩ := e c
  refine three (k c) ?_ ?_ ?_ <;> simp only [e0, e1, e2, e3] <;> rfl

end Cert.Optimisers

end
-- ==== Proof.Tails.lean ====
/-
  Sums of the last entries of a row of 8192, taken backwards in sixteen blocks of 512.
-/
module

public import Idealize.ShloMosaic.Lib.Pointwise

@[expose] public section

noncomputable section

open Idealize.ShloMosaic

namespace Cert.Tails

variable (f : ℕ → EReal)

/-- The sum of the entries from `p` on. -/
def tail (p : ℕ) : EReal := ∑ k ∈ Finset.Ico p 8192, f k

/-- The entries from `p` on are those of a block and those after it. -/
theorem tail_block (p : ℕ) (hp : p + 512 ≤ 8192) : tail f p = tail f (p + 512) + ∑ i : Fin 512, f (p + i) := by
  unfold tail
  rw [← Finset.sum_Ico_consecutive f (Nat.le_add_right p 512) hp, add_comm, Finset.sum_Ico_eq_sum_range f p,
    Nat.add_sub_cancel_left, Finset.sum_range]

/-- Those from place `j` of a block on: the ones of the block, by a factor that is one there and zero before, and those after it. -/
theorem tail_at (p : ℕ) (hp : p + 512 ≤ 8192) (j : Fin 512) (u : Fin 512 → EReal) (hu : ∀ i, u i = if j ≤ i then 1 else 0) :
    (∑ i : Fin 512, f (p + i) * u i) + tail f (p + 512) = tail f (p + j) := by
  unfold tail
  have hj := j.isLt
  rw [← Finset.sum_Ico_consecutive f (show p + j.val ≤ p + 512 by omega) hp]
  refine congrArg (· + _) ?_
  simp only [hu, mul_ite, mul_one, mul_zero]
  rw [← Finset.sum_filter, Finset.sum_Ico_eq_sum_range]
  refine Finset.sum_bij' (fun i _ => i.val - j.val) (fun k hk => ⟨j.val + k, ?_⟩) ?_ ?_ ?_ ?_ ?_
  · have := Finset.mem_range.1 hk; omega
  · intro i hi
    have h1 := i.isLt
    have h2 : j.val ≤ i.val := (Finset.mem_filter.1 hi).2
    simp only [Finset.mem_range]; omega
  · intro k hk
    simp only [Finset.mem_filter, Finset.mem_univ, true_and, Fin.le_def]; omega
  · intro i hi
    have h2 : j.val ≤ i.val := (Finset.mem_filter.1 hi).2
    exact Fin.ext (by dsimp only; omega)
  · intro k hk
    dsimp only; omega
  · intro i hi
    have h2 : j.val ≤ i.val := (Finset.mem_filter.1 hi).2
    exact congrArg f (by omega)

/-- A whole row's length of entries from `p` on, zeros past the row. -/
theorem shifted (p : Fin 8192) : (∑ k : Fin 8192, if p.val + k.val < 8192 then f (p + k) else 0) = tail f p := by
  unfold tail
  rw [Finset.sum_Ico_eq_sum_range, Fin.sum_univ_eq_sum_range (fun k => if p.val + k < 8192 then f (p + k) else 0) 8192,
    ← Finset.sum_filter]
  refine Finset.sum_congr (Finset.ext fun k => ?_) fun _ _ => rfl
  simp only [Finset.mem_filter, Finset.mem_range]
  omega

/-- A sum that starts at zero and takes up a block at each of sixteen points, the last block first. -/
theorem of_points {N : ℕ} (hN : N = 16) (S P : (n : ℕ) → n < N → EReal) (hP : ∀ n h, P n h = ∑ i : Fin 512, f (512 * (15 - n) + i))
    (h0 : ∀ h, S 0 h = 0 + P 0 h) (h1 : ∀ n (h : n + 1 < N), S (n + 1) h = S n (Nat.lt_of_succ_lt h) + P (n + 1) h)
    (n : ℕ) (h : n < N) : S n h = tail f (512 * (15 - n)) := by
  induction n with
  | zero =>
    rw [h0, hP, tail_block f (512 * (15 - 0)) (by decide)]
    refine congrArg (· + _) ?_
    exact (Finset.sum_eq_zero fun k hk => by simp at hk).symm
  | succ n ih =>
    rw [h1, hP, ih, tail_block f (512 * (15 - (n + 1))) (by omega)]
    exact congrArg (fun p => tail f p + _) (by omega)

section Arrays

variable (x : Vec Ideal ⟨3, ![4, 8, 8192]⟩ .f32) (q : Vec Ideal ⟨3, ![4, 8192, 128]⟩ .f32) (g : Vec Ideal ⟨2, ![8, 8192]⟩ .f32)

/-- Head `h` of the gradient of the cumulative sums: what the keys and the queries each give it, four parts of each. -/
def row (h : Fin 8) (k : ℕ) : EReal :=
  if hk : k < 8192 then (∑ r : Fin 4, x (ix3 r h ⟨k, hk⟩)) + ∑ r : Fin 4, q (ix3 r ⟨k, hk⟩ (h.castLE (by decide))) else 0

theorem row_at (h : Fin 8) (k : Fin 8192) :
    row x q h k = (∑ r : Fin 4, x (ix3 r h k)) + ∑ r : Fin 4, q (ix3 r k (h.castLE (by decide))) := dif_pos k.isLt

/-- The gradient of the gate's logits: a place's log has a part in every cumulative sum from that place on. -/
def logit (h : Fin 8) (k : ℕ) : EReal := if hk : k < 8192 then tail (row x q h) k * g (ix2 h ⟨k, hk⟩) else 0

theorem logit_at (h : Fin 8) (k : Fin 8192) : logit x q g h k = tail (row x q h) k * g (ix2 h k) := dif_pos k.isLt

/-- The heads' gradients side by side, zeros after them. -/
def grad : Vec Ideal ⟨2, ![8192, 128]⟩ .bf16 := fun y => if h : (y 1).val < 8 then logit x q g ⟨(y 1).val, h⟩ (y 0).val else 0

/-- The gradient of the gate's bias, in every column. -/
def bias : Vec Ideal ⟨2, ![8, 128]⟩ .f32 := fun y => tail (logit x q g (y 0)) 0

end Arrays

end Cert.Tails

end
-- ==== Proof.GateRef.lean ====
/-
  The forget gate's gradient: sums from a place on, by the reference's windows.
-/
module

public import proofs.«01_k».proof.Proof.Gen.Reference15Ideal.Run
public import proofs.«01_k».proof.Proof.Tails

@[expose] public section

set_option maxRecDepth 16384

noncomputable section

open Idealize.ShloMosaic Idealize.ShloMosaic.TcCoe Idealize.SL.Sem

namespace Cert.GateRef

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The fold of a window is the sum over its places. -/
theorem window_sum {s t u : Shape} (window strides lo hi : Fin s.rank → Nat) (x : s.Idx → EReal) (init : u.Idx → EReal)
    (h : s.ReduceWindows window strides lo hi t) (hu : 0 < u.numel) (j : t.Idx) (h0 : init (Shape.Idx.first hu) = 0) :
    Host.reduceWindow (fun a b => a + b) window strides lo hi x init h hu j
      = ∑ i : (⟨s.rank, window⟩ : Shape).Idx,
          if hin : ∀ a, lo a ≤ (j (a.cast h.1.symm)).val * strides a + (i a).val
              ∧ (j (a.cast h.1.symm)).val * strides a + (i a).val - lo a < s.size a
            then x fun a => ⟨(j (a.cast h.1.symm)).val * strides a + (i a).val - lo a, (hin a).2⟩ else 0 := by
  unfold Host.reduceWindow
  dsimp only
  rw [foldl_add, h0, zero_add]
  exact (Fin.sum_univ_def _).symm.trans (Fintype.sum_equiv (⟨s.rank, window⟩ : Shape).rowMajor.symm _ _ fun _ => by congr)

/-- A window of a whole row, the row padded with zeros at its end: the sum of the entries from a place on. -/
theorem window_row {n w e : ℕ} {u : Shape} (x : (⟨2, ![n, w]⟩ : Shape).Idx → EReal) (init : u.Idx → EReal)
    (hs : (⟨2, ![n, w]⟩ : Shape).ReduceWindows (![1, w] : Fin 2 → ℕ) ![1, 1] ![0, 0] ![0, e] ⟨2, ![n, w]⟩) (hu : 0 < u.numel)
    (h0 : init (Shape.Idx.first hu) = 0) (h : Fin n) (j : Fin w) :
    Host.reduceWindow (fun a b => a + b) (![1, w] : Fin 2 → ℕ) ![1, 1] ![0, 0] ![0, e] x init hs hu (ix2 h j)
      = ∑ k : Fin w, if hc : j.val + k.val < w then x (ix2 h ⟨j.val + k.val, hc⟩) else 0 := by
  refine (window_sum (![1, w] : Fin 2 → ℕ) ![1, 1] ![0, 0] ![0, e] x init hs hu (ix2 h j) h0).trans ?_
  refine (sum_idx2 (n0 := 1) (n1 := w) _).trans ?_
  rw [Fin.sum_univ_one]
  refine Finset.sum_congr rfl fun k _ => ?_
  have hh := h.isLt
  by_cases hc : j.val + k.val < w
  · rw [dif_pos hc, dif_pos]
    · refine congrArg x (funext fun a => Fin.ext ?_)
      match a with
      | ⟨0, _⟩ => show h.val * 1 + 0 - 0 = h.val; omega
      | ⟨1, _⟩ => show j.val * 1 + k.val - 0 = j.val + k.val; omega
    · intro a
      match a with
      | ⟨0, _⟩ => exact ⟨Nat.zero_le _, by show h.val * 1 + 0 - 0 < n; omega⟩
      | ⟨1, _⟩ => exact ⟨Nat.zero_le _, by show j.val * 1 + k.val - 0 < w; omega⟩
  · rw [dif_neg hc, dif_neg]
    intro hin
    have h1 : j.val * 1 + k.val - 0 < w := (hin 1).2
    omega

open Cert.Reference15Ideal Cert.Reference15Ideal.Gen in
/-- A window of a whole row from each place, the row padded with zeros at its end: the sum of the row from that place on. -/
theorem window (w : FVec Ideal S8x8192 .f32) (v : S_.Idx → EReal) (hv : ∀ i, v i = 0) (f : ℕ → EReal) (h : Fin 8) (j : Fin 8192)
    (hf : ∀ k : Fin 8192, f k = w (ix2 h k)) :
    Host.reduceWindowAdd (F := Ideal) (φ := .f32) ![1, 8192] ![1, 1] ![0, 0] ![0, 8191] w v reduceWindows_S8x8192_S8x8192_w1s1p0_0_w8192s1p0_8191 h_S_ (ix2 h j)
      = Tails.tail f j := by
  unfold Host.reduceWindowAdd
  rw [Ideal.hostReduceWindowAdd_def]
  unfold Ideal.hostReduceWindowAdd
  refine (window_row (n := 8) (w := 8192) (e := 8191) w _ reduceWindows_S8x8192_S8x8192_w1s1p0_0_w8192s1p0_8191 _ (hv _) h j).trans ?_
  refine (Finset.sum_congr rfl fun k _ => ?_).trans (Tails.shifted f j)
  by_cases hc : j.val + k.val < 8192
  · rw [if_pos hc, dif_pos hc]
    exact (hf ⟨_, hc⟩).symm
  · rw [if_neg hc, dif_neg hc]

end Cert.GateRef

end
-- ==== Proof.GatePoints.lean ====
/-
  The forget gate's gradient: what a point leaves in its two outputs and in the running sums.
-/
module

public import proofs.«01_k».proof.Proof.Gen.Kernel15Ideal.Value
public import proofs.«01_k».proof.Proof.Tails
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel15Ideal.Gate

open Cert.Kernel15Ideal Cert.Kernel15Ideal.Gen Cert.Kernel15Ideal.Value

theorem zero2 : (![0, 0] : Fin 2 → Nat) = fun _ => 0 := funext fun a => by fin_cases a <;> rfl

/-- The block's cumulative-sum gradient, the four parts of each argument added up. -/
def part (x : Vec Ideal S4x8x512 .f32) (q : Vec Ideal S4x512x128 .f32) : Vec Ideal S8x512 .f32 :=
  k0_pay7 (View.ld q (Rect.unit ![0, 0, 0] S1x512x128.size inb_S4x512x128_S1x512x128_0_0_0))
    (View.ld q (Rect.unit ![1, 0, 0] S1x512x128.size inb_S4x512x128_S1x512x128_1_0_0))
    (View.ld q (Rect.unit ![2, 0, 0] S1x512x128.size inb_S4x512x128_S1x512x128_2_0_0))
    (View.ld q (Rect.unit ![3, 0, 0] S1x512x128.size inb_S4x512x128_S1x512x128_3_0_0))
    (View.ld x (Rect.unit ![0, 0, 0] S1x8x512.size inb_S4x8x512_S1x8x512_0_0_0))
    (View.ld x (Rect.unit ![1, 0, 0] S1x8x512.size inb_S4x8x512_S1x8x512_1_0_0))
    (View.ld x (Rect.unit ![2, 0, 0] S1x8x512.size inb_S4x8x512_S1x8x512_2_0_0))
    (View.ld x (Rect.unit ![3, 0, 0] S1x8x512.size inb_S4x8x512_S1x8x512_3_0_0))

/-- The first column of the running sums. -/
def col (s : Vec Ideal S8x128 .f32) : Vec Ideal S8x1 .f32 := View.ld s (Rect.unit ![0, 0] S8x1.size inb_S8x128_S8x1_0_0)

theorem readCov_col {sp : Space} (v : View sig .tc sp S8x128 .f32) (w : Vec Ideal S8x128 .f32) :
    v.readCov [(⟨Rect.unit ![0, 0] S8x128.size inb_S8x128_S8x128_0_0, w⟩ : View.Piece (Elt Ideal) S8x128 .f32)]
      (Rect.unit (s := S8x128) ![0, 0] S8x1.size inb_S8x128_S8x1_0_0).toLoadRect = col w := by
  refine (View.readCov_eq_canon' v _ _).trans ?_
  rw [View.canon_unit_zero zero2]
  rfl

section Points

variable (c : Dev nD) (i : grid0.Coords) (a1 : Memref sig .tc .vmem S4x8x512 .f32) (h1 : a1.IsWhole)
  (a2 : Memref sig .tc .vmem S4x512x128 .f32) (h2 : a2.IsWhole) (a3 : Memref sig .tc .vmem S8x512 .f32) (h3 : a3.IsWhole)
  (a4 : Memref sig .tc .vmem S512x128 .bf16) (h4 : a4.IsWhole) (a5 : Memref sig .tc .vmem S8x128 .f32) (h5 : a5.IsWhole)
  (a6 : Memref sig .tc .vmem S8x128 .f32) (h6 : a6.IsWhole)
  (x : Vec Ideal S4x8x512 .f32) (q : Vec Ideal S4x512x128 .f32) (g : Vec Ideal S8x512 .f32) (o s : Vec Ideal S8x128 .f32)

theorem later_s (h : ¬cond0_0 i) :
    sout0_B_0 c i a1 h1 a2 h2 a3 h3 a4 h4 a5 h5 a6 h6 h x q g o s = k0_pay1 (part x q) s := by
  refine (View.read_writes_eq_canon _ _ _ (scover0_B_0 c i a1 h1 a2 h2 a3 h3 a4 h4 a5 h5 a6 h6 h x q g o s)).trans ?_
  unfold kernelRun0_B
  dsimp only
  sl_unfold_words
  rw [View.canon_unit_zero zero2]
  simp only [View.readAt_eq_ld, h1.read_unread, h2.read_unread, h3.read_unread, h6.read_unread, View.ld_unit_zero (S := S8x128) zero2]
  rfl

theorem later_o (h : ¬cond0_0 i) :
    out0_B_4 c i a1 h1 a2 h2 a3 h3 a4 h4 a5 h5 a6 h6 h x q g o s = k0_pay3 (part x q) k0_pay8 (col s) g o := by
  refine (View.read_writes_eq_canon _ _ _ (cover0_B_4 c i a1 h1 a2 h2 a3 h3 a4 h4 a5 h5 a6 h6 h x q g o s)).trans ?_
  unfold kernelRun0_B
  dsimp only
  sl_unfold_words
  rw [View.canon_unit_zero zero2]
  simp only [View.readAt_eq_ld, h1.read_unread, h2.read_unread, h3.read_unread, h5.read_unread, h6.read_unread,
    View.ld_unit_zero (S := S8x512) zero2, View.ld_unit_zero (S := S8x128) zero2]
  rfl

theorem later_d (h : ¬cond0_0 i) :
    out0_B_3 c i a1 h1 a2 h2 a3 h3 a4 h4 a5 h5 a6 h6 h x q g o s = k0_pay4 (part x q) k0_pay8 (col s) g := by
  refine (View.read_writes_eq_canon _ _ _ (cover0_B_3 c i a1 h1 a2 h2 a3 h3 a4 h4 a5 h5 a6 h6 h x q g o s)).trans ?_
  unfold kernelRun0_B
  dsimp only
  sl_unfold_words
  rw [View.canon_unit_zero zero2]
  simp only [View.readAt_eq_ld, h1.read_unread, h2.read_unread, h3.read_unread, h6.read_unread,
    View.ld_unit_zero (S := S8x512) zero2, View.ld_unit_zero (S := S8x128) zero2]
  rfl

theorem first_s (h : cond0_0 i) :
    sout0_A_0 c i a1 h1 a2 h2 a3 h3 a4 h4 a5 h5 a6 h6 h x q g = k0_pay1 (F := Ideal) (part x q) (k0_pay5 (F := Ideal)) := by
  refine (View.read_writes_eq_canon _ _ _ (scover0_A_0 c i a1 h1 a2 h2 a3 h3 a4 h4 a5 h5 a6 h6 h x q g)).trans ?_
  unfold kernelRun0_A
  dsimp only
  sl_unfold_words
  rw [View.canon_cons_unit_zero (S := S8x128) zero2]
  simp only [View.readAt_eq_ld, h1.read_unread, h2.read_unread, h3.read_unread, View.readCov_unit_zero (S := S8x128) _ zero2, readCov_col]
  rfl

theorem first_o (h : cond0_0 i) :
    out0_A_4 c i a1 h1 a2 h2 a3 h3 a4 h4 a5 h5 a6 h6 h x q g = k0_pay3 (F := Ideal) (part x q) k0_pay8 (col (k0_pay5 (F := Ideal))) g (k0_pay6 (F := Ideal)) := by
  refine (View.read_writes_eq_canon _ _ _ (cover0_A_4 c i a1 h1 a2 h2 a3 h3 a4 h4 a5 h5 a6 h6 h x q g)).trans ?_
  unfold kernelRun0_A
  dsimp only
  sl_unfold_words
  rw [View.canon_cons_unit_zero (S := S8x128) zero2]
  simp only [View.readAt_eq_ld, h1.read_unread, h2.read_unread, h3.read_unread, View.readCov_unit_zero (S := S8x128) _ zero2, readCov_col,
    View.ld_unit_zero (S := S8x512) zero2]
  exact congrArg (fun u => k0_pay3 (F := Ideal) (part x q) k0_pay8 u g (k0_pay6 (F := Ideal))) (readCov_col a6.view _)

theorem first_d (h : cond0_0 i) :
    out0_A_3 c i a1 h1 a2 h2 a3 h3 a4 h4 a5 h5 a6 h6 h x q g = k0_pay4 (F := Ideal) (part x q) k0_pay8 (col (k0_pay5 (F := Ideal))) g := by
  refine (View.read_writes_eq_canon _ _ _ (cover0_A_3 c i a1 h1 a2 h2 a3 h3 a4 h4 a5 h5 a6 h6 h x q g)).trans ?_
  unfold kernelRun0_A
  dsimp only
  sl_unfold_words
  rw [View.canon_unit_zero zero2]
  simp only [View.readAt_eq_ld, h1.read_unread, h2.read_unread, h3.read_unread, View.readCov_unit_zero (S := S8x128) _ zero2, readCov_col,
    View.ld_unit_zero (S := S8x512) zero2]
  exact congrArg (fun u => k0_pay4 (F := Ideal) (part x q) k0_pay8 u g) (readCov_col a6.view _)

end Points

end Cert.Kernel15Ideal.Gate

end
-- ==== Proof.GatePay.lean ====
/-
  The forget gate's gradient: a point's results, entry by entry.
-/
module

public import proofs.«01_k».proof.Proof.GatePoints

@[expose] public section

set_option maxRecDepth 16384

noncomputable section

open Idealize.ShloMosaic Idealize.ShloMosaic.TcCoe Idealize.SL.Sem

namespace Cert.Kernel15Ideal.Gate

open Cert.Kernel15Ideal Cert.Kernel15Ideal.Gen Cert.Kernel15Ideal.Value

variable (d : FVec Ideal S8x512 .f32) (s o : Vec Ideal S8x128 .f32) (g : Vec Ideal S8x512 .f32)
  (x : Vec Ideal S4x8x512 .f32) (q : Vec Ideal S4x512x128 .f32)

theorem part_at (h : Fin 8) (i : Fin 512) :
    part x q (ix2 h i) = (∑ r : Fin 4, x (ix3 r h i)) + ∑ r : Fin 4, q (ix3 r i (h.castLE (by decide))) := by
  rw [Fin.sum_univ_four, Fin.sum_univ_four]
  pointwise [part, k0_pay7]
  rfl

theorem mask_at (i j : Fin 512) : (sitofp (F := Ideal) .f32 k0_pay8 : FVec Ideal S512x512 .f32) (ix2 i j) = if j ≤ i then 1 else 0 := by
  pointwise [k0_pay8]
  have e : IntOp.cmpi CmpIPredicate.sge (BitVec.ofNat 32 i.val) (BitVec.ofNat 32 j.val) = if j ≤ i then 1#1 else 0#1 := by
    have hi : i.val < 2 ^ (32 - 1) := by omega
    have hj : j.val < 2 ^ (32 - 1) := by omega
    by_cases hc : j ≤ i
    · rw [if_pos hc, WordCmp.cmpi_sge_ofNat_eq_one_iff hi hj]
      exact hc
    · rw [if_neg hc, WordCmp.cmpi_sge_ofNat_eq_zero_iff hi hj]
      exact hc
  rw [e]
  by_cases hc : j ≤ i
  · rw [if_pos hc, if_pos hc]
    show (((1#32).toInt : ℝ) : EReal) = 1
    simp
  · rw [if_neg hc, if_neg hc]
    show (((0#32).toInt : ℝ) : EReal) = 0
    simp

theorem sums_at (h : Fin 8) (l : Fin 128) : k0_pay1 d s (ix2 h l) = s (ix2 h l) + ∑ i : Fin 512, d (ix2 h i) := by
  pointwise [k0_pay1]

/-- The gradient of the gate's logits. -/
theorem grad_at (h : Fin 8) (j : Fin 512) : k0_pay2 d k0_pay8 (col s) g (ix2 h j)
    = ((∑ i : Fin 512, d (ix2 h i) * (sitofp (F := Ideal) .f32 k0_pay8 : FVec Ideal S512x512 .f32) (ix2 i j)) + s (ix2 h 0)) * g (ix2 h j) := by
  pointwise [k0_pay2]
  have e : col s (ix2 h 0) = s (ix2 h 0) := View.ld_unit_apply_of s _ _ inb_S8x128_S8x1_0_0 _ _ fun a => by
    match a with
    | 0 => exact (Nat.zero_add h.val).symm
    | 1 => rfl
  rw [e]

theorem bias_at (h : Fin 8) (l : Fin 128) :
    k0_pay3 d k0_pay8 (col s) g o (ix2 h l) = o (ix2 h l) + ∑ j : Fin 512, k0_pay2 d k0_pay8 (col s) g (ix2 h j) := by
  pointwise [k0_pay3]

theorem out_at (j : Fin 512) (l : Fin 128) :
    k0_pay4 d k0_pay8 (col s) g (ix2 j l) = if h : l.val < 8 then k0_pay2 d k0_pay8 (col s) g (ix2 ⟨l.val, h⟩ j) else 0 := by
  pointwise [k0_pay4]

end Cert.Kernel15Ideal.Gate

end
-- ==== Proof.GateValue.lean ====
/-
  The forget gate's gradient: the two arrays the kernel leaves.
-/
module

public import proofs.«01_k».proof.Proof.GatePay

@[expose] public section

set_option maxRecDepth 16384

noncomputable section

open Idealize.ShloMosaic Idealize.ShloMosaic.TcCoe Idealize.SL.Sem

namespace Cert.Kernel15Ideal.Gate

open Cert.Kernel15Ideal Cert.Kernel15Ideal.Gen Cert.Kernel15Ideal.Value Cert.Tails

theorem win_0 : ∀ t : Fin cfg0.N, (cfg0.win 0).index t = ![0, 0, 15 - t.val] := by decide +kernel
theorem win_1 : ∀ t : Fin cfg0.N, (cfg0.win 1).index t = ![0, 15 - t.val, 0] := by decide +kernel
theorem win_2 : ∀ t : Fin cfg0.N, (cfg0.win 2).index t = ![0, 15 - t.val] := by decide +kernel
theorem win_3 : ∀ t : Fin cfg0.N, (cfg0.win 3).index t = ![15 - t.val, 0] := by decide +kernel
theorem win_4 : ∀ t : Fin cfg0.N, (cfg0.win 4).index t = ![0, 0] := by decide +kernel
theorem flush_4 : ∀ t : Fin cfg0.N, (cfg0.win 4).flush t = true → t.val = 15 := by decide +kernel

theorem pay5_at (h : Fin 8) (l : Fin 128) : k0_pay5 (F := Ideal) (ix2 h l) = 0 := by
  pointwise [k0_pay5]

theorem pay6_at (h : Fin 8) (l : Fin 128) : k0_pay6 (F := Ideal) (ix2 h l) = 0 := by
  pointwise [k0_pay6]

variable (m : (ℓ : Loc nD τ sig) → Buf (Elt Ideal) ℓ) (c : Dev nD)

abbrev keys : Vec Ideal S4x8x8192 .f32 := m ((c : Thread nD τ).loc main_arg0)
abbrev queries : Vec Ideal S4x8192x128 .f32 := m ((c : Thread nD τ).loc main_arg1)
abbrev slope : Vec Ideal S8x8192 .f32 := m ((c : Thread nD τ).loc main_arg2)

theorem blk_0 (n : ℕ) (h : n < cfg0.N) (r : Fin 4) (a : Fin 8) (i : Fin 512) (k : Fin 8192) (hk : k.val = 512 * (15 - n) + i) :
    (iblk m c (0 : Fin 5) ⟨n, h⟩ : Vec Ideal S4x8x512 .f32) (ix3 r a i) = keys m c (ix3 r a k) := by
  blk_ext [iblk, win_0 ⟨n, h⟩]

theorem blk_1 (n : ℕ) (h : n < cfg0.N) (r : Fin 4) (i : Fin 512) (b : Fin 128) (k : Fin 8192) (hk : k.val = 512 * (15 - n) + i) :
    (iblk m c (1 : Fin 5) ⟨n, h⟩ : Vec Ideal S4x512x128 .f32) (ix3 r i b) = queries m c (ix3 r k b) := by
  blk_ext [iblk, win_1 ⟨n, h⟩]

theorem blk_2 (n : ℕ) (h : n < cfg0.N) (a : Fin 8) (i : Fin 512) (k : Fin 8192) (hk : k.val = 512 * (15 - n) + i) :
    (iblk m c (2 : Fin 5) ⟨n, h⟩ : Vec Ideal S8x512 .f32) (ix2 a i) = slope m c (ix2 a k) := by
  blk_ext [iblk, win_2 ⟨n, h⟩]

/-- The block's part of the gradient of the cumulative sums. -/
abbrev here (n : ℕ) (h : n < cfg0.N) : Vec Ideal S8x512 .f32 := part (iblk m c (0 : Fin 5) ⟨n, h⟩) (iblk m c (1 : Fin 5) ⟨n, h⟩)

/-- The block's gradient of the logits, after the running sums `s`. -/
abbrev there (n : ℕ) (h : n < cfg0.N) (s : Vec Ideal S8x128 .f32) : FVec Ideal S8x512 .f32 :=
  k0_pay2 (here m c n h) k0_pay8 (col s) (iblk m c (2 : Fin 5) ⟨n, h⟩)

theorem here_at (n : ℕ) (h : n < cfg0.N) (a : Fin 8) (i : Fin 512) :
    here m c n h (ix2 a i) = row (keys m c) (queries m c) a (512 * (15 - n) + i) := by
  have hk : 512 * (15 - n) + i.val < 8192 := by omega
  refine (part_at _ _ a i).trans (Eq.trans ?_ (row_at (keys m c) (queries m c) a ⟨_, hk⟩).symm)
  exact congrArg₂ (· + ·) (Finset.sum_congr rfl fun r _ => blk_0 m c n h r a i ⟨_, hk⟩ rfl)
    (Finset.sum_congr rfl fun r _ => blk_1 m c n h r i _ ⟨_, hk⟩ rfl)

theorem there_at (n : ℕ) (h : n < cfg0.N) (s : Vec Ideal S8x128 .f32) (a : Fin 8) (j : Fin 512)
    (hs : s (ix2 a 0) = tail (row (keys m c) (queries m c) a) (512 * (15 - n) + 512)) :
    there m c n h s (ix2 a j) = logit (keys m c) (queries m c) (slope m c) a (512 * (15 - n) + j) := by
  have hk : 512 * (15 - n) + j.val < 8192 := by omega
  refine (grad_at _ s _ a j).trans (Eq.trans ?_ (logit_at (keys m c) (queries m c) (slope m c) a ⟨_, hk⟩).symm)
  refine congrArg₂ (· * ·) ?_ (blk_2 m c n h a j ⟨_, hk⟩ rfl)
  rw [hs, ← tail_at _ (512 * (15 - n)) (by omega) j _ fun i => mask_at i j]
  exact congrArg (· + _) (Finset.sum_congr rfl fun i _ => congrArg (· * _) (here_at m c n h a i))

/-- The running sums after a point. -/
theorem sums (n : ℕ) (h : n < cfg0.N) (a : Fin 8) (l : Fin 128) :
    (outsAt0 m c n h).2.2 (ix2 a l) = tail (row (keys m c) (queries m c) a) (512 * (15 - n)) := by
  have hN : cfg0.N = 16 := N_0
  refine of_points _ hN (fun n h => (outsAt0 m c n h).2.2 (ix2 a l)) (fun n h => ∑ i : Fin 512, here m c n h (ix2 a i))
    (fun n h => Finset.sum_congr rfl fun i _ => here_at m c n h a i) (fun h => ?_) (fun n h => ?_) n h
  · have e := outsAt0_A m c ⟨0, h⟩ rfl
    rw [first_s] at e
    refine (congrFun (congrArg (fun p => p.2.2) e) _).trans ((sums_at _ _ a l).trans ?_)
    rw [pay5_at]
  · have e := outsAt0_B m c ⟨n + 1, h⟩ (by dsimp only; omega)
    rw [later_s] at e
    exact (congrFun (congrArg (fun p => p.2.2) e) _).trans (sums_at _ _ a l)

/-- What a point leaves in the two outputs, the running sums before it being those of the blocks after its own. -/
theorem first (h : 0 < cfg0.N) : ∃ s : Vec Ideal S8x128 .f32, (∀ a l, s (ix2 a l) = tail (row (keys m c) (queries m c) a) (512 * (15 - 0) + 512))
    ∧ (outsAt0 m c 0 h).1 = k0_pay4 (here m c 0 h) k0_pay8 (col s) (iblk m c (2 : Fin 5) ⟨0, h⟩)
    ∧ (outsAt0 m c 0 h).2.1 = k0_pay3 (here m c 0 h) k0_pay8 (col s) (iblk m c (2 : Fin 5) ⟨0, h⟩) (k0_pay6 (F := Ideal)) := by
  have e := outsAt0_A m c ⟨0, h⟩ rfl
  rw [first_d, first_o] at e
  refine ⟨k0_pay5 (F := Ideal), fun a l => (pay5_at a l).trans ?_, congrArg (fun p => p.1) e, congrArg (fun p => p.2.1) e⟩
  exact (Finset.sum_eq_zero fun k hk => by simp at hk).symm

theorem later (n : ℕ) (h : n + 1 < cfg0.N) :
    ∃ s : Vec Ideal S8x128 .f32, (∀ a l, s (ix2 a l) = tail (row (keys m c) (queries m c) a) (512 * (15 - (n + 1)) + 512))
    ∧ (outsAt0 m c (n + 1) h).1 = k0_pay4 (here m c (n + 1) h) k0_pay8 (col s) (iblk m c (2 : Fin 5) ⟨n + 1, h⟩)
    ∧ (outsAt0 m c (n + 1) h).2.1 = k0_pay3 (here m c (n + 1) h) k0_pay8 (col s) (iblk m c (2 : Fin 5) ⟨n + 1, h⟩)
        (outsAt0 m c n (Nat.lt_of_succ_lt h)).2.1 := by
  have hN : cfg0.N = 16 := N_0
  have e := outsAt0_B m c ⟨n + 1, h⟩ (by dsimp only; omega)
  rw [later_d, later_o] at e
  refine ⟨(outsAt0 m c n (Nat.lt_of_succ_lt h)).2.2, fun a l => (sums m c n _ a l).trans (congrArg (tail _) (by omega)),
    congrArg (fun p => p.1) e, congrArg (fun p => p.2.1) e⟩

/-- The first output's block after a point. -/
theorem block (n : ℕ) (h : n < cfg0.N) (j : Fin 512) (l : Fin 128) : (outsAt0 m c n h).1 (ix2 j l)
    = if hl : l.val < 8 then logit (keys m c) (queries m c) (slope m c) ⟨l.val, hl⟩ (512 * (15 - n) + j) else 0 := by
  have e : ∃ s : Vec Ideal S8x128 .f32, (∀ a l, s (ix2 a l) = tail (row (keys m c) (queries m c) a) (512 * (15 - n) + 512))
      ∧ (outsAt0 m c n h).1 = k0_pay4 (here m c n h) k0_pay8 (col s) (iblk m c (2 : Fin 5) ⟨n, h⟩) := by
    obtain _ | n := n
    · obtain ⟨s, hs, e, -⟩ := first m c h
      exact ⟨s, hs, e⟩
    · obtain ⟨s, hs, e, -⟩ := later m c n h
      exact ⟨s, hs, e⟩
  obtain ⟨s, hs, e⟩ := e
  rw [e, out_at]
  by_cases hl : l.val < 8
  · rw [dif_pos hl, dif_pos hl]
    exact there_at m c n h s _ j (hs _ 0)
  · rw [dif_neg hl, dif_neg hl]

/-- The second output after a point. -/
theorem totals (n : ℕ) (h : n < cfg0.N) (a : Fin 8) (l : Fin 128) :
    (outsAt0 m c n h).2.1 (ix2 a l) = tail (logit (keys m c) (queries m c) (slope m c) a) (512 * (15 - n)) := by
  have hN : cfg0.N = 16 := N_0
  refine of_points _ hN (fun n h => (outsAt0 m c n h).2.1 (ix2 a l))
    (fun n h => ∑ j : Fin 512, logit (keys m c) (queries m c) (slope m c) a (512 * (15 - n) + j))
    (fun n h => rfl) (fun h => ?_) (fun n h => ?_) n h
  · obtain ⟨s, hs, -, e⟩ := first m c h
    refine (congrFun e _).trans ((bias_at _ s _ _ a l).trans (congrArg₂ (· + ·) (pay6_at a l) ?_))
    exact Finset.sum_congr rfl fun j _ => there_at m c 0 h s a j (hs a 0)
  · obtain ⟨s, hs, -, e⟩ := later m c n h
    refine (congrFun e _).trans ((bias_at _ s _ _ a l).trans (congrArg _ ?_))
    exact Finset.sum_congr rfl fun j _ => there_at m c (n + 1) h s a j (hs a 0)

theorem arr_3 : (dats m 0 c).arrAt (3 : Fin 5) cfg0.N = grad (keys m c) (queries m c) (slope m c) := by
  refine (dats m 0 c).arrAt_eq_of_covers (3 : Fin 5) _ (by decide +kernel) fun t hf y => ?_
  have e := (congrFun (after0_3 m c t) (ix2 (y 0) (y 1))).trans (block m c t.val t.isLt (y 0) (y 1))
  have i : win0_3.index t = ![15 - t.val, 0] := win_3 t
  unfold grad
  blk_simp [win_3 t]
  refine (congrArg _ (eq_ix2 y)).trans (e.trans ?_)
  simp [i, Nat.mul_comm]

theorem arr_4 : (dats m 0 c).arrAt (4 : Fin 5) cfg0.N = bias (keys m c) (queries m c) (slope m c) := by
  refine (dats m 0 c).arrAt_eq_of_covers (4 : Fin 5) _ (by decide +kernel) fun t hf y => ?_
  have e := (congrFun (after0_4 m c t) (ix2 (y 0) (y 1))).trans (totals m c t.val t.isLt (y 0) (y 1))
  have i : win0_4.index t = ![0, 0] := win_4 t
  have hz : 512 * (15 - t.val) = 0 := by rw [flush_4 t hf]
  rw [hz] at e
  unfold bias
  blk_simp [win_4 t]
  refine (congrArg _ (eq_ix2 y)).trans (e.trans ?_)
  exact congrArg (fun a => tail (logit _ _ _ a) 0) (Fin.ext (by simp [i]))

end Cert.Kernel15Ideal.Gate

end
-- ==== Proof.Gate.lean ====
/-
  The forget gate's gradient: the reference's two arrays, the frames, and the equality.
-/
module

public import proofs.«01_k».proof.Defs
public import proofs.«01_k».proof.Proof.Gen.Kernel15.Frame
public import proofs.«01_k».proof.Proof.GateRef
public import proofs.«01_k».proof.Proof.GateValue
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Gate

section Reference

open Cert.Reference15Ideal Cert.Reference15Ideal.Gen Cert.Tails

variable (x : FVec Ideal S4x8x8192 .f32) (q : FVec Ideal S4x8192x128 .f32) (g : FVec Ideal S8x8192 .f32)

/-- The gradient of the cumulative sums, as the reference has it. -/
abbrev sums : FVec Ideal S8x8192 .f32 :=
  addf (Host.reduceAdd x (constant S_ .f32 0x00000000#32) reducesTo_S4x8x8192_S8x8192_d0 h_S_)
    (transpose S8x8192 [1, 0] (Host.reduceAdd (extractStridedSlice S4x8192x8 ![0, 0, 0] q slices_S4x8192x128_S4x8192x8_0_0_0)
      (constant S_ .f32 0x00000000#32) reducesTo_S4x8192x8_S8192x8_d0 h_S_) transposes_S8192x8_S8x8192_1_0)

theorem sums_at (h : Fin 8) (k : Fin 8192) : sums x q (ix2 h k) = row x q h k := by
  rw [row_at]
  pointwise []
  rfl

variable (v : FVec Ideal S_ .f32)

/-- The gradient of the logits, as the reference has it. -/
abbrev logits : FVec Ideal S8x8192 .f32 :=
  mulf (Host.reduceWindowAdd ![1, 8192] ![1, 1] ![0, 0] ![0, 8191] (sums x q) v
    reduceWindows_S8x8192_S8x8192_w1s1p0_0_w8192s1p0_8191 h_S_) g

theorem logits_at (hv : ∀ i, v i = 0) (h : Fin 8) (k : Fin 8192) : logits x q g v (ix2 h k) = logit x q g h k := by
  rw [logit_at]
  exact congrArg (· * g (ix2 h k)) (GateRef.window (sums x q) v hv (row x q h) h k fun k => (sums_at x q h k).symm)

/-- The initial value of the reference's windows. -/
abbrev start : FVec Ideal S_ .f32 := broadcastInDim S_ ![] bcast_S_S_ (constant S_ .f32 0x00000000#32)

theorem zero_at (i : S_.Idx) : start i = 0 := by
  pointwise []

/-- Eight rows as columns, zeros after them. -/
theorem columns_at (w : FVec Ideal S8x8192 .f32) (k : Fin 8192) (l : Fin 128) :
    (truncf .bf16 (concatenate S8192x128 1 [⟨S8192x8, (transpose S8192x8 [1, 0] w transposes_S8x8192_S8192x8_1_0)⟩,
      ⟨S8192x120, (broadcastInDim S8192x120 ![] bcast_S_S8192x120 (constant (F := Ideal) S_ .f32 0x00000000#32))⟩]
      concatenates_S8192x8_S8192x120_S8192x128_d1) bitsLt_bf16_f32 : FVec Ideal S8192x128 .bf16) (ix2 k l)
      = if hl : l.val < 8 then w (ix2 ⟨l.val, hl⟩ k) else 0 := by
  by_cases hl : l.val < 8
  · rw [dif_pos hl]
    pointwise [hl]
  · rw [dif_neg hl]
    pointwise [hl]

/-- A row's sum in every column. -/
theorem total_at (w : FVec Ideal S8x8192 .f32) (h : Fin 8) (l : Fin 128) :
    (broadcastInDim S8x128 ![0, 1] bcast_S8x1_S8x128_0_1 (broadcastInDim S8x1 ![0] bcast_S8_S8x1_0
      (Host.reduceAdd w (constant (F := Ideal) S_ .f32 0x00000000#32) reducesTo_S8x8192_S8_d1 h_S_)) : FVec Ideal S8x128 .f32) (ix2 h l)
      = ∑ k : Fin 8192, w (ix2 h k) := by
  pointwise []

theorem grad_eq : truncf .bf16 (concatenate S8192x128 1 [⟨S8192x8, (transpose S8192x8 [1, 0] (logits x q g start) transposes_S8x8192_S8192x8_1_0)⟩,
    ⟨S8192x120, (broadcastInDim S8192x120 ![] bcast_S_S8192x120 (constant (F := Ideal) S_ .f32 0x00000000#32))⟩]
    concatenates_S8192x8_S8192x120_S8192x128_d1) bitsLt_bf16_f32 = grad x q g := by
  funext y
  refine (congrArg _ (eq_ix2 y)).trans ((columns_at _ (y 0) (y 1)).trans ?_)
  unfold grad
  by_cases hl : (y 1).val < 8
  · rw [dif_pos hl, dif_pos hl]
    exact logits_at x q g start zero_at _ _
  · rw [dif_neg hl, dif_neg hl]

theorem bias_eq : broadcastInDim S8x128 ![0, 1] bcast_S8x1_S8x128_0_1 (broadcastInDim S8x1 ![0] bcast_S8_S8x1_0
    (Host.reduceAdd (logits x q g start) (constant (F := Ideal) S_ .f32 0x00000000#32) reducesTo_S8x8192_S8_d1 h_S_)) = bias x q g := by
  funext y
  refine (congrArg _ (eq_ix2 y)).trans ((total_at _ (y 0) (y 1)).trans ?_)
  refine (Finset.sum_congr rfl fun k _ => logits_at x q g start zero_at (y 0) k).trans ?_
  have e := shifted (logit x q g (y 0)) 0
  refine Eq.trans (Finset.sum_congr rfl fun k _ => ?_) e
  rw [if_pos (by simp)]
  simp

end Reference

theorem frame_kernel : Cert.quiescent_Kernel15 := fun m g _ => Cert.Kernel15.Gen.frame m g
theorem frame_ideal : Cert.quiescent_Kernel15Ideal := fun m g _ => Cert.Kernel15Ideal.Gen.frame m g
theorem frame_reference : Cert.quiescent_Reference15Ideal := fun m g _ =>
  (θ_run Cert.Reference15Ideal.defs _ _).mono
    (fun r h => ⟨fun c => (h c).2.2, sem_eq_zero_of_no_sems (by decide) r.2⟩) (Cert.Reference15Ideal.Value.run (F := Ideal) m g)
theorem preserves : Cert.preserves_Kernel15_Kernel15Ideal := trivial

theorem algebraic : Cert.algebraic_Kernel15Ideal_Reference15Ideal := by
  intro m g m' g' _ e
  refine ⟨fun c => Tails.grad (Kernel15Ideal.Gate.keys m c) (Kernel15Ideal.Gate.queries m c) (Kernel15Ideal.Gate.slope m c),
    fun c => Tails.bias (Kernel15Ideal.Gate.keys m c) (Kernel15Ideal.Gate.queries m c) (Kernel15Ideal.Gate.slope m c),
    (θ_run Cert.Kernel15Ideal.defs _ _).mono (fun r k c => ⟨(k c).1.trans (Kernel15Ideal.Gate.arr_3 m c),
      (k c).2.1.trans (Kernel15Ideal.Gate.arr_4 m c), (k c).2.2⟩) (Cert.Kernel15Ideal.Value.run_blocks m g),
    (θ_run Cert.Reference15Ideal.defs _ _).mono (fun r k c => ?_) (Cert.Reference15Ideal.Value.run (F := Ideal) m' g')⟩
  obtain ⟨k0, k1, k2⟩ := k c
  obtain ⟨e0, e1, e2⟩ := e c
  refine ⟨k0.trans ((grad_eq _ _ _).trans ?_), k1.trans ((bias_eq _ _ _).trans ?_), k2⟩
  all_goals rw [e0, e1, e2]

end Cert.Gate

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_tables
public import proofs.«01_k».proof.Proof.SavedShapes
public import proofs.«01_k».proof.Proof.Frames
public import proofs.«01_k».proof.Proof.Equal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.WeightGrad
public import proofs.«01_k».proof.Proof.WeightGrad1536
public import proofs.«01_k».proof.Proof.WeightGrad2048
public import proofs.«01_k».proof.Proof.WeightGrad512
public import proofs.«01_k».proof.Proof.InputGrad
public import proofs.«01_k».proof.Proof.Proj
public import proofs.«01_k».proof.Proof.Merge
public import proofs.«01_k».proof.Proof.Optimiser
public import proofs.«01_k».proof.Proof.Optimisers
public import proofs.«01_k».proof.Proof.Gate
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_tables.Gen.facts, Cert.Pre_saved.Shapes.facts,
    Cert.Fox.frame_kernel, Cert.Fox.frame_ideal, Cert.Fox.frame_ideal_saved, Cert.Fox.frame_reference, Cert.Fox.frame_reference_saved,
    Cert.WeightGrad.frame_kernel, Cert.WeightGrad.frame_ideal, Cert.WeightGrad.frame_reference,
    Cert.InputGrad.frame_kernel, Cert.InputGrad.frame_ideal, Cert.InputGrad.frame_reference,
    Cert.Proj.frame_kernel, Cert.Proj.frame_ideal, Cert.Proj.frame_reference,
    Cert.Merge.frame_kernel, Cert.Merge.frame_ideal, Cert.Merge.frame_reference,
    Cert.Optimiser.frame_kernel, Cert.Optimiser.frame_ideal, Cert.Optimiser.frame_reference,
    Cert.WeightGrad1536.frame_kernel, Cert.WeightGrad1536.frame_ideal, Cert.WeightGrad1536.frame_reference,
    Cert.WeightGrad2048.frame_kernel, Cert.WeightGrad2048.frame_ideal, Cert.WeightGrad2048.frame_reference,
    Cert.WeightGrad512.frame_kernel, Cert.WeightGrad512.frame_ideal, Cert.WeightGrad512.frame_reference,
    Cert.Optimisers.frame_kernel10, Cert.Optimisers.frame_ideal10, Cert.Optimisers.frame_reference10,
    Cert.Optimisers.frame_kernel11, Cert.Optimisers.frame_ideal11, Cert.Optimisers.frame_reference11,
    Cert.Optimisers.frame_kernel12, Cert.Optimisers.frame_ideal12, Cert.Optimisers.frame_reference12,
    Cert.Optimisers.frame_kernel13, Cert.Optimisers.frame_ideal13, Cert.Optimisers.frame_reference13,
    Cert.Optimisers.frame_kernel14, Cert.Optimisers.frame_ideal14, Cert.Optimisers.frame_reference14,
    Cert.Gate.frame_kernel, Cert.Gate.frame_ideal, Cert.Gate.frame_reference,
    Cert.Optimisers.frame_kernel16, Cert.Optimisers.frame_ideal16, Cert.Optimisers.frame_reference16,
    Cert.Optimisers.frame_kernel17, Cert.Optimisers.frame_ideal17, Cert.Optimisers.frame_reference17,
    Cert.Optimisers.frame_kernel18, Cert.Optimisers.frame_ideal18, Cert.Optimisers.frame_reference18,
    Cert.Optimisers.frame_kernel19, Cert.Optimisers.frame_ideal19, Cert.Optimisers.frame_reference19,
    Cert.Optimisers.frame_kernel20, Cert.Optimisers.frame_ideal20, Cert.Optimisers.frame_reference20,
    Cert.Fox.preserves, Cert.Fox.algebraic, Cert.WeightGrad.preserves, Cert.WeightGrad.algebraic,
    Cert.InputGrad.preserves, Cert.InputGrad.algebraic, Cert.Proj.preserves, Cert.Proj.algebraic,
    Cert.Merge.preserves, Cert.Merge.algebraic, Cert.Optimiser.preserves, Cert.Optimiser.algebraic,
    Cert.WeightGrad1536.preserves, Cert.WeightGrad1536.algebraic,
    Cert.WeightGrad2048.preserves, Cert.WeightGrad2048.algebraic, Cert.WeightGrad512.preserves, Cert.WeightGrad512.algebraic,
    Cert.Optimisers.preserves10, Cert.Optimisers.algebraic10,
    Cert.Optimisers.preserves11, Cert.Optimisers.algebraic11,
    Cert.Optimisers.preserves12, Cert.Optimisers.algebraic12,
    Cert.Optimisers.preserves13, Cert.Optimisers.algebraic13,
    Cert.Optimisers.preserves14, Cert.Optimisers.algebraic14,
    Cert.Gate.preserves, Cert.Gate.algebraic,
    Cert.Optimisers.preserves16, Cert.Optimisers.algebraic16,
    Cert.Optimisers.preserves17, Cert.Optimisers.algebraic17,
    Cert.Optimisers.preserves18, Cert.Optimisers.algebraic18,
    Cert.Optimisers.preserves19, Cert.Optimisers.algebraic19,
    Cert.Optimisers.preserves20, Cert.Optimisers.algebraic20⟩

end Cert.Proof

end
